-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attention_finite [hPre_attention_finite : Cert.Pre_attention_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attention_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attention_finite [hPre_attention_finite : Cert.Pre_attention_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attention_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_layer_a_finite [hPre_layer_a_finite : Cert.Pre_layer_a_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_layer_a_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_layer_a_finite [hPre_layer_a_finite : Cert.Pre_layer_a_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_layer_a_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_layer_b_finite [hPre_layer_b_finite : Cert.Pre_layer_b_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_layer_b_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_layer_b_finite [hPre_layer_b_finite : Cert.Pre_layer_b_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_layer_b_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_proj_finite [hPre_proj_finite : Cert.Pre_proj_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_proj_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_proj_finite [hPre_proj_finite : Cert.Pre_proj_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_proj_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_attention_finite [hKernel2Ideal : Cert.Kernel2Ideal.Facts] [hPre_attention_finite : Cert.Pre_attention_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attention_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_attention_finite [hReference2Ideal : Cert.Reference2Ideal.Facts] [hPre_attention_finite : Cert.Pre_attention_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attention_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_layer_a_finite [hKernel3Ideal : Cert.Kernel3Ideal.Facts] [hPre_layer_a_finite : Cert.Pre_layer_a_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_layer_a_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_layer_a_finite [hReference3Ideal : Cert.Reference3Ideal.Facts] [hPre_layer_a_finite : Cert.Pre_layer_a_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_layer_a_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_layer_b_finite [hKernel4Ideal : Cert.Kernel4Ideal.Facts] [hPre_layer_b_finite : Cert.Pre_layer_b_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_layer_b_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_layer_b_finite [hReference4Ideal : Cert.Reference4Ideal.Facts] [hPre_layer_b_finite : Cert.Pre_layer_b_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_layer_b_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_proj_finite [hKernel5Ideal : Cert.Kernel5Ideal.Facts] [hPre_proj_finite : Cert.Pre_proj_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_proj_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_proj_finite [hReference5Ideal : Cert.Reference5Ideal.Facts] [hPre_proj_finite : Cert.Pre_proj_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_proj_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0x7149F2CA#32 ⊤

def algebraic_Kernel2Ideal_Reference2Ideal_pre_attention_finite [hKernel2Ideal : Cert.Kernel2Ideal.Facts] [hReference2Ideal : Cert.Reference2Ideal.Facts] [hPre_attention_finite : Cert.Pre_attention_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attention_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_v40_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_layer_a_finite [hKernel3Ideal : Cert.Kernel3Ideal.Facts] [hReference3Ideal : Cert.Reference3Ideal.Facts] [hPre_layer_a_finite : Cert.Pre_layer_a_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_layer_a_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_layer_b_finite [hKernel4Ideal : Cert.Kernel4Ideal.Facts] [hReference4Ideal : Cert.Reference4Ideal.Facts] [hPre_layer_b_finite : Cert.Pre_layer_b_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_layer_b_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_v71) = v4 c
          ∧ r.2.mem ((c.tc : Thread Cert.Reference4Ideal.nD Cert.Reference4Ideal.τ).loc Cert.Reference4Ideal.main_v72) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_proj_finite [hKernel5Ideal : Cert.Kernel5Ideal.Facts] [hReference5Ideal : Cert.Reference5Ideal.Facts] [hPre_proj_finite : Cert.Pre_proj_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_proj_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v103) = v0 c
          ∧ r.2.mem ((c.tc : Thread Cert.Reference5Ideal.nD Cert.Reference5Ideal.τ).loc Cert.Reference5Ideal.main_v105) = v1 c
          ∧ r.2.mem ((c.tc : Thread Cert.Reference5Ideal.nD Cert.Reference5Ideal.τ).loc Cert.Reference5Ideal.main_v106) = v2 c
          ∧ r.2.mem ((c.tc : Thread Cert.Reference5Ideal.nD Cert.Reference5Ideal.τ).loc Cert.Reference5Ideal.main_v76) = v3 c
          ∧ r.2.mem ((c.tc : Thread Cert.Reference5Ideal.nD Cert.Reference5Ideal.τ).loc Cert.Reference5Ideal.main_v107) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_x_finite : Cert.Pre_x_finite.Facts) (hPre_attention_finite : Cert.Pre_attention_finite.Facts) (hPre_layer_a_finite : Cert.Pre_layer_a_finite.Facts) (hPre_layer_b_finite : Cert.Pre_layer_b_finite.Facts) (hPre_proj_finite : Cert.Pre_proj_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ quiescent_Kernel2 (hKernel2 := hKernel2)
    ∧ quiescent_Kernel2Ideal (hKernel2Ideal := hKernel2Ideal)
    ∧ quiescent_Kernel2Ideal_pre_attention_finite (hKernel2Ideal := hKernel2Ideal) (hPre_attention_finite := hPre_attention_finite)
    ∧ quiescent_Reference2Ideal (hReference2Ideal := hReference2Ideal)
    ∧ quiescent_Reference2Ideal_pre_attention_finite (hReference2Ideal := hReference2Ideal) (hPre_attention_finite := hPre_attention_finite)
    ∧ quiescent_Kernel3 (hKernel3 := hKernel3)
    ∧ quiescent_Kernel3Ideal (hKernel3Ideal := hKernel3Ideal)
    ∧ quiescent_Kernel3Ideal_pre_layer_a_finite (hKernel3Ideal := hKernel3Ideal) (hPre_layer_a_finite := hPre_layer_a_finite)
    ∧ quiescent_Reference3Ideal (hReference3Ideal := hReference3Ideal)
    ∧ quiescent_Reference3Ideal_pre_layer_a_finite (hReference3Ideal := hReference3Ideal) (hPre_layer_a_finite := hPre_layer_a_finite)
    ∧ quiescent_Kernel4 (hKernel4 := hKernel4)
    ∧ quiescent_Kernel4Ideal (hKernel4Ideal := hKernel4Ideal)
    ∧ quiescent_Kernel4Ideal_pre_layer_b_finite (hKernel4Ideal := hKernel4Ideal) (hPre_layer_b_finite := hPre_layer_b_finite)
    ∧ quiescent_Reference4Ideal (hReference4Ideal := hReference4Ideal)
    ∧ quiescent_Reference4Ideal_pre_layer_b_finite (hReference4Ideal := hReference4Ideal) (hPre_layer_b_finite := hPre_layer_b_finite)
    ∧ quiescent_Kernel5 (hKernel5 := hKernel5)
    ∧ quiescent_Kernel5Ideal (hKernel5Ideal := hKernel5Ideal)
    ∧ quiescent_Kernel5Ideal_pre_proj_finite (hKernel5Ideal := hKernel5Ideal) (hPre_proj_finite := hPre_proj_finite)
    ∧ quiescent_Reference5Ideal (hReference5Ideal := hReference5Ideal)
    ∧ quiescent_Reference5Ideal_pre_proj_finite (hReference5Ideal := hReference5Ideal) (hPre_proj_finite := hPre_proj_finite)
    ∧ preserves_Kernel_KernelIdeal
    ∧ algebraic_KernelIdeal_ReferenceIdeal_pre_x_finite (hKernelIdeal := hKernelIdeal) (hReferenceIdeal := hReferenceIdeal) (hPre_x_finite := hPre_x_finite)
    ∧ preserves_Kernel2_Kernel2Ideal
    ∧ algebraic_Kernel2Ideal_Reference2Ideal_pre_attention_finite (hKernel2Ideal := hKernel2Ideal) (hReference2Ideal := hReference2Ideal) (hPre_attention_finite := hPre_attention_finite)
    ∧ preserves_Kernel3_Kernel3Ideal
    ∧ algebraic_Kernel3Ideal_Reference3Ideal_pre_layer_a_finite (hKernel3Ideal := hKernel3Ideal) (hReference3Ideal := hReference3Ideal) (hPre_layer_a_finite := hPre_layer_a_finite)
    ∧ preserves_Kernel4_Kernel4Ideal
    ∧ algebraic_Kernel4Ideal_Reference4Ideal_pre_layer_b_finite (hKernel4Ideal := hKernel4Ideal) (hReference4Ideal := hReference4Ideal) (hPre_layer_b_finite := hPre_layer_b_finite)
    ∧ preserves_Kernel5_Kernel5Ideal
    ∧ algebraic_Kernel5Ideal_Reference5Ideal_pre_proj_finite (hKernel5Ideal := hKernel5Ideal) (hReference5Ideal := hReference5Ideal) (hPre_proj_finite := hPre_proj_finite)
-- ==== Pre_attention_finite.lean ====
abbrev S16384x512 : Shape := ⟨2, ![16384, 512]⟩
abbrev S16384x1024 : Shape := ⟨2, ![16384, 1024]⟩
abbrev S_ : Shape := ⟨0, ![]⟩

class Facts : Prop where
  bcast_S_S16384x512 : S_.BroadcastsInDim S16384x512 (![] : Fin 0 → Fin S16384x512.rank)
  slices_S16384x1024_S16384x512_0_0 : S16384x1024.Slices ![0, 0] S16384x512

variable [Facts]

def fn {F : FTy → Type} [FloatOps F] (main_arg0 : FVec F S16384x512 .f32) (main_arg1 : FVec F S16384x1024 .f32) (main_arg2 : FVec F S16384x512 .f32) : IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := (extractStridedSlice S16384x512 ![0, 0] · slices_S16384x1024_S16384x512_0_0) main_arg1
  let main_v4 : FVec F S16384x512 .f32 := Host.absf main_v3
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_v7 : IVec S16384x512 1 := andi main_v2 main_v6
  main_v7
-- ==== Pre_layer_a_finite.lean ====
abbrev S16384x4096 : Shape := ⟨2, ![16384, 4096]⟩
abbrev S1x3x1024 : Shape := ⟨3, ![1, 3, 1024]⟩
abbrev S1x1024x1024 : Shape := ⟨3, ![1, 1024, 1024]⟩
abbrev S16384x1024 : Shape := ⟨2, ![16384, 1024]⟩
abbrev S1x1x1024 : Shape := ⟨3, ![1, 1, 1024]⟩
abbrev S1024 : Shape := ⟨1, ![1024]⟩
abbrev S1024x1024 : Shape := ⟨2, ![1024, 1024]⟩
abbrev S_ : Shape := ⟨0, ![]⟩

class Facts : Prop where
  slices_S1x3x1024_S1x1x1024_0_0_0 : S1x3x1024.Slices ![0, 0, 0] S1x1x1024
  shapeCasts_S1x1x1024_S1024 : S1x1x1024.ShapeCasts S1024
  bcast_S1024_S16384x1024_1 : S1024.BroadcastsInDim S16384x1024 (![1] : Fin 1 → Fin S16384x1024.rank)
  slices_S1x3x1024_S1x1x1024_0_1_0 : S1x3x1024.Slices ![0, 1, 0] S1x1x1024
  slices_S1x3x1024_S1x1x1024_0_2_0 : S1x3x1024.Slices ![0, 2, 0] S1x1x1024
  shapeCasts_S1x1024x1024_S1024x1024 : S1x1024x1024.ShapeCasts S1024x1024
  pads_S1024x1024_S16384x1024_0153600_000 : S1024x1024.Pads (![0, 0] : Fin 2 → Nat) ![15360, 0] ![0, 0] S16384x1024
  h_S_ : 0 < S_.numel
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  bcast_S_S16384x1024 : S_.BroadcastsInDim S16384x1024 (![] : Fin 0 → Fin S16384x1024.rank)

variable [Facts]

def fn_pad {F : FTy → Type} [FloatOps F] (arg0 : FVec F S1024x1024 .f32) (arg1 : IVec S_ 32) : FVec F S16384x1024 .f32 :=
  let v0 : FVec F S_ .f32 := sitofp .f32 arg1
  let v1 : FVec F S16384x1024 .f32 := (fun x v => pad S16384x1024 ![0, 0] ![15360, 0] ![0, 0] x v pads_S1024x1024_S16384x1024_0153600_000 h_S_) arg0 v0
  v1

def fn_part2 {F : FTy → Type} [FloatOps F] (main_arg3 : FVec F S16384x1024 .f32) (main_v36 : IVec S16384x1024 1) (main_v39 : IVec S16384x1024 1) : IVec S16384x1024 1 :=
  let main_v40 : IVec S16384x1024 1 := andi main_v36 main_v39
  let main_v41 : FVec F S16384x1024 .f32 := Host.absf main_arg3
  let main_cst_6 : FVec F S_ .f32 := constant S_ .f32 0x7F800000#32
  let main_v42 : FVec F S16384x1024 .f32 := broadcastInDim S16384x1024 ![] bcast_S_S16384x1024 main_cst_6
  let main_v43 : IVec S16384x1024 1 := cmpf .olt main_v41 main_v42
  let main_v44 : IVec S16384x1024 1 := andi main_v40 main_v43
  main_v44

def fn_part1 {F : FTy → Type} [FloatOps F] (main_arg3 : FVec F S16384x1024 .f32) (main_v2 : FVec F S16384x1024 .f32) (main_v5 : FVec F S16384x1024 .f32) (main_v8 : FVec F S16384x1024 .f32) (main_v10 : FVec F S16384x1024 .f32) (main_v13 : FVec F S16384x1024 .f32) (main_v20 : IVec S16384x1024 1) : IVec S16384x1024 1 :=
  let main_v21 : FVec F S16384x1024 .f32 := Host.absf main_v13
  let main_cst_1 : FVec F S_ .f32 := constant S_ .f32 0x7F800000#32
  let main_v22 : FVec F S16384x1024 .f32 := broadcastInDim S16384x1024 ![] bcast_S_S16384x1024 main_cst_1
  let main_v23 : IVec S16384x1024 1 := cmpf .olt main_v21 main_v22
  let main_v24 : IVec S16384x1024 1 := andi main_v20 main_v23
  let main_v25 : FVec F S16384x1024 .f32 := Host.absf main_v2
  let main_cst_2 : FVec F S_ .f32 := constant S_ .f32 0x7F800000#32
  let main_v26 : FVec F S16384x1024 .f32 := broadcastInDim S16384x1024 ![] bcast_S_S16384x1024 main_cst_2
  let main_v27 : IVec S16384x1024 1 := cmpf .olt main_v25 main_v26
  let main_v28 : IVec S16384x1024 1 := andi main_v24 main_v27
  let main_v29 : FVec F S16384x1024 .f32 := Host.absf main_v5
  let main_cst_3 : FVec F S_ .f32 := constant S_ .f32 0x7F800000#32
  let main_v30 : FVec F S16384x1024 .f32 := broadcastInDim S16384x1024 ![] bcast_S_S16384x1024 main_cst_3
  let main_v31 : IVec S16384x1024 1 := cmpf .olt main_v29 main_v30
  let main_v32 : IVec S16384x1024 1 := andi main_v28 main_v31
  let main_v33 : FVec F S16384x1024 .f32 := Host.absf main_v8
  let main_cst_4 : FVec F S_ .f32 := constant S_ .f32 0x7F800000#32
  let main_v34 : FVec F S16384x1024 .f32 := broadcastInDim S16384x1024 ![] bcast_S_S16384x1024 main_cst_4
  let main_v35 : IVec S16384x1024 1 := cmpf .olt main_v33 main_v34
  let main_v36 : IVec S16384x1024 1 := andi main_v32 main_v35
  let main_v37 : FVec F S16384x1024 .f32 := Host.absf main_v10
  let main_cst_5 : FVec F S_ .f32 := constant S_ .f32 0x7F800000#32
  let main_v38 : FVec F S16384x1024 .f32 := broadcastInDim S16384x1024 ![] bcast_S_S16384x1024 main_cst_5
  let main_v39 : IVec S16384x1024 1 := cmpf .olt main_v37 main_v38
  fn_part2 (F := F) main_arg3 main_v36 main_v39

def fn {F : FTy → Type} [FloatOps F] (main_arg0 : FVec F S16384x4096 .f32) (main_arg1 : FVec F S1x3x1024 .f32) (main_arg2 : FVec F S1x1024x1024 .f32) (main_arg3 : FVec F S16384x1024 .f32) : IVec S16384x1024 1 :=
  let main_v0 : FVec F S1x1x1024 .f32 := (extractStridedSlice S1x1x1024 ![0, 0, 0] · slices_S1x3x1024_S1x1x1024_0_0_0) main_arg1
  let main_v1 : FVec F S1024 .f32 := shapeCast S1024 main_v0 shapeCasts_S1x1x1024_S1024
  let main_v2 : FVec F S16384x1024 .f32 := broadcastInDim S16384x1024 ![1] bcast_S1024_S16384x1024_1 main_v1
  let main_v3 : FVec F S1x1x1024 .f32 := (extractStridedSlice S1x1x1024 ![0, 1, 0] · slices_S1x3x1024_S1x1x1024_0_1_0) main_arg1
  let main_v4 : FVec F S1024 .f32 := shapeCast S1024 main_v3 shapeCasts_S1x1x1024_S1024
  let main_v5 : FVec F S16384x1024 .f32 := broadcastInDim S16384x1024 ![1] bcast_S1024_S16384x1024_1 main_v4
  let main_v6 : FVec F S1x1x1024 .f32 := (extractStridedSlice S1x1x1024 ![0, 2, 0] · slices_S1x3x1024_S1x1x1024_0_2_0) main_arg1
  let main_v7 : FVec F S1024 .f32 := shapeCast S1024 main_v6 shapeCasts_S1x1x1024_S1024
  let main_v8 : FVec F S16384x1024 .f32 := broadcastInDim S16384x1024 ![1] bcast_S1024_S16384x1024_1 main_v7
  let main_v9 : FVec F S1024x1024 .f32 := shapeCast S1024x1024 main_arg2 shapeCasts_S1x1024x1024_S1024x1024
  let main_c : IVec S_ 32 := constantI S_ 32 0#32
  let main_v10 : FVec F S16384x1024 .f32 := fn_pad (F := F) main_v9 main_c
  let main_v11 : FVec F S16384x1024 .f32 := (extractStridedSlice S16384x1024 ![0, 0] · slices_S16384x4096_S16384x1024_0_0) main_arg0
  let main_v12 : FVec F S16384x1024 .f32 := (extractStridedSlice S16384x1024 ![0, 1024] · slices_S16384x4096_S16384x1024_0_1024) main_arg0
  let main_v13 : FVec F S16384x1024 .f32 := (extractStridedSlice S16384x1024 ![0, 2048] · slices_S16384x4096_S16384x1024_0_2048) main_arg0
  let main_v14 : FVec F S16384x1024 .f32 := Host.absf main_v11
  let main_cst : FVec F S_ .f32 := constant S_ .f32 0x7F800000#32
  let main_v15 : FVec F S16384x1024 .f32 := broadcastInDim S16384x1024 ![] bcast_S_S16384x1024 main_cst
  let main_v16 : IVec S16384x1024 1 := cmpf .olt main_v14 main_v15
  let main_v17 : FVec F S16384x1024 .f32 := Host.absf main_v12
  let main_cst_0 : FVec F S_ .f32 := constant S_ .f32 0x7F800000#32
  let main_v18 : FVec F S16384x1024 .f32 := broadcastInDim S16384x1024 ![] bcast_S_S16384x1024 main_cst_0
  let main_v19 : IVec S16384x1024 1 := cmpf .olt main_v17 main_v18
  let main_v20 : IVec S16384x1024 1 := andi main_v16 main_v19
  fn_part1 (F := F) main_arg3 main_v2 main_v5 main_v8 main_v10 main_v13 main_v20
-- ==== Pre_layer_b_finite.lean ====
abbrev S16384x512 : Shape := ⟨2, ![16384, 512]⟩
abbrev S1x16384x1024 : Shape := ⟨3, ![1, 16384, 1024]⟩
abbrev S1x512x1024 : Shape := ⟨3, ![1, 512, 1024]⟩
abbrev S1024 : Shape := ⟨1, ![1024]⟩
abbrev S16384x1024 : Shape := ⟨2, ![16384, 1024]⟩
abbrev S512x1024 : Shape := ⟨2, ![512, 1024]⟩
abbrev S_ : Shape := ⟨0, ![]⟩

class Facts : Prop where
  bcast_S1024_S16384x1024_1 : S1024.BroadcastsInDim S16384x1024 (![1] : Fin 1 → Fin S16384x1024.rank)
  shapeCasts_S1x512x1024_S512x1024 : S1x512x1024.ShapeCasts S512x1024
  pads_S512x1024_S16384x1024_0158720_000 : S512x1024.Pads (![0, 0] : Fin 2 → Nat) ![15872, 0] ![0, 0] S16384x1024
  h_S_ : 0 < S_.numel
  concatenates_S16384x512_S16384x512_S16384x1024_d1 : Shape.Concatenates [S16384x512, S16384x512] S16384x1024 1
  shapeCasts_S1x16384x1024_S16384x1024 : S1x16384x1024.ShapeCasts S16384x1024
  bcast_S_S16384x1024 : S_.BroadcastsInDim S16384x1024 (![] : Fin 0 → Fin S16384x1024.rank)

variable [Facts]

def fn_pad {F : FTy → Type} [FloatOps F] (arg0 : FVec F S512x1024 .f32) (arg1 : IVec S_ 32) : FVec F S16384x1024 .f32 :=
  let v0 : FVec F S_ .f32 := sitofp .f32 arg1
  let v1 : FVec F S16384x1024 .f32 := (fun x v => pad S16384x1024 ![0, 0] ![15872, 0] ![0, 0] x v pads_S512x1024_S16384x1024_0158720_000 h_S_) arg0 v0
  v1

def fn_part1 {F : FTy → Type} [FloatOps F] (main_v5 : FVec F S16384x1024 .f32) (main_v16 : IVec S16384x1024 1) (main_v17 : FVec F S16384x1024 .f32) (main_v18 : FVec F S16384x1024 .f32) : IVec S16384x1024 1 :=
  let main_v19 : IVec S16384x1024 1 := cmpf .olt main_v17 main_v18
  let main_v20 : IVec S16384x1024 1 := andi main_v16 main_v19
  let main_v21 : FVec F S16384x1024 .f32 := Host.absf main_v5
  let main_cst_3 : FVec F S_ .f32 := constant S_ .f32 0x7F800000#32
  let main_v22 : FVec F S16384x1024 .f32 := broadcastInDim S16384x1024 ![] bcast_S_S16384x1024 main_cst_3
  let main_v23 : IVec S16384x1024 1 := cmpf .olt main_v21 main_v22
  let main_v24 : IVec S16384x1024 1 := andi main_v20 main_v23
  main_v24

def fn {F : FTy → Type} [FloatOps F] (main_arg0 : FVec F S16384x512 .f32) (main_arg1 : FVec F S16384x512 .f32) (main_arg2 : FVec F S1x16384x1024 .f32) (main_arg3 : FVec F S1x512x1024 .f32) (main_arg4 : FVec F S1024 .f32) (main_arg5 : FVec F S1x16384x1024 .f32) : IVec S16384x1024 1 :=
  let main_v0 : FVec F S16384x1024 .f32 := broadcastInDim S16384x1024 ![1] bcast_S1024_S16384x1024_1 main_arg4
  let main_v1 : FVec F S512x1024 .f32 := shapeCast S512x1024 main_arg3 shapeCasts_S1x512x1024_S512x1024
  let main_c : IVec S_ 32 := constantI S_ 32 0#32
  let main_v2 : FVec F S16384x1024 .f32 := fn_pad (F := F) main_v1 main_c
  let main_v3 : FVec F S16384x1024 .f32 := (fun a b => concatenate S16384x1024 1 [⟨S16384x512, a⟩, ⟨S16384x512, b⟩] concatenates_S16384x512_S16384x512_S16384x1024_d1) main_arg0 main_arg1
  let main_v4 : FVec F S16384x1024 .f32 := shapeCast S16384x1024 main_arg2 shapeCasts_S1x16384x1024_S16384x1024
  let main_v5 : FVec F S16384x1024 .f32 := shapeCast S16384x1024 main_arg5 shapeCasts_S1x16384x1024_S16384x1024
  let main_v6 : FVec F S16384x1024 .f32 := Host.absf main_v3
  let main_cst : FVec F S_ .f32 := constant S_ .f32 0x7F800000#32
  let main_v7 : FVec F S16384x1024 .f32 := broadcastInDim S16384x1024 ![] bcast_S_S16384x1024 main_cst
  let main_v8 : IVec S16384x1024 1 := cmpf .olt main_v6 main_v7
  let main_v9 : FVec F S16384x1024 .f32 := Host.absf main_v4
  let main_cst_0 : FVec F S_ .f32 := constant S_ .f32 0x7F800000#32
  let main_v10 : FVec F S16384x1024 .f32 := broadcastInDim S16384x1024 ![] bcast_S_S16384x1024 main_cst_0
  let main_v11 : IVec S16384x1024 1 := cmpf .olt main_v9 main_v10
  let main_v12 : IVec S16384x1024 1 := andi main_v8 main_v11
  let main_v13 : FVec F S16384x1024 .f32 := Host.absf main_v2
  let main_cst_1 : FVec F S_ .f32 := constant S_ .f32 0x7F800000#32
  let main_v14 : FVec F S16384x1024 .f32 := broadcastInDim S16384x1024 ![] bcast_S_S16384x1024 main_cst_1
  let main_v15 : IVec S16384x1024 1 := cmpf .olt main_v13 main_v14
  let main_v16 : IVec S16384x1024 1 := andi main_v12 main_v15
  let main_v17 : FVec F S16384x1024 .f32 := Host.absf main_v0
  let main_cst_2 : FVec F S_ .f32 := constant S_ .f32 0x7F800000#32
  let main_v18 : FVec F S16384x1024 .f32 := broadcastInDim S16384x1024 ![] bcast_S_S16384x1024 main_cst_2
  fn_part1 (F := F) main_v5 main_v16 main_v17 main_v18
-- ==== Pre_proj_finite.lean ====
abbrev S1x16384x1024 : Shape := ⟨3, ![1, 16384, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S16384x1024 : Shape := ⟨2, ![16384, 1024]⟩
abbrev S16384x512 : Shape := ⟨2, ![16384, 512]⟩
abbrev S_ : Shape := ⟨0, ![]⟩

class Facts : Prop where
  shapeCasts_S1x1024_S1024 : S1x1024.ShapeCasts S1024
  bcast_S1024_S16384x1024_1 : S1024.BroadcastsInDim S16384x1024 (![1] : Fin 1 → Fin S16384x1024.rank)
  shapeCasts_S1x1024x1024_S1024x1024 : S1x1024x1024.ShapeCasts S1024x1024
  pads_S1024x1024_S16384x1024_0153600_000 : S1024x1024.Pads (![0, 0] : Fin 2 → Nat) ![15360, 0] ![0, 0] S16384x1024
  h_S_ : 0 < S_.numel
  shapeCasts_S1x16384x1024_S16384x1024 : S1x16384x1024.ShapeCasts S16384x1024
  concatenates_S16384x512_S16384x512_S16384x1024_d1 : Shape.Concatenates [S16384x512, S16384x512] S16384x1024 1
  bitsLt_bf16_f32 : FTy.bits .bf16 < FTy.bits .f32
  bcast_S_S16384x1024 : S_.BroadcastsInDim S16384x1024 (![] : Fin 0 → Fin S16384x1024.rank)

variable [Facts]

def fn_pad {F : FTy → Type} [FloatOps F] (arg0 : FVec F S1024x1024 .f32) (arg1 : IVec S_ 32) : FVec F S16384x1024 .f32 :=
  let v0 : FVec F S_ .f32 := sitofp .f32 arg1
  let v1 : FVec F S16384x1024 .f32 := (fun x v => pad S16384x1024 ![0, 0] ![15360, 0] ![0, 0] x v pads_S1024x1024_S16384x1024_0153600_000 h_S_) arg0 v0
  v1

def fn_part1 {F : FTy → Type} [FloatOps F] (main_v17 : IVec S16384x1024 1) (main_v18 : FVec F S16384x1024 .f32) (main_cst_2 : FVec F S_ .f32) : IVec S16384x1024 1 :=
  let main_v19 : FVec F S16384x1024 .f32 := broadcastInDim S16384x1024 ![] bcast_S_S16384x1024 main_cst_2
  let main_v20 : IVec S16384x1024 1 := cmpf .olt main_v18 main_v19
  let main_v21 : IVec S16384x1024 1 := andi main_v17 main_v20
  main_v21

def fn {F : FTy → Type} [FloatOps F] (main_arg0 : FVec F S1x16384x1024 .f32) (main_arg1 : FVec F S1024 .f32) (main_arg2 : FVec F S1024x1024 .f32) (main_arg3 : FVec F S1x1024 .f32) (main_arg4 : FVec F S1x1024x1024 .f32) (main_arg5 : FVec F S16384x1024 .f32) (main_arg6 : FVec F S16384x512 .bf16) (main_arg7 : FVec F S16384x512 .bf16) (main_arg8 : FVec F S16384x512 .bf16) (main_arg9 : FVec F S16384x512 .bf16) : IVec S16384x1024 1 :=
  let main_v0 : FVec F S1024 .f32 := shapeCast S1024 main_arg3 shapeCasts_S1x1024_S1024
  let main_v1 : FVec F S16384x1024 .f32 := broadcastInDim S16384x1024 ![1] bcast_S1024_S16384x1024_1 main_v0
  let main_v2 : FVec F S1024x1024 .f32 := shapeCast S1024x1024 main_arg4 shapeCasts_S1x1024x1024_S1024x1024
  let main_c : IVec S_ 32 := constantI S_ 32 0#32
  let main_v3 : FVec F S16384x1024 .f32 := fn_pad (F := F) main_v2 main_c
  let main_v4 : FVec F S16384x1024 .f32 := shapeCast S16384x1024 main_arg0 shapeCasts_S1x16384x1024_S16384x1024
  let main_v5 : FVec F S16384x1024 .bf16 := (fun a b => concatenate S16384x1024 1 [⟨S16384x512, a⟩, ⟨S16384x512, b⟩] concatenates_S16384x512_S16384x512_S16384x1024_d1) main_arg6 main_arg7
  let main_v6 : FVec F S16384x1024 .f32 := (extf .f32 · bitsLt_bf16_f32) main_v5
  let main_v7 : FVec F S16384x1024 .f32 := Host.absf main_v4
  let main_cst : FVec F S_ .f32 := constant S_ .f32 0x7F800000#32
  let main_v8 : FVec F S16384x1024 .f32 := broadcastInDim S16384x1024 ![] bcast_S_S16384x1024 main_cst
  let main_v9 : IVec S16384x1024 1 := cmpf .olt main_v7 main_v8
  let main_v10 : FVec F S16384x1024 .f32 := Host.absf main_v1
  let main_cst_0 : FVec F S_ .f32 := constant S_ .f32 0x7F800000#32
  let main_v11 : FVec F S16384x1024 .f32 := broadcastInDim S16384x1024 ![] bcast_S_S16384x1024 main_cst_0
  let main_v12 : IVec S16384x1024 1 := cmpf .olt main_v10 main_v11
  let main_v13 : IVec S16384x1024 1 := andi main_v9 main_v12
  let main_v14 : FVec F S16384x1024 .f32 := Host.absf main_v3
  let main_cst_1 : FVec F S_ .f32 := constant S_ .f32 0x7F800000#32
  let main_v15 : FVec F S16384x1024 .f32 := broadcastInDim S16384x1024 ![] bcast_S_S16384x1024 main_cst_1
  let main_v16 : IVec S16384x1024 1 := cmpf .olt main_v14 main_v15
  let main_v17 : IVec S16384x1024 1 := andi main_v13 main_v16
  let main_v18 : FVec F S16384x1024 .f32 := Host.absf main_v6
  let main_cst_2 : FVec F S_ .f32 := constant S_ .f32 0x7F800000#32
  fn_part1 (F := F) main_v17 main_v18 main_cst_2
-- ==== Pre_x_finite.lean ====
abbrev S1x16384x1024 : Shape := ⟨3, ![1, 16384, 1024]⟩
abbrev S1x1024 : Shape := ⟨2, ![1, 1024]⟩
abbrev S1x1024x4096 : Shape := ⟨3, ![1, 1024, 4096]⟩
abbrev S16384x1024 : Shape := ⟨2, ![16384, 1024]⟩
abbrev S16384x4096 : Shape := ⟨2, ![16384, 4096]⟩
abbrev S_ : Shape := ⟨0, ![]⟩

class Facts : Prop where
  bcast_S_S1x16384x1024 : S_.BroadcastsInDim S1x16384x1024 (![] : Fin 0 → Fin S1x16384x1024.rank)

variable [Facts]

def fn {F : FTy → Type} [FloatOps F] (main_arg0 : FVec F S1x16384x1024 .f32) (main_arg1 : FVec F S1x1024 .f32) (main_arg2 : FVec F S1x1024x4096 .f32) (main_arg3 : FVec F S16384x1024 .f32) (main_arg4 : FVec F S16384x4096 .bf16) : IVec S1x16384x1024 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  main_v2
-- ==== Kernel.lean ====
abbrev S1x16384x1024 : Shape := ⟨3, ![1, 16384, 1024]⟩
abbrev S1x1024 : Shape := ⟨2, ![1, 1024]⟩
abbrev S1x1024x4096 : Shape := ⟨3, ![1, 1024, 4096]⟩
abbrev S16384x1024 : Shape := ⟨2, ![16384, 1024]⟩
abbrev S16384x4096 : Shape := ⟨2, ![16384, 4096]⟩
abbrev S1024x4096 : Shape := ⟨2, ![1024, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x4096, .f32⟩
  | .hbm, ⟨3, _⟩ => ⟨S16384x1024, .f32⟩
  | .hbm, ⟨4, _⟩ => ⟨S16384x4096, .bf16⟩
  | .hbm, ⟨5, _⟩ => ⟨S16384x1024, .f32⟩
  | .hbm, ⟨6, _⟩ => ⟨S1024x4096, .f32⟩
  | .hbm, ⟨7, _⟩ => ⟨S1024x4096, .bf16⟩
  | .hbm, ⟨8, _⟩ => ⟨S16384x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x16384x1024 : Shape := ⟨3, ![1, 16384, 1024]⟩
abbrev S1x1024 : Shape := ⟨2, ![1, 1024]⟩
abbrev S1x1024x4096 : Shape := ⟨3, ![1, 1024, 4096]⟩
abbrev S16384x1024 : Shape := ⟨2, ![16384, 1024]⟩
abbrev S16384x4096 : Shape := ⟨2, ![16384, 4096]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x4096 : Shape := ⟨2, ![1024, 4096]⟩
abbrev S1x16384x4096 : Shape := ⟨3, ![1, 16384, 4096]⟩
abbrev S16384 : Shape := ⟨1, ![16384]⟩

abbrev nBuf : Space → Nat
  | .hbm => 61
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x4096, .f32⟩
  | .hbm, ⟨3, _⟩ => ⟨S16384x1024, .f32⟩
  | .hbm, ⟨4, _⟩ => ⟨S16384x4096, .bf16⟩
  | .hbm, ⟨5, _⟩ => ⟨S1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1024, .f32⟩
  | .hbm, ⟨22, _⟩ => ⟨S1x16384x1024, .f32⟩
  | .hbm, ⟨23, _⟩ => ⟨S1x1x1024, .f32⟩
  | .hbm, ⟨24, _⟩ => ⟨S1x16384x1024, .f32⟩
  | .hbm, ⟨25, _⟩ => ⟨S1x16384x1024, .f32⟩
  | .hbm, ⟨26, _⟩ => ⟨S1024x4096, .f32⟩
  | .hbm, ⟨27, _⟩ => ⟨S1x16384x4096, .f32⟩
  | .hbm, ⟨28, _⟩ => ⟨S1x16384x1024, .f32⟩
  | .hbm, ⟨29, _⟩ => ⟨S16384x4096, .f32⟩
  | .hbm, ⟨30, _⟩ => ⟨S1x16384x4096, .f32⟩
  | .hbm, ⟨31, _⟩ => ⟨S1x16384x1024, .f32⟩
  | .hbm, ⟨32, _⟩ => ⟨S1x16384x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x16384x1024, .f32⟩
  | .hbm, ⟨37, _⟩ => ⟨S1x16384x1024, .f32⟩
  | .hbm, ⟨38, _⟩ => ⟨S_, .f32⟩
  | .hbm, ⟨39, _⟩ => ⟨S1024, .f32⟩
  | .hbm, ⟨40, _⟩ => ⟨S1x16384x1024, .f32⟩
  | .hbm, ⟨41, _⟩ => ⟨S_, .f32⟩
  | .hbm, ⟨42, _⟩ => ⟨S1x16384, .f32⟩
  | .hbm, ⟨43, _⟩ => ⟨S1x16384x1, .f32⟩
  | .hbm, ⟨44, _⟩ => ⟨S1x16384x1024, .f32⟩
  | .hbm, ⟨45, _⟩ => ⟨S1x16384x1024, .f32⟩
  | .hbm, ⟨46, _⟩ => ⟨S1x16384x1024, .f32⟩
  | .hbm, ⟨47, _⟩ => ⟨S1x16384x1, .f32⟩
  | .hbm, ⟨48, _⟩ => ⟨S_, .f32⟩
  | .hbm, ⟨49, _⟩ => ⟨S1x16384x1, .f32⟩
  | .hbm, ⟨50, _⟩ => ⟨S1x16384x1, .f32⟩
  | .hbm, ⟨51, _⟩ => ⟨S_, .f32⟩
  | .hbm, ⟨52, _⟩ => ⟨S16384, .f32⟩
  | .hbm, ⟨53, _⟩ => ⟨S1x16384, .f32⟩
  | .hbm, ⟨54, _⟩ => ⟨S1x16384x1024, .f32⟩
  | .hbm, ⟨55, _⟩ => ⟨S1x16384x1024, .f32⟩
  | .hbm, ⟨56, _⟩ => ⟨S1x16384x1024, .f32⟩
  | .hbm, ⟨57, _⟩ => ⟨S1x16384x1024, .f32⟩
  | .hbm, ⟨58, _⟩ => ⟨S1x16384x1024, .f32⟩
  | .hbm, ⟨59, _⟩ => ⟨S1x1024, .f32⟩
  | .hbm, ⟨60, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel2.lean ====
abbrev S16384x512 : Shape := ⟨2, ![16384, 512]⟩
abbrev S16384x1024 : Shape := ⟨2, ![16384, 1024]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S16384x8 : Shape := ⟨2, ![16384, 8]⟩
abbrev S16384x8x1 : Shape := ⟨3, ![16384, 8, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x64 : Shape := ⟨2, ![4, 64]⟩
abbrev S256x128 : Shape := ⟨2, ![256, 128]⟩
abbrev S16384x128 : Shape := ⟨2, ![16384, 128]⟩
abbrev S512x256 : Shape := ⟨2, ![512, 256]⟩
abbrev S1x128 : Shape := ⟨2, ![1, 128]⟩
abbrev S512x128 : Shape := ⟨2, ![512, 128]⟩
abbrev S512x1 : Shape := ⟨2, ![512, 1]⟩
abbrev S1x1 : Shape := ⟨2, ![1, 1]⟩
abbrev S512 : Shape := ⟨1, ![512]⟩
abbrev S1024x128 : Shape := ⟨2, ![1024, 128]⟩

abbrev nBuf : Space → Nat
  | .hbm => 68
  | .vmem => 17
  | .smem => 1
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S16384x8x64, .f32⟩
  | .hbm, ⟨5, _⟩ => ⟨S16384x8x64, .f32⟩
  | .hbm, ⟨6, _⟩ => ⟨S8x16384x16384, .f32⟩
  | .hbm, ⟨7, _⟩ => ⟨S_, .f32⟩
  | .hbm, ⟨8, _⟩ => ⟨S8x16384x16384, .f32⟩
  | .hbm, ⟨9, _⟩ => ⟨S8x16384x16384, .f32⟩
  | .hbm, ⟨10, _⟩ => ⟨S16384, .i32⟩
  | .hbm, ⟨11, _⟩ => ⟨S1x16384, .i32⟩
  | .hbm, ⟨12, _⟩ => ⟨S16384, .i32⟩
  | .hbm, ⟨13, _⟩ => ⟨S16384x1, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384x16384, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S8x16384x16384, .i1⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S_, .f32⟩
  | .hbm, ⟨36, _⟩ => ⟨S8x16384x16384, .i1⟩
  | .hbm, ⟨37, _⟩ => ⟨S8x16384x16384, .f32⟩
  | .hbm, ⟨38, _⟩ => ⟨S8x16384x16384, .f32⟩
  | .hbm, ⟨39, _⟩ => ⟨S_, .f32⟩
  | .hbm, ⟨40, _⟩ => ⟨S8x16384, .f32⟩
  | .hbm, ⟨41, _⟩ => ⟨S16384x8, .f32⟩
  | .hbm, ⟨42, _⟩ => ⟨S16384x8x1, .f32⟩
  | .hbm, ⟨43, _⟩ => ⟨S16384x8x64, .f32⟩
  | .hbm, ⟨44, _⟩ => ⟨S16384x512, .f32⟩
  | .hbm, ⟨45, _⟩ => ⟨S256, .i32⟩
  | .hbm, ⟨46, _⟩ => ⟨S256x1, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S256x256, .bf16⟩
  | .hbm, ⟨52, _⟩ => ⟨S256x1, .i32⟩
  | .hbm, ⟨53, _⟩ => ⟨S1x256, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S256x256, .bf16⟩
  | .hbm, ⟨58, _⟩ => ⟨S_, .i32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S16384x512, .bf16⟩
  | .hbm, ⟨63, _⟩ => ⟨S16384x1024, .bf16⟩
  | .hbm, ⟨64, _⟩ => ⟨S16384x512, .bf16⟩
  | .hbm, ⟨65, _⟩ => ⟨S16384x512, .bf16⟩
  | .hbm, ⟨66, _⟩ => ⟨S16384x512, .bf16⟩
  | .hbm, ⟨67, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .f32⟩
  | .local _ .vmem, ⟨5, _⟩ => ⟨S256x128, .f32⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S16384x128, .bf16⟩
  | .local _ .vmem, ⟨10, _⟩ => ⟨S256x256, .bf16⟩
  | .local _ .vmem, ⟨11, _⟩ => ⟨S256x256, .bf16⟩
  | .local _ .vmem, ⟨12, _⟩ => ⟨S256x128, .bf16⟩
  | .local _ .vmem, ⟨13, _⟩ => ⟨S256x128, .bf16⟩
  | .local _ .vmem, ⟨14, _⟩ => ⟨S16384x128, .f32⟩
  | .local _ .vmem, ⟨15, _⟩ => ⟨S16384x128, .f32⟩
  | .local _ .vmem, ⟨16, _⟩ => ⟨S16384x128, .bf16⟩
  | .local _ .smem, ⟨0, _⟩ => ⟨S4x64, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40_0 : Ref sig .tc := ⟨.hbm, 65, rfl⟩
abbrev main_v40_1 : Ref sig .tc := ⟨.hbm, 66, rfl⟩
abbrev main_v40_2 : Ref sig .tc := ⟨.hbm, 67, rfl⟩
abbrev main_v34 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 64], ![false, false]⟩

abbrev pre0 : Pipeline.Prefetch sig := ⟨1, ![main_v34.idx], fun | 0 => main_v34.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v47 : Index := Scalar.indexCast arg0
  let arg1 : BitVec 32 := BitVec.ofNat 32 (i 1).val
  let v48 : Index := Scalar.indexCast arg1
  ![v47.toNat, v48.toNat]
@[reducible] def k0_t1_loop (i : grid0.Coords) (v49 : BitVec 32) : Scf.Loop 32 :=
  let arg1 : BitVec 32 := BitVec.ofNat 32 (i 1).val
  let c1_i32 : BitVec 32 := 1#32
  let v50 : BitVec 32 := Scalar.subi arg1 c1_i32
  let c0_i32_15 : BitVec 32 := 0#32
  let v51 : BitVec 32 := Scalar.maxsi v50 c0_i32_15
  let c0_i32_16 : BitVec 32 := 0#32
  let v52 : BitVec 32 := Scalar.maxsi c0_i32_16 v49
  let v53 : BitVec 32 := Scalar.minsi v51 v52
  let c1_i32_20 : BitVec 32 := 1#32
  let v57 : BitVec 32 := Scalar.subi arg1 c1_i32_20
  let v58 : BitVec 32 := Scalar.subi v57 v53
  let c1_i32_21 : BitVec 32 := 1#32
  let v60 : BitVec 32 := Scalar.divsi v58 c1_i32_21
  let v61 : BitVec 32 := Scalar.muli v60 c1_i32_21
  let v62 : BitVec 32 := Scalar.addi v53 v61
  let c1_i32_22 : BitVec 32 := 1#32
  ⟨v53, v62, c1_i32_22⟩

def k0_mult1 (i : grid0.Coords) (v49 : BitVec 32) (k0_t1 : Fin (k0_t1_loop i v49).trips) : BitVec 32 :=
  let arg1 : BitVec 32 := BitVec.ofNat 32 (i 1).val
  let c1_i32 : BitVec 32 := 1#32
  let v50 : BitVec 32 := Scalar.subi arg1 c1_i32
  let c0_i32_15 : BitVec 32 := 0#32
  let v51 : BitVec 32 := Scalar.maxsi v50 c0_i32_15
  let c0_i32_16 : BitVec 32 := 0#32
  let v52 : BitVec 32 := Scalar.maxsi c0_i32_16 v49
  let v53 : BitVec 32 := Scalar.minsi v51 v52
  let c1_i32_22 : BitVec 32 := 1#32
  let arg17 : BitVec 32 := Scf.iv v53 c1_i32_22 k0_t1
  let c256_i32_77 : BitVec 32 := 256#32
  let v213 : BitVec 32 := Scalar.muli arg17 c256_i32_77
  v213
def k0_off2 (i : grid0.Coords) (v49 : BitVec 32) (k0_t1 : Fin (k0_t1_loop i v49).trips) : Fin 2 → Nat :=
  let arg1 : BitVec 32 := BitVec.ofNat 32 (i 1).val
  let c1_i32 : BitVec 32 := 1#32
  let v50 : BitVec 32 := Scalar.subi arg1 c1_i32
  let c0_i32_15 : BitVec 32 := 0#32
  let v51 : BitVec 32 := Scalar.maxsi v50 c0_i32_15
  let c0_i32_16 : BitVec 32 := 0#32
  let v52 : BitVec 32 := Scalar.maxsi c0_i32_16 v49
  let v53 : BitVec 32 := Scalar.minsi v51 v52
  let c1_i32_22 : BitVec 32 := 1#32
  let arg17 : BitVec 32 := Scf.iv v53 c1_i32_22 k0_t1
  let c256_i32_77 : BitVec 32 := 256#32
  let v213 : BitVec 32 := Scalar.muli arg17 c256_i32_77
  let v214 : BitVec 32 := v213
  let v215 : Index := Scalar.indexCast v214
  let c0_78 : Index := 0#32
  ![v215.toNat, 0]
@[reducible] def k0_t2_loop (i : grid0.Coords) (v49 : BitVec 32) : Scf.Loop 32 :=
  let arg1 : BitVec 32 := BitVec.ofNat 32 (i 1).val
  let c1_i32 : BitVec 32 := 1#32
  let v50 : BitVec 32 := Scalar.subi arg1 c1_i32
  let c0_i32_15 : BitVec 32 := 0#32
  let v51 : BitVec 32 := Scalar.maxsi v50 c0_i32_15
  let c0_i32_16 : BitVec 32 := 0#32
  let v52 : BitVec 32 := Scalar.maxsi c0_i32_16 v49
  let v53 : BitVec 32 := Scalar.minsi v51 v52
  let c1_i32_20 : BitVec 32 := 1#32
  let v57 : BitVec 32 := Scalar.subi arg1 c1_i32_20
  let v58 : BitVec 32 := Scalar.subi v57 v53
  let c1_i32_21 : BitVec 32 := 1#32
  let v60 : BitVec 32 := Scalar.divsi v58 c1_i32_21
  let v61 : BitVec 32 := Scalar.muli v60 c1_i32_21
  let v62 : BitVec 32 := Scalar.addi v53 v61
  let v59 : BitVec 32 := Scalar.addi v53 v58
  let c1_i32_23 : BitVec 32 := 1#32
  ⟨v62, v59, c1_i32_23⟩
def k0_mult2 (i : grid0.Coords) (v49 : BitVec 32) (k0_t2 : Fin (k0_t2_loop i v49).trips) : BitVec 32 :=
  let arg1 : BitVec 32 := BitVec.ofNat 32 (i 1).val
  let c1_i32 : BitVec 32 := 1#32
  let v50 : BitVec 32 := Scalar.subi arg1 c1_i32
  let c0_i32_15 : BitVec 32 := 0#32
  let v51 : BitVec 32 := Scalar.maxsi v50 c0_i32_15
  let c0_i32_16 : BitVec 32 := 0#32
  let v52 : BitVec 32 := Scalar.maxsi c0_i32_16 v49
  let v53 : BitVec 32 := Scalar.minsi v51 v52
  let c1_i32_20 : BitVec 32 := 1#32
  let v57 : BitVec 32 := Scalar.subi arg1 c1_i32_20
  let v58 : BitVec 32 := Scalar.subi v57 v53
  let c1_i32_21 : BitVec 32 := 1#32
  let v60 : BitVec 32 := Scalar.divsi v58 c1_i32_21
  let v61 : BitVec 32 := Scalar.muli v60 c1_i32_21
  let v62 : BitVec 32 := Scalar.addi v53 v61
  let c1_i32_23 : BitVec 32 := 1#32
  let arg17 : BitVec 32 := Scf.iv v62 c1_i32_23 k0_t2
  let c256_i32_77 : BitVec 32 := 256#32
  let v213 : BitVec 32 := Scalar.muli arg17 c256_i32_77
  v213
def k0_off3 (i : grid0.Coords) (v49 : BitVec 32) (k0_t2 : Fin (k0_t2_loop i v49).trips) : Fin 2 → Nat :=
  let arg1 : BitVec 32 := BitVec.ofNat 32 (i 1).val
  let c1_i32 : BitVec 32 := 1#32
  let v50 : BitVec 32 := Scalar.subi arg1 c1_i32
  let c0_i32_15 : BitVec 32 := 0#32
  let v51 : BitVec 32 := Scalar.maxsi v50 c0_i32_15
  let c0_i32_16 : BitVec 32 := 0#32
  let v52 : BitVec 32 := Scalar.maxsi c0_i32_16 v49
  let v53 : BitVec 32 := Scalar.minsi v51 v52
  let c1_i32_20 : BitVec 32 := 1#32
  let v57 : BitVec 32 := Scalar.subi arg1 c1_i32_20
  let v58 : BitVec 32 := Scalar.subi v57 v53
  let c1_i32_21 : BitVec 32 := 1#32
  let v60 : BitVec 32 := Scalar.divsi v58 c1_i32_21
  let v61 : BitVec 32 := Scalar.muli v60 c1_i32_21
  let v62 : BitVec 32 := Scalar.addi v53 v61
  let c1_i32_23 : BitVec 32 := 1#32
  let arg17 : BitVec 32 := Scf.iv v62 c1_i32_23 k0_t2
  let c256_i32_77 : BitVec 32 := 256#32
  let v213 : BitVec 32 := Scalar.muli arg17 c256_i32_77
  let v214 : BitVec 32 := v213
  let v215 : Index := Scalar.indexCast v214
  let c0_78 : Index := 0#32
  ![v215.toNat, 0]

def k0_chk1 (i : grid0.Coords) (v49 : BitVec 32) : Prop :=
  ((k0_t1_loop i v49).OK) ∧
  (∀ k0_t1 : Fin (k0_t1_loop i v49).trips, 256 ∣ (k0_mult1 i v49 k0_t1).toNat) ∧
  (∀ k0_t1 : Fin (k0_t1_loop i v49).trips, ∀ a, (k0_off2 i v49 k0_t1) a + S256x128.size a ≤ S16384x128.size a) ∧
  ((k0_t2_loop i v49).OK) ∧
  (∀ k0_t2 : Fin (k0_t2_loop i v49).trips, 256 ∣ (k0_mult2 i v49 k0_t2).toNat) ∧
  (∀ k0_t2 : Fin (k0_t2_loop i v49).trips, ∀ a, (k0_off3 i v49 k0_t2) a + S256x128.size a ≤ S16384x128.size a)
theorem k0_t1_ok : ∀ (i : grid0.Coords) (v49 : BitVec 32) (k0_hw1 : k0_chk1 i v49), (k0_t1_loop i v49).OK := fun i v49 k0_hw1 => k0_hw1.1
theorem k0_mult1_dvd : ∀ (i : grid0.Coords) (v49 : BitVec 32) (k0_hw1 : k0_chk1 i v49) (k0_t1 : Fin (k0_t1_loop i v49).trips), 256 ∣ (k0_mult1 i v49 k0_t1).toNat := fun i v49 k0_hw1 k0_t1 => k0_hw1.2.1 k0_t1
theorem k0_off2_inb : ∀ (i : grid0.Coords) (v49 : BitVec 32) (k0_hw1 : k0_chk1 i v49) (k0_t1 : Fin (k0_t1_loop i v49).trips), ∀ a, (k0_off2 i v49 k0_t1) a + S256x128.size a ≤ S16384x128.size a := fun i v49 k0_hw1 k0_t1 => k0_hw1.2.2.1 k0_t1
theorem k0_t2_ok : ∀ (i : grid0.Coords) (v49 : BitVec 32) (k0_hw1 : k0_chk1 i v49), (k0_t2_loop i v49).OK := fun i v49 k0_hw1 => k0_hw1.2.2.2.1
theorem k0_mult2_dvd : ∀ (i : grid0.Coords) (v49 : BitVec 32) (k0_hw1 : k0_chk1 i v49) (k0_t2 : Fin (k0_t2_loop i v49).trips), 256 ∣ (k0_mult2 i v49 k0_t2).toNat := fun i v49 k0_hw1 k0_t2 => k0_hw1.2.2.2.2.1 k0_t2
theorem k0_off3_inb : ∀ (i : grid0.Coords) (v49 : BitVec 32) (k0_hw1 : k0_chk1 i v49) (k0_t2 : Fin (k0_t2_loop i v49).trips), ∀ a, (k0_off3 i v49 k0_t2) a + S256x128.size a ≤ S16384x128.size a := fun i v49 k0_hw1 k0_t2 => k0_hw1.2.2.2.2.2 k0_t2

def k0_mult3 (i : grid0.Coords) : BitVec 32 :=
  let arg1 : BitVec 32 := BitVec.ofNat 32 (i 1).val
  let c1_i32_24 : BitVec 32 := 1#32
  let v65 : BitVec 32 := Scalar.subi arg1 c1_i32_24
  let c0_i32_25 : BitVec 32 := 0#32
  let v66 : BitVec 32 := Scalar.maxsi v65 c0_i32_25
  let c256_i32_29 : BitVec 32 := 256#32
  let v69 : BitVec 32 := Scalar.muli v66 c256_i32_29
  v69
def k0_off4 (i : grid0.Coords) : Fin 2 → Nat :=
  let arg1 : BitVec 32 := BitVec.ofNat 32 (i 1).val
  let c1_i32_24 : BitVec 32 := 1#32
  let v65 : BitVec 32 := Scalar.subi arg1 c1_i32_24
  let c0_i32_25 : BitVec 32 := 0#32
  let v66 : BitVec 32 := Scalar.maxsi v65 c0_i32_25
  let c256_i32_29 : BitVec 32 := 256#32
  let v69 : BitVec 32 := Scalar.muli v66 c256_i32_29
  let v70 : BitVec 32 := v69
  let v71 : Index := Scalar.indexCast v70
  let c0_30 : Index := 0#32
  ![v71.toNat, 0]
def k0_mult4 (i : grid0.Coords) : BitVec 32 :=
  let arg1 : BitVec 32 := BitVec.ofNat 32 (i 1).val
  let c256_i32_51 : BitVec 32 := 256#32
  let v137 : BitVec 32 := Scalar.muli arg1 c256_i32_51
  v137
def k0_off5 (i : grid0.Coords) : Fin 2 → Nat :=
  let arg1 : BitVec 32 := BitVec.ofNat 32 (i 1).val
  let c256_i32_51 : BitVec 32 := 256#32
  let v137 : BitVec 32 := Scalar.muli arg1 c256_i32_51
  let v138 : BitVec 32 := v137
  let v139 : Index := Scalar.indexCast v138
  let c0_52 : Index := 0#32
  ![v139.toNat, 0]
def k0_cond2 (i : grid0.Coords) : BitVec 1 :=
  let arg1 : BitVec 32 := BitVec.ofNat 32 (i 1).val
  let c63_i32 : BitVec 32 := 63#32
  let v210 : BitVec 1 := Scalar.cmpi .eq arg1 c63_i32
  let v211 : BitVec 32 := Scalar.extui v210
  let c0_i32_76 : BitVec 32 := 0#32
  let v212 : BitVec 1 := Scalar.cmpi .ne v211 c0_i32_76
  v212

def k0_mult5 (i : grid0.Coords) : BitVec 32 :=
  let arg0 : BitVec 32 := BitVec.ofNat 32 (i 0).val
  let c128_i32 : BitVec 32 := 128#32
  let v213 : BitVec 32 := Scalar.muli arg0 c128_i32
  v213
@[reducible] def k0_t3_loop : Scf.Loop 32 :=
  let c0_i32_77 : BitVec 32 := 0#32
  let c16_i32 : BitVec 32 := 16#32
  let v215 : BitVec 32 := Scalar.addi c0_i32_77 c16_i32
  let c1_i32_78 : BitVec 32 := 1#32
  ⟨c0_i32_77, v215, c1_i32_78⟩
def k0_mult6 (k0_t3 : Fin k0_t3_loop.trips) : BitVec 32 :=
  let c0_i32_77 : BitVec 32 := 0#32
  let c1_i32_78 : BitVec 32 := 1#32
  let arg17 : BitVec 32 := Scf.iv c0_i32_77 c1_i32_78 k0_t3
  let c1024_i32 : BitVec 32 := 1024#32
  let v221 : BitVec 32 := Scalar.muli arg17 c1024_i32
  v221
def k0_off6 (k0_t3 : Fin k0_t3_loop.trips) : Fin 2 → Nat :=
  let c0_i32_77 : BitVec 32 := 0#32
  let c1_i32_78 : BitVec 32 := 1#32
  let arg17 : BitVec 32 := Scf.iv c0_i32_77 c1_i32_78 k0_t3
  let c1024_i32 : BitVec 32 := 1024#32
  let v221 : BitVec 32 := Scalar.muli arg17 c1024_i32
  let v222 : BitVec 32 := v221
  let v223 : Index := Scalar.indexCast v222
  let c0_88 : Index := 0#32
  ![v223.toNat, 0]
def k0_off7 (i : grid0.Coords) : Fin 2 → Nat :=
  let c0_i32_80 : BitVec 32 := 0#32
  let arg0 : BitVec 32 := BitVec.ofNat 32 (i 0).val
  let c128_i32 : BitVec 32 := 128#32
  let v213 : BitVec 32 := Scalar.muli arg0 c128_i32
  let v214 : BitVec 32 := v213
  ![0, v214.toNat]
@[reducible] def k0_t4_loop : Scf.Loop 32 :=
  let c0_i32_82 : BitVec 32 := 0#32
  let c16_i32_83 : BitVec 32 := 16#32
  let v218 : BitVec 32 := Scalar.addi c0_i32_82 c16_i32_83
  let c1_i32_84 : BitVec 32 := 1#32
  ⟨c0_i32_82, v218, c1_i32_84⟩
def k0_mult7 (k0_t4 : Fin k0_t4_loop.trips) : BitVec 32 :=
  let c0_i32_82 : BitVec 32 := 0#32
  let c1_i32_84 : BitVec 32 := 1#32
  let arg17 : BitVec 32 := Scf.iv c0_i32_82 c1_i32_84 k0_t4
  let c1024_i32 : BitVec 32 := 1024#32
  let v221 : BitVec 32 := Scalar.muli arg17 c1024_i32
  v221
def k0_off8 (k0_t4 : Fin k0_t4_loop.trips) : Fin 2 → Nat :=
  let c0_i32_82 : BitVec 32 := 0#32
  let c1_i32_84 : BitVec 32 := 1#32
  let arg17 : BitVec 32 := Scf.iv c0_i32_82 c1_i32_84 k0_t4
  let c1024_i32 : BitVec 32 := 1024#32
  let v221 : BitVec 32 := Scalar.muli arg17 c1024_i32
  let v222 : BitVec 32 := v221
  let v223 : Index := Scalar.indexCast v222
  let c0_88 : Index := 0#32
  ![v223.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "mask" => some ⊤
  | _ => none
-- ==== Reference2Ideal.lean ====
abbrev S16384x512 : Shape := ⟨2, ![16384, 512]⟩
abbrev S16384x1024 : Shape := ⟨2, ![16384, 1024]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S8x16384x64 : Shape := ⟨3, ![8, 16384, 64]⟩

abbrev nBuf : Space → Nat
  | .hbm => 123
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x8x64, .f32⟩
  | .hbm, ⟨6, _⟩ => ⟨S16384x8x64, .f32⟩
  | .hbm, ⟨7, _⟩ => ⟨S8x16384x16384, .f32⟩
  | .hbm, ⟨8, _⟩ => ⟨S_, .f32⟩
  | .hbm, ⟨9, _⟩ => ⟨S8x16384x16384, .f32⟩
  | .hbm, ⟨10, _⟩ => ⟨S8x16384x16384, .f32⟩
  | .hbm, ⟨11, _⟩ => ⟨S16384, .i32⟩
  | .hbm, ⟨12, _⟩ => ⟨S1x16384, .i32⟩
  | .hbm, ⟨13, _⟩ => ⟨S16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S8x16384x16384, .i1⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S8x16384x16384, .f32⟩
  | .hbm, ⟨36, _⟩ => ⟨S8x16384x16384, .i1⟩
  | .hbm, ⟨37, _⟩ => ⟨S_, .f32⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S8x16384x16384, .f32⟩
  | .hbm, ⟨42, _⟩ => ⟨S8x16384x16384, .i1⟩
  | .hbm, ⟨43, _⟩ => ⟨S_, .f32⟩
  | .hbm, ⟨44, _⟩ => ⟨S8x16384x16384, .f32⟩
  | .hbm, ⟨45, _⟩ => ⟨S8x16384x16384, .f32⟩
  | .hbm, ⟨46, _⟩ => ⟨S8x16384x16384, .f32⟩
  | .hbm, ⟨47, _⟩ => ⟨S8x16384x16384, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x16384x16384, .f32⟩
  | .hbm, ⟨56, _⟩ => ⟨S8x16384x16384, .i1⟩
  | .hbm, ⟨57, _⟩ => ⟨S_, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S8x16384x16384, .f32⟩
  | .hbm, ⟨62, _⟩ => ⟨S8x16384x16384, .f32⟩
  | .hbm, ⟨63, _⟩ => ⟨S_, .f32⟩
  | .hbm, ⟨64, _⟩ => ⟨S8x16384x16384, .f32⟩
  | .hbm, ⟨65, _⟩ => ⟨S8x16384x16384, .f32⟩
  | .hbm, ⟨66, _⟩ => ⟨S8x16384x16384, .f32⟩
  | .hbm, ⟨67, _⟩ => ⟨S_, .f32⟩
  | .hbm, ⟨68, _⟩ => ⟨S_, .f32⟩
  | .hbm, ⟨69, _⟩ => ⟨S8x16384x16384, .i1⟩
  | .hbm, ⟨70, _⟩ => ⟨S8x16384x16384, .f32⟩
  | .hbm, ⟨71, _⟩ => ⟨S8x16384x16384, .f32⟩
  | .hbm, ⟨72, _⟩ => ⟨S_, .f32⟩
  | .hbm, ⟨73, _⟩ => ⟨S8x16384x16384, .f32⟩
  | .hbm, ⟨74, _⟩ => ⟨S_, .f32⟩
  | .hbm, ⟨75, _⟩ => ⟨S_, .f32⟩
  | .hbm, ⟨76, _⟩ => ⟨S8x16384x16384, .f32⟩
  | .hbm, ⟨77, _⟩ => ⟨S8x16384x16384, .f32⟩
  | .hbm, ⟨78, _⟩ => ⟨S_, .f32⟩
  | .hbm, ⟨79, _⟩ => ⟨S_, .f32⟩
  | .hbm, ⟨80, _⟩ => ⟨S8x16384x16384, .i1⟩
  | .hbm, ⟨81, _⟩ => ⟨S8x16384x16384, .f32⟩
  | .hbm, ⟨82, _⟩ => ⟨S8x16384x16384, .f32⟩
  | .hbm, ⟨83, _⟩ => ⟨S_, .f32⟩
  | .hbm, ⟨84, _⟩ => ⟨S8x16384x16384, .f32⟩
  | .hbm, ⟨85, _⟩ => ⟨S8x16384x16384, .f32⟩
  | .hbm, ⟨86, _⟩ => ⟨S16384x8x64, .f32⟩
  | .hbm, ⟨87, _⟩ => ⟨S8x64x16384, .f32⟩
  | .hbm, ⟨88, _⟩ => ⟨S16384x8x64, .f32⟩
  | .hbm, ⟨89, _⟩ => ⟨S16384x512, .f32⟩
  | .hbm, ⟨90, _⟩ => ⟨S16384x8x64, .f32⟩
  | .hbm, ⟨91, _⟩ => ⟨S8x64x16384, .f32⟩
  | .hbm, ⟨92, _⟩ => ⟨S8x16384x16384, .f32⟩
  | .hbm, ⟨93, _⟩ => ⟨S8x64x16384, .f32⟩
  | .hbm, ⟨94, _⟩ => ⟨S16384x8x64, .f32⟩
  | .hbm, ⟨95, _⟩ => ⟨S16384x512, .f32⟩
  | .hbm, ⟨96, _⟩ => ⟨S8x16384x16384, .f32⟩
  | .hbm, ⟨97, _⟩ => ⟨S_, .f32⟩
  | .hbm, ⟨98, _⟩ => ⟨S8x16384x16384, .f32⟩
  | .hbm, ⟨99, _⟩ => ⟨S8x16384x16384, .f32⟩
  | .hbm, ⟨100, _⟩ => ⟨S_, .f32⟩
  | .hbm, ⟨101, _⟩ => ⟨S_, .f32⟩
  | .hbm, ⟨102, _⟩ => ⟨S8x16384x16384, .f32⟩
  | .hbm, ⟨103, _⟩ => ⟨S_, .f32⟩
  | .hbm, ⟨104, _⟩ => ⟨S8x16384x16384, .f32⟩
  | .hbm, ⟨105, _⟩ => ⟨S8x16384x16384, .f32⟩
  | .hbm, ⟨106, _⟩ => ⟨S8x16384x16384, .f32⟩
  | .hbm, ⟨107, _⟩ => ⟨S8x16384x16384, .f32⟩
  | .hbm, ⟨108, _⟩ => ⟨S8x16384x16384, .f32⟩
  | .hbm, ⟨109, _⟩ => ⟨S8x16384x16384, .f32⟩
  | .hbm, ⟨110, _⟩ => ⟨S8x16384x16384, .f32⟩
  | .hbm, ⟨111, _⟩ => ⟨S_, .f32⟩
  | .hbm, ⟨112, _⟩ => ⟨S8x16384x16384, .f32⟩
  | .hbm, ⟨113, _⟩ => ⟨S8x16384x16384, .f32⟩
  | .hbm, ⟨114, _⟩ => ⟨S8x16384x64, .f32⟩
  | .hbm, ⟨115, _⟩ => ⟨S16384x8x64, .f32⟩
  | .hbm, ⟨116, _⟩ => ⟨S8x16384x64, .f32⟩
  | .hbm, ⟨117, _⟩ => ⟨S16384x8x64, .f32⟩
  | .hbm, ⟨118, _⟩ => ⟨S16384x512, .f32⟩
  | .hbm, ⟨119, _⟩ => ⟨S16384x512, .f32⟩
  | .hbm, ⟨120, _⟩ => ⟨S16384x512, .bf16⟩
  | .hbm, ⟨121, _⟩ => ⟨S16384x512, .bf16⟩
  | .hbm, ⟨122, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v15_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v15_2 : Ref sig .tc := ⟨.hbm, 65, rfl⟩
abbrev main_v15_0 : Ref sig .tc := ⟨.hbm, 66, rfl⟩
abbrev main_cst_0 : Ref sig .tc := ⟨.hbm, 67, rfl⟩
abbrev main_call1_v0 : Ref sig .tc := ⟨.hbm, 68, rfl⟩
abbrev main_v16_1 : Ref sig .tc := ⟨.hbm, 69, rfl⟩
abbrev main_call1_v2 : Ref sig .tc := ⟨.hbm, 70, rfl⟩
abbrev main_v16_0 : Ref sig .tc := ⟨.hbm, 71, rfl⟩
abbrev main_call1_cst : Ref sig .tc := ⟨.hbm, 72, rfl⟩
abbrev main_v16_2 : Ref sig .tc := ⟨.hbm, 73, rfl⟩
abbrev main_call2_cst : Ref sig .tc := ⟨.hbm, 74, rfl⟩
abbrev main_call2_v0 : Ref sig .tc := ⟨.hbm, 75, rfl⟩
abbrev main_v17 : Ref sig .tc := ⟨.hbm, 76, rfl⟩
abbrev main_v18 : Ref sig .tc := ⟨.hbm, 77, rfl⟩
abbrev main_cst_1 : Ref sig .tc := ⟨.hbm, 78, rfl⟩
abbrev main_call3_v0 : Ref sig .tc := ⟨.hbm, 79, rfl⟩
abbrev main_v19_1 : Ref sig .tc := ⟨.hbm, 80, rfl⟩
abbrev main_call3_v2 : Ref sig .tc := ⟨.hbm, 81, rfl⟩
abbrev main_v19_0 : Ref sig .tc := ⟨.hbm, 82, rfl⟩
abbrev main_call3_cst : Ref sig .tc := ⟨.hbm, 83, rfl⟩
abbrev main_v19_2 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_call4_cst : Ref sig .tc := ⟨.hbm, 97, rfl⟩
abbrev main_call4_v0 : Ref sig .tc := ⟨.hbm, 98, rfl⟩
abbrev main_v32 : Ref sig .tc := ⟨.hbm, 99, rfl⟩
abbrev main_call5_cst : Ref sig .tc := ⟨.hbm, 100, rfl⟩
abbrev main_call5_v0 : Ref sig .tc := ⟨.hbm, 101, rfl⟩
abbrev main_v33 : Ref sig .tc := ⟨.hbm, 102, rfl⟩
abbrev main_call6_cst : Ref sig .tc := ⟨.hbm, 103, rfl⟩
abbrev main_call6_v0 : Ref sig .tc := ⟨.hbm, 104, rfl⟩
abbrev main_v34 : Ref sig .tc := ⟨.hbm, 105, rfl⟩
abbrev main_call7_v0 : Ref sig .tc := ⟨.hbm, 106, rfl⟩
abbrev main_call7_v1 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_cst_2 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩

abbrev nD : Nat := 1
abbrev τ : Topo := Topo.v7x

variable {F : FTy → Type} [FloatOps F]
-- ==== Kernel3.lean ====
abbrev S16384x4096 : Shape := ⟨2, ![16384, 4096]⟩
abbrev S1x3x1024 : Shape := ⟨3, ![1, 3, 1024]⟩
abbrev S1x1024x1024 : Shape := ⟨3, ![1, 1024, 1024]⟩
abbrev S16384x1024 : Shape := ⟨2, ![16384, 1024]⟩
abbrev S3x1024 : Shape := ⟨2, ![3, 1024]⟩
abbrev S_ : Shape := ⟨0, ![]⟩
abbrev S8x1024 : Shape := ⟨2, ![8, 1024]⟩
abbrev S1024x1024 : Shape := ⟨2, ![1024, 1024]⟩
abbrev S512x4096 : Shape := ⟨2, ![512, 4096]⟩
abbrev S8x4096 : Shape := ⟨2, ![8, 4096]⟩
abbrev S512x1024 : Shape := ⟨2, ![512, 1024]⟩
abbrev S1x1024 : Shape := ⟨2, ![1, 1024]⟩
abbrev S504x1024 : Shape := ⟨2, ![504, 1024]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S1x3x1024, .f32⟩
  | .hbm, ⟨2, _⟩ => ⟨S1x1024x1024, .f32⟩
  | .hbm, ⟨3, _⟩ => ⟨S16384x1024, .f32⟩
  | .hbm, ⟨4, _⟩ => ⟨S3x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S1024x1024, .f32⟩
  | .hbm, ⟨9, _⟩ => ⟨S1024x1024, .bf16⟩
  | .hbm, ⟨10, _⟩ => ⟨S16384x4096, .bf16⟩
  | .hbm, ⟨11, _⟩ => ⟨S1024x1024, .bf16⟩
  | .hbm, ⟨12, _⟩ => ⟨S8x1024, .f32⟩
  | .local _ .vmem, ⟨0, _⟩ => ⟨S512x4096, .f32⟩
  | .local _ .vmem, ⟨1, _⟩ => ⟨S512x4096, .f32⟩
  | .local _ .vmem, ⟨2, _⟩ => ⟨S8x4096, .f32⟩
  | .local _ .vmem, ⟨3, _⟩ => ⟨S8x4096, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S1024x1024, .bf16⟩
  | .local _ .vmem, ⟨8, _⟩ => ⟨S512x4096, .bf16⟩
  | .local _ .vmem, ⟨9, _⟩ => ⟨S512x4096, .bf16⟩
  | .local _ .vmem, ⟨10, _⟩ => ⟨S1024x1024, .bf16⟩
  | .local _ .vmem, ⟨11, _⟩ => ⟨S8x1024, .f32⟩
  | .local _ .vmem, ⟨12, _⟩ => ⟨S8x1024, .f32⟩
  | .local _ .vmem, ⟨13, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_55 : BitVec 32 := 31#32
  let v161 : BitVec 1 := Scalar.cmpi .eq arg0 c31_i32_55
  let v162 : BitVec 32 := Scalar.extui v161
  let c0_i32_56 : BitVec 32 := 0#32
  let v163 : BitVec 1 := Scalar.cmpi .ne v162 c0_i32_56
  v163

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S16384x4096 : Shape := ⟨2, ![16384, 4096]⟩
abbrev S1x3x1024 : Shape := ⟨3, ![1, 3, 1024]⟩
abbrev S1x1024x1024 : Shape := ⟨3, ![1, 1024, 1024]⟩
abbrev S16384x1024 : Shape := ⟨2, ![16384, 1024]⟩
abbrev S3x1024 : Shape := ⟨2, ![3, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S1024 : Shape := ⟨1, ![1024]⟩
abbrev S1024x1024 : Shape := ⟨2, ![1024, 1024]⟩
abbrev S8x1024 : Shape := ⟨2, ![8, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x3x1024, .f32⟩
  | .hbm, ⟨2, _⟩ => ⟨S1x1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S3x1024, .f32⟩
  | .hbm, ⟨10, _⟩ => ⟨S_, .f32⟩
  | .hbm, ⟨11, _⟩ => ⟨S2x1024, .f32⟩
  | .hbm, ⟨12, _⟩ => ⟨S16386x1024, .f32⟩
  | .hbm, ⟨13, _⟩ => ⟨S_, .f32⟩
  | .hbm, ⟨14, _⟩ => ⟨S2x1024, .f32⟩
  | .hbm, ⟨15, _⟩ => ⟨S1x1024, .f32⟩
  | .hbm, ⟨16, _⟩ => ⟨S1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1024x1024, .f32⟩
  | .hbm, ⟨51, _⟩ => ⟨S16384x1024, .f32⟩
  | .hbm, ⟨52, _⟩ => ⟨S1024x1024, .f32⟩
  | .hbm, ⟨53, _⟩ => ⟨S1024x1024, .f32⟩
  | .hbm, ⟨54, _⟩ => ⟨S16384x1024, .f32⟩
  | .hbm, ⟨55, _⟩ => ⟨S1x1024x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S_, .f32⟩
  | .hbm, ⟨73, _⟩ => ⟨S16386x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S_, .f32⟩
  | .hbm, ⟨86, _⟩ => ⟨S16386x1024, .f32⟩
  | .hbm, ⟨87, _⟩ => ⟨S16386x1024, .f32⟩
  | .hbm, ⟨88, _⟩ => ⟨S1x1024, .f32⟩
  | .hbm, ⟨89, _⟩ => ⟨S_, .f32⟩
  | .hbm, ⟨90, _⟩ => ⟨S3x1024, .f32⟩
  | .hbm, ⟨91, _⟩ => ⟨S3x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S_, .f32⟩
  | .hbm, ⟨99, _⟩ => ⟨S1024, .f32⟩
  | .hbm, ⟨100, _⟩ => ⟨S_, .f32⟩
  | .hbm, ⟨101, _⟩ => ⟨S16386x1024, .f32⟩
  | .hbm, ⟨102, _⟩ => ⟨S16386x1024, .f32⟩
  | .hbm, ⟨103, _⟩ => ⟨S1x1024, .f32⟩
  | .hbm, ⟨104, _⟩ => ⟨S_, .f32⟩
  | .hbm, ⟨105, _⟩ => ⟨S3x1024, .f32⟩
  | .hbm, ⟨106, _⟩ => ⟨S3x1024, .f32⟩
  | .hbm, ⟨107, _⟩ => ⟨S2x1024, .f32⟩
  | .hbm, ⟨108, _⟩ => ⟨S16384x1024, .f32⟩
  | .hbm, ⟨109, _⟩ => ⟨S1x3x1024, .f32⟩
  | .hbm, ⟨110, _⟩ => ⟨S16384x1024, .f32⟩
  | .hbm, ⟨111, _⟩ => ⟨S16384x1024, .f32⟩
  | .hbm, ⟨112, _⟩ => ⟨S16384x4096, .f32⟩
  | .hbm, ⟨113, _⟩ => ⟨S16384x4096, .bf16⟩
  | .hbm, ⟨114, _⟩ => ⟨S1024x1024, .f32⟩
  | .hbm, ⟨115, _⟩ => ⟨S1024x1024, .bf16⟩
  | .hbm, ⟨116, _⟩ => ⟨S3x1024, .f32⟩
  | .hbm, ⟨117, _⟩ => ⟨S_, .i32⟩
  | .hbm, ⟨118, _⟩ => ⟨S_, .f32⟩
  | .hbm, ⟨119, _⟩ => ⟨S8x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v30_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v30_1 : Ref sig .tc := ⟨.hbm, 47, rfl⟩
abbrev main_v30_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_1 : Ref sig .tc := ⟨.hbm, 67, rfl⟩
abbrev main_v46 : Ref sig .tc := ⟨.hbm, 68, rfl⟩
abbrev main_v47 : Ref sig .tc := ⟨.hbm, 69, rfl⟩
abbrev main_cst_2 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c : Ref sig .tc := ⟨.hbm, 117, rfl⟩
abbrev main_call2_v0 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Kernel4.lean ====
abbrev S16384x512 : Shape := ⟨2, ![16384, 512]⟩
abbrev S1x16384x1024 : Shape := ⟨3, ![1, 16384, 1024]⟩
abbrev S1x512x1024 : Shape := ⟨3, ![1, 512, 1024]⟩
abbrev S1024 : Shape := ⟨1, ![1024]⟩
abbrev S16384x1024 : Shape := ⟨2, ![16384, 1024]⟩
abbrev S512x1024 : Shape := ⟨2, ![512, 1024]⟩
abbrev S1x1024 : Shape := ⟨2, ![1, 1024]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 17
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x16384x1024, .f32⟩
  | .hbm, ⟨3, _⟩ => ⟨S1x512x1024, .f32⟩
  | .hbm, ⟨4, _⟩ => ⟨S1024, .f32⟩
  | .hbm, ⟨5, _⟩ => ⟨S1x16384x1024, .f32⟩
  | .hbm, ⟨6, _⟩ => ⟨S16384x1024, .f32⟩
  | .hbm, ⟨7, _⟩ => ⟨S512x1024, .f32⟩
  | .hbm, ⟨8, _⟩ => ⟨S512x1024, .bf16⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x512, .bf16⟩
  | .hbm, ⟨13, _⟩ => ⟨S16384x512, .bf16⟩
  | .hbm, ⟨14, _⟩ => ⟨S512x1024, .bf16⟩
  | .hbm, ⟨15, _⟩ => ⟨S1x1024, .f32⟩
  | .hbm, ⟨16, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S1x1024, .f32⟩
  | .local _ .vmem, ⟨18, _⟩ => ⟨S1x128, .f32⟩
  | .local _ .vmem, ⟨19, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v93 : BitVec 1 := Scalar.cmpi .eq arg0 c31_i32
  let v94 : BitVec 32 := Scalar.extui v93
  let c0_i32_47 : BitVec 32 := 0#32
  let v95 : BitVec 1 := Scalar.cmpi .ne v94 c0_i32_47
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S16384x512 : Shape := ⟨2, ![16384, 512]⟩
abbrev S1x16384x1024 : Shape := ⟨3, ![1, 16384, 1024]⟩
abbrev S1x512x1024 : Shape := ⟨3, ![1, 512, 1024]⟩
abbrev S1024 : Shape := ⟨1, ![1024]⟩
abbrev S_ : Shape := ⟨0, ![]⟩
abbrev S512x1024 : Shape := ⟨2, ![512, 1024]⟩
abbrev S16384x1024 : Shape := ⟨2, ![16384, 1024]⟩
abbrev S1x16384 : Shape := ⟨2, ![1, 16384]⟩
abbrev S1x16384x1 : Shape := ⟨3, ![1, 16384, 1]⟩
abbrev S1x1x1024 : Shape := ⟨3, ![1, 1, 1024]⟩
abbrev S1x1024 : Shape := ⟨2, ![1, 1024]⟩
abbrev S16384 : Shape := ⟨1, ![16384]⟩
abbrev S1024x512 : Shape := ⟨2, ![1024, 512]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x16384x1024, .f32⟩
  | .hbm, ⟨3, _⟩ => ⟨S1x512x1024, .f32⟩
  | .hbm, ⟨4, _⟩ => ⟨S1024, .f32⟩
  | .hbm, ⟨5, _⟩ => ⟨S1x16384x1024, .f32⟩
  | .hbm, ⟨6, _⟩ => ⟨S16384x512, .f32⟩
  | .hbm, ⟨7, _⟩ => ⟨S16384x512, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S512x1024, .f32⟩
  | .hbm, ⟨21, _⟩ => ⟨S16384x1024, .f32⟩
  | .hbm, ⟨22, _⟩ => ⟨S1x16384x1024, .f32⟩
  | .hbm, ⟨23, _⟩ => ⟨S1x16384x1024, .f32⟩
  | .hbm, ⟨24, _⟩ => ⟨S1x16384x1024, .f32⟩
  | .hbm, ⟨25, _⟩ => ⟨S_, .f32⟩
  | .hbm, ⟨26, _⟩ => ⟨S1x16384, .f32⟩
  | .hbm, ⟨27, _⟩ => ⟨S1x16384x1, .f32⟩
  | .hbm, ⟨28, _⟩ => ⟨S_, .f32⟩
  | .hbm, ⟨29, _⟩ => ⟨S1x16384x1, .f32⟩
  | .hbm, ⟨30, _⟩ => ⟨S1x16384x1, .f32⟩
  | .hbm, ⟨31, _⟩ => ⟨S_, .f32⟩
  | .hbm, ⟨32, _⟩ => ⟨S1x16384x1, .f32⟩
  | .hbm, ⟨33, _⟩ => ⟨S1x16384x1, .f32⟩
  | .hbm, ⟨34, _⟩ => ⟨S1x16384x1, .f32⟩
  | .hbm, ⟨35, _⟩ => ⟨S1x16384x1, .f32⟩
  | .hbm, ⟨36, _⟩ => ⟨S_, .f32⟩
  | .hbm, ⟨37, _⟩ => ⟨S1x16384x1, .f32⟩
  | .hbm, ⟨38, _⟩ => ⟨S1x16384x1, .f32⟩
  | .hbm, ⟨39, _⟩ => ⟨S1x16384x1024, .f32⟩
  | .hbm, ⟨40, _⟩ => ⟨S1x16384x1024, .f32⟩
  | .hbm, ⟨41, _⟩ => ⟨S1x1x1024, .f32⟩
  | .hbm, ⟨42, _⟩ => ⟨S1x16384x1024, .f32⟩
  | .hbm, ⟨43, _⟩ => ⟨S1x16384x1024, .f32⟩
  | .hbm, ⟨44, _⟩ => ⟨S1x16384x1024, .f32⟩
  | .hbm, ⟨45, _⟩ => ⟨S1x16384x1024, .f32⟩
  | .hbm, ⟨46, _⟩ => ⟨S_, .f32⟩
  | .hbm, ⟨47, _⟩ => ⟨S1x16384x1024, .f32⟩
  | .hbm, ⟨48, _⟩ => ⟨S1x16384x1024, .f32⟩
  | .hbm, ⟨49, _⟩ => ⟨S_, .f32⟩
  | .hbm, ⟨50, _⟩ => ⟨S1x16384, .f32⟩
  | .hbm, ⟨51, _⟩ => ⟨S_, .f32⟩
  | .hbm, ⟨52, _⟩ => ⟨S1x16384, .f32⟩
  | .hbm, ⟨53, _⟩ => ⟨S1x16384, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1x16384, .f32⟩
  | .hbm, ⟨62, _⟩ => ⟨S_, .f32⟩
  | .hbm, ⟨63, _⟩ => ⟨S1x16384, .f32⟩
  | .hbm, ⟨64, _⟩ => ⟨S1x16384, .f32⟩
  | .hbm, ⟨65, _⟩ => ⟨S1x16384x1024, .f32⟩
  | .hbm, ⟨66, _⟩ => ⟨S1x16384x1024, .f32⟩
  | .hbm, ⟨67, _⟩ => ⟨S1x16384x1024, .f32⟩
  | .hbm, ⟨68, _⟩ => ⟨S_, .f32⟩
  | .hbm, ⟨69, _⟩ => ⟨S1x1024, .f32⟩
  | .hbm, ⟨70, _⟩ => ⟨S1x1x1024, .f32⟩
  | .hbm, ⟨71, _⟩ => ⟨S1x16384x1024, .f32⟩
  | .hbm, ⟨72, _⟩ => ⟨S1x16384x1024, .f32⟩
  | .hbm, ⟨73, _⟩ => ⟨S_, .f32⟩
  | .hbm, ⟨74, _⟩ => ⟨S1024, .f32⟩
  | .hbm, ⟨75, _⟩ => ⟨S1x16384x1024, .f32⟩
  | .hbm, ⟨76, _⟩ => ⟨S_, .f32⟩
  | .hbm, ⟨77, _⟩ => ⟨S1x16384, .f32⟩
  | .hbm, ⟨78, _⟩ => ⟨S1x16384x1, .f32⟩
  | .hbm, ⟨79, _⟩ => ⟨S1x16384x1024, .f32⟩
  | .hbm, ⟨80, _⟩ => ⟨S1x16384x1024, .f32⟩
  | .hbm, ⟨81, _⟩ => ⟨S1x16384x1, .f32⟩
  | .hbm, ⟨82, _⟩ => ⟨S_, .f32⟩
  | .hbm, ⟨83, _⟩ => ⟨S1x16384x1, .f32⟩
  | .hbm, ⟨84, _⟩ => ⟨S1x16384x1, .f32⟩
  | .hbm, ⟨85, _⟩ => ⟨S_, .f32⟩
  | .hbm, ⟨86, _⟩ => ⟨S16384, .f32⟩
  | .hbm, ⟨87, _⟩ => ⟨S1x16384, .f32⟩
  | .hbm, ⟨88, _⟩ => ⟨S1x16384x1024, .f32⟩
  | .hbm, ⟨89, _⟩ => ⟨S1x16384x1024, .f32⟩
  | .hbm, ⟨90, _⟩ => ⟨S1x16384x1024, .f32⟩
  | .hbm, ⟨91, _⟩ => ⟨S1x16384x1024, .f32⟩
  | .hbm, ⟨92, _⟩ => ⟨S1x16384x1024, .f32⟩
  | .hbm, ⟨93, _⟩ => ⟨S_, .f32⟩
  | .hbm, ⟨94, _⟩ => ⟨S16384x1024, .f32⟩
  | .hbm, ⟨95, _⟩ => ⟨S1024x512, .f32⟩
  | .hbm, ⟨96, _⟩ => ⟨S512x1024, .f32⟩
  | .hbm, ⟨97, _⟩ => ⟨S16384x512, .f32⟩
  | .hbm, ⟨98, _⟩ => ⟨S1x512x1024, .f32⟩
  | .hbm, ⟨99, _⟩ => ⟨S16384x512, .f32⟩
  | .hbm, ⟨100, _⟩ => ⟨S16384x512, .f32⟩
  | .hbm, ⟨101, _⟩ => ⟨S16384x512, .f32⟩
  | .hbm, ⟨102, _⟩ => ⟨S16384x512, .f32⟩
  | .hbm, ⟨103, _⟩ => ⟨S16384x512, .f32⟩
  | .hbm, ⟨104, _⟩ => ⟨S16384x512, .f32⟩
  | .hbm, ⟨105, _⟩ => ⟨S16384x1024, .f32⟩
  | .hbm, ⟨106, _⟩ => ⟨S16384x512, .bf16⟩
  | .hbm, ⟨107, _⟩ => ⟨S16384x512, .bf16⟩
  | .hbm, ⟨108, _⟩ => ⟨S512x1024, .f32⟩
  | .hbm, ⟨109, _⟩ => ⟨S512x1024, .bf16⟩
  | .hbm, ⟨110, _⟩ => ⟨S1x1024, .f32⟩
  | .hbm, ⟨111, _⟩ => ⟨S1x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_cst_8 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_cst_10 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_11 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_v42 : Ref sig .tc := ⟨.hbm, 74, rfl⟩
abbrev main_v43 : Ref sig .tc := ⟨.hbm, 75, rfl⟩
abbrev main_cst_13 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_14 : Ref sig .tc := ⟨.hbm, 82, rfl⟩
abbrev main_v49 : Ref sig .tc := ⟨.hbm, 83, rfl⟩
abbrev main_v50 : Ref sig .tc := ⟨.hbm, 84, rfl⟩
abbrev main_cst_15 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_16 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩

abbrev nD : Nat := 1
abbrev τ : Topo := Topo.v7x

variable {F : FTy → Type} [FloatOps F]
-- ==== Kernel5.lean ====
abbrev S1x16384x1024 : Shape := ⟨3, ![1, 16384, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 20
  | .vmem => 24
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1x1024x1024, .f32⟩
  | .hbm, ⟨5, _⟩ => ⟨S16384x1024, .f32⟩
  | .hbm, ⟨6, _⟩ => ⟨S16384x512, .bf16⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x1024, .f32⟩
  | .hbm, ⟨11, _⟩ => ⟨S1024x1024, .f32⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S16384x1024, .f32⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v98 : BitVec 1 := Scalar.cmpi .eq arg0 c31_i32
  let v99 : BitVec 32 := Scalar.extui v98
  let c0_i32_63 : BitVec 32 := 0#32
  let v100 : BitVec 1 := Scalar.cmpi .ne v99 c0_i32_63
  v100

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S1x16384x1024 : Shape := ⟨3, ![1, 16384, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S16384x1024 : Shape := ⟨2, ![16384, 1024]⟩
abbrev S16384x512 : Shape := ⟨2, ![16384, 512]⟩
abbrev S1x16384x512 : Shape := ⟨3, ![1, 16384, 512]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S16384 : Shape := ⟨1, ![16384]⟩

abbrev nBuf : Space → Nat
  | .hbm => 136
  | .vmem => 0
  | .smem => 0
  | _ => 0

abbrev hbmTy0_0 (i : Nat) : BufTy := match i % 128 with
  | 0 => ⟨S1x16384x1024, .f32⟩
  | 1 => ⟨S1024, .f32⟩
  | 2 => ⟨S1024x1024, .f32⟩
  | 3 => ⟨S1x1024, .f32⟩
  | 4 => ⟨S1x1024x1024, .f32⟩
  | 5 => ⟨S16384x1024, .f32⟩
  | 6 => ⟨S16384x512, .bf16⟩
  | 7 => ⟨S16384x512, .bf16⟩
  | 8 => ⟨S16384x512, .bf16⟩
  | 9 => ⟨S16384x512, .bf16⟩
  | 10 => ⟨S1x16384x1024, .f32⟩
  | 11 => ⟨S16384x512, .f32⟩
  | 12 => ⟨S1x16384x512, .f32⟩
  | 13 => ⟨S16384x512, .f32⟩
  | 14 => ⟨S1x16384x512, .f32⟩
  | 15 => ⟨S16384x512, .f32⟩
  | 16 => ⟨S1x16384x512, .f32⟩
  | 17 => ⟨S16384x512, .f32⟩
  | 18 => ⟨S1x16384x512, .f32⟩
  | 19 => ⟨S1x16384x1024, .f32⟩
  | 20 => ⟨S_, .f32⟩
  | 21 => ⟨S1x16384, .f32⟩
  | 22 => ⟨S1x16384x1, .f32⟩
  | 23 => ⟨S_, .f32⟩
  | 24 => ⟨S1x16384x1, .f32⟩
  | 25 => ⟨S1x16384x1, .f32⟩
  | 26 => ⟨S_, .f32⟩
  | 27 => ⟨S1x16384x1, .f32⟩
  | 28 => ⟨S1x16384x1, .f32⟩
  | 29 => ⟨S1x16384x1, .f32⟩
  | 30 => ⟨S1x16384x1, .f32⟩
  | 31 => ⟨S_, .f32⟩
  | 32 => ⟨S1x16384x1, .f32⟩
  | 33 => ⟨S1x16384x1, .f32⟩
  | 34 => ⟨S1x16384x1024, .f32⟩
  | 35 => ⟨S1x16384x1024, .f32⟩
  | 36 => ⟨S1x1x1024, .f32⟩
  | 37 => ⟨S1x16384x1024, .f32⟩
  | 38 => ⟨S1x16384x1024, .f32⟩
  | 39 => ⟨S1x16384x1024, .f32⟩
  | 40 => ⟨S1x16384x512, .f32⟩
  | 41 => ⟨S1x16384x512, .f32⟩
  | 42 => ⟨S1024, .f32⟩
  | 43 => ⟨S1x16384x1024, .f32⟩
  | 44 => ⟨S_, .f32⟩
  | 45 => ⟨S1x16384, .f32⟩
  | 46 => ⟨S1x16384x1, .f32⟩
  | 47 => ⟨S_, .f32⟩
  | 48 => ⟨S1x16384x1, .f32⟩
  | 49 => ⟨S1x16384x1, .f32⟩
  | 50 => ⟨S_, .f32⟩
  | 51 => ⟨S1x16384x1, .f32⟩
  | 52 => ⟨S1x16384x1, .f32⟩
  | 53 => ⟨S1x16384x1, .f32⟩
  | 54 => ⟨S1x16384x1, .f32⟩
  | 55 => ⟨S_, .f32⟩
  | 56 => ⟨S1x16384x1, .f32⟩
  | 57 => ⟨S1x16384x1, .f32⟩
  | 58 => ⟨S1x16384x1024, .f32⟩
  | 59 => ⟨S1x16384x1024, .f32⟩
  | 60 => ⟨S1x1x1024, .f32⟩
  | 61 => ⟨S1x16384x1024, .f32⟩
  | 62 => ⟨S1x16384x1024, .f32⟩
  | 63 => ⟨S1024x1024, .f32⟩
  | 64 => ⟨S1x16384x1024, .f32⟩
  | 65 => ⟨S1x16384x512, .f32⟩
  | 66 => ⟨S1x16384x512, .f32⟩
  | 67 => ⟨S1x16384x1024, .f32⟩
  | 68 => ⟨S1024x1024, .f32⟩
  | 69 => ⟨S1024x1024, .f32⟩
  | 70 => ⟨S1x16384x1024, .f32⟩
  | 71 => ⟨S1x1024x1024, .f32⟩
  | 72 => ⟨S1x16384x1024, .f32⟩
  | 73 => ⟨S_, .f32⟩
  | 74 => ⟨S1x1024, .f32⟩
  | 75 => ⟨S1x1x1024, .f32⟩
  | 76 => ⟨S1x16384x1024, .f32⟩
  | 77 => ⟨S1x16384x1024, .f32⟩
  | 78 => ⟨S_, .f32⟩
  | 79 => ⟨S1024, .f32⟩
  | 80 => ⟨S1x16384x1024, .f32⟩
  | 81 => ⟨S_, .f32⟩
  | 82 => ⟨S1x16384, .f32⟩
  | 83 => ⟨S1x16384x1, .f32⟩
  | 84 => ⟨S1x16384x1024, .f32⟩
  | 85 => ⟨S1x16384x1024, .f32⟩
  | 86 => ⟨S1x16384x1024, .f32⟩
  | 87 => ⟨S1x16384x1, .f32⟩
  | 88 => ⟨S_, .f32⟩
  | 89 => ⟨S1x16384x1, .f32⟩
  | 90 => ⟨S1x16384x1, .f32⟩
  | 91 => ⟨S_, .f32⟩
  | 92 => ⟨S16384, .f32⟩
  | 93 => ⟨S1x16384, .f32⟩
  | 94 => ⟨S1x16384x1024, .f32⟩
  | 95 => ⟨S1x16384x1024, .f32⟩
  | 96 => ⟨S1x16384x1024, .f32⟩
  | 97 => ⟨S1x16384x1024, .f32⟩
  | 98 => ⟨S1x16384x1024, .f32⟩
  | 99 => ⟨S1x1024, .f32⟩
  | 100 => ⟨S1x16384x1024, .f32⟩
  | 101 => ⟨S1024x1024, .f32⟩
  | 102 => ⟨S1024x1024, .f32⟩
  | 103 => ⟨S1x16384x1024, .f32⟩
  | 104 => ⟨S1x16384x1024, .f32⟩
  | 105 => ⟨S_, .f32⟩
  | 106 => ⟨S1x1024, .f32⟩
  | 107 => ⟨S1x1x1024, .f32⟩
  | 108 => ⟨S1x16384x1024, .f32⟩
  | 109 => ⟨S1x16384x1024, .f32⟩
  | 110 => ⟨S_, .f32⟩
  | 111 => ⟨S1024, .f32⟩
  | 112 => ⟨S1x16384x1024, .f32⟩
  | 113 => ⟨S_, .f32⟩
  | 114 => ⟨S1x16384, .f32⟩
  | 115 => ⟨S1x16384x1, .f32⟩
  | 116 => ⟨S1x16384x1024, .f32⟩
  | 117 => ⟨S1x16384x1024, .f32⟩
  | 118 => ⟨S1x16384x1024, .f32⟩
  | 119 => ⟨S1x16384x1, .f32⟩
  | 120 => ⟨S_, .f32⟩
  | 121 => ⟨S1x16384x1, .f32⟩
  | 122 => ⟨S1x16384x1, .f32⟩
  | 123 => ⟨S_, .f32⟩
  | 124 => ⟨S16384, .f32⟩
  | 125 => ⟨S1x16384, .f32⟩
  | 126 => ⟨S1x16384x1024, .f32⟩
  | 127 => ⟨S1x16384x1024, .f32⟩
  | _ => ⟨S1x16384x1024, .f32⟩

abbrev hbmTy0_1 (i : Nat) : BufTy := match i % 128 with
  | 0 => ⟨S1x16384x1024, .f32⟩
  | 1 => ⟨S1x16384x1024, .f32⟩
  | 2 => ⟨S1x16384x1024, .f32⟩
  | 3 => ⟨S16384x1024, .f32⟩
  | 4 => ⟨S1024x1024, .f32⟩
  | 5 => ⟨S1024x1024, .bf16⟩
  | 6 => ⟨S1024x1024, .bf16⟩
  | 7 => ⟨S1x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_12 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_15 : Ref sig .tc := ⟨.hbm, 120, rfl⟩
abbrev main_v94 : Ref sig .tc := ⟨.hbm, 121, rfl⟩
abbrev main_v95 : Ref sig .tc := ⟨.hbm, 122, rfl⟩
abbrev main_cst_16 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩

abbrev nD : Nat := 1
abbrev τ : Topo := Topo.v7x

variable {F : FTy → Type} [FloatOps F]
-- ==== Proof.Maths.Rms.lean ====
/- The gradient of a root-mean-square norm of a row of 1024 numbers, over the extended reals: the form a kernel writes by
   hand against the form differentiation gives. -/
module

public import Idealize.ShloMosaic.Lib.Pointwise

@[expose] public section

noncomputable section

namespace Cert.Maths

open Idealize.ShloMosaic

/-- The literal 1024. -/
theorem bits_1024 : Ideal.ofBits .f32 1149239296#32 = ((1024 : ℝ) : EReal) := by
  simp [Ideal.ofBits, Ideal.ieee, -EReal.coe_mul]; norm_num

/-- The literal minus one half. -/
theorem bits_neg_half : Ideal.ofBits .f32 3204448256#32 = ((-1 / 2 : ℝ) : EReal) := by
  simp [Ideal.ofBits, Ideal.ieee, -EReal.coe_mul]; norm_num

/-- The norm's small literal is a positive real. -/
theorem bits_eps : ∃ e : ℝ, 0 < e ∧ Ideal.ofBits .f32 897988541#32 = (e : EReal) := by
  refine ⟨_, ?_, by simp [Ideal.ofBits, Ideal.ieee, -EReal.coe_mul]; rfl⟩
  norm_num

/-- A nonnegative real factor distributes over a finite sum of extended reals. -/
theorem coe_mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- A real multiple of an extended real, taken twice and added, is twice the multiple. -/
theorem coe_mul_add_self (a : ℝ) (S : EReal) : (a : EReal) * S + (a : EReal) * S = ((2 * a : ℝ) : EReal) * S := by
  induction S with
  | bot =>
    rcases lt_trichotomy a 0 with h | h | h
    · rw [EReal.coe_mul_bot_of_neg h, EReal.coe_mul_bot_of_neg (by linarith)]; rfl
    · simp [h]
    · rw [EReal.coe_mul_bot_of_pos h, EReal.coe_mul_bot_of_pos (by linarith)]; rfl
  | top =>
    rcases lt_trichotomy a 0 with h | h | h
    · rw [EReal.coe_mul_top_of_neg h, EReal.coe_mul_top_of_neg (by linarith)]; rfl
    · simp [h]
    · rw [EReal.coe_mul_top_of_pos h, EReal.coe_mul_top_of_pos (by linarith)]; rfl
  | coe b => rw [← EReal.coe_mul, ← EReal.coe_add, ← EReal.coe_mul]; congr 1; ring

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row's mean square with the norm's small literal added. -/
def meanSq (x : Fin 1024 → EReal) : EReal :=
  Ideal.div (∑ k, x k * x k) (Ideal.ofBits .f32 1149239296#32) + Ideal.ofBits .f32 897988541#32

/-- The reciprocal root of it. -/
def rstd (x : Fin 1024 → EReal) : EReal := Ideal.rsqrt (meanSq x)

/-- Of a finite row both are positive reals, the reciprocal root the root's inverse. -/
theorem rstd_real (x : Fin 1024 → ℝ) :
    ∃ s : ℝ, 0 < s ∧ meanSq (fun k => (x k : EReal)) = (s : EReal) ∧
      rstd (fun k => (x k : EReal)) = (((Real.sqrt s)⁻¹ : ℝ) : EReal) := by
  obtain ⟨e, he, hE⟩ := bits_eps
  have hs : meanSq (fun k => (x k : EReal)) = (((∑ k, x k * x k) * (1 / 1024) + e : ℝ) : EReal) := by
    unfold meanSq
    rw [hE, bits_1024, Ideal.div_coe (by norm_num)]
    rw [EReal.coe_add, EReal.coe_mul, coe_sum]
    rfl
  have hpos : 0 < (∑ k, x k * x k) * (1 / 1024) + e := by
    have : 0 ≤ ∑ k, x k * x k := Finset.sum_nonneg fun k _ => mul_self_nonneg _
    positivity
  refine ⟨_, hpos, hs, ?_⟩
  unfold rstd
  rw [hs, Ideal.rsqrt_coe, if_neg hpos.le.not_gt, if_neg hpos.ne']

/-- THE GRADIENT OF THE NORM. `ct` is the cotangent of the normalised row, `x` the finite row: what the kernel writes,
    `r (ct - x̂ mean(ct x̂))`, is what differentiation gives, `ct r` with the mean square's part added twice. -/
theorem rms_bwd (x ct : Fin 1024 → EReal) (hx : ∀ k, ∃ r : ℝ, x k = r) (q : Fin 1024) :
    rstd x * (ct q - x q * rstd x * Ideal.div (∑ k, ct k * (x k * rstd x)) (Ideal.ofBits .f32 1149239296#32))
    = ct q * rstd x
      + (x q * Ideal.div ((∑ k, x k * ct k) * (Ideal.ofBits .f32 3204448256#32 * Ideal.div (rstd x) (meanSq x)))
          (Ideal.ofBits .f32 1149239296#32)
        + Ideal.div ((∑ k, x k * ct k) * (Ideal.ofBits .f32 3204448256#32 * Ideal.div (rstd x) (meanSq x)))
          (Ideal.ofBits .f32 1149239296#32) * x q) := by
  choose y hy using hx
  obtain rfl : x = fun k => (y k : EReal) := funext hy
  obtain ⟨s, hs, hm, hr⟩ := rstd_real y
  have hq : 0 < Real.sqrt s := Real.sqrt_pos.mpr hs
  rw [hm, hr]
  set r : ℝ := (Real.sqrt s)⁻¹ with hrdef
  have hr0 : 0 ≤ r := (inv_pos.mpr hq).le
  have hrr : r * r = 1 / s := by
    rw [hrdef, ← mul_inv, Real.mul_self_sqrt hs.le, one_div]
  have hS : ∑ k, ct k * ((y k : EReal) * (r : EReal)) = (r : EReal) * ∑ k, (y k : EReal) * ct k := by
    rw [coe_mul_sum _ hr0]
    exact Finset.sum_congr rfl fun k _ => by rw [mul_comm, mul_comm (y k : EReal), mul_assoc]
  rw [hS, bits_1024, bits_neg_half, Ideal.div_coe (by norm_num), Ideal.div_coe (by norm_num), Ideal.div_coe hs.ne']
  generalize ∑ k, (y k : EReal) * ct k = S
  have h1 : (y q : EReal) * (r : EReal) * ((r : EReal) * S * ((1 / 1024 : ℝ) : EReal))
      = ((y q * r * r * (1 / 1024) : ℝ) : EReal) * S := by
    push_cast; ac_rfl
  have h2 : S * (((-1 / 2 : ℝ) : EReal) * ((r : EReal) * ((1 / s : ℝ) : EReal))) * ((1 / 1024 : ℝ) : EReal)
      = ((-1 / 2 * (r * (1 / s)) * (1 / 1024) : ℝ) : EReal) * S := by
    push_cast; ac_rfl
  rw [h1, h2, sub_eq_add_neg,
    EReal.left_distrib_of_nonneg_of_ne_top (EReal.coe_nonneg.mpr hr0) (EReal.coe_ne_top r), mul_comm (r : EReal) (ct q)]
  refine congrArg (ct q * (r : EReal) + ·) ?_
  rw [mul_comm _ (y q : EReal), ← mul_assoc, ← EReal.coe_mul, coe_mul_add_self, ← EReal.neg_mul, ← mul_assoc,
    ← EReal.coe_neg, ← EReal.coe_mul]
  congr 2
  rw [← hrr]; ring

end Cert.Maths

end
-- ==== Proof.InputGrad.Kernel.lean ====
/- What the call for the gradient of the step's input leaves in its two result arrays, element by element, in terms of
   the arguments. -/
module

public import proofs.«01_k».proof.Proof.Gen.KernelIdeal.Value
public import proofs.«01_k».proof.Proof.Maths.Rms
public import Idealize.ShloMosaic.Lib.Pointwise
public import Idealize.ShloMosaic.Lib.Pipeline.ValueKit
public import Idealize.ShloMosaic.Lib.Claim

@[expose] public section

set_option maxRecDepth 16384

noncomputable section

namespace Cert.InputGrad

open Idealize.ShloMosaic Idealize.ShloMosaic.TcCoe Idealize.SL.Sem
open Cert.KernelIdeal Cert.KernelIdeal.Gen Cert.Maths

/-- The gradient that reaches the normalised row `p` through the projection, at `k`: a row of `du` against a row of the
    weight. -/
def dproj (W : Vec Ideal S1x1024x4096 .f32) (U : Vec Ideal S16384x4096 .bf16) (p : Fin 16384) (k : Fin 1024) : EReal :=
  ∑ l : Fin 4096, (U (ix2 p l : S16384x4096.Idx) : EReal) * (W (ix3 0 k l : S1x1024x4096.Idx) : EReal)

/-- Row `p` of the input. -/
def row (X : Vec Ideal S1x16384x1024 .f32) (p : Fin 16384) (k : Fin 1024) : EReal := X (ix3 0 p k : S1x16384x1024.Idx)

/-- The cotangent of the normalised row, the gain multiplied in. -/
def cot (N : Vec Ideal S1x1024 .f32) (W : Vec Ideal S1x1024x4096 .f32) (U : Vec Ideal S16384x4096 .bf16) (p : Fin 16384)
    (k : Fin 1024) : EReal :=
  dproj W U p k * (N (ix2 0 k : S1x1024.Idx) : EReal)

/-- The input's gradient as the kernel computes it. -/
def dx (X : Vec Ideal S1x16384x1024 .f32) (N : Vec Ideal S1x1024 .f32) (W : Vec Ideal S1x1024x4096 .f32)
    (D : Vec Ideal S16384x1024 .f32) (U : Vec Ideal S16384x4096 .bf16) : Vec Ideal S16384x1024 .f32 := fun j =>
  (D j : EReal) + rstd (row X (j 0)) * (cot N W U (j 0) (j 1) - row X (j 0) (j 1) * rstd (row X (j 0))
    * Ideal.div (∑ k : Fin 1024, cot N W U (j 0) k * (row X (j 0) k * rstd (row X (j 0)))) (Ideal.ofBits .f32 1149239296#32))

/-- The gain's gradient: over the rows, the projection's gradient times the normalised row. -/
def dgain (X : Vec Ideal S1x16384x1024 .f32) (W : Vec Ideal S1x1024x4096 .f32) (U : Vec Ideal S16384x4096 .bf16) :
    Vec Ideal S1x1024 .f32 := fun j =>
  ∑ p : Fin 16384, dproj W U p (j 1) * (row X p (j 1) * rstd (row X p))

theorem pay1 (x0 x1 : Vec Ideal S512x1024 .f32) (x2 : Vec Ideal S512x4096 .bf16) (x3 : Vec Ideal S1024x4096 .bf16)
    (x4 : Vec Ideal S1x1024 .f32) (j : S512x1024.Idx) :
    k0_pay1 (k0_pay4 x0) (k0_pay5 x0) x1 (k0_pay8 x2 x3 x4) (k0_pay9 x0 x2 x3 x4) (k0_pay10 (F := Ideal)) j
    = (x1 j : EReal) + rstd (fun k => x0 (ix2 (j 0) k : S512x1024.Idx))
      * ((∑ l : Fin 4096, (x2 (ix2 (j 0) l : S512x4096.Idx) : EReal) * (x3 (ix2 (j 1) l : S1024x4096.Idx) : EReal))
          * (x4 (ix2 0 (j 1) : S1x1024.Idx) : EReal)
        - (x0 (ix2 (j 0) (j 1) : S512x1024.Idx) : EReal) * rstd (fun k => x0 (ix2 (j 0) k : S512x1024.Idx))
        * Ideal.div (∑ k : Fin 1024, (∑ l : Fin 4096, (x2 (ix2 (j 0) l : S512x4096.Idx) : EReal) * (x3 (ix2 k l : S1024x4096.Idx) : EReal))
          * (x4 (ix2 0 k : S1x1024.Idx) : EReal)
          * ((x0 (ix2 (j 0) k : S512x1024.Idx) : EReal) * rstd (fun k => x0 (ix2 (j 0) k : S512x1024.Idx))))
          (Ideal.ofBits .f32 1149239296#32)) := by
  idx_vars j
  pointwise [k0_pay1, k0_pay3, k0_pay4, k0_pay5, k0_pay6, k0_pay8, k0_pay9, k0_pay10, rstd, meanSq]

theorem pay7 (x0 : Vec Ideal S512x1024 .f32) (x2 : Vec Ideal S512x4096 .bf16) (x3 : Vec Ideal S1024x4096 .bf16)
    (x4 : Vec Ideal S1x1024 .f32) (j : S1x1024.Idx) :
    k0_pay7 x0 x2 x3 x4 j = (x4 j : EReal) + ∑ p : Fin 512,
      (∑ l : Fin 4096, (x2 (ix2 p l : S512x4096.Idx) : EReal) * (x3 (ix2 (j 1) l : S1024x4096.Idx) : EReal))
        * ((x0 (ix2 p (j 1) : S512x1024.Idx) : EReal) * rstd (fun k => x0 (ix2 p k : S512x1024.Idx))) := by
  idx_vars j
  pointwise [k0_pay3, k0_pay4, k0_pay5, k0_pay6, k0_pay7, rstd, meanSq]

theorem pay2 (j : S1x1024.Idx) : k0_pay2 (F := Ideal) j = (0 : EReal) := by
  pointwise [k0_pay2]

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

variable (m : (ℓ : Loc nD τ sig) → Buf (Elt Ideal) ℓ) (c : Dev nD)

/-- The staged blocks at point `t`, read in the arguments: `p` is the array's row that the block's row `a` is. -/
theorem blk0 (t : Fin cfg0.N) (a : Fin 512) (k : Fin 1024) (p : Fin 16384) (hp : (p : ℕ) = t.val * 512 + a) :
    (iblk m c 0 t (ix2 a k : S512x1024.Idx) : EReal) = row (m ((c : Thread nD τ).loc main_arg0)) p k := by
  unfold row
  blk_point [iblk, V, idx t]

theorem blk1 (t : Fin cfg0.N) (y : S512x1024.Idx) (j : S16384x1024.Idx) (h0 : (j 0 : ℕ) = t.val * 512 + y 0)
    (h1 : (j 1 : ℕ) = y 1) : (iblk m c 1 t y : EReal) = (m ((c : Thread nD τ).loc main_arg3) : Vec Ideal S16384x1024 .f32) j := by
  blk_point [iblk, V, idx t]

theorem blk2 (t : Fin cfg0.N) (a : Fin 512) (l : Fin 4096) (p : Fin 16384) (hp : (p : ℕ) = t.val * 512 + a) :
    (iblk m c 2 t (ix2 a l : S512x4096.Idx) : EReal)
      = (m ((c : Thread nD τ).loc main_arg4) : Vec Ideal S16384x4096 .bf16) (ix2 p l : S16384x4096.Idx) := by
  blk_point [iblk, V, idx t]

theorem blk3 (t : Fin cfg0.N) (k : Fin 1024) (l : Fin 4096) :
    (iblk m c 3 t (ix2 k l : S1024x4096.Idx) : EReal)
      = (m ((c : Thread nD τ).loc main_arg2) : Vec Ideal S1x1024x4096 .f32) (ix3 0 k l : S1x1024x4096.Idx) := by
  blk_point [iblk, V, idx t]

theorem blk4 (t : Fin cfg0.N) (k : Fin 1024) :
    (iblk m c 4 t (ix2 0 k : S1x1024.Idx) : EReal)
      = (m ((c : Thread nD τ).loc main_arg1) : Vec Ideal S1x1024 .f32) (ix2 0 k : S1x1024.Idx) := by
  blk_point [iblk, V, idx t]

/-- One point's contribution to the first result. -/
theorem point5 (t : Fin cfg0.N) (y : S512x1024.Idx) (j : S16384x1024.Idx) (h0 : (j 0 : ℕ) = t.val * 512 + y 0)
    (h1 : (j 1 : ℕ) = y 1) :
    k0_pay1 (k0_pay4 (iblk m c 0 t)) (k0_pay5 (iblk m c 0 t)) (iblk m c 1 t)
      (k0_pay8 (iblk m c 2 t) (iblk m c 3 t) (iblk m c 4 t))
      (k0_pay9 (iblk m c 0 t) (iblk m c 2 t) (iblk m c 3 t) (iblk m c 4 t)) (k0_pay10 (F := Ideal)) y
    = dx (m ((c : Thread nD τ).loc main_arg0)) (m ((c : Thread nD τ).loc main_arg1)) (m ((c : Thread nD τ).loc main_arg2))
        (m ((c : Thread nD τ).loc main_arg3)) (m ((c : Thread nD τ).loc main_arg4)) j := by
  rw [pay1, blk1 m c t y j h0 h1]
  idx_vars y
  have e1 : (j 1 : Fin 1024) = y1 := Fin.ext h1
  unfold dx cot dproj
  rw [e1]
  simp only [ix2_0, ix2_1, blk0 m c t y0 _ (j 0) h0, blk2 m c t y0 _ (j 0) h0, blk3 m c t, blk4 m c t]

set_option maxHeartbeats 2000000 in
/-- The first result array, whole. -/
theorem final5 : (dats m 0 c).arrAt 5 (cfgs 0).N
    = dx (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  by_cases h : t.val % 32 = 0
  · rw [outsAt0_A m c t h]
    frame_out
    refine point5 m c t y _ ?_ ?_ <;> blk_simp [idx t] <;> try omega
  · rw [outsAt0_B m c t h]
    frame_out
    refine point5 m c t y _ ?_ ?_ <;> blk_simp [idx t] <;> try omega

/-- The points' sums over their own rows are the sum over all rows. -/
theorem dgain_sum (X : Vec Ideal S1x16384x1024 .f32) (W : Vec Ideal S1x1024x4096 .f32) (U : Vec Ideal S16384x4096 .f32)
    (x0 : Fin 32 → Vec Ideal S512x1024 .f32) (x2 : Fin 32 → Vec Ideal S512x4096 .f32)
    (x3 : Fin 32 → Vec Ideal S1024x4096 .f32)
    (h0 : ∀ (s : Fin 32) (p : Fin 512) l (r : Fin 16384), (r : ℕ) = (s : ℕ) * 512 + p → x0 s (ix2 p l) = X (ix3 0 r l))
    (h2 : ∀ (s : Fin 32) (p : Fin 512) l (r : Fin 16384), (r : ℕ) = (s : ℕ) * 512 + p → x2 s (ix2 p l) = U (ix2 r l))
    (h3 : ∀ s k l, x3 s (ix2 k l) = W (ix3 0 k l)) (k : Fin 1024) (j : S1x1024.Idx) (hj : (j 1 : ℕ) = k) :
    ∑ s : Fin 32, ∑ p : Fin 512,
        (∑ l : Fin 4096, x2 s (ix2 p l) * x3 s (ix2 k l)) * (x0 s (ix2 p k) * rstd fun l => x0 s (ix2 p l))
    = dgain X W U j := by
  have e1 : (j 1 : Fin 1024) = k := Fin.ext hj
  unfold dgain dproj row
  rw [e1]
  refine Fin.sum_mul_add_congr fun s p hl => ?_
  simp only [h0 s p _ ⟨s * 512 + p, hl⟩ rfl, h2 s p _ ⟨s * 512 + p, hl⟩ rfl, h3]

set_option maxHeartbeats 2000000 in
/-- The second result array, whole. -/
theorem final6 : (dats m 0 c).arrAt 6 (cfgs 0).N
    = dgain (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => 0) _
    (fun t h j => by rw [outsAt0_A m c t h]; frame_out; rw [pay7, pay2])
    (fun t h j => by rw [outsAt0_B m c t h]; frame_out; rw [pay7])
    t ((flush0_6 t).mp hf) _, zero_add]
  have ht : t.val < 32 := lt_of_lt_of_eq t.isLt N_0
  have hs : ∀ (s : Fin 32), 32 * (t.val / 32) + (s : ℕ) = s := fun s => by omega
  refine dgain_sum _ _ _ (fun s => iblk m c 0 ⟨32 * (t.val / 32) + s, _⟩) (fun s => iblk m c 2 ⟨32 * (t.val / 32) + s, _⟩)
    (fun s => iblk m c 3 ⟨32 * (t.val / 32) + s, _⟩) (fun s p l r hr => blk0 m c _ p l r ?_)
    (fun s p l r hr => blk2 m c _ p l r ?_) (fun s k l => blk3 m c _ k l) _ _ ?_
  · rw [hr]
    exact congrArg (· * 512 + (p : ℕ)) (hs s).symm
  · rw [hr]
    exact congrArg (· * 512 + (p : ℕ)) (hs s).symm
  · blk_simp [idx t]

end Cert.InputGrad

end
-- ==== Proof.Maths.Reduce.lean ====
/- Host sums over two of three axes, read at an index of the axis that is kept. -/
module

public import Idealize.ShloMosaic.Lib.Pointwise

@[expose] public section

noncomputable section

namespace Cert.Maths

open Idealize.ShloMosaic

/-- The host's float sum at an index is the sum over any enumeration of the indices that reduce to it. -/
theorem hostReduceAdd_fiber {s t : Shape} {axes : List (Fin s.rank)} (h : s.ReducesTo axes t) (v : s.Idx → EReal)
    (init : EReal) (j : t.Idx) {κ : Type} [Fintype κ] (g : κ → s.Idx) (hg : Function.Injective g)
    (hp : ∀ i, h.drop i = j ↔ ∃ k, g k = i) : Ideal.hostReduceAdd h v init j = init + ∑ k, v (g k) :=
  congrArg (init + ·) (Finset.sum_filter_eq_sum_of_fiber _ g hg hp v)

variable {n0 n1 n2 : Nat}

/-- The host's float sum over the first two axes of three is the double sum at the last coordinate. -/
theorem hostReduceAdd_axes01 (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  refine (hostReduceAdd_fiber h v init j (fun k : Fin n0 × Fin n1 => ix3 k.1 k.2 (j 0))
    (fun _ _ e => Prod.ext (congrFun e 0) (congrFun e 1)) (fun i => ?_)).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  · exact congrArg (init + ·) (Fintype.sum_prod_type _)

/-- The host's float sum over the first and last axes of three is the double sum at the middle coordinate. -/
theorem hostReduceAdd_axes02 (h : (⟨3, ![n0, n1, n2]⟩ : Shape).ReducesTo [0, 2] ⟨1, ![n1]⟩)
    (v : (⟨3, ![n0, n1, n2]⟩ : Shape).Idx → EReal) (init : EReal) (j : (⟨1, ![n1]⟩ : Shape).Idx) :
    Ideal.hostReduceAdd h v init j = init + ∑ a : Fin n0, ∑ b : Fin n2, v (ix3 a (j 0) b) := by
  refine (hostReduceAdd_fiber h v init j (fun k : Fin n0 × Fin n2 => ix3 k.1 (j 0) k.2)
    (fun _ _ e => Prod.ext (congrFun e 0) (congrFun e 2)) (fun i => ?_)).trans ?_
  · constructor
    · intro e
      refine ⟨(i 0, i 2), ?_⟩
      funext a; apply Fin.ext
      match a with
      | ⟨0, _⟩ => rfl
      | ⟨1, _⟩ => exact (congrArg Fin.val (congrFun e 0)).symm
      | ⟨2, _⟩ => rfl
    · rintro ⟨k, rfl⟩
      funext b; apply Fin.ext
      match b with
      | ⟨0, _⟩ => rfl
  · exact congrArg (init + ·) (Fintype.sum_prod_type _)

end Cert.Maths

end
-- ==== Proof.InputGrad.Reference.lean ====
/- What the reference's gradient of the step's input is, element by element, and that it equals what the kernel leaves
   where the input is finite. -/
module

public import proofs.«01_k».proof.Proof.InputGrad.Kernel
public import proofs.«01_k».proof.Proof.Maths.Reduce
public import proofs.«01_k».proof.Proof.Gen.ReferenceIdeal.Read
public import Idealize.ShloMosaic.Lib.Pointwise

@[expose] public section

set_option maxRecDepth 16384

noncomputable section

namespace Cert.InputGrad

open Idealize.ShloMosaic Idealize.ShloMosaic.TcCoe Idealize.SL.Sem
open Cert.ReferenceIdeal Cert.ReferenceIdeal.Gen Cert.ReferenceIdeal.Read Cert.Maths

set_option maxHeartbeats 2000000 in
/-- The reference's first result. -/
theorem ref_dx (x0 : Vec Ideal S1x16384x1024 .f32) (x1 : Vec Ideal S1x1024 .f32) (x2 : Vec Ideal S1x1024x4096 .f32)
    (x3 : Vec Ideal S16384x1024 .f32) (x4 : Vec Ideal S16384x4096 .bf16)
    (hx : ∀ p k, ∃ r : ℝ, row x0 p k = r) : val_main_v46 x0 x1 x2 x3 x4 = dx x0 x1 x2 x3 x4 := by
  funext j
  idx_vars j
  unfold dx
  have := rms_bwd (row x0 j0) (cot x1 x2 x4 j0) (hx j0) j1
  simp only [ix2_0, ix2_1] at this ⊢
  rw [this]
  pointwise [cot, dproj, row, rstd, meanSq, val_main_v0, val_main_v1, val_main_v2, val_main_v3, val_main_v4, val_main_v5, val_main_v6, val_main_v7,
    val_main_v8, val_main_v9, val_main_v10, val_main_v11, val_main_v12, val_main_v13, val_main_v14, val_main_v15,
    val_main_v17, val_main_v19, val_main_v20, val_main_v21, val_main_v22, val_main_v23, val_main_v24, val_main_v25,
    val_main_v26, val_main_v27, val_main_v29, val_main_v30, val_main_v31, val_main_v32, val_main_v33, val_main_v34,
    val_main_v35, val_main_v36, val_main_v37, val_main_v38, val_main_v39, val_main_v40, val_main_v41, val_main_v42,
    val_main_v43, val_main_v44, val_main_v46, val_main_cst, val_main_cst_0, val_main_cst_1, val_main_cst_2,
    val_main_cst_3, val_main_cst_4, val_main_cst_5, val_main_cst_6, val_main_cst_7, hostReduceAdd_axes02]
  simp only [Fin.sum_univ_one, add_assoc, Finset.univ_unique, Finset.sum_singleton]

set_option maxHeartbeats 2000000 in
/-- The reference's second result. -/
theorem ref_dgain (x0 : Vec Ideal S1x16384x1024 .f32) (x2 : Vec Ideal S1x1024x4096 .f32)
    (x4 : Vec Ideal S16384x4096 .bf16) : val_main_v45 x0 x2 x4 = dgain x0 x2 x4 := by
  funext j
  idx_vars j
  unfold dgain
  pointwise [dproj, row, rstd, meanSq, val_main_v1, val_main_v2, val_main_v3, val_main_v4, val_main_v5, val_main_v6, val_main_v7,
    val_main_v8, val_main_v12, val_main_v13, val_main_v17, val_main_v20, val_main_v21, val_main_v22, val_main_v23,
    val_main_v24, val_main_v25, val_main_v28, val_main_v45, val_main_cst, val_main_cst_0, val_main_cst_1, val_main_cst_3,
    val_main_cst_4, hostReduceAdd_axes01]
  simp only [Fin.sum_univ_one, Finset.univ_unique, Finset.sum_singleton]
  exact Finset.sum_congr rfl fun p _ => mul_comm _ _

end Cert.InputGrad

end
-- ==== Proof.Maths.Finite.lean ====
/- Finite arguments: what a program's "every element is finite" says of an element. -/
module

public import Idealize.ShloMosaic.Lib.Pointwise

@[expose] public section

noncomputable section

namespace Cert.Maths

open Idealize.ShloMosaic

/-- The literal infinity. -/
theorem bits_inf : Ideal.ofBits .f32 2139095040#32 = (⊤ : EReal) := by
  simp [Ideal.ofBits, Ideal.ieee, -EReal.coe_mul]

/-- A number whose magnitude is below infinity is real. -/
theorem real_of_abs_lt {x : EReal}
    (h : BitVec.ofBool (decide ((FloatOps.absf (F := Ideal) (φ := .f32) x : EReal) < Ideal.ofBits FTy.f32 2139095040#32)) = 1#1) :
    ∃ r : ℝ, x = r := by
  rw [bits_inf] at h
  have h' : max x (-x) < ⊤ := of_decide_eq_true ((by decide : ∀ b, BitVec.ofBool b = 1#1 → b = true) _ h)
  induction x with
  | bot => simp at h'
  | top => simp at h'
  | coe r => exact ⟨r, rfl⟩

/-- A conjunction of two flags that holds. -/
theorem both {a b : BitVec 1} (h : IntOp.andi a b = 1#1) : a = 1#1 ∧ b = 1#1 := by
  revert h
  exact (by decide : ∀ a b : BitVec 1, IntOp.andi a b = 1#1 → a = 1#1 ∧ b = 1#1) a b

end Cert.Maths

end
-- ==== Proof.InputGrad.Claim.lean ====
/- The claims about the call for the gradient of the step's input: both results equal the reference's where the input is
   finite, and the reference runs to its end. -/
module

public import proofs.«01_k».proof.Defs
public import proofs.«01_k».proof.Proof.InputGrad.Reference
public import proofs.«01_k».proof.Proof.Maths.Finite
public import proofs.«01_k».proof.Proof.Gen.ReferenceIdeal.Run
public import proofs.«01_k».proof.Proof.Gen.Pre_x_finite
public import Idealize.ShloMosaic.Lib.Claim
public import Idealize.ShloMosaic.Lib.Quiescent

@[expose] public section

noncomputable section

namespace Cert.InputGrad

open Idealize.ShloMosaic Idealize.ShloMosaic.TcCoe Idealize.SL.Sem

/-- What the precondition says of the input's rows. -/
theorem x_real (m : (ℓ : Loc KernelIdeal.nD KernelIdeal.τ KernelIdeal.sig) → Buf (Elt Ideal) ℓ)
    (h : Pre_KernelIdeal_x_finite m) (c : Dev KernelIdeal.nD) (p : Fin 16384) (k : Fin 1024) :
    ∃ r : ℝ, row (m ((c.tc : Thread KernelIdeal.nD KernelIdeal.τ).loc KernelIdeal.main_arg0)) p k = r := by
  have := congrFun (h c) (ix3 0 p k)
  pointwise [Cert.Pre_x_finite.fn] at this
  exact Maths.real_of_abs_lt this

theorem algebraic : algebraic_KernelIdeal_ReferenceIdeal_pre_x_finite := by
  pair_intro
  · run_from Cert.KernelIdeal.Value.run_blocks m g
  · run_from Cert.ReferenceIdeal.Value.run m' g'
    · obtain ⟨h0, h1, h2, h3, h4⟩ := hagree c
      rw [ReferenceIdeal.Read.val_main_v46_eq, h0, h1, h2, h3, h4]
      exact (ref_dx _ _ _ _ _ (x_real m hpre c)).trans (final5 m c).symm
    · rw [ReferenceIdeal.Read.val_main_v45_eq]
      exact (ref_dgain _ _ _).trans (final6 m c).symm

theorem frame_reference : quiescent_ReferenceIdeal := fun m g _ =>
  (θ_run _ _ _).mono (fun r h => ⟨fun c => (h c).2.2, sem_eq_zero_of_no_sems rfl r.2⟩) (ReferenceIdeal.Value.run m g)

end Cert.InputGrad

end
-- ==== Proof.Attention.Held.lean ====
/- What the attention gradient's grid step holds and where it reads: its resources, a buffer held at some contents,
and the rows and columns of each of its loads and stores at a grid point. -/
module

public import proofs.«01_k».proof.Proof.Gen.Kernel2Ideal.Loops
public import Idealize.ShloMosaic.Lib.Pipeline.FrameBody

@[expose] public section

set_option maxRecDepth 16384

noncomputable section

namespace Cert.Attention

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of a run that moves data by its own transfers. -/
abbrev Res (F : FTy → Type) := MT nD τ sig Unit (Elt F) ℕ (Pipeline.UD sig nD τ) ℕ

/-- A buffer under a memref held whole, at some contents. -/
abbrev some_at (c : Dev nD) {sp : Space} {s : Shape} {e : EltTy} (r : Memref sig .tc sp s e) : sProp (Res F) :=
  iprop(∃ f, r.view.loc (c : Thread nD τ) ↦[r.view.set]{fullShare} f)

/-- With nothing skipped both loops over key tiles stay within the sequence. -/
theorem tiles_in_range : ∀ i : grid0.Coords, k0_chk1 i 0#32 := by decide +kernel

theorem off4_eq : ∀ i : grid0.Coords, k0_off4 i = ![((i 1).val - 1) * 256, 0] := by decide +kernel
theorem off5_eq : ∀ i : grid0.Coords, k0_off5 i = ![(i 1).val * 256, 0] := by decide +kernel
theorem off7_eq : ∀ i : grid0.Coords, k0_off7 i = ![0, (i 0).val * 128] := by decide +kernel
instance (i : grid0.Coords) : ClosedOff (k0_off4 i) := ⟨_, off4_eq i⟩
instance (i : grid0.Coords) : ClosedOff (k0_off5 i) := ⟨_, off5_eq i⟩
instance (i : grid0.Coords) : ClosedOff (k0_off7 i) := ⟨_, off7_eq i⟩

/-- "This is the head pair's first query tile", as the step computes it. -/
abbrev isFirst (i : grid0.Coords) : Prop :=
  Scalar.cmpi .ne (Scalar.extui (Scalar.cmpi .eq (BitVec.ofNat 32 (i 1).val) 0#32) : BitVec 32) 0#32 = 1#1

end Cert.Attention

end
-- ==== Proof.Attention.Loops.lean ====
/- The four loops of the attention gradient's grid step, each with an invariant that only keeps the
buffers: the two loops over key tiles read the keys and values at exact contents and leave the two
accumulators at some contents; the two casting loops at a head pair's end read one accumulator and
leave the staging buffer at some contents.  The carried values are not constrained. -/
module

public import proofs.«01_k».proof.Proof.Attention.Held

@[expose] public section

set_option maxRecDepth 8192
set_option maxHeartbeats 2000000

noncomputable section

namespace Cert.Attention

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (𝒱 : Variants) (c : Dev nD) (bd : Option 𝒱.V) (E : Set ℕ) (i : grid0.Coords)
  (arg2 : Memref sig .tc .smem S4x64 .i32) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S256x128 .f32) (harg5 : arg5.IsWhole)
  (arg6 : Memref sig .tc .vmem S16384x128 .bf16) (harg6 : arg6.IsWhole)
  (arg7 : Memref sig .tc .vmem S16384x128 .bf16) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S256x128 .bf16) (harg10 : arg10.IsWhole)
  (arg11 : Memref sig .tc .hbm S16384x512 .bf16) (harg11 : arg11.IsWhole)
  (arg12 : Memref sig .tc .hbm S16384x512 .bf16) (harg12 : arg12.IsWhole)
  (arg13 : Memref sig .tc .vmem S16384x128 .f32) (harg13 : arg13.IsWhole)
  (arg14 : Memref sig .tc .vmem S16384x128 .f32) (harg14 : arg14.IsWhole)
  (arg15 : Memref sig .tc .vmem S16384x128 .bf16) (harg15 : arg15.IsWhole)
  (arg16 : DmaSems sig S_)

set_option warn.classDefReducibility false in
/-- Loop 3 casts accumulator 13 into the staging buffer, slice by slice. -/
@[sl_loop] def cast13 (k0_h2 : k0_cond2 i = 1#1) (X : BufTy.Contents (Elt F) arg13.view.ty) :
    LoopInvTy_k0_t3 (F := F) Unit ℕ (Pipeline.UD sig nD τ) ℕ 𝒱 c bd E i
      arg2 harg2 arg3 harg3 arg4 harg4 arg5 harg5 arg6 harg6 arg7 harg7 arg8 harg8 arg9 harg9
      arg10 harg10 arg11 harg11 arg12 harg12 arg13 harg13 arg14 harg14 arg15 harg15 arg16 k0_h2 where
  inv _ _ := iprop((arg13.view.loc (c : Thread nD τ) ↦[arg13.view.set]{fullShare} X)
    ∗ some_at (F := F) c arg15)
  step k acc := by
    unfold k0_t3_body
    iintro ⟨HX, ⟨%f, HS⟩⟩
    sl_exec
    sl_step
    sl_close

set_option warn.classDefReducibility false in
/-- Loop 4 casts accumulator 14 into the staging buffer, slice by slice. -/
@[sl_loop] def cast14 (k0_h2 : k0_cond2 i = 1#1) (X : BufTy.Contents (Elt F) arg14.view.ty) :
    LoopInvTy_k0_t4 (F := F) Unit ℕ (Pipeline.UD sig nD τ) ℕ 𝒱 c bd E i
      arg2 harg2 arg3 harg3 arg4 harg4 arg5 harg5 arg6 harg6 arg7 harg7 arg8 harg8 arg9 harg9
      arg10 harg10 arg11 harg11 arg12 harg12 arg13 harg13 arg14 harg14 arg15 harg15 arg16 k0_h2 where
  inv _ _ := iprop((arg14.view.loc (c : Thread nD τ) ↦[arg14.view.set]{fullShare} X)
    ∗ some_at (F := F) c arg15)
  step k acc := by
    unfold k0_t4_body
    iintro ⟨HX, ⟨%f, HS⟩⟩
    sl_exec
    sl_step
    sl_close

set_option warn.classDefReducibility false in
/-- Loop 1 over key tiles: reads the keys and values, adds into both accumulators. -/
@[sl_loop] def tiles1 (arg0 arg1 : BitVec 32) (v6 : FVec F S256x128 .bf16) (v8 : FVec F S256x128 .f32)
    (v10 v12 : FVec F S256x256 .bf16) (v25 : IVec S1x128 1) (v34 : FVec F S512x128 .bf16)
    (v35 : FVec F S256x128 .bf16) (v37 : IVec S256x128 1) (v49 : Elt F .i32) (k0_hw1 : k0_chk1 i v49)
    (v53 : BitVec 32) (init : FVec F S512x1 .f32 × FVec F S512x1 .f32 × FVec F S512x128 .f32)
    (K : BufTy.Contents (Elt F) arg6.view.ty) (W : BufTy.Contents (Elt F) arg7.view.ty) :
    LoopInvTy_k0_t1 (F := F) Unit ℕ (Pipeline.UD sig nD τ) ℕ 𝒱 c bd E i
      arg2 harg2 arg3 harg3 arg4 harg4 arg5 harg5 arg6 harg6 arg7 harg7 arg8 harg8 arg9 harg9
      arg10 harg10 arg11 harg11 arg12 harg12 arg13 harg13 arg14 harg14 arg15 harg15 arg16
      arg0 arg1 v6 v8 v10 v12 v25 v34 v35 v37 v49 k0_hw1 v53 init where
  inv _ _ := iprop((arg6.view.loc (c : Thread nD τ) ↦[arg6.view.set]{fullShare} K)
    ∗ (arg7.view.loc (c : Thread nD τ) ↦[arg7.view.set]{fullShare} W)
    ∗ some_at (F := F) c arg13 ∗ some_at (F := F) c arg14)
  step k acc := by
    unfold k0_t1_body
    iintro ⟨HK, HW, ⟨%f, HA⟩, ⟨%g, HB⟩⟩
    sl_exec
    sl_step
    sl_close

set_option warn.classDefReducibility false in
/-- Loop 2 over key tiles: reads the keys and values, adds into both accumulators. -/
@[sl_loop] def tiles2 (arg0 arg1 : BitVec 32) (v6 : FVec F S256x128 .bf16) (v8 : FVec F S256x128 .f32)
    (v10 v12 : FVec F S256x256 .bf16) (v25 : IVec S1x128 1) (v34 : FVec F S512x128 .bf16)
    (v35 : FVec F S256x128 .bf16) (v37 : IVec S256x128 1) (v49 : Elt F .i32) (k0_hw1 : k0_chk1 i v49)
    (v62 : BitVec 32) (init : FVec F S512x1 .f32 × FVec F S512x1 .f32 × FVec F S512x128 .f32)
    (K : BufTy.Contents (Elt F) arg6.view.ty) (W : BufTy.Contents (Elt F) arg7.view.ty) :
    LoopInvTy_k0_t2 (F := F) Unit ℕ (Pipeline.UD sig nD τ) ℕ 𝒱 c bd E i
      arg2 harg2 arg3 harg3 arg4 harg4 arg5 harg5 arg6 harg6 arg7 harg7 arg8 harg8 arg9 harg9
      arg10 harg10 arg11 harg11 arg12 harg12 arg13 harg13 arg14 harg14 arg15 harg15 arg16
      arg0 arg1 v6 v8 v10 v12 v25 v34 v35 v37 v49 k0_hw1 v62 init where
  inv _ _ := iprop((arg6.view.loc (c : Thread nD τ) ↦[arg6.view.set]{fullShare} K)
    ∗ (arg7.view.loc (c : Thread nD τ) ↦[arg7.view.set]{fullShare} W)
    ∗ some_at (F := F) c arg13 ∗ some_at (F := F) c arg14)
  step k acc := by
    unfold k0_t2_body
    iintro ⟨HK, HW, ⟨%f, HA⟩, ⟨%g, HB⟩⟩
    sl_exec
    sl_step
    sl_close

end Cert.Attention
-- ==== Proof.Attention.Entry.lean ====
/- What the attention gradient's pallas_call finds when it starts: the host lines before it leave the three
arguments alone and fill the table of first key tiles with zeros. -/
module

public import proofs.«01_k».proof.Proof.Attention.Loops
public import proofs.«01_k».proof.Proof.Gen.Kernel2Ideal.Launch
public import Idealize.ShloMosaic.Lib.Claim

@[expose] public section

set_option maxRecDepth 16384
set_option maxHeartbeats 2000000

noncomputable section

namespace Cert.Attention

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

variable (m : (ℓ : Loc nD τ sig) → Buf (Elt F) ℓ) (ρ : Dev nD → PrngReg)

/-- The host lines before the call. -/
abbrev hostLines : List (HloOp τ sig (Elt F)) :=
  [hostOps0, hostOps0_1, hostOps0_2, hostOps0_3, hostOps0_4].flatten

/-- The arrays as the call finds them. -/
abbrev V (c : Dev nD) (b : Ref sig .tc) : Buf (Elt F) ((c : Thread nD τ).loc b) :=
  StableHlo.after hostLines (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor

/-- The program is its host lines, then the call. -/
theorem hmain (𝒱₀ : Variants) : Pipeline.HMainP (Ix := Unit) (Name := ℕ) (U := Pipeline.UD sig nD τ) (Lvl := ℕ)
    pcfgs 0 defs₀ 𝒱₀ m (main (F := F)) (V m) :=
  Pipeline.hmainP_prefixes pcfgs 0 defs₀ 𝒱₀ m main [hostOps0, hostOps0_1, hostOps0_2, hostOps0_3, hostOps0_4]
    ⟨hostOps0_sub, hostOps0_1_sub, hostOps0_2_sub, hostOps0_3_sub, hostOps0_4_sub⟩
    ⟨fresh0, fresh1, fresh2, fresh3, fresh4⟩
    fun c => (main_chain c).trans rfl

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl

/-- Every query tile starts at key tile 0. -/
theorem V_table (c : Dev nD) : V m c main_v34 = (fun _ => 0#32 : S4x64.Idx → Elt F .i32) := by
  rfl

end Cert.Attention
-- ==== Proof.Attention.Step.lean ====
/- One grid step of the attention gradient, run once for every grid point: the seven input blocks come
back as they were, and the result block, the two accumulators, the staging buffer and the two results in
HBM are left at some contents.  At a head pair's last query tile the step casts each accumulator and
sends it out by its own transfer, waiting for each before the next. -/
module

public import proofs.«01_k».proof.Proof.Attention.Loops
public import proofs.«01_k».proof.Proof.Gen.Kernel2Ideal.Launch
public import Idealize.ShloMosaic.Lib.WordCmp

@[expose] public section

set_option maxRecDepth 16384
set_option maxHeartbeats 2000000

noncomputable section

namespace Cert.Attention

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the step holds besides its blocks: the table of starts, all zero, the accumulators, the staging
buffer, the two results in HBM and the transfers' semaphore. -/
abbrev around (c : Dev nD) : sProp (Res F) :=
  iprop(((Memref.whole main_v34).view.loc (c : Thread nD τ) ↦[(Memref.whole main_v34).view.set]{fullShare.right}
        (fun _ => 0#32 : S4x64.Idx → Elt F .i32))
    ∗ some_at c (Memref.whole cc0_scratch0) ∗ some_at c (Memref.whole cc0_scratch1) ∗ some_at c (Memref.whole cc0_scratch2)
    ∗ some_at c (Memref.whole main_v40_1) ∗ some_at c (Memref.whole main_v40_2)
    ∗ semVal ((c : Thread nD τ), SemLoc.dma 14) 0)

/-- The grid step at any point. -/
theorem step (c : Dev nD) (i : grid0.Coords)
    (arg3 : Memref sig .tc .vmem S256x128 .bf16) (harg3 : arg3.IsWhole)
    (arg4 : Memref sig .tc .vmem S256x128 .bf16) (harg4 : arg4.IsWhole)
    (arg5 : Memref sig .tc .vmem S256x128 .f32) (harg5 : arg5.IsWhole)
    (arg6 : Memref sig .tc .vmem S16384x128 .bf16) (harg6 : arg6.IsWhole)
    (arg7 : Memref sig .tc .vmem S16384x128 .bf16) (harg7 : arg7.IsWhole)
    (arg8 : Memref sig .tc .vmem S256x256 .bf16) (harg8 : arg8.IsWhole)
    (arg9 : Memref sig .tc .vmem S256x256 .bf16) (harg9 : arg9.IsWhole)
    (arg10 : Memref sig .tc .vmem S256x128 .bf16) (harg10 : arg10.IsWhole)
    (x3 : Vec F S256x128 .bf16) (x4 : Vec F S256x128 .bf16) (x5 : Vec F S256x128 .f32)
    (x6 : Vec F S16384x128 .bf16) (x7 : Vec F S16384x128 .bf16)
    (x8 : Vec F S256x256 .bf16) (x9 : Vec F S256x256 .bf16)
    (W : Waits sig Unit) (K : PUnit → sProp (Res F)) :
    iprop(owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ (∃ d, owns (c : Thread nD τ) arg10 fullShare d)
        ∗ around c ∗ owes (c : Thread nD τ) 0 W
        ∗ (iprop(owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare x9 ∗ (∃ d, owns (c : Thread nD τ) arg10 fullShare d)
            ∗ around c ∗ (∃ W', owes (c : Thread nD τ) 0 W')) -∗ K ⟨⟩))
      ⊢ wp frame (wpE (defs₀ (F := F)) Variants.none c none) Set.univ
          (cc0_attn_bwd i (Memref.whole main_v34) (Memref.isWhole_whole _) arg3 harg3 arg4 harg4 arg5 harg5
            arg6 harg6 arg7 harg7 arg8 harg8 arg9 harg9 arg10 harg10
            (Memref.whole main_v40_1) (Memref.isWhole_whole _) (Memref.whole main_v40_2) (Memref.isWhole_whole _)
            (Memref.whole cc0_scratch0) (Memref.isWhole_whole _) (Memref.whole cc0_scratch1) (Memref.isWhole_whole _)
            (Memref.whole cc0_scratch2) (Memref.isWhole_whole _) cc0_scratch3) K := by
  have chk := tiles_in_range i
  simp only [cc0_attn_bwd_eq_skeleton]; unfold cc0_attn_bwd_skel
  simp only [k0_part3_eq_skeleton, k0_part4_eq_skeleton, k0_part5_eq_skeleton, k0_part6_eq_skeleton, k0_part7_eq_skeleton]
  unfold owns
  iintro ⟨⟨%f3, %h3, H3⟩, ⟨%f4, %h4, H4⟩, ⟨%f5, %h5, H5⟩, ⟨%f6, %h6, H6⟩, ⟨%f7, %h7, H7⟩, ⟨%f8, %h8, H8⟩,
    ⟨%f9, %h9, H9⟩, ⟨%d, %f10, -, H10⟩, ⟨HT, ⟨%g0, HA⟩, ⟨%g1, HB⟩, ⟨%g2, HS⟩, ⟨%r1, HK⟩, ⟨%r2, HV⟩, Hsem⟩, HW, Hk⟩
  by_cases first : isFirst i <;> by_cases last : k0_cond2 i = 1#1
  all_goals
    sl_exec (disch := first | sl_exact first | sl_exact last | sl_exact chk)
    sl_step
    iapply Hk
    isplitl [H3]; · iexists _; isplitr; swap; · iexact H3
                    ipureintro; exact h3
    isplitl [H4]; · iexists _; isplitr; swap; · iexact H4
                    ipureintro; exact h4
    isplitl [H5]; · iexists _; isplitr; swap; · iexact H5
                    ipureintro; exact h5
    isplitl [H6]; · iexists _; isplitr; swap; · iexact H6
                    ipureintro; exact h6
    isplitl [H7]; · iexists _; isplitr; swap; · iexact H7
                    ipureintro; exact h7
    isplitl [H8]; · iexists _; isplitr; swap; · iexact H8
                    ipureintro; exact h8
    isplitl [H9]; · iexists _; isplitr; swap; · iexact H9
                    ipureintro; exact h9
    isplitl [H10]; · iexists _, _; isplitr; swap; · iexact H10
                     ipureintro; rfl
    isplitr [HW]
    · sl_close
    iexists _; iexact HW

end Cert.Attention
-- ==== Proof.Attention.Frame.lean ====
/- The attention gradient's frame: from any memory the program runs to an end, leaves its three arguments as
they were and every semaphore at zero.  The step (`Attention.Step`) is carried over the grid by the pipeline rule, the
three results at contents the frame does not name. -/
module

public import proofs.«01_k».proof.Proof.Attention.Entry
public import proofs.«01_k».proof.Proof.Attention.Step
public import Idealize.ShloMosaic.Lib.Pipeline.FrameBody

@[expose] public section

set_option maxRecDepth 16384
set_option maxHeartbeats 400000

noncomputable section

namespace Cert.Attention

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

variable (m : (ℓ : Loc nD τ sig) → Buf (Elt F) ℓ) (ρ : Dev nD → PrngReg)

/-- The table's contents, and the pipeline at them. -/
def table : pre0.Contents (Elt F) := fun k => V m (0 : Dev nD) (pre0.ref k)
theorem V_pre (c : Dev nD) (k : Fin 1) : V m c (pre0.ref k) = table m k := by
  obtain rfl : c = 0 := Subsingleton.elim _ _
  rfl
abbrev adm : (pcfg0 (F := F)).Adm := ⟨table m, trivial⟩
abbrev cfgM : Pipeline.Cfg sig Λ₀ := cfg0 (adm m)

/-- The step's own transfer semaphore, and the two results it writes itself. -/
abbrev osem0 : Fin 1 → SemLoc sig := fun j => (![SemLoc.dma 14] : Fin 1 → SemLoc sig) j
theorem ownSemFacts0 : Pipeline.OwnSemFacts spec0 osem0 := by decide
def H0 : Finset (Ref sig .tc) := ∅
def R0 : Finset (Ref sig .tc) := {main_v40_1, main_v40_2}
theorem H0_sub : H0 ⊆ Pipeline.restRefsP sig pre0 spec0 := by decide
theorem R0_sub : R0 ⊆ Pipeline.restRefsP sig pre0 spec0 \ H0 := by decide

theorem ownSems00_eq (c : Dev nD) :
    (Pipeline.ownSems0 (Ix := Unit) (Name := ℕ) (U := Pipeline.UD sig nD τ) (Lvl := ℕ) (Val := Elt F) (τ := τ) osem0 c : sProp (Res F))
      = semVal ((c : Thread nD τ), SemLoc.dma 14) 0 := by
  rw [Pipeline.ownSems0_eq_of_list c osem0 [0] (by decide) (by decide)]; rfl
theorem hbm0_eq (c : Dev nD) :
    (bigSep H0 fun b => ((c : Thread nD τ).loc b) ↦{fullShare} V m c b : sProp (Res F)) = BI.emp := by
  unfold H0; exact bigSep_empty
theorem some_at_whole (c : Dev nD) (b : Ref sig .tc) :
    (some_at c (Memref.whole b) : sProp (Res F))
      = iprop(∃ f : Buf (Elt F) ((c : Thread nD τ).loc b), ((c : Thread nD τ).loc b) ↦{fullShare} f) := by
  show iprop(∃ f, (Memref.whole b).view.loc (c : Thread nD τ) ↦[(View.whole b).set]{fullShare} f) = _
  rw [View.set_whole]
theorem at_s0 (c : Dev nD) : (some_at c (Memref.whole cc0_scratch0) : sProp (Res F))
    = iprop(∃ f : Buf (Elt F) ((c : Thread nD τ).loc cc0_scratch0), ((c : Thread nD τ).loc cc0_scratch0) ↦{fullShare} f) :=
  some_at_whole c cc0_scratch0
theorem at_s1 (c : Dev nD) : (some_at c (Memref.whole cc0_scratch1) : sProp (Res F))
    = iprop(∃ f : Buf (Elt F) ((c : Thread nD τ).loc cc0_scratch1), ((c : Thread nD τ).loc cc0_scratch1) ↦{fullShare} f) :=
  some_at_whole c cc0_scratch1
theorem at_s2 (c : Dev nD) : (some_at c (Memref.whole cc0_scratch2) : sProp (Res F))
    = iprop(∃ f : Buf (Elt F) ((c : Thread nD τ).loc cc0_scratch2), ((c : Thread nD τ).loc cc0_scratch2) ↦{fullShare} f) :=
  some_at_whole c cc0_scratch2
theorem at_r1 (c : Dev nD) : (some_at c (Memref.whole main_v40_1) : sProp (Res F))
    = iprop(∃ f : Buf (Elt F) ((c : Thread nD τ).loc main_v40_1), ((c : Thread nD τ).loc main_v40_1) ↦{fullShare} f) :=
  some_at_whole c main_v40_1
theorem at_r2 (c : Dev nD) : (some_at c (Memref.whole main_v40_2) : sProp (Res F))
    = iprop(∃ f : Buf (Elt F) ((c : Thread nD τ).loc main_v40_2), ((c : Thread nD τ).loc main_v40_2) ↦{fullShare} f) :=
  some_at_whole c main_v40_2
theorem owned0_eq (c : Dev nD) :
    (Pipeline.owned R0 c : sProp (Res F))
      = iprop(some_at c (Memref.whole main_v40_1) ∗ some_at c (Memref.whole main_v40_2)) := by
  unfold Pipeline.owned; rw [BI.bigSep_eq_bigSepL_of_eq [main_v40_1, main_v40_2] (by decide) (by decide)]
  rw [at_r1, at_r2]; rfl

/-- What the step holds besides its blocks, conjunct by conjunct. -/
theorem PhiDR0_eq (c : Dev nD) :
    (Pipeline.ΦDR osem0 spec0 H0 R0 (V m) c : sProp (Res F))
      = iprop(iprop(some_at c (Memref.whole cc0_scratch0) ∗ some_at c (Memref.whole cc0_scratch1) ∗ some_at c (Memref.whole cc0_scratch2))
          ∗ (∃ r, prngReg c r) ∗ semVal ((c : Thread nD τ), SemLoc.dma 14) 0 ∗ BI.emp
          ∗ iprop(some_at c (Memref.whole main_v40_1) ∗ some_at c (Memref.whole main_v40_2))) := by
  rw [Pipeline.ΦDR_eq, scopedRest0_eq, ownSems00_eq, hbm0_eq, owned0_eq]
  rw [at_s0, at_s1, at_s2]
theorem PhiT0_eq (c : Dev nD) :
    (Pipeline.ΦT pre0 (table m) c : sProp (Res F))
      = ((Memref.whole main_v34).view.loc (c : Thread nD τ) ↦[(Memref.whole main_v34).view.set]{fullShare.right}
          (fun _ => 0#32 : S4x64.Idx → Elt F .i32)) := by
  unfold Pipeline.ΦT Pipeline.prefHeld
  rw [show (Finset.univ : Finset (Fin 1)) = {(0 : Fin 1)} from by decide, bigSep_singleton,
    show table m 0 = (fun _ => 0#32 : S4x64.Idx → Elt F .i32) from V_table m 0]
  show _ = (Memref.whole main_v34).view.loc (c : Thread nD τ) ↦[(View.whole main_v34).set]{fullShare.right} _
  rw [View.set_whole]
  rfl

/-- Window `w`'s block at point `t`. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The proof data: the inputs' blocks stay, the output's buffer is not described. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed 7 t
    | ⟨_ + 8, h⟩ => absurd h (Nat.not_lt.2 (Nat.le_add_left _ _))
  Φ _ := iprop(Pipeline.ΦDR osem0 spec0 H0 R0 (V m) c ∗ Pipeline.ΦT pre0 (table m) c)
  q := Pipeline.shareOf spec0
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; rfl
theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem after0_1 (c : Dev nD) (t : Fin (cfgM m).N) : (dats m 0 c).after 1 t = iblk m c 1 t := by dsimp only [dats]; rfl
theorem before0_1 (c : Dev nD) (t : Fin (cfgM m).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem after0_2 (c : Dev nD) (t : Fin (cfgM m).N) : (dats m 0 c).after 2 t = iblk m c 2 t := by dsimp only [dats]; rfl
theorem before0_2 (c : Dev nD) (t : Fin (cfgM m).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem after0_3 (c : Dev nD) (t : Fin (cfgM m).N) : (dats m 0 c).after 3 t = iblk m c 3 t := by dsimp only [dats]; rfl
theorem before0_3 (c : Dev nD) (t : Fin (cfgM m).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem after0_4 (c : Dev nD) (t : Fin (cfgM m).N) : (dats m 0 c).after 4 t = iblk m c 4 t := by dsimp only [dats]; rfl
theorem before0_4 (c : Dev nD) (t : Fin (cfgM m).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem after0_5 (c : Dev nD) (t : Fin (cfgM m).N) : (dats m 0 c).after 5 t = iblk m c 5 t := by dsimp only [dats]; rfl
theorem before0_5 (c : Dev nD) (t : Fin (cfgM m).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem after0_6 (c : Dev nD) (t : Fin (cfgM m).N) : (dats m 0 c).after 6 t = iblk m c 6 t := by dsimp only [dats]; rfl
theorem before0_6 (c : Dev nD) (t : Fin (cfgM m).N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-- The output's buffer is not described. -/
abbrev forgotten : Fin (cfgM m).W → Bool := fun w => decide (w = 7)

/-- The staging buffer of window `w` at point `t`. -/
abbrev st0 (t : Fin (cfgM m).N) := spec0_0.stage ((cfgM m).slots t 0)
abbrev st1 (t : Fin (cfgM m).N) := spec0_1.stage ((cfgM m).slots t 1)
abbrev st2 (t : Fin (cfgM m).N) := spec0_2.stage ((cfgM m).slots t 2)
abbrev st3 (t : Fin (cfgM m).N) := spec0_3.stage ((cfgM m).slots t 3)
abbrev st4 (t : Fin (cfgM m).N) := spec0_4.stage ((cfgM m).slots t 4)
abbrev st5 (t : Fin (cfgM m).N) := spec0_5.stage ((cfgM m).slots t 5)
abbrev st6 (t : Fin (cfgM m).N) := spec0_6.stage ((cfgM m).slots t 6)
abbrev st7 (t : Fin (cfgM m).N) := spec0_7.stage ((cfgM m).slots t 7)

abbrev bodyAt (t : Fin (cfgM m).N) : Prog (TpuEff nD τ sig (Elt F) Λ₀ .tc) PUnit :=
  cc0_attn_bwd (grid0.coords t) (Memref.whole main_v34) (Memref.isWhole_whole _)
    (st0 m t) (hstage0_0 (((cfgM m).slots t 0).cast nbuf0_0))
    (st1 m t) (hstage0_1 (((cfgM m).slots t 1).cast nbuf0_1))
    (st2 m t) (hstage0_2 (((cfgM m).slots t 2).cast nbuf0_2))
    (st3 m t) (hstage0_3 (((cfgM m).slots t 3).cast nbuf0_3))
    (st4 m t) (hstage0_4 (((cfgM m).slots t 4).cast nbuf0_4))
    (st5 m t) (hstage0_5 (((cfgM m).slots t 5).cast nbuf0_5))
    (st6 m t) (hstage0_6 (((cfgM m).slots t 6).cast nbuf0_6))
    (st7 m t) (hstage0_7 (((cfgM m).slots t 7).cast nbuf0_7))
    (Memref.whole main_v40_1) (Memref.isWhole_whole _) (Memref.whole main_v40_2) (Memref.isWhole_whole _)
    (Memref.whole cc0_scratch0) (Memref.isWhole_whole _) (Memref.whole cc0_scratch1) (Memref.isWhole_whole _)
    (Memref.whole cc0_scratch2) (Memref.isWhole_whole _) cc0_scratch3

def bodyPre (c : Dev nD) (t : Fin (cfgM m).N) : sProp (Res F) :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d))
    ∗ (∃ d, owns (c : Thread nD τ) (st5 m t) fullShare ((dats m 0 c).before 5 t d))
    ∗ (∃ d, owns (c : Thread nD τ) (st6 m t) fullShare ((dats m 0 c).before 6 t d))
    ∗ (∃ d, owns (c : Thread nD τ) (st7 m t) fullShare d))
def bodyPost (c : Dev nD) (t : Fin (cfgM m).N) : sProp (Res F) :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t)
    ∗ owns (c : Thread nD τ) (st4 m t) fullShare ((dats m 0 c).after 4 t)
    ∗ owns (c : Thread nD τ) (st5 m t) fullShare ((dats m 0 c).after 5 t)
    ∗ owns (c : Thread nD τ) (st6 m t) fullShare ((dats m 0 c).after 6 t)
    ∗ (∃ d, owns (c : Thread nD τ) (st7 m t) fullShare d))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, after0_0, before0_1, after0_1, before0_2, after0_2, before0_3, after0_3, before0_4, after0_4, before0_5, after0_5, before0_6, after0_6]
  rw [show (dats m 0 c).Φ t.succ = iprop(Pipeline.ΦDR osem0 spec0 H0 R0 (V m) c ∗ Pipeline.ΦT pre0 (table m) c) from rfl,
    show (dats m 0 c).Φ t.castSucc = iprop(Pipeline.ΦDR osem0 spec0 H0 R0 (V m) c ∗ Pipeline.ΦT pre0 (table m) c) from rfl,
    PhiDR0_eq, PhiT0_eq]
  unfold Dat.owesAt Pipeline.owesWithin
  rw [show (dats m 0 c).owed t.castSucc = 0 from rfl, show (dats m 0 c).owed t.succ = 0 from rfl]
  iintro ⟨⟨⟨⟨HS0, HS1, HS2⟩, Hg, Hq, He, HR1, HR2⟩, HT⟩, ⟨%W, -, HW⟩, ⟨%d0, H0⟩, ⟨%d1, H1⟩, ⟨%d2, H2⟩, ⟨%d3, H3⟩, ⟨%d4, H4⟩, ⟨%d5, H5⟩, ⟨%d6, H6⟩, H7⟩
  iapply (step c (grid0.coords t) _ _ _ _ _ _ _ _ _ _ _ _ _ _ _ _ (iblk m c 0 t) (iblk m c 1 t) (iblk m c 2 t) (iblk m c 3 t) (iblk m c 4 t) (iblk m c 5 t) (iblk m c 6 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT HS0 HS1 HS2 HR1 HR2 Hq]
  · isplitl [HT]; · iexact HT
    isplitl [HS0]; · iexact HS0
    isplitl [HS1]; · iexact HS1
    isplitl [HS2]; · iexact HS2
    isplitl [HR1]; · iexact HR1
    isplitl [HR2]; · iexact HR2
    iexact Hq
  isplitl [HW]; · iexact HW
  iintro ⟨H0, H1, H2, H3, H4, H5, H6, H7, ⟨HT, HS0, HS1, HS2, HR1, HR2, Hq⟩, ⟨%W', HW'⟩⟩
  isplitl [HS0 HS1 HS2 Hg Hq He HR1 HR2 HT]
  · isplitr [HT]
    · isplitl [HS0 HS1 HS2]
      · isplitl [HS0]; · iexact HS0
        isplitl [HS1]; · iexact HS1
        iexact HS2
      isplitl [Hg]; · iexact Hg
      isplitl [Hq]; · iexact Hq
      isplitl [He]; · iexact He
      isplitl [HR1]; · iexact HR1
      iexact HR2
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) :
    BodyObligation (dats (F := F) m 0 c) (defs₀ (F := F)) Variants.none () Set.univ (forgotten m) := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r =>
    Pipeline.RDat.FramePostR (cfgM m) (fun c => (dats m 0 c).toRForget (forgotten m)) R0 (V m) r ∧ r.2.sem = fun _ => 0) :=
  Pipeline.θ_run_frameP_dmaR_forget_shared (Q' := _) pcfgs (fun _ => adm m) (dats m) (0 : Fin 1) launch₀0 osem0 defs₀ Variants.none
    (forgotten m) ownSemFacts0 H0 R0 H0_sub R0_sub m ρ main
    (hbody := fun c => (body_obligation m c).loose) (hq := fun _ _ _ => rfl) (howed := fun _ _ => rfl) (V := V m)
    (hmain := hmain m Variants.none) (hA := A_eq m) (hpf := V_pre m)
    (hin := fun _ => .rfl) (hout := fun c => by
      change iprop(_ ∗ _) ⊢ _
      iintro ⟨HD, -⟩
      iexact HD)

/-- The frame, for any kind of numbers. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide)
      (show ∀ w : Fin 8, (spec0 w).arr.view.ref ≠ main_arg0 by decide), by decide⟩)).trans (V_arg0 m c),
     ((h.1 c).2 main_arg1 (Finset.mem_sdiff.mpr ⟨Pipeline.mem_restRefs_of main_arg1 (by decide)
      (show ∀ w : Fin 8, (spec0 w).arr.view.ref ≠ main_arg1 by decide), by decide⟩)).trans (V_arg1 m c),
     ((h.1 c).2 main_arg2 (Finset.mem_sdiff.mpr ⟨Pipeline.mem_restRefs_of main_arg2 (by decide)
      (show ∀ w : Fin 8, (spec0 w).arr.view.ref ≠ main_arg2 by decide), by decide⟩)).trans (V_arg2 m c)⟩,
    h.2⟩) (run_main m ρ)

end Cert.Attention
-- ==== Proof.Attention.FrameBits.lean ====
/- The attention gradient's frame at machine numbers: the printed program is the ideal one with the mask constant
read as the number it is printed with. -/
module

public import proofs.«01_k».proof.Proof.Attention.Frame
public import proofs.«01_k».proof.Proof.Gen.Kernel2
public import proofs.«01_k».proof.Defs

@[expose] public section

set_option maxRecDepth 16384

noncomputable section

namespace Cert.Attention

open Idealize.ShloMosaic Idealize.SL.Sem

/-- A named constant read as the machine number it is printed with. -/
instance asPrinted : Named Bits where
  named _ _ {φ} bits := (bits : BitVec φ.bits)

theorem frame_bits : Cert.quiescent_Kernel2 := fun m ρ _ =>
  Eq.mp (by sl_kernel_rfl) (frame_kernel (F := Bits) m ρ)

end Cert.Attention
-- ==== Proof.Attention.Stick.lean ====
/- The gradient of stick-breaking attention, for one query: what the scores `z` of the keys before position `t` and the
   products `g` of the result's cotangent with the values make of it, and how a block of 256 keys adds to it. -/
module

public import proofs.«01_k».proof.Proof.Maths.Rms

@[expose] public section

noncomputable section

namespace Cert.Attention

open Idealize.ShloMosaic Finset Cert.Maths

/-- The log of one minus the share a score takes of the stick. -/
def lg (z : ℝ) : ℝ := -Real.log (1 + Real.exp z)

/-- The share. -/
def share (z : ℝ) : ℝ := Real.exp (z + lg z)

/-- The weight of key `s` for the query at `t`. -/
def wgt (z : ℕ → ℝ) (t s : ℕ) : ℝ := if s < t then Real.exp (z s + ∑ r ∈ Ico s t, lg (z r)) else 0

/-- The weight's gradient times the weight. -/
def wg (z : ℕ → ℝ) (t : ℕ) (g : ℕ → EReal) (s : ℕ) : EReal := (wgt z t s : EReal) * g s

/-- The score's gradient. -/
def dsc (z : ℕ → ℝ) (t : ℕ) (g : ℕ → EReal) (s : ℕ) : EReal :=
  if s < t then wg z t g s - (share (z s) : EReal) * ∑ r ∈ range (s + 1), wg z t g r else 0

/-- Minus the softplus, as it is written without overflow. -/
def lgE (z : EReal) : EReal := 0 - (max z 0 + Ideal.log (1 + Ideal.exp (0 - FloatOps.absf (F := Ideal) (φ := .f32) z)))

theorem lgE_coe (z : ℝ) : lgE z = (lg z : EReal) := by
  have h1 : FloatOps.absf (F := Ideal) (φ := .f32) (z : EReal) = ((|z| : ℝ) : EReal) := by
    show max (z : EReal) (-(z : EReal)) = _
    rw [← EReal.coe_neg]; exact (EReal.coe_strictMono.monotone.map_max).symm
  have h2 : (0 : EReal) - ((|z| : ℝ) : EReal) = ((-|z| : ℝ) : EReal) := by
    rw [← EReal.coe_zero, ← EReal.coe_sub]; congr 1; ring
  have h3 : (1 : EReal) + Ideal.exp ((-|z| : ℝ) : EReal) = ((1 + Real.exp (-|z|) : ℝ) : EReal) := by
    rw [EReal.coe_add]; rfl
  have hp : 0 < 1 + Real.exp (-|z|) := by positivity
  have h4 : Ideal.log ((1 + Real.exp (-|z|) : ℝ) : EReal) = (Real.log (1 + Real.exp (-|z|)) : EReal) := by
    show (if _ then _ else _) = _
    rw [if_neg hp.not_ge]
  have h5 : max (z : EReal) 0 = ((max z 0 : ℝ) : EReal) := (EReal.coe_strictMono.monotone.map_max (a := z) (b := 0)).symm
  unfold lgE lg
  rw [h1, h2, h3, h4, h5, zero_sub, ← EReal.coe_add, ← EReal.coe_neg]
  congr 2
  rcases le_total 0 z with h | h
  · rw [max_eq_left h, abs_of_nonneg h]
    have : 1 + Real.exp z = Real.exp z * (1 + Real.exp (-z)) := by
      rw [mul_add, mul_one, ← Real.exp_add, add_neg_cancel, Real.exp_zero, add_comm]
    rw [this, Real.log_mul (Real.exp_pos z).ne' (by positivity), Real.log_exp]
  · rw [max_eq_right h, abs_of_nonpos h, neg_neg, zero_add]

/-- The same, spelt out. -/
theorem softplus_coe (z : ℝ) :
    (0 : EReal) - (max (z : EReal) 0 + Ideal.log (1 + Ideal.exp (0 - FloatOps.absf (F := Ideal) (φ := .f32) (z : EReal)))) = (lg z : EReal) :=
  lgE_coe z

theorem share_coe (z : ℝ) : Ideal.exp ((z : EReal) + (lg z : EReal)) = (share z : EReal) := by
  rw [← EReal.coe_add]; rfl

theorem block_total {M : Type*} [AddCommMonoid M] (f : ℕ → M) (b : ℕ) :
    ∑ r ∈ range b, f r + ∑ x : Fin 256, f (b + x) = ∑ r ∈ range (b + 256), f r := by
  rw [Finset.sum_range_add, Fin.sum_univ_eq_sum_range (fun x => f (b + x)) 256]

/-- Inside a block: the keys up to the block's key `a`, and those before the block. -/
theorem block_prefix (f : ℕ → EReal) (b : ℕ) (a : Fin 256) :
    ∑ x : Fin 256, f (b + x) * (if (x : ℕ) ≤ a then 1 else 0) + ∑ r ∈ range b, f r = ∑ r ∈ range (b + a + 1), f r := by
  rw [Fin.sum_univ_eq_sum_range (fun x => f (b + x) * (if x ≤ (a : ℕ) then 1 else 0)) 256, add_comm, add_assoc b,
    Finset.sum_range_add]
  congr 1
  simp only [mul_ite, mul_one, mul_zero]
  rw [← Finset.sum_filter]
  refine Finset.sum_congr (Finset.ext fun x => ?_) fun _ _ => rfl
  have := a.isLt
  simp only [mem_filter, mem_range]; omega

theorem block_suffix (f : ℕ → ℝ) (b : ℕ) (a : Fin 256) :
    ∑ x : Fin 256, (f (b + x) : EReal) * (if (a : ℕ) ≤ x then 1 else 0) = ((∑ r ∈ Ico (b + a) (b + 256), f r : ℝ) : EReal) := by
  rw [Fin.sum_univ_eq_sum_range (fun x => (f (b + x) : EReal) * (if (a : ℕ) ≤ x then 1 else 0)) 256, coe_sum,
    Finset.sum_Ico_eq_sum_range]
  simp only [mul_ite, mul_one, mul_zero]
  rw [← Finset.sum_filter]
  have := a.isLt
  refine Finset.sum_nbij' (fun x => x - a) (fun x => x + a) ?_ ?_ ?_ ?_ ?_ <;> intro x <;>
    simp only [mem_filter, mem_range] <;> intros <;> (try congr 2) <;> omega

/-- The weight inside a block that lies before the query. -/
theorem weight_full (z : ℕ → ℝ) (t b : ℕ) (hb : b + 256 ≤ t) (a : Fin 256) :
    Ideal.exp (((z (b + a) : ℝ) : EReal) + ∑ x : Fin 256, (lg (z (b + x)) : EReal) * (if (a : ℕ) ≤ x then 1 else 0)
      + (((∑ r ∈ range t, lg (z r) : ℝ) : EReal) - ((∑ r ∈ range b, lg (z r) : ℝ) : EReal)
        - ∑ x : Fin 256, (lg (z (b + x)) : EReal)))
    = (wgt z t (b + a) : EReal) := by
  have ha := a.isLt
  rw [block_suffix (fun r => lg (z r)), ← coe_sum, ← EReal.coe_sub, ← EReal.coe_sub, ← EReal.coe_add, ← EReal.coe_add,
    wgt, if_pos (by omega)]
  show ((Real.exp _ : ℝ) : EReal) = _
  congr 2
  rw [sub_sub, block_total (fun r => lg (z r)), add_assoc]
  congr 1
  rw [← Finset.sum_Ico_eq_sub _ hb, Finset.sum_Ico_consecutive _ (by omega) hb]

/-- The weight inside the query's own block. -/
theorem weight_diag (z : ℕ → ℝ) (t b q : ℕ) (hq : q < 256) (ht : t = b + q) (a : Fin 256) :
    (if (a : ℕ) < q then Ideal.exp (((z (b + a) : ℝ) : EReal)
      + ∑ x : Fin 256, if (x : ℕ) < q then (lg (z (b + x)) : EReal) * (if (a : ℕ) ≤ x then 1 else 0) else 0) else 0)
    = (wgt z t (b + a) : EReal) := by
  subst ht
  have e : ∀ x : Fin 256, (if (x : ℕ) < q then (lg (z (b + x)) : EReal) * (if (a : ℕ) ≤ x then 1 else 0) else 0)
      = (((fun r => if r < b + q then lg (z r) else 0) (b + x) : ℝ) : EReal) * (if (a : ℕ) ≤ x then 1 else 0) := fun x => by
    by_cases h : (x : ℕ) < q
    · simp [h]
    · simp [h]
  rw [Finset.sum_congr rfl fun x _ => e x, block_suffix (fun r => if r < b + q then lg (z r) else 0), ← EReal.coe_add]
  unfold wgt
  by_cases h : (a : ℕ) < q
  · rw [if_pos h, if_pos (by omega)]
    show ((Real.exp _ : ℝ) : EReal) = _
    congr 3
    rw [← Finset.sum_filter]
    refine Finset.sum_congr (Finset.ext fun x => ?_) fun _ _ => rfl
    simp only [mem_filter, mem_Ico]; omega
  · rw [if_neg h, if_neg (by omega)]; rfl

/-- The score's gradient inside a block, from the block's weights and the sum over the keys before the block. -/
theorem dscore (z : ℕ → ℝ) (t b : ℕ) (g : ℕ → EReal) (a : Fin 256) (h : b + a < t) :
    wg z t g (b + a) - (share (z (b + a)) : EReal)
      * (∑ x : Fin 256, wg z t g (b + x) * (if (x : ℕ) ≤ a then 1 else 0) + ∑ r ∈ range b, wg z t g r)
    = dsc z t g (b + a) := by
  rw [block_prefix, dsc, if_pos h]

end Cert.Attention

end
-- ==== Proof.Attention.Entries.lean ====
/- A matrix of extended reals read at two natural numbers. -/
module

public import Idealize.ShloMosaic.Lib.Pointwise

@[expose] public section

noncomputable section

namespace Cert.Attention

open Idealize.ShloMosaic

/-- A matrix read at two natural numbers, zero outside. -/
def at2 {n k : ℕ} (x : (⟨2, ![n, k]⟩ : Shape).Idx → EReal) (i j : ℕ) : EReal :=
  if h : i < n ∧ j < k then x (ix2 ⟨i, h.1⟩ ⟨j, h.2⟩) else 0

/-- Inside the matrix. -/
theorem at2_mk {n k : ℕ} (x : (⟨2, ![n, k]⟩ : Shape).Idx → EReal) {i j : ℕ} (hi : i < n) (hj : j < k) :
    at2 x i j = x (ix2 ⟨i, hi⟩ ⟨j, hj⟩) := dif_pos ⟨hi, hj⟩

/-- At an entry of the matrix. -/
theorem at2_ix {n k : ℕ} (x : (⟨2, ![n, k]⟩ : Shape).Idx → EReal) (i : Fin n) (j : Fin k) :
    at2 x i j = x (ix2 i j) := at2_mk x i.isLt j.isLt

end Cert.Attention

end
-- ==== Proof.Attention.Formula.lean ====
module

public import proofs.«01_k».proof.Proof.Attention.Stick
public import proofs.«01_k».proof.Proof.Attention.Entries
public import proofs.«01_k».proof.Proof.Maths.Finite
public import Idealize.ShloMosaic.Lib.Pointwise
public import Idealize.ShloMosaic.Lib.WordCmp

/-!
# The gradients of stick-breaking attention, element by element

The queries, the keys with the values behind them, and the result's cotangent are read at natural
numbers. The scores and the products of cotangent and values follow, and from them the gradient of a
query, of a key and of a value.
-/

@[expose] public section

noncomputable section

namespace Cert.Attention

open Idealize.ShloMosaic Finset Cert.Maths

/-- Every entry of the first 512 columns is a real number. -/
def RealHeads {n k : ℕ} (x : (⟨2, ![n, k]⟩ : Shape).Idx → EReal) : Prop := ∀ (i : Fin n) (j : Fin k), (j : ℕ) < 512 → ∃ r : ℝ, x (ix2 i j) = r

/-- Such an entry is its real part. -/
theorem RealHeads.at2 {n k : ℕ} {x : (⟨2, ![n, k]⟩ : Shape).Idx → EReal} (h : RealHeads x) (i j : ℕ) (hj : j < 512) :
    at2 x i j = ((at2 x i j).toReal : EReal) := by
  have : ∃ r : ℝ, Attention.at2 x i j = r := by
    unfold Attention.at2
    split
    · exact h _ _ hj
    · exact ⟨0, rfl⟩
  obtain ⟨r, hr⟩ := this
  rw [hr, EReal.toReal_coe]

/-- One over the root of the head's width. -/
theorem bits_eighth : Ideal.ofBits .f32 0x3E000000#32 = ((1 / 8 : ℝ) : EReal) := by
  simp [Ideal.ofBits, Ideal.ieee, -EReal.coe_mul]; norm_num

variable (q : (⟨2, ![16384, 512]⟩ : Shape).Idx → EReal) (kv : (⟨2, ![16384, 1024]⟩ : Shape).Idx → EReal)
  (dv : (⟨2, ![16384, 512]⟩ : Shape).Idx → EReal)

/-- Head `h`'s score of the key at `s` for the query at `p`. -/
def score (h p s : ℕ) : ℝ := (∑ d : Fin 64, (at2 q p (h * 64 + d)).toReal * (at2 kv s (h * 64 + d)).toReal) * (1 / 8)

/-- The product of the cotangent at `p` with the value at `s`. -/
def cov (h p s : ℕ) : EReal := ∑ d : Fin 64, at2 dv p (h * 64 + d) * at2 kv s (512 + (h * 64 + d))

/-- The gradient of the score. -/
def dScore (h p s : ℕ) : EReal := dsc (score q kv h p) p (cov kv dv h p) s

/-- The gradient of the query at `p`. -/
def dQuery (p j : ℕ) : EReal := (∑ s : Fin 16384, dScore q kv dv (j / 64) p s * at2 kv s j) * ((1 / 8 : ℝ) : EReal)

/-- The gradient of the key at `s`. -/
def dKey (s j : ℕ) : EReal := (∑ p : Fin 16384, dScore q kv dv (j / 64) p s * at2 q p j) * ((1 / 8 : ℝ) : EReal)

/-- The gradient of the value at `s`. -/
def dValue (s j : ℕ) : EReal := ∑ p : Fin 16384, (wgt (score q kv (j / 64) p) p s : EReal) * at2 dv p j

variable {q kv}

/-- The score as a product with the scale behind it. -/
theorem score_after (hq : RealHeads q) (hk : RealHeads kv) {h : ℕ} (hh : h < 8) (p s : ℕ) :
    (∑ d : Fin 64, at2 q p (h * 64 + d) * at2 kv s (h * 64 + d)) * ((1 / 8 : ℝ) : EReal) = (score q kv h p s : EReal) := by
  unfold score
  rw [EReal.coe_mul, coe_sum]
  refine congrArg (fun a : EReal => a * ((1 / 8 : ℝ) : EReal)) (Finset.sum_congr rfl fun d _ => ?_)
  have := d.isLt
  rw [EReal.coe_mul, ← hq.at2 p _ (by omega), ← hk.at2 s _ (by omega)]

/-- The score as a product with a scaled query. -/
theorem score_before (hq : RealHeads q) (hk : RealHeads kv) {h : ℕ} (hh : h < 8) (p s : ℕ) :
    (∑ d : Fin 64, at2 q p (h * 64 + d) * ((1 / 8 : ℝ) : EReal) * at2 kv s (h * 64 + d)) = (score q kv h p s : EReal) := by
  rw [← score_after hq hk hh, mul_comm _ ((1 / 8 : ℝ) : EReal), coe_mul_sum _ (by norm_num)]
  refine Finset.sum_congr rfl fun d _ => ?_
  rw [mul_comm (at2 q p (h * 64 + d)), mul_assoc]

/-- The softplus of a real number, as the host writes it. -/
theorem softplus_host (z : ℝ) :
    max (z : EReal) 0 + Ideal.log1p (Ideal.exp (-FloatOps.absf (F := Ideal) (φ := .f32) (z : EReal))) = -(lg z : EReal) := by
  rw [← softplus_coe, zero_sub, zero_sub, neg_neg]
  rfl

/-- One key's contribution to the total, as the host writes it. -/
theorem gap (p x : Fin 16384) {a w : EReal} {z : ℝ} (ha : a = z) (hw : w = Ideal.ofBits .f32 0#32) :
    Scalar.select (IntOp.cmpi .slt (BitVec.ofNat 32 x) (BitVec.ofNat 32 p))
      (-(if a ≠ a then a else max a 0 + Ideal.log1p (Ideal.exp (-FloatOps.absf (F := Ideal) (φ := .f32) a)))) w
    = if (x : ℕ) < p then (lg z : EReal) else 0 := by
  have h := WordCmp.cmpi_slt_ofNat (w := 32) (a := (x : ℕ)) (b := (p : ℕ)) (by omega) (by omega)
  have h0 : Ideal.ofBits .f32 0#32 = (0 : EReal) := by simp [Ideal.ofBits, Ideal.ieee, -EReal.coe_mul]
  rw [if_neg (fun h => h rfl), ha, softplus_host, neg_neg, hw, h0, h]
  by_cases hx : (x : ℕ) < p
  · rw [if_pos hx, decide_eq_true hx]; rfl
  · rw [if_neg hx, decide_eq_false hx]; rfl

/-- The share, as the host writes it. -/
theorem share_host {a : EReal} {z : ℝ} (ha : a = z) :
    Ideal.exp ((if a = Ideal.ofBits .f32 2139095040#32 then 0 else a)
      - if (if a ≠ a then a else max a 0 + Ideal.log1p (Ideal.exp (-FloatOps.absf (F := Ideal) (φ := .f32) a))) = Ideal.ofBits .f32 2139095040#32
        then 0 else if a ≠ a then a else max a 0 + Ideal.log1p (Ideal.exp (-FloatOps.absf (F := Ideal) (φ := .f32) a)))
    = (share z : EReal) := by
  subst ha
  rw [if_neg (fun h : (z : EReal) ≠ z => h rfl), softplus_host, bits_inf, if_neg (EReal.coe_ne_top z), ← EReal.coe_neg, if_neg (EReal.coe_ne_top _), ← EReal.coe_sub,
    sub_neg_eq_add, EReal.coe_add]
  exact share_coe z

/-- The mask that keeps the earlier keys. -/
theorem earlier (p x : Fin 16384) (a b : EReal) :
    Scalar.select (IntOp.cmpi .slt (BitVec.ofNat 32 x) (BitVec.ofNat 32 p)) a b = if (x : ℕ) < p then a else b := by
  have h := WordCmp.cmpi_slt_ofNat (w := 32) (a := (x : ℕ)) (b := (p : ℕ)) (by omega) (by omega)
  rw [h]
  by_cases hx : (x : ℕ) < p
  · rw [if_pos hx, decide_eq_true hx]; rfl
  · rw [if_neg hx, decide_eq_false hx]; rfl

/-- A sum over the keys between two positions. -/
theorem total_between (f : ℕ → ℝ) (s p : ℕ) (hp : p ≤ 16384) :
    (∑ x : Fin 16384, if s ≤ (x : ℕ) then (if (x : ℕ) < p then (f x : EReal) else 0) else 0) = ((∑ r ∈ Ico s p, f r : ℝ) : EReal) := by
  rw [Fin.sum_univ_eq_sum_range (fun x => if s ≤ x then (if x < p then (f x : EReal) else 0) else 0) 16384, coe_sum, ← Finset.sum_filter,
    ← Finset.sum_filter]
  refine Finset.sum_congr (Finset.ext fun x => ?_) fun _ _ => rfl
  simp only [mem_filter, mem_range, mem_Ico]; omega

/-- A sum over the keys up to a position. -/
theorem total_upto (f : ℕ → EReal) (s : ℕ) (hs : s < 16384) :
    (∑ x : Fin 16384, if (x : ℕ) ≤ s then f x else 0) = ∑ r ∈ range (s + 1), f r := by
  rw [Fin.sum_univ_eq_sum_range (fun x => if x ≤ s then f x else 0) 16384, ← Finset.sum_filter]
  refine Finset.sum_congr (Finset.ext fun x => ?_) fun _ _ => rfl
  simp only [mem_filter, mem_range]; omega

/-- A sum over the keys before a position. -/
theorem total_before (f : ℕ → ℝ) (p : ℕ) (hp : p ≤ 16384) :
    (∑ x : Fin 16384, if (x : ℕ) < p then (f x : EReal) else 0) = ((∑ s ∈ range p, f s : ℝ) : EReal) := by
  rw [Fin.sum_univ_eq_sum_range (fun x => if x < p then (f x : EReal) else 0) 16384, coe_sum, ← Finset.sum_filter]
  refine Finset.sum_congr (Finset.ext fun x => ?_) fun _ _ => rfl
  simp only [mem_filter, mem_range]; omega

end Cert.Attention

end
end
-- ==== Proof.Maths.Window.lean ====
module

public import Idealize.ShloMosaic.Lib.Pointwise
public import Idealize.ShloMosaic.PureOps.Ideal

/-!
# Running sums

A running sum along the last axis of an array of rank three is written as a windowed sum whose
window spans the whole axis. Padding on the low side gives, at position `s`, the sum over the
positions up to `s`. Padding on the high side gives the sum over the positions from `s` on.
-/

@[expose] public section

namespace Cert.Maths

open Idealize.ShloMosaic

/-- Adding up the entries of a list from the left is adding their sum. -/
theorem foldl_add_map {ι : Type*} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- A windowed sum along the last axis, position by position of the window. -/
theorem window_last {A R C b e : ℕ} (h : (⟨3, ![A, R, C]⟩ : Shape).ReduceWindows (![1, 1, C] : Fin 3 → ℕ) ![1, 1, 1] ![0, 0, b] ![0, 0, e] ⟨3, ![A, R, C]⟩)
    (x : (⟨3, ![A, R, C]⟩ : Shape).Idx → EReal) (a : Fin A) (p : Fin R) (s : Fin C) :
    Idealize.ShloMosaic.Ideal.hostReduceWindowAdd ![1, 1, C] ![1, 1, 1] ![0, 0, b] ![0, 0, e] h x 0 (ix3 a p s)
      = ∑ w : Fin C, if hin : b ≤ (s : ℕ) + w ∧ (s : ℕ) + w - b < C then x (ix3 a p ⟨(s : ℕ) + w - b, hin.2⟩) else 0 := by
  unfold Idealize.ShloMosaic.Ideal.hostReduceWindowAdd Host.reduceWindow
  dsimp only
  rw [foldl_add_map, zero_add, ← Fin.sum_univ_def]
  refine (Fintype.sum_equiv (⟨3, ![1, 1, C]⟩ : Shape).rowMajor.symm _
    (fun i : (⟨3, ![1, 1, C]⟩ : Shape).Idx => if hin : b ≤ (s : ℕ) + (i 2).val ∧ (s : ℕ) + (i 2).val - b < C
      then x (ix3 a p ⟨(s : ℕ) + (i 2).val - b, hin.2⟩) else 0) fun n => ?_).trans ?_
  · let i := (⟨3, ![1, 1, C]⟩ : Shape).rowMajor.symm n
    show _ = if hin : b ≤ (s : ℕ) + (i 2).val ∧ (s : ℕ) + (i 2).val - b < C
      then x (ix3 a p ⟨(s : ℕ) + (i 2).val - b, hin.2⟩) else 0
    have i0 : (i 0).val = 0 := Nat.lt_one_iff.mp (i 0).isLt
    have i1 : (i 1).val = 0 := Nat.lt_one_iff.mp (i 1).isLt
    by_cases hin : b ≤ (s : ℕ) + (i 2).val ∧ (s : ℕ) + (i 2).val - b < C
    · rw [dif_pos hin, dif_pos]
      · refine congrArg x (funext fun k => Fin.ext ?_)
        match k with
        | ⟨0, _⟩ => show a.val * 1 + (i 0).val - 0 = a.val; omega
        | ⟨1, _⟩ => show p.val * 1 + (i 1).val - 0 = p.val; omega
        | ⟨2, _⟩ => show s.val * 1 + (i 2).val - b = s.val + (i 2).val - b; omega
      · intro k
        match k with
        | ⟨0, _⟩ => show 0 ≤ a.val * 1 + (i 0).val ∧ a.val * 1 + (i 0).val - 0 < A; have := a.isLt; omega
        | ⟨1, _⟩ => show 0 ≤ p.val * 1 + (i 1).val ∧ p.val * 1 + (i 1).val - 0 < R; have := p.isLt; omega
        | ⟨2, _⟩ => show b ≤ s.val * 1 + (i 2).val ∧ s.val * 1 + (i 2).val - b < C; rw [mul_one]; exact hin
    · rw [dif_neg hin, dif_neg fun q => hin ?_]
      have q2 : b ≤ s.val * 1 + (i 2).val ∧ s.val * 1 + (i 2).val - b < C := q 2
      rwa [mul_one] at q2
  · rw [sum_idx3, Fin.sum_univ_one, Fin.sum_univ_one]
    rfl

/-- A sum over part of an axis, its positions moved by a fixed distance. -/
theorem sum_moved {C : ℕ} (X : Fin C → EReal) (P : Fin C → Prop) [DecidablePred P] (d : Fin C → ℕ) (Q : Fin C → Prop) [DecidablePred Q]
    (hd : ∀ w, Q w → d w < C) (inj : ∀ w w', Q w → Q w' → d w = d w' → w = w')
    (on : ∀ w (h : Q w), P ⟨d w, hd w h⟩) (onto : ∀ r, P r → ∃ w, Q w ∧ d w = r.val) :
    (∑ w : Fin C, if h : Q w then X ⟨d w, hd w h⟩ else 0) = ∑ r : Fin C, if P r then X r else 0 := by
  rw [← Finset.sum_filter]
  have e : (∑ w : Fin C, if h : Q w then X ⟨d w, hd w h⟩ else 0)
      = ∑ w ∈ Finset.univ.filter Q, if h : Q w then X ⟨d w, hd w h⟩ else 0 := by
    rw [Finset.sum_filter]
    exact Finset.sum_congr rfl fun w _ => by by_cases h : Q w <;> simp [h]
  rw [e]
  refine Finset.sum_bij (fun w hw => ⟨d w, hd w (Finset.mem_filter.mp hw).2⟩) (fun w hw => ?_) (fun w hw w' hw' h => ?_) (fun r hr => ?_) (fun w hw => ?_)
  · exact Finset.mem_filter.mpr ⟨Finset.mem_univ _, on w (Finset.mem_filter.mp hw).2⟩
  · exact inj w w' (Finset.mem_filter.mp hw).2 (Finset.mem_filter.mp hw').2 (Fin.mk.inj h)
  · obtain ⟨w, hq, hw⟩ := onto r (Finset.mem_filter.mp hr).2
    exact ⟨w, Finset.mem_filter.mpr ⟨Finset.mem_univ _, hq⟩, Fin.ext hw⟩
  · rw [dif_pos (Finset.mem_filter.mp hw).2]

/-- Padded on the low side, the windowed sum adds the positions up to each position. -/
theorem window_upto {A R C b : ℕ} (hb : b + 1 = C) (h : (⟨3, ![A, R, C]⟩ : Shape).ReduceWindows (![1, 1, C] : Fin 3 → ℕ) ![1, 1, 1] ![0, 0, b] ![0, 0, 0] ⟨3, ![A, R, C]⟩)
    (x : (⟨3, ![A, R, C]⟩ : Shape).Idx → EReal) (a : Fin A) (p : Fin R) (s : Fin C) :
    Idealize.ShloMosaic.Ideal.hostReduceWindowAdd ![1, 1, C] ![1, 1, 1] ![0, 0, b] ![0, 0, 0] h x 0 (ix3 a p s)
      = ∑ r : Fin C, if (r : ℕ) ≤ s then x (ix3 a p r) else 0 := by
  rw [window_last]
  have := s.isLt
  refine sum_moved (fun r => x (ix3 a p r)) (fun r => (r : ℕ) ≤ s) (fun w => (s : ℕ) + w - b) (fun w => b ≤ (s : ℕ) + w ∧ (s : ℕ) + w - b < C)
    (fun w q => q.2) (fun w w' q q' e => Fin.ext ?_) (fun w q => ?_) fun r hr => ⟨⟨r + b - s, by have := r.isLt; omega⟩, ?_, ?_⟩
  · have h1 : (s : ℕ) + w - b = (s : ℕ) + w' - b := e; omega
  · have := w.isLt
    show (s : ℕ) + w - b ≤ s
    omega
  · show b ≤ (s : ℕ) + (r + b - s) ∧ (s : ℕ) + (r + b - s) - b < C
    have := r.isLt
    omega
  · show (s : ℕ) + (r + b - s) - b = r
    omega

/-- Padded on the high side, the windowed sum adds the positions from each position on. -/
theorem window_from {A R C e : ℕ} (h : (⟨3, ![A, R, C]⟩ : Shape).ReduceWindows (![1, 1, C] : Fin 3 → ℕ) ![1, 1, 1] ![0, 0, 0] ![0, 0, e] ⟨3, ![A, R, C]⟩)
    (x : (⟨3, ![A, R, C]⟩ : Shape).Idx → EReal) (a : Fin A) (p : Fin R) (s : Fin C) :
    Idealize.ShloMosaic.Ideal.hostReduceWindowAdd ![1, 1, C] ![1, 1, 1] ![0, 0, 0] ![0, 0, e] h x 0 (ix3 a p s)
      = ∑ r : Fin C, if (s : ℕ) ≤ r then x (ix3 a p r) else 0 := by
  rw [window_last]
  have := s.isLt
  refine sum_moved (fun r => x (ix3 a p r)) (fun r => (s : ℕ) ≤ r) (fun w => (s : ℕ) + w - 0) (fun w => 0 ≤ (s : ℕ) + w ∧ (s : ℕ) + w - 0 < C)
    (fun w q => q.2) (fun w w' q q' e => Fin.ext ?_) (fun w q => ?_) fun r hr => ⟨⟨r - s, by have := r.isLt; omega⟩, ?_, ?_⟩
  · have h1 : (s : ℕ) + w - 0 = (s : ℕ) + w' - 0 := e; omega
  · show (s : ℕ) ≤ (s : ℕ) + w - 0
    omega
  · show 0 ≤ (s : ℕ) + (r - s) ∧ (s : ℕ) + (r - s) - 0 < C
    have := r.isLt
    omega
  · show (s : ℕ) + (r - s) - 0 = r
    omega

/-- The host's windowed sum, padded on the low side. -/
theorem host_upto {A R C b : ℕ} (hb : b + 1 = C) {h : (⟨3, ![A, R, C]⟩ : Shape).ReduceWindows (![1, 1, C] : Fin 3 → ℕ) ![1, 1, 1] ![0, 0, b] ![0, 0, 0] ⟨3, ![A, R, C]⟩}
    {u : Shape} {hu : 0 < u.numel} (x : FVec Idealize.ShloMosaic.Ideal ⟨3, ![A, R, C]⟩ .f32) (init : FVec Idealize.ShloMosaic.Ideal u .f32)
    (hi : (init (Shape.Idx.first hu) : EReal) = 0) (a : Fin A) (p : Fin R) (s : Fin C) :
    (Host.reduceWindowAdd ![1, 1, C] ![1, 1, 1] ![0, 0, b] ![0, 0, 0] x init h hu (ix3 a p s) : EReal)
      = ∑ r : Fin C, if (r : ℕ) ≤ s then (x (ix3 a p r) : EReal) else 0 := by
  unfold Host.reduceWindowAdd
  rw [hi]
  exact window_upto hb h x a p s

/-- The host's windowed sum, padded on the high side. -/
theorem host_from {A R C e : ℕ} {h : (⟨3, ![A, R, C]⟩ : Shape).ReduceWindows (![1, 1, C] : Fin 3 → ℕ) ![1, 1, 1] ![0, 0, 0] ![0, 0, e] ⟨3, ![A, R, C]⟩}
    {u : Shape} {hu : 0 < u.numel} (x : FVec Idealize.ShloMosaic.Ideal ⟨3, ![A, R, C]⟩ .f32) (init : FVec Idealize.ShloMosaic.Ideal u .f32)
    (hi : (init (Shape.Idx.first hu) : EReal) = 0) (a : Fin A) (p : Fin R) (s : Fin C) :
    (Host.reduceWindowAdd ![1, 1, C] ![1, 1, 1] ![0, 0, 0] ![0, 0, e] x init h hu (ix3 a p s) : EReal)
      = ∑ r : Fin C, if (s : ℕ) ≤ r then (x (ix3 a p r) : EReal) else 0 := by
  unfold Host.reduceWindowAdd
  rw [hi]
  exact window_from h x a p s

end Cert.Maths
end
-- ==== Proof.Attention.Reference.lean ====
module

public import proofs.«01_k».proof.Proof.Attention.Formula
public import proofs.«01_k».proof.Proof.Maths.Window
public import proofs.«01_k».proof.Proof.Gen.Reference2Ideal.Read
public import Idealize.ShloMosaic.Lib.Pointwise
public import Idealize.ShloMosaic.Lib.Claim

/-!
# The reference's three results, element by element
-/

@[expose] public section

set_option maxRecDepth 16384
set_option maxHeartbeats 1000000

noncomputable section

namespace Cert.Attention.Ref

open Cert.Reference2Ideal Cert.Reference2Ideal.Gen Cert.Reference2Ideal.Read
open Idealize.ShloMosaic Idealize.ShloMosaic.TcCoe Idealize.SL.Sem Cert.Maths Finset

abbrev F := Idealize.ShloMosaic.Ideal

variable (q : S16384x512.Idx → EReal) (kv : S16384x1024.Idx → EReal) (dv : S16384x512.Idx → EReal)

/-- The literal zero. -/
theorem bits_zero : Ideal.ofBits .f32 0#32 = (0 : EReal) := by simp [Ideal.ofBits, Ideal.ieee, -EReal.coe_mul]

/-- The scores. -/
theorem scaled (hq : RealHeads q) (hk : RealHeads kv) (h : Fin 8) (p s : Fin 16384) :
    (val_main_v6 (F := F) q kv (ix3 h p s : S8x16384x16384.Idx) : EReal) = (score q kv h p s : EReal) := by
  rw [← score_after hq hk h.isLt, ← bits_eighth]
  pointwise [val_main_v6, val_main_v5, val_main_v4, val_main_v3, val_main_v2, val_main_v1, val_main_v0, val_main_cst]
  refine congrArg (fun a : EReal => a * Ideal.ofBits .f32 0x3E000000#32) (Finset.sum_congr rfl fun d _ => ?_)
  rw [at2_mk _ p.isLt (by omega), at2_mk _ s.isLt (by omega)]

/-- The logarithm of what a key leaves, for the earlier keys. -/
theorem left_over (hq : RealHeads q) (hk : RealHeads kv) (h : Fin 8) (p s : Fin 16384) :
    (val_main_v16_0 (F := F) q kv (ix3 h p s : S8x16384x16384.Idx) : EReal)
      = if (s : ℕ) < p then (lg (score q kv h p s) : EReal) else 0 := by
  refine Eq.trans ?_ (gap p s (a := - -val_main_v6 (F := F) q kv (ix3 h p s : S8x16384x16384.Idx)) ((neg_neg _).trans (scaled q kv hq hk h p s)) rfl)
  pointwise [val_main_v16_0, val_main_v16_1, val_main_v15_0, val_main_call0_v0, val_main_call0_v1_0, val_main_v14, val_main_v13, val_main_v12, val_main_v11, val_main_v10, val_main_v9, val_main_v8, val_main_v7,
    val_main_call1_v0, val_main_call1_v2, val_main_cst_0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, val_main_call0_call0_cst_0, val_main_call0_call0_cst_1, val_main_call0_call0_cst_2, val_main_call0_call0_cst_3]
  exact congrArg (Scalar.select _ _) bits_zero

/-- The share. -/
theorem share_of (hq : RealHeads q) (hk : RealHeads kv) (h : Fin 8) (p s : Fin 16384) :
    (val_main_v15_1 (F := F) q kv (ix3 h p s : S8x16384x16384.Idx) : EReal) = (share (score q kv h p s) : EReal) := by
  refine Eq.trans ?_ (share_host (a := - -val_main_v6 (F := F) q kv (ix3 h p s : S8x16384x16384.Idx)) ((neg_neg _).trans (scaled q kv hq hk h p s)))
  pointwise [val_main_v15_1, val_main_call0_v0, val_main_call0_v1_0, val_main_v14, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_v13, val_main_call0_call0_v14, val_main_call0_call0_v15, val_main_call0_call0_v16, val_main_call0_call0_v17, val_main_call0_call0_v18, val_main_call0_call0_v19, val_main_call0_call0_v20, val_main_call0_call0_v21, val_main_call0_call0_cst, val_main_call0_call0_cst_0, val_main_call0_call0_cst_1, val_main_call0_call0_cst_2, val_main_call0_call0_cst_3]

/-- What the keys from one on leave. -/
theorem remaining (hq : RealHeads q) (hk : RealHeads kv) (h : Fin 8) (p s : Fin 16384) :
    (val_main_v17 (F := F) q kv (ix3 h p s : S8x16384x16384.Idx) : EReal) = ((∑ r ∈ Ico (s : ℕ) p, lg (score q kv h p r) : ℝ) : EReal) := by
  have e0 : (val_main_call2_v0 (F := F) (Shape.Idx.first h_S_) : EReal) = 0 := by
    pointwise [val_main_call2_v0, val_main_call2_cst]
  unfold val_main_v17
  refine (host_from (val_main_v16_0 (F := F) q kv) _ e0 h p s).trans ?_
  rw [← total_between (fun r => lg (score q kv h p r)) s p p.isLt.le]
  exact Finset.sum_congr rfl fun x _ => by rw [left_over q kv hq hk]

/-- The weights. -/
theorem weight (hq : RealHeads q) (hk : RealHeads kv) (h : Fin 8) (p s : Fin 16384) :
    (val_main_v20 (F := F) q kv (ix3 h p s : S8x16384x16384.Idx) : EReal) = (wgt (score q kv h p) p s : EReal) := by
  have e : (val_main_v20 (F := F) q kv (ix3 h p s : S8x16384x16384.Idx) : EReal) = Ideal.exp (Scalar.select (IntOp.cmpi .slt (BitVec.ofNat 32 s) (BitVec.ofNat 32 p))
      (val_main_v6 (F := F) q kv (ix3 h p s : S8x16384x16384.Idx) + val_main_v17 (F := F) q kv (ix3 h p s : S8x16384x16384.Idx) : EReal) (Ideal.ofBits .f32 0xFF800000#32)) := by
    pointwise [val_main_v20, val_main_v19_0, val_main_v19_1, val_main_v18, val_main_call3_v2, val_main_call3_v0, val_main_cst_1, val_main_v13, val_main_v12, val_main_v11, val_main_v10, val_main_v9, val_main_v8, val_main_v7]
    rfl
  have e1 : Ideal.ofBits .f32 0xFF800000#32 = (⊥ : EReal) := by simp [Ideal.ofBits, Ideal.ieee, -EReal.coe_mul]
  rw [e, earlier, e1, scaled q kv hq hk, remaining q kv hq hk, wgt]
  by_cases hs : (s : ℕ) < p
  · rw [if_pos hs, if_pos hs, ← EReal.coe_add]; rfl
  · rw [if_neg hs, if_neg hs]; rfl

/-- The products of the cotangent and the values. -/
theorem covec (h : Fin 8) (p s : Fin 16384) :
    (val_main_v27 (F := F) kv dv (ix3 h p s : S8x16384x16384.Idx) : EReal) = cov kv dv h p s := by
  unfold cov
  pointwise [val_main_v27, val_main_v26, val_main_v25, val_main_v21, val_main_v1]
  exact Finset.sum_congr rfl fun d _ => by rw [at2_mk _ p.isLt (by omega), at2_mk _ s.isLt (by omega)]

/-- The weights' gradients times the weights. -/
theorem weighted (hq : RealHeads q) (hk : RealHeads kv) (h : Fin 8) (p s : Fin 16384) :
    (val_main_v32 (F := F) q kv dv (ix3 h p s : S8x16384x16384.Idx) : EReal) = wg (score q kv h p) p (cov kv dv h p) s := by
  have e : (val_main_v32 (F := F) q kv dv (ix3 h p s : S8x16384x16384.Idx) : EReal) = Scalar.select (IntOp.cmpi .slt (BitVec.ofNat 32 s) (BitVec.ofNat 32 p))
      (val_main_v27 (F := F) kv dv (ix3 h p s : S8x16384x16384.Idx) * val_main_v20 (F := F) q kv (ix3 h p s : S8x16384x16384.Idx) : EReal) 0 := by
    pointwise [val_main_v32, val_main_v31, val_main_v19_1, val_main_call4_v0, val_main_call4_cst, val_main_v13, val_main_v12, val_main_v11, val_main_v10, val_main_v9, val_main_v8, val_main_v7]
  rw [e, earlier, weight q kv hq hk, covec, wg, mul_comm]
  by_cases hs : (s : ℕ) < p
  · rw [if_pos hs]
  · rw [if_neg hs, wgt, if_neg hs, EReal.coe_zero, zero_mul]

/-- Their sums up to a key. -/
theorem weighted_upto (hq : RealHeads q) (hk : RealHeads kv) (h : Fin 8) (p s : Fin 16384) :
    (val_main_v33 (F := F) q kv dv (ix3 h p s : S8x16384x16384.Idx) : EReal)
      = ∑ r ∈ range ((s : ℕ) + 1), wg (score q kv h p) p (cov kv dv h p) r := by
  have e0 : (val_main_call5_v0 (F := F) (Shape.Idx.first h_S_) : EReal) = 0 := by
    pointwise [val_main_call5_v0, val_main_call5_cst]
  unfold val_main_v33
  refine (host_upto (by norm_num) (val_main_v32 (F := F) q kv dv) _ e0 h p s).trans ?_
  rw [← total_upto (fun r => wg (score q kv h p) p (cov kv dv h p) r) s s.isLt]
  exact Finset.sum_congr rfl fun x _ => by rw [weighted q kv dv hq hk]

/-- The scores' gradients. -/
theorem dscores (hq : RealHeads q) (hk : RealHeads kv) (h : Fin 8) (p s : Fin 16384) :
    (val_main_v37 (F := F) q kv dv (ix3 h p s : S8x16384x16384.Idx) : EReal) = dScore q kv dv h p s := by
  have e : (val_main_v37 (F := F) q kv dv (ix3 h p s : S8x16384x16384.Idx) : EReal) = val_main_v32 (F := F) q kv dv (ix3 h p s : S8x16384x16384.Idx)
      + - -(-Scalar.select (IntOp.cmpi .slt (BitVec.ofNat 32 s) (BitVec.ofNat 32 p)) (val_main_v33 (F := F) q kv dv (ix3 h p s : S8x16384x16384.Idx) : EReal) 0
        * val_main_v15_1 (F := F) q kv (ix3 h p s : S8x16384x16384.Idx)) := by
    pointwise [val_main_v37, val_main_v36, val_main_v35, val_main_call7_v1, val_main_call7_v0, val_main_v34, val_main_v16_1, val_main_call6_v0,
      val_main_call6_cst, val_main_v13, val_main_v12, val_main_v11, val_main_v10, val_main_v9, val_main_v8, val_main_v7]
  rw [e, earlier, weighted q kv dv hq hk, weighted_upto q kv dv hq hk, share_of q kv hq hk, dScore, dsc, neg_neg]
  by_cases hs : (s : ℕ) < p
  · rw [if_pos hs, if_pos hs, EReal.neg_mul, ← sub_eq_add_neg, mul_comm]
  · rw [if_neg hs, if_neg hs, wg, wgt, if_neg hs]
    simp

/-- The first result. -/
theorem ref_dq (hq : RealHeads q) (hk : RealHeads kv) (p : Fin 16384) (j : Fin 512) :
    (val_main_v46 (F := F) q kv dv (ix2 p j : S16384x512.Idx) : EReal) = dQuery q kv dv p j := by
  have e : (val_main_v46 (F := F) q kv dv (ix2 p j : S16384x512.Idx) : EReal)
      = ∑ s : Fin 16384, val_main_v37 (F := F) q kv dv (ix3 (⟨(j : ℕ) / 64, by omega⟩ : Fin 8) p s : S8x16384x16384.Idx) * Ideal.ofBits .f32 0x3E000000#32
        * kv (ix2 s ⟨j, by omega⟩ : S16384x1024.Idx) := by
    pointwise [val_main_v46, val_main_v45, val_main_v43, val_main_v42, val_main_v39, val_main_v38, val_main_cst_2, val_main_v3, val_main_v0]
  rw [e, bits_eighth, dQuery, mul_comm _ ((1 / 8 : ℝ) : EReal), coe_mul_sum _ (by norm_num)]
  exact Finset.sum_congr rfl fun s _ => by
    rw [dscores q kv dv hq hk, at2_mk _ s.isLt (by omega), mul_comm (dScore _ _ _ _ _ _), mul_assoc]

/-- The second result. -/
theorem ref_dk (hq : RealHeads q) (hk : RealHeads kv) (s : Fin 16384) (j : Fin 512) :
    (val_main_v47 (F := F) q kv dv (ix2 s j : S16384x512.Idx) : EReal) = dKey q kv dv s j := by
  have e : (val_main_v47 (F := F) q kv dv (ix2 s j : S16384x512.Idx) : EReal)
      = ∑ p : Fin 16384, val_main_v37 (F := F) q kv dv (ix3 (⟨(j : ℕ) / 64, by omega⟩ : Fin 8) p s : S8x16384x16384.Idx) * Ideal.ofBits .f32 0x3E000000#32
        * q (ix2 p j : S16384x512.Idx) := by
    pointwise [val_main_v47, val_main_v44, val_main_v41, val_main_v40, val_main_v39, val_main_v38, val_main_cst_2, val_main_v2]
  rw [e, bits_eighth, dKey, mul_comm _ ((1 / 8 : ℝ) : EReal), coe_mul_sum _ (by norm_num)]
  exact Finset.sum_congr rfl fun p _ => by
    rw [dscores q kv dv hq hk, at2_mk _ p.isLt j.isLt, mul_comm (dScore _ _ _ _ _ _), mul_assoc]

/-- The third result. -/
theorem ref_dv (hq : RealHeads q) (hk : RealHeads kv) (s : Fin 16384) (j : Fin 512) :
    (val_main_v48 (F := F) q kv dv (ix2 s j : S16384x512.Idx) : EReal) = dValue q kv dv s j := by
  have e : (val_main_v48 (F := F) q kv dv (ix2 s j : S16384x512.Idx) : EReal)
      = ∑ p : Fin 16384, dv (ix2 p j : S16384x512.Idx) * val_main_v20 (F := F) q kv (ix3 (⟨(j : ℕ) / 64, by omega⟩ : Fin 8) p s : S8x16384x16384.Idx) := by
    pointwise [val_main_v48, val_main_v30, val_main_v29, val_main_v28, val_main_v26, val_main_v25]
  rw [e, dValue]
  exact Finset.sum_congr rfl fun p _ => by
    rw [weight q kv hq hk, at2_mk _ p.isLt j.isLt, mul_comm]

end Cert.Attention.Ref

end
end
-- ==== Proof.Attention.Block.lean ====
/- One block of 256 keys against the 512 stacked queries of a grid step: what the kernel's payloads compute from it, the
weights, the scores' gradients, the parts of the keys', values' and queries' gradients, and the sums carried on, for the
three kinds of block: one wholly before the queries (`…1`), one that counts only where a flag is set (`…2`), and the queries'
own under its triangle (`…3`). -/
module

public import proofs.«01_k».proof.Proof.Gen.Kernel2Ideal.Skeleton
public import proofs.«01_k».proof.Proof.Attention.Stick
public import Idealize.ShloMosaic.Lib.Pointwise
public import Idealize.ShloMosaic.Lib.WordCmp
@[expose] public section
set_option maxRecDepth 16384
set_option maxHeartbeats 2000000
noncomputable section
namespace Cert.Attention
open Idealize.ShloMosaic Idealize.ShloMosaic.TcCoe Idealize.SL.Sem
open Cert.Kernel2Ideal Cert.Kernel2Ideal.Gen Cert.Maths Finset Idealize.ShloMosaic.WordCmp

/-- What a block of 256 keys from key `b` on is to the step: the two triangles of ones, and the keys and values as
    the scores `z` and the products `g` they make. -/
structure IsBlock (v10 v12 : FVec Ideal S256x256 .bf16) (v34 v43 : FVec Ideal S512x128 .bf16)
    (v216 v219 : Vec Ideal S256x128 .bf16) (z : Fin 512 → ℕ → ℝ) (g : Fin 512 → ℕ → EReal) (b : ℕ) : Prop where
  suffix : ∀ x y : Fin 256, v10 (ix2 x y) = (if (y : ℕ) ≤ x then 1 else 0 : EReal)
  upto : ∀ x y : Fin 256, v12 (ix2 x y) = (if (x : ℕ) ≤ y then 1 else 0 : EReal)
  score : ∀ (r : Fin 512) (x : Fin 256), ∑ l : Fin 128, v34 (ix2 r l) * v216 (ix2 x l) = ((z r (b + x) : ℝ) : EReal)
  prod : ∀ (r : Fin 512) (x : Fin 256), ∑ l : Fin 128, v43 (ix2 r l) * v219 (ix2 x l) = g r (b + x)

theorem lane_lt : ∀ l : Fin 128, IntOp.cmpi .slt (BitVec.ofNat 32 l) 64#32 = 1 ↔ (l : ℕ) < 64 := by decide +kernel
theorem lane_ge : ∀ l : Fin 128, IntOp.cmpi .sge (BitVec.ofNat 32 l) 64#32 = 1 ↔ 64 ≤ (l : ℕ) := by decide +kernel
theorem past_first : ∀ n : Fin 64, Scalar.cmpi .sge (BitVec.ofNat 32 n) 1#32 = 1 ↔ 0 < (n : ℕ) := by decide +kernel
theorem wrap_row : ∀ r : Fin 512, Scalar.select (IntOp.cmpi CmpIPredicate.sge (BitVec.ofNat 32 r) 256#32)
    (IntOp.subi (BitVec.ofNat 32 r) 256#32) (BitVec.ofNat 32 r) = BitVec.ofNat 32 ((r : ℕ) % 256) := by decide +kernel

/-- A stacked row's query within its tile. -/
abbrev row (r : Fin 512) : Fin 256 := ⟨(r : ℕ) % 256, Nat.mod_lt _ (by norm_num)⟩

/-- Stacking the two heads' lanes on top of each other. -/
theorem halves (r : Fin 512) (l : Fin 128) (v : Fin 256 → EReal) :
    (if h : (r : ℕ) < 256 then (if (l : ℕ) < 64 then v ⟨r, h⟩ else 0) else (if 64 ≤ (l : ℕ) then v ⟨(r : ℕ) - 256, by omega⟩ else 0))
    = if (r : ℕ) / 256 = (l : ℕ) / 64 then v (row r) else 0 := by
  by_cases h : (r : ℕ) < 256
  · rw [dif_pos h, show row r = ⟨r, h⟩ from Fin.ext (Nat.mod_eq_of_lt h)]
    exact if_congr (by omega) rfl rfl
  · rw [dif_neg h, show row r = ⟨(r : ℕ) - 256, by omega⟩ from Fin.ext (by simp [row]; omega)]
    exact if_congr (by omega) rfl rfl

variable {v10 v12 : FVec Ideal S256x256 .bf16} {v34 v43 : FVec Ideal S512x128 .bf16} {v46 a p : FVec Ideal S512x1 .f32}
  {v216 v219 : Vec Ideal S256x128 .bf16} {z : Fin 512 → ℕ → ℝ} {g : Fin 512 → ℕ → EReal} {b : ℕ} {t : Fin 512 → ℕ}
  (B : IsBlock v10 v12 v34 v43 v216 v219 z g b)
  (hC : ∀ r, v46 (ix2 r 0) = ((∑ s ∈ range (t r), lg (z r s) : ℝ) : EReal))
  (ha : ∀ r, a (ix2 r 0) = ((∑ s ∈ range b, lg (z r s) : ℝ) : EReal))
  (hp : ∀ r, p (ix2 r 0) = ∑ s ∈ range b, wg (z r) (t r) (g r) s)
  (hb : ∀ r, b + 256 ≤ t r)

include B hC ha hb in
theorem weights1 (r : Fin 512) (x : Fin 256) : k0_pay7 v10 v34 v46 a v216 (ix2 r x) = ((wgt (z r) (t r) (b + x) : ℝ) : EReal) := by
  pointwise [k0_pay3, k0_pay4, k0_pay5, k0_pay6, k0_pay7]
  simp only [B.score, B.suffix, softplus_coe, hC, ha]
  exact weight_full (z r) (t r) b (hb r) x

include B hC ha hb in
theorem grads1 (r : Fin 512) (x : Fin 256) : k0_pay8 v10 v34 v43 v46 a v216 v219 (ix2 r x) = wg (z r) (t r) (g r) (b + x) := by
  pointwise [k0_pay8]
  rw [weights1 B hC ha hb]
  simp only [B.prod]; rfl

include B hC ha hp hb in
theorem scores1 (r : Fin 512) (x : Fin 256) :
    k0_pay9 v10 v12 v34 v43 v46 a p v216 v219 (ix2 r x) = dsc (z r) (t r) (g r) (b + x) := by
  pointwise [k0_pay3, k0_pay4, k0_pay5, k0_pay9]
  simp only [grads1 B hC ha hb, B.score, B.upto, softplus_coe, share_coe, hp]
  exact dscore (z r) (t r) b (g r) x (by have := hb r; omega)

include B hC ha hp hb in
theorem keys1 (x : Fin 256) (l : Fin 128) : k0_pay10 v10 v12 v34 v43 v46 a p v216 v219 (ix2 x l)
    = ∑ r : Fin 512, dsc (z r) (t r) (g r) (b + x) * v34 (ix2 r l) := by
  pointwise [k0_pay10]
  simp only [scores1 B hC ha hp hb]

include B ha in
theorem asc1 (r : Fin 512) : k0_pay38 a (k0_pay6 v34 v216) (ix2 r 0) = ((∑ s ∈ range (b + 256), lg (z r s) : ℝ) : EReal) := by
  pointwise [k0_pay38, k0_pay3, k0_pay4, k0_pay5, k0_pay6]
  simp only [B.score, softplus_coe, ha]
  rw [← coe_sum, ← EReal.coe_add, block_total (fun s => lg (z r s))]

include B hC ha hp hb in
theorem pre1 (r : Fin 512) : k0_pay39 p (k0_pay8 v10 v34 v43 v46 a v216 v219) (ix2 r 0)
    = ∑ s ∈ range (b + 256), wg (z r) (t r) (g r) s := by
  pointwise [k0_pay39]
  simp only [grads1 B hC ha hb, hp]
  rw [block_total (wg (z r) (t r) (g r))]

include B hC ha hp hb in
theorem dq1 (d : FVec Ideal S512x128 .f32) (r : Fin 512) (l : Fin 128) :
    k0_pay40 d (k0_pay3 v216) (k0_pay9 v10 v12 v34 v43 v46 a p v216 v219) (ix2 r l)
    = d (ix2 r l) + ∑ x : Fin 256, dsc (z r) (t r) (g r) (b + x) * v216 (ix2 x l) := by
  pointwise [k0_pay40, k0_pay3]
  simp only [scores1 B hC ha hp hb]

include B hC ha hb in
theorem values1 {v6 : FVec Ideal S256x128 .bf16} {v25 : IVec S1x128 1} {v35 : FVec Ideal S256x128 .bf16} {v37 : IVec S256x128 1}
    (old : Vec Ideal S256x128 .f32) (hv : k0_pay31 v6 v25 v35 v37 = v43) (x : Fin 256) (l : Fin 128) :
    k0_pay37 v6 v25 v35 v37 (k0_pay7 v10 v34 v46 a v216) old (ix2 x l)
    = old (ix2 x l) + ∑ r : Fin 512, ((wgt (z r) (t r) (b + x) : ℝ) : EReal) * v43 (ix2 r l) := by
  pointwise [k0_pay37]
  simp only [weights1 B hC ha hb, hv]

variable {on : Prop} [Decidable on] {v68 : Ideal .f32} (hon : v68 = (if on then 1 else 0 : EReal)) {zero : FVec Ideal S512x256 .f32}
  (hzero : ∀ j, zero j = (0 : EReal)) (hl : on → ∀ r, b + 256 ≤ t r)

include B hC ha hl hon hzero in
theorem weights2 (r : Fin 512) (x : Fin 256) : k0_pay51 v10 v34 v46 a v68 v216 zero (ix2 r x)
    = (if on then ((wgt (z r) (t r) (b + x) : ℝ) : EReal) else 0) := by
  have hmask : (Named.named κ "mask" 1900671690#32 : Ideal .f32) = (⊤ : EReal) := rfl
  pointwise [k0_pay49, k0_pay50, k0_pay51]
  simp only [hzero, zero_add, B.score, B.suffix, softplus_coe, hC, ha, hon, hmask]
  split
  · rename_i h
    have h1 : ((1 : EReal) - 1) * ⊤ = 0 := by
      rw [show (1 : EReal) - 1 = ((1 - 1 : ℝ) : EReal) from rfl, sub_self, EReal.coe_zero, zero_mul]
    rw [h1, add_zero]
    exact weight_full (z r) (t r) b (hl h r) x
  · have h1 : ((0 : EReal) - 1) * ⊤ = ⊥ := by
      rw [zero_sub]; exact EReal.coe_mul_top_of_neg (by norm_num : (-1 : ℝ) < 0)
    rw [h1, EReal.add_bot, EReal.add_bot]; rfl

include B hC ha hl hon hzero in
theorem grads2 (r : Fin 512) (x : Fin 256) : k0_pay52 v10 v34 v43 v46 a v68 v216 v219 zero (ix2 r x)
    = (if on then wg (z r) (t r) (g r) (b + x) else 0) := by
  pointwise [k0_pay52]
  rw [weights2 B hC ha hon hzero hl]
  simp only [B.prod]
  split
  · rfl
  · rw [zero_mul]

include B hC ha hp hl hon hzero in
theorem scores2 (hp0 : ¬ on → ∀ r, p (ix2 r 0) = (0 : EReal)) (r : Fin 512) (x : Fin 256) :
    k0_pay53 v10 v12 v34 v43 v46 a p v68 v216 v219 zero (ix2 r x)
      = (if on then dsc (z r) (t r) (g r) (b + x) else 0) := by
  pointwise [k0_pay49, k0_pay50, k0_pay53]
  simp only [grads2 B hC ha hon hzero hl, hzero, zero_add, B.score, B.upto, softplus_coe, share_coe]
  by_cases h : on
  · simp only [if_pos h, hp]
    exact dscore (z r) (t r) b (g r) x (by have := hl h r; omega)
  · simp [if_neg h, hp0 h r]

include B hC ha hp hl hon hzero in
theorem keys2 (hp0 : ¬ on → ∀ r, p (ix2 r 0) = (0 : EReal)) (old : Vec Ideal S256x128 .f32) (x : Fin 256) (l : Fin 128) :
    k0_pay54 v10 v12 v34 v43 v46 a p v68 v216 v219 zero old (ix2 x l)
    = old (ix2 x l) + ∑ r : Fin 512, (if on then dsc (z r) (t r) (g r) (b + x) else 0) * v34 (ix2 r l) := by
  pointwise [k0_pay54]
  simp only [scores2 B hC ha hp hon hzero hl hp0]

include B hC ha hl hon hzero in
theorem values2 (old : Vec Ideal S256x128 .f32) (x : Fin 256) (l : Fin 128) :
    k0_pay55 v43 (k0_pay51 v10 v34 v46 a v68 v216 zero) old (ix2 x l)
    = old (ix2 x l) + ∑ r : Fin 512, (if on then ((wgt (z r) (t r) (b + x) : ℝ) : EReal) else 0) * v43 (ix2 r l) := by
  pointwise [k0_pay55]
  simp only [weights2 B hC ha hon hzero hl]

include B hC ha hp hl hon hzero in
theorem pre2 (hp0 : ¬ on → ∀ r, p (ix2 r 0) = (0 : EReal)) (r : Fin 512) :
    k0_pay56 p (k0_pay52 v10 v34 v43 v46 a v68 v216 v219 zero) (ix2 r 0)
    = if on then ∑ s ∈ range (b + 256), wg (z r) (t r) (g r) s else 0 := by
  pointwise [k0_pay56]
  simp only [grads2 B hC ha hon hzero hl]
  by_cases h : on
  · simp only [if_pos h, hp]; rw [block_total (wg (z r) (t r) (g r))]
  · simp [if_neg h, hp0 h r]

include B hC ha hp hl hon hzero in
theorem dq2 (hp0 : ¬ on → ∀ r, p (ix2 r 0) = (0 : EReal)) (d : FVec Ideal S512x128 .f32) (r : Fin 512) (l : Fin 128) :
    k0_pay57 d v216 (k0_pay53 v10 v12 v34 v43 v46 a p v68 v216 v219 zero) (ix2 r l)
    = d (ix2 r l) + ∑ x : Fin 256, (if on then dsc (z r) (t r) (g r) (b + x) else 0) * v216 (ix2 x l) := by
  pointwise [k0_pay57]
  simp only [scores2 B hC ha hp hon hzero hl hp0]

variable {v20 : IVec S512x256 1} {q : Fin 512 → ℕ} (hm : ∀ r x, v20 (ix2 r x) = 1 ↔ (x : ℕ) < q r) (hq : ∀ r, q r < 256)
  (ht : ∀ r, t r = b + q r)

include B hm hq ht in
theorem weights3 (r : Fin 512) (x : Fin 256) :
    k0_pay65 v20 k0_pay63 (k0_pay64 v10 v20 v34 v216) (ix2 r x) = ((wgt (z r) (t r) (b + x) : ℝ) : EReal) := by
  pointwise [k0_pay65, k0_pay63, k0_pay58, k0_pay60, k0_pay61, k0_pay62, k0_pay64]
  simp only [B.score, B.suffix, softplus_coe, Scalar.select, hm]
  exact weight_diag (z r) (t r) b (q r) (hq r) (ht r) x

include B hm hq hp ht in
theorem scores3 (r : Fin 512) (x : Fin 256) :
    k0_pay66 v12 v20 v43 p v219 (k0_pay62 v34 v216) k0_pay63 (k0_pay64 v10 v20 v34 v216) (ix2 r x)
      = dsc (z r) (t r) (g r) (b + x) := by
  pointwise [k0_pay66, k0_pay58, k0_pay60, k0_pay61, k0_pay62]
  simp only [weights3 B hm hq ht, B.score, B.upto, B.prod, softplus_coe, share_coe, Scalar.select, hm, hp]
  split
  · rename_i h; exact dscore (z r) (t r) b (g r) x (by have := ht r; omega)
  · rename_i h; rw [dsc, if_neg (by have := ht r; omega)]

include B hm hq hp ht in
theorem keys3 (old : Vec Ideal S256x128 .f32) (x : Fin 256) (l : Fin 128) :
    k0_pay67 v12 v20 v34 v43 p v219 (k0_pay62 v34 v216) k0_pay63 (k0_pay64 v10 v20 v34 v216) old (ix2 x l)
    = old (ix2 x l) + ∑ r : Fin 512, dsc (z r) (t r) (g r) (b + x) * v34 (ix2 r l) := by
  pointwise [k0_pay67]
  simp only [scores3 B hp hm hq ht]

include B hm hq ht in
theorem values3 (old : Vec Ideal S256x128 .f32) (x : Fin 256) (l : Fin 128) :
    k0_pay68 v20 v43 k0_pay63 (k0_pay64 v10 v20 v34 v216) old (ix2 x l)
    = old (ix2 x l) + ∑ r : Fin 512, ((wgt (z r) (t r) (b + x) : ℝ) : EReal) * v43 (ix2 r l) := by
  pointwise [k0_pay68]
  simp only [weights3 B hm hq ht]

include B hm hq hp ht in
theorem dq3 (d : FVec Ideal S512x128 .f32) (r : Fin 256) (l : Fin 128) :
    k0_pay69 v12 v20 k0_pay26 v43 p d v216 v219 (k0_pay62 v34 v216) k0_pay63 (k0_pay64 v10 v20 v34 v216) (ix2 r l)
    = (let h : Fin 512 := if (l : ℕ) < 64 then ⟨r, by omega⟩ else ⟨256 + r, by omega⟩
      d (ix2 h l) + ∑ x : Fin 256, dsc (z h) (t h) (g h) (b + x) * v216 (ix2 x l)) * Ideal.ofBits .f32 0x3E000000#32 := by
  pointwise [k0_pay69, k0_pay26]
  simp only [scores3 B hp hm hq ht, Scalar.select, lane_lt l]
  split <;> simp only [*, if_true, if_false] <;> rfl

/-- The step's own triangle of keys, and its flag. -/
theorem triangle (r : Fin 512) (x : Fin 256) : k0_pay25 (ix2 r x) = 1 ↔ (x : ℕ) < (r : ℕ) % 256 := by
  pointwise [k0_pay25]
  rw [wrap_row r]
  have h := cmpi_slt_ofNat (w := 32) (a := (x : ℕ)) (b := (r : ℕ) % 256) (by omega) (by omega)
  rw [h, ofBool_eq_one_iff', decide_eq_true_iff]

theorem queries (v3 : Vec Ideal S256x128 .bf16) (r : Fin 512) (l : Fin 128) :
    k0_pay28 v3 (ix2 r l) = if (r : ℕ) / 256 = (l : ℕ) / 64 then v3 (ix2 (row r) l) else (0 : EReal) := by
  pointwise [k0_pay28, k0_pay26, k0_pay27]
  simp only [Scalar.select, lane_lt l, lane_ge l]
  exact halves r l fun h => v3 (ix2 h l)

theorem cotangents (v6 : Vec Ideal S256x128 .bf16) (r : Fin 512) (l : Fin 128) :
    k0_pay31 (F := Ideal) v6 k0_pay27 k0_pay29 k0_pay30 (ix2 r l) = if (r : ℕ) / 256 = (l : ℕ) / 64 then v6 (ix2 (row r) l) else (0 : EReal) := by
  pointwise [k0_pay31, k0_pay26, k0_pay27, k0_pay29, k0_pay30]
  simp only [Scalar.select, lane_lt l, lane_ge l]
  exact halves r l fun h => v6 (ix2 h l)

theorem totals (v8 : FVec Ideal S256x128 .f32) (r : Fin 512) :
    k0_pay32 v8 (ix2 r 0) = (v8 (ix2 (row r) ⟨64 * ((r : ℕ) / 256), by omega⟩) : EReal) := by
  pointwise [k0_pay32]
  by_cases h : (r : ℕ) < 256
  · rw [dif_pos h]; congr 2 <;> apply Fin.ext <;> simp [row] <;> omega
  · rw [dif_neg h]; congr 2 <;> apply Fin.ext <;> simp [row] <;> omega

theorem flag (n : Fin 64) : (k0_pay46 (F := Ideal) (BitVec.ofNat 32 n)) = (if 0 < (n : ℕ) then 1 else 0 : EReal) := by
  show Scalar.select (Scalar.cmpi .sge (BitVec.ofNat 32 n) 1#32) (Ideal.ofBits .f32 1065353216#32) (Ideal.ofBits .f32 0#32) = _
  have h1 : Ideal.ofBits .f32 1065353216#32 = (1 : EReal) := by simp [Ideal.ofBits, Ideal.ieee, -EReal.coe_mul]; norm_num
  have h0 : Ideal.ofBits .f32 0#32 = (0 : EReal) := by simp [Ideal.ofBits, Ideal.ieee, -EReal.coe_mul]
  rw [h1, h0]
  simp only [Scalar.select, past_first n]

theorem pay58_eq (v : Vec Ideal S256x128 .bf16) : k0_pay58 v = v := by funext j; idx_vars j; pointwise [k0_pay58]
theorem pay59_eq (v : Vec Ideal S256x128 .bf16) : k0_pay59 v = v := by funext j; idx_vars j; pointwise [k0_pay59]
theorem pay47_eq (v : Vec Ideal S256x128 .bf16) : k0_pay47 v = v := by funext j; idx_vars j; pointwise [k0_pay47]
theorem pay48_eq (v : Vec Ideal S256x128 .bf16) : k0_pay48 v = v := by funext j; idx_vars j; pointwise [k0_pay48]
end Cert.Attention
end
-- ==== Proof.Attention.Rows.lean ====
/- Rows of the buffers that the attention gradient reads and adds to: a load of whole rows, and what a buffer of 16384
   rows holds after 256 or 1024 of its rows were stored anew. -/
module

public import Idealize.ShloMosaic.Lib.WritesUnit
public import Idealize.ShloMosaic.Lib.VecWindow
public import Idealize.ShloMosaic.Lib.Pointwise
public import proofs.«01_k».proof.Proof.Gen.Kernel2Ideal.Skeleton

@[expose] public section

noncomputable section

namespace Cert.Attention

open Cert.Kernel2Ideal
open Idealize.ShloMosaic Idealize.ShloMosaic.TcCoe Idealize.SL.Sem

variable {F : FTy → Type} {κ : Kind} {sp : Space} {e : EltTy} (v : View sig κ sp S16384x128 e) (f : v.ty.Contents (Elt F))

/-- A load of 256 rows from row `o` on. -/
theorem read_rows {off : Fin 2 → ℕ} {o : ℕ} (inb : ∀ a : Fin 2, off a + S256x128.size a ≤ S16384x128.size a) (h : off = ![o, 0])
    (x : Fin 256) (l : Fin 128) (s : Fin 16384) (hs : (s : ℕ) = o + x) :
    v.readAt (Elt F) (Rect.unit (s := S16384x128) off S256x128.size inb).toLoadRect f (ix2 x l) = v.read (Elt F) f (ix2 s l) := by
  subst h
  refine congrArg (v.read (Elt F) f) (funext fun a => Fin.ext ?_)
  match a with
  | ⟨0, _⟩ => show o + 1 * (x : ℕ) = (s : ℕ); omega
  | ⟨1, _⟩ => show 0 + 1 * (l : ℕ) = (l : ℕ); omega

/-- A load of 1024 rows from row `o` on. -/
theorem read_rows' {off : Fin 2 → ℕ} {o : ℕ} (inb : ∀ a : Fin 2, off a + S1024x128.size a ≤ S16384x128.size a) (h : off = ![o, 0])
    (x : Fin 1024) (l : Fin 128) (s : Fin 16384) (hs : (s : ℕ) = o + x) :
    v.readAt (Elt F) (Rect.unit (s := S16384x128) off S1024x128.size inb).toLoadRect f (ix2 x l) = v.read (Elt F) f (ix2 s l) := by
  subst h
  refine congrArg (v.read (Elt F) f) (funext fun a => Fin.ext ?_)
  match a with
  | ⟨0, _⟩ => show o + 1 * (x : ℕ) = (s : ℕ); omega
  | ⟨1, _⟩ => show 0 + 1 * (l : ℕ) = (l : ℕ); omega

/-- The buffer after a store of the rows from row `o` on: `w` there, as before elsewhere. -/
theorem stored_rows {off : Fin 2 → ℕ} {o n : ℕ} (inb : ∀ a : Fin 2, off a + (![n, 128] : Fin 2 → ℕ) a ≤ S16384x128.size a)
    (h : off = ![o, 0]) (w : (⟨2, ![n, 128]⟩ : Shape).Idx → Elt F e)
    (L : List (View.Piece (Elt F) S16384x128 e)) (g : Fin 16384 → Fin 128 → Elt F e)
    (hin : ∀ (x : Fin n) (s : Fin 16384) (l : Fin 128), (s : ℕ) = o + x → w (ix2 x l) = g s l)
    (hout : ∀ (s : Fin 16384) (l : Fin 128), ((s : ℕ) < o ∨ o + n ≤ s) → v.read (Elt F) (v.writes (Elt F) f L) (ix2 s l) = g s l)
    (s : Fin 16384) (l : Fin 128) :
    v.read (Elt F) (v.writes (Elt F) f (⟨Rect.unit (s := S16384x128) off ![n, 128] inb, w⟩ :: L)) (ix2 s l) = g s l := by
  by_cases hs : o ≤ (s : ℕ) ∧ (s : ℕ) < o + n
  · exact (View.read_writes_cons_rows_of_mem v f inb w L (ix2 s l) (ix2 ⟨(s : ℕ) - o, by omega⟩ l) h
      (by show (s : ℕ) = o + ((s : ℕ) - o); omega) rfl).trans (hin _ s l (by show (s : ℕ) = o + ((s : ℕ) - o); omega))
  · rw [View.read_writes_cons_rows_of_not_mem v f inb w L (ix2 s l) h rfl (by show (s : ℕ) < o ∨ o + n ≤ (s : ℕ); omega)]
    exact hout s l (by omega)

/-- The first `128 (o + 1)` columns of a result, after the 128 columns from `128 o` on were sent to it. -/
theorem sent_columns {κ : Kind} {sp : Space} {e : EltTy} (v : View sig κ sp S16384x512 e) (f : v.ty.Contents (Elt F)) {off : Fin 2 → ℕ} {o : ℕ}
    (inb : ∀ a : Fin 2, off a + (![16384, 128] : Fin 2 → ℕ) a ≤ S16384x512.size a) (h : off = ![0, o * 128])
    (w : (⟨2, ![16384, 128]⟩ : Shape).Idx → Elt F e) (G : Fin 16384 → Fin 512 → Elt F e)
    (hf : ∀ (s : Fin 16384) (j : Fin 512), (j : ℕ) < 128 * o → v.read (Elt F) f (ix2 s j) = G s j)
    (hw : ∀ (s : Fin 16384) (l : Fin 128) (j : Fin 512), (j : ℕ) = 128 * o + l → w (ix2 s l) = G s j)
    (s : Fin 16384) (j : Fin 512) (hj : (j : ℕ) < 128 * (o + 1)) :
    v.read (Elt F) (v.writes (Elt F) f [⟨Rect.unit (s := S16384x512) off ![16384, 128] inb, w⟩]) (ix2 s j) = G s j := by
  by_cases hs : (j : ℕ) < 128 * o
  · exact (View.read_writes_cons_unit_of_not_mem v f inb w [] (ix2 s j) h (1 : Fin 2) (.inl (by show (j : ℕ) < o * 128; omega))).trans (hf s j hs)
  · refine (View.read_writes_cons_unit_of_mem v f inb w [] (ix2 s j) (ix2 s ⟨(j : ℕ) - 128 * o, by omega⟩) h
      (Fin.forall_fin_two.mpr ⟨?_, ?_⟩)).trans (hw s _ j (by show (j : ℕ) = 128 * o + ((j : ℕ) - 128 * o); omega))
    · show (s : ℕ) = 0 + (s : ℕ); omega
    · show (j : ℕ) = o * 128 + ((j : ℕ) - 128 * o); omega

end Cert.Attention

end
-- ==== Proof.Attention.Tiles.lean ====
/- The loops of the attention gradient's grid step with what they compute: the loop over the key tiles before the last two
adds each tile's part to the two accumulators and carries the sums over the tiles seen; the two casting loops copy
an accumulator into the staging buffer. -/
module

public import proofs.«01_k».proof.Proof.Attention.Held
public import proofs.«01_k».proof.Proof.Attention.Block
public import proofs.«01_k».proof.Proof.Attention.Rows

@[expose] public section

set_option maxRecDepth 8192
set_option maxHeartbeats 2000000

noncomputable section

namespace Cert.Attention.Valued

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Finset
open Idealize.SL.BI.BIBase Idealize.SL.BI.Laws Idealize.SL.ProofMode Idealize.SL.Sem

/-- The numbers of this module. -/
abbrev F : FTy → Type := Idealize.ShloMosaic.Ideal

variable (𝒱 : Variants) (c : Dev nD) (bd : Option 𝒱.V) (E : Set ℕ) (i : grid0.Coords)
  (arg2 : Memref sig .tc .smem S4x64 .i32) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S256x128 .f32) (harg5 : arg5.IsWhole)
  (arg6 : Memref sig .tc .vmem S16384x128 .bf16) (harg6 : arg6.IsWhole)
  (arg7 : Memref sig .tc .vmem S16384x128 .bf16) (harg7 : arg7.IsWhole)
  (arg8 : Memref sig .tc .vmem S256x256 .bf16) (harg8 : arg8.IsWhole)
  (arg9 : Memref sig .tc .vmem S256x256 .bf16) (harg9 : arg9.IsWhole)
  (arg10 : Memref sig .tc .vmem S256x128 .bf16) (harg10 : arg10.IsWhole)
  (arg11 : Memref sig .tc .hbm S16384x512 .bf16) (harg11 : arg11.IsWhole)
  (arg12 : Memref sig .tc .hbm S16384x512 .bf16) (harg12 : arg12.IsWhole)
  (arg13 : Memref sig .tc .vmem S16384x128 .f32) (harg13 : arg13.IsWhole)
  (arg14 : Memref sig .tc .vmem S16384x128 .f32) (harg14 : arg14.IsWhole)
  (arg15 : Memref sig .tc .vmem S16384x128 .bf16) (harg15 : arg15.IsWhole)
  (arg16 : DmaSems sig S_)

/-- What the first `b` keys have given the step: the sum of the keys' logs, the weights' sum and the queries' gradient. -/
structure Carried (z : Fin 512 → ℕ → ℝ) (t : Fin 512 → ℕ) (g : Fin 512 → ℕ → EReal) (K : Fin 16384 → Fin 128 → EReal) (b : ℕ)
    (acc : FVec F S512x1 .f32 × FVec F S512x1 .f32 × FVec F S512x128 .f32) : Prop where
  asc : ∀ r, acc.1 (ix2 r 0) = ((∑ s ∈ range b, lg (z r s) : ℝ) : EReal)
  pre : ∀ r, acc.2.1 (ix2 r 0) = ∑ s ∈ range b, wg (z r) (t r) (g r) s
  dq : ∀ r l, acc.2.2 (ix2 r l) = ∑ s : Fin 16384, if (s : ℕ) < b then dsc (z r) (t r) (g r) s * K s l else 0

/-- What the queries of a step add to the keys' gradient. -/
def addK (z : Fin 512 → ℕ → ℝ) (t : Fin 512 → ℕ) (g : Fin 512 → ℕ → EReal) (Q : FVec F S512x128 .bf16) (s : ℕ) (l : Fin 128) : EReal :=
  ∑ r : Fin 512, dsc (z r) (t r) (g r) s * Q (ix2 r l)

/-- What they add to the values' gradient. -/
def addV (z : Fin 512 → ℕ → ℝ) (t : Fin 512 → ℕ) (D : FVec F S512x128 .bf16) (s : ℕ) (l : Fin 128) : EReal :=
  ∑ r : Fin 512, ((wgt (z r) (t r) s : ℝ) : EReal) * D (ix2 r l)

/-- An accumulator to which the step has added for the keys before `b`. -/
abbrev Added (m : Memref sig .tc .vmem S16384x128 .f32) (A : Fin 16384 → Fin 128 → EReal) (D : ℕ → Fin 128 → EReal) (b : ℕ)
    (f : BufTy.Contents (Elt F) m.view.ty) : Prop :=
  ∀ (s : Fin 16384) (l : Fin 128), m.view.read (Elt F) f (ix2 s l) = (A s l + (if (s : ℕ) < b then D s l else 0) : EReal)

/-- The first loop before trip `k`. -/
def inv1 (K : BufTy.Contents (Elt F) arg6.view.ty) (W : BufTy.Contents (Elt F) arg7.view.ty)
    (z : Fin 512 → ℕ → ℝ) (t : Fin 512 → ℕ) (g : Fin 512 → ℕ → EReal) (Q D : FVec F S512x128 .bf16) (A1 A2 : Fin 16384 → Fin 128 → EReal)
    (k : ℕ) (acc : FVec F S512x1 .f32 × FVec F S512x1 .f32 × FVec F S512x128 .f32) : sProp (Res F) :=
  iprop(⌜Carried z t g (fun s l => arg6.view.read (Elt F) K (ix2 s l)) (256 * k) acc⌝
    ∗ (arg6.view.loc (c : Thread nD τ) ↦[arg6.view.set]{fullShare} K)
    ∗ (arg7.view.loc (c : Thread nD τ) ↦[arg7.view.set]{fullShare} W)
    ∗ (∃ f, ⌜Added arg13 A1 (addK z t g Q) (256 * k) f⌝ ∗ arg13.view.loc (c : Thread nD τ) ↦[arg13.view.set]{fullShare} f)
    ∗ (∃ f, ⌜Added arg14 A2 (addV z t D) (256 * k) f⌝ ∗ arg14.view.loc (c : Thread nD τ) ↦[arg14.view.set]{fullShare} f))

theorem trips1 : ∀ i : grid0.Coords, (k0_t1_loop i 0#32).trips = (i 1).val - 1 := by decide +kernel
theorem off2_eq : ∀ (i : grid0.Coords) (k : Fin (k0_t1_loop i 0#32).trips), k0_off2 i 0#32 k = ![256 * (k : ℕ), 0] := by decide +kernel

/-- The keys before `b` as a stretch of the naturals. -/
theorem sum_before (f : Fin 16384 → EReal) (b : ℕ) (hb : b ≤ 16384) :
    (∑ s : Fin 16384, if (s : ℕ) < b then f s else 0) = ∑ s ∈ range b, if h : s < 16384 then f ⟨s, h⟩ else 0 := by
  have e : ∀ s : Fin 16384, (if (s : ℕ) < b then f s else 0)
      = (fun n => if n < b then (if h : n < 16384 then f ⟨n, h⟩ else 0) else 0) (s : ℕ) := fun s => by simp
  rw [Finset.sum_congr rfl fun s _ => e s,
    Fin.sum_univ_eq_sum_range (fun n => if n < b then (if h : n < 16384 then f ⟨n, h⟩ else 0) else 0), ← Finset.sum_filter]
  refine Finset.sum_congr (Finset.ext fun n => ?_) fun _ _ => rfl
  simp only [mem_filter, mem_range]; omega

/-- A stretch of 256 keys inside the sequence. -/
theorem sum_block (f : Fin 16384 → EReal) (b : ℕ) (hb : b + 256 ≤ 16384) :
    (∑ s : Fin 16384, if (s : ℕ) < b then f s else 0) + ∑ x : Fin 256, f ⟨b + x, by omega⟩
      = ∑ s : Fin 16384, if (s : ℕ) < b + 256 then f s else 0 := by
  rw [sum_before f b (by omega), sum_before f (b + 256) hb, ← block_total]
  congr 1
  exact Finset.sum_congr rfl fun x _ => by rw [dif_pos (by omega)]

/-- What is kept plus what is new. -/
theorem pay36_apply (old new : Vec F S256x128 .f32) (x : Fin 256) (l : Fin 128) :
    k0_pay36 old new (ix2 x l) = old (ix2 x l) + new (ix2 x l) := by
  pointwise [k0_pay36]

/-- One trip. -/
theorem region1 (arg0 arg1 : BitVec 32) (v6 : FVec F S256x128 .bf16) (v8 : FVec F S256x128 .f32)
    (v10 v12 : FVec F S256x256 .bf16) (v25 : IVec S1x128 1) (v34 : FVec F S512x128 .bf16)
    (v35 : FVec F S256x128 .bf16) (v37 : IVec S256x128 1) (v49 : Elt F .i32) (hv : v49 = 0#32) (hw : k0_chk1 i v49) (v53 : BitVec 32)
    (K : BufTy.Contents (Elt F) arg6.view.ty) (W : BufTy.Contents (Elt F) arg7.view.ty)
    (z : Fin 512 → ℕ → ℝ) (t : Fin 512 → ℕ) (g : Fin 512 → ℕ → EReal) (A1 A2 : Fin 16384 → Fin 128 → EReal)
    (suffix : ∀ x y : Fin 256, v10 (ix2 x y) = (if (y : ℕ) ≤ x then 1 else 0 : EReal))
    (upto : ∀ x y : Fin 256, v12 (ix2 x y) = (if (x : ℕ) ≤ y then 1 else 0 : EReal))
    (score : ∀ (r : Fin 512) (s : Fin 16384), ∑ l : Fin 128, (v34 (ix2 r l) * arg6.view.read (Elt F) K (ix2 s l) : EReal) = ((z r s : ℝ) : EReal))
    (prod : ∀ (r : Fin 512) (s : Fin 16384), ∑ l : Fin 128, ((k0_pay31 v6 v25 v35 v37) (ix2 r l) * arg7.view.read (Elt F) W (ix2 s l) : EReal) = g r s)
    (total : ∀ r, k0_pay32 v8 (ix2 r 0) = ((∑ s ∈ range (t r), lg (z r s) : ℝ) : EReal))
    (ht : ∀ r, 256 * (i 1).val ≤ t r)
    (k : Fin (k0_t1_loop i v49).trips) (acc : FVec F S512x1 .f32 × FVec F S512x1 .f32 × FVec F S512x128 .f32) :
    inv1 c arg6 arg7 arg13 arg14 K W z t g v34 (k0_pay31 v6 v25 v35 v37) A1 A2 k acc
    ⊢ wp frame (wpE (defs₀ (F := F)) 𝒱 c bd) E (k0_t1_body (F := F) i arg2 harg2 arg3 harg3 arg4 harg4 arg5 harg5 arg6 harg6 arg7 harg7 arg8 harg8
        arg9 harg9 arg10 harg10 arg11 harg11 arg12 harg12 arg13 harg13 arg14 harg14 arg15 harg15 arg16 arg0 arg1 v6 v8 v10 v12 v25 v34 v35
        v37 v49 hw v53 k acc)
        (inv1 c arg6 arg7 arg13 arg14 K W z t g v34 (k0_pay31 v6 v25 v35 v37) A1 A2 (k + 1)) := by
  subst hv
  have hk : (k : ℕ) < (i 1).val - 1 := by rw [← trips1 i]; exact k.isLt
  have h64 : (i 1).val < 64 := (i 1).isLt
  unfold inv1 k0_t1_body
  iintro ⟨%hc, HK, HW, ⟨%f, %hf, HA⟩, ⟨%f', %hf', HB⟩⟩
  have hin : 256 * (k : ℕ) + 256 ≤ 16384 := by omega
  have e2 := off2_eq i k
  have rk : ∀ (x : Fin 256) (l : Fin 128), arg6.view.readAt (Elt F) (Rect.unit (s := S16384x128) (k0_off2 i 0#32 k) S256x128.size (k0_off2_inb i 0#32 hw k)).toLoadRect K (ix2 x l)
      = arg6.view.read (Elt F) K (ix2 ⟨256 * k + x, by omega⟩ l) := fun x l => read_rows _ _ _ e2 x l _ rfl
  have rv : ∀ (x : Fin 256) (l : Fin 128), arg7.view.readAt (Elt F) (Rect.unit (s := S16384x128) (k0_off2 i 0#32 k) S256x128.size (k0_off2_inb i 0#32 hw k)).toLoadRect W (ix2 x l)
      = arg7.view.read (Elt F) W (ix2 ⟨256 * k + x, by omega⟩ l) := fun x l => read_rows _ _ _ e2 x l _ rfl
  have B : IsBlock v10 v12 v34 (k0_pay31 v6 v25 v35 v37)
      (arg6.view.readAt (Elt F) (Rect.unit (s := S16384x128) (k0_off2 i 0#32 k) S256x128.size (k0_off2_inb i 0#32 hw k)).toLoadRect K)
      (arg7.view.readAt (Elt F) (Rect.unit (s := S16384x128) (k0_off2 i 0#32 k) S256x128.size (k0_off2_inb i 0#32 hw k)).toLoadRect W) z g (256 * k) :=
    ⟨suffix, upto, fun r x => by simp only [rk]; exact score r _, fun r x => by simp only [rv]; exact prod r _⟩
  have hb : ∀ r, 256 * (k : ℕ) + 256 ≤ t r := fun r => by have := ht r; omega
  sl_exec
  sl_step
  rw [show 256 * ((k : ℕ) + 1) = 256 * k + 256 from by ring]
  isplitr
  · ipureintro
    refine ⟨asc1 B hc.asc, pre1 B total hc.asc hc.pre hb, fun r l => ?_⟩
    refine (dq1 B total hc.asc hc.pre hb acc.2.2 r l).trans ?_
    rw [hc.dq r l]
    simp only [rk]
    exact sum_block (fun s => dsc (z r) (t r) (g r) s * arg6.view.read (Elt F) K (ix2 s l)) (256 * k) hin
  isplitl [HK]; · iexact HK
  isplitl [HW]; · iexact HW
  isplitl [HA]
  · iexists _; isplitr; swap; · iexact HA
    ipureintro
    refine stored_rows arg13.view f _ e2 _ [] _ (fun x s l hs => ?_) (fun s l hs => ?_)
    · have hv := keys1 B total hc.asc hc.pre hb x l
      refine Eq.trans (b := arg13.view.readAt (Elt F) (Rect.unit (s := S16384x128) (k0_off2 i 0#32 k) S256x128.size (k0_off2_inb i 0#32 hw k)).toLoadRect f (ix2 x l) + addK z t g v34 (256 * k + x) l) ?_ ?_
      · rw [show addK z t g v34 (256 * k + x) l = _ from hv.symm]
        exact pay36_apply _ _ x l
      · rw [read_rows arg13.view f _ e2 x l s hs, hf s l, if_neg (by omega), if_pos (by omega), add_zero, hs]
    · rw [View.writes_nil, hf s l]; congr 1
      exact if_congr (by omega) rfl rfl
  · iexists _; isplitr; swap; · iexact HB
    ipureintro
    refine stored_rows arg14.view f' _ e2 _ [] _ (fun x s l hs => ?_) (fun s l hs => ?_)
    · refine (values1 B total hc.asc hb _ rfl x l).trans ?_
      rw [read_rows arg14.view f' _ e2 x l s hs, hf' s l, if_neg (by omega), if_pos (by omega), add_zero, hs]
      rfl
    · rw [View.writes_nil, hf' s l]; congr 1
      exact if_congr (by omega) rfl rfl

/-- The casting loop of an accumulator that holds `G`, before trip `k`: the rows before `1024 k` are in the staging buffer. -/
def invCast (m : Memref sig .tc .vmem S16384x128 .f32) (G : Fin 16384 → Fin 128 → EReal) (k : ℕ) (_ : Unit) : sProp (Res F) :=
  iprop((∃ X, ⌜∀ s l, m.view.read (Elt F) X (ix2 s l) = G s l⌝ ∗ m.view.loc (c : Thread nD τ) ↦[m.view.set]{fullShare} X)
    ∗ (∃ f, ⌜∀ (s : Fin 16384) (l : Fin 128), (s : ℕ) < 1024 * k → arg15.view.read (Elt F) f (ix2 s l) = G s l⌝
      ∗ arg15.view.loc (c : Thread nD τ) ↦[arg15.view.set]{fullShare} f))

theorem off6_eq : ∀ k : Fin k0_t3_loop.trips, k0_off6 k = ![1024 * (k : ℕ), 0] := by decide +kernel
theorem off8_eq : ∀ k : Fin k0_t4_loop.trips, k0_off8 k = ![1024 * (k : ℕ), 0] := by decide +kernel
theorem trips3 : k0_t3_loop.trips = 16 := by decide +kernel
theorem trips4 : k0_t4_loop.trips = 16 := by decide +kernel

/-- A cast changes nothing. -/
theorem pay1_apply (v : Vec F S1024x128 .f32) (x : Fin 1024) (l : Fin 128) : k0_pay1 v (ix2 x l) = v (ix2 x l) := by
  pointwise [k0_pay1]
theorem pay2_apply (v : Vec F S1024x128 .f32) (x : Fin 1024) (l : Fin 128) : k0_pay2 v (ix2 x l) = v (ix2 x l) := by
  pointwise [k0_pay2]

/-- One trip of the first casting loop. -/
theorem region3 (k0_h2 : k0_cond2 i = 1#1) (G : Fin 16384 → Fin 128 → EReal) (k : Fin k0_t3_loop.trips) (acc : Unit) :
    invCast c arg15 arg13 G k acc
      ⊢ wp frame (wpE (defs₀ (F := F)) 𝒱 c bd) E
        (k0_t3_body i arg2 harg2 arg3 harg3 arg4 harg4 arg5 harg5 arg6 harg6 arg7 harg7 arg8 harg8 arg9 harg9
          arg10 harg10 arg11 harg11 arg12 harg12 arg13 harg13 arg14 harg14 arg15 harg15 arg16 k0_h2 k acc)
        (invCast c arg15 arg13 G (k + 1)) := by
  have e := off6_eq k
  have hk : (k : ℕ) < 16 := lt_of_lt_of_eq k.isLt trips3
  unfold invCast k0_t3_body
  iintro ⟨⟨%X, %hX, HX⟩, ⟨%f, %hf, HS⟩⟩
  sl_exec
  sl_step
  isplitl [HX]; · iexists _; isplitr; swap; · iexact HX
                  ipureintro; exact hX
  iexists _; isplitr; swap; · iexact HS
  ipureintro
  intro s l hs
  refine (stored_rows arg15.view f _ e _ [] (fun s l => if (s : ℕ) < 1024 * (k + 1) then G s l else arg15.view.read (Elt F) f (ix2 s l))
    (fun x s l hx => ?_) (fun s l hx => ?_) s l).trans (if_pos hs)
  · rw [if_pos (by have := x.isLt; omega)]
    exact (pay1_apply _ x l).trans ((read_rows' arg13.view X _ e x l s hx).trans (hX s l))
  · rw [View.writes_nil]
    split
    · rename_i h; exact hf s l (by omega)
    · rfl

/-- One trip of the second casting loop. -/
theorem region4 (k0_h2 : k0_cond2 i = 1#1) (G : Fin 16384 → Fin 128 → EReal) (k : Fin k0_t4_loop.trips) (acc : Unit) :
    invCast c arg15 arg14 G k acc
      ⊢ wp frame (wpE (defs₀ (F := F)) 𝒱 c bd) E
        (k0_t4_body i arg2 harg2 arg3 harg3 arg4 harg4 arg5 harg5 arg6 harg6 arg7 harg7 arg8 harg8 arg9 harg9
          arg10 harg10 arg11 harg11 arg12 harg12 arg13 harg13 arg14 harg14 arg15 harg15 arg16 k0_h2 k acc)
        (invCast c arg15 arg14 G (k + 1)) := by
  have e := off8_eq k
  have hk : (k : ℕ) < 16 := lt_of_lt_of_eq k.isLt trips4
  unfold invCast k0_t4_body
  iintro ⟨⟨%X, %hX, HX⟩, ⟨%f, %hf, HS⟩⟩
  sl_exec
  sl_step
  isplitl [HX]; · iexists _; isplitr; swap; · iexact HX
                  ipureintro; exact hX
  iexists _; isplitr; swap; · iexact HS
  ipureintro
  intro s l hs
  refine (stored_rows arg15.view f _ e _ [] (fun s l => if (s : ℕ) < 1024 * (k + 1) then G s l else arg15.view.read (Elt F) f (ix2 s l))
    (fun x s l hx => ?_) (fun s l hx => ?_) s l).trans (if_pos hs)
  · rw [if_pos (by have := x.isLt; omega)]
    exact (pay2_apply _ x l).trans ((read_rows' arg14.view X _ e x l s hx).trans (hX s l))
  · rw [View.writes_nil]
    split
    · rename_i h; exact hf s l (by omega)
    · rfl

end Cert.Attention.Valued

end
-- ==== Proof.Attention.Tail.lean ====
/- The last two key tiles of the attention gradient's grid step: the tile before the queries' own, which counts only
where there is one, and the queries' own under its triangle.  After them the step's whole part is in the two
accumulators and in the queries' gradient. -/
module

public import proofs.«01_k».proof.Proof.Attention.Tiles

@[expose] public section

set_option maxRecDepth 8192
set_option maxHeartbeats 1000000

noncomputable section

namespace Cert.Attention.Valued

open Cert.Kernel2Ideal Cert.Kernel2Ideal.Gen
open Idealize.ShloMosaic Idealize.ShloMosaic.TcCoe Idealize.SL.Sem
open Finset

/-- The queries' gradient that the step stores. -/
def dqOut (z : Fin 512 → ℕ → ℝ) (t : Fin 512 → ℕ) (g : Fin 512 → ℕ → EReal) (K : Vec F S16384x128 .bf16) (x : Fin 256) (l : Fin 128) : EReal :=
  let h : Fin 512 := if (l : ℕ) < 64 then ⟨x, by omega⟩ else ⟨256 + x, by omega⟩
  (∑ s : Fin 16384, dsc (z h) (t h) (g h) s * K (ix2 s l)) * Ideal.ofBits .f32 0x3E000000#32

variable (i : grid0.Coords) {z : Fin 512 → ℕ → ℝ} {t : Fin 512 → ℕ} {g : Fin 512 → ℕ → EReal}
  {v10 v12 : FVec F S256x256 .bf16} {Q D : FVec F S512x128 .bf16} {C a1 a2 : FVec F S512x1 .f32} {a3 : FVec F S512x128 .f32}
  (vk vw : View sig .tc .vmem S16384x128 .bf16) (fk : vk.ty.Contents (Elt F)) (fw : vw.ty.Contents (Elt F))
  (suffix : ∀ x y : Fin 256, v10 (ix2 x y) = (if (y : ℕ) ≤ x then 1 else 0 : EReal))
  (upto : ∀ x y : Fin 256, v12 (ix2 x y) = (if (x : ℕ) ≤ y then 1 else 0 : EReal))
  (score : ∀ (r : Fin 512) (s : Fin 16384), ∑ l : Fin 128, (Q (ix2 r l) * vk.read (Elt F) fk (ix2 s l) : EReal) = ((z r s : ℝ) : EReal))
  (prod : ∀ (r : Fin 512) (s : Fin 16384), ∑ l : Fin 128, (D (ix2 r l) * vw.read (Elt F) fw (ix2 s l) : EReal) = g r s)
  (total : ∀ r, C (ix2 r 0) = ((∑ s ∈ range (t r), lg (z r s) : ℝ) : EReal))
  (place : ∀ r, t r = 256 * (i 1).val + (r : ℕ) % 256)
  (hc : Carried z t g (fun s l => vk.read (Elt F) fk (ix2 s l)) (256 * ((i 1).val - 1)) (a1, a2, a3))

/-- The tile before the queries' own, and their own tile. -/
abbrev near (v : View sig .tc .vmem S16384x128 .bf16) (f : v.ty.Contents (Elt F)) : Vec F S256x128 .bf16 :=
  v.readAt (Elt F) (Rect.unit (s := S16384x128) (k0_off4 i) S256x128.size (k0_off4_inb i)).toLoadRect f
abbrev own (v : View sig .tc .vmem S16384x128 .bf16) (f : v.ty.Contents (Elt F)) : Vec F S256x128 .bf16 :=
  v.readAt (Elt F) (Rect.unit (s := S16384x128) (k0_off5 i) S256x128.size (k0_off5_inb i)).toLoadRect f

/-- Whether the tile before counts, as the step computes it. -/
abbrev live : F .f32 := k0_pay46 (F := F) (BitVec.ofNat 32 (i 1).val)

/-- A block of zeros. -/
abbrev none0 : FVec F S512x256 .f32 := constant S512x256 .f32 0x00000000#32

theorem none0_apply (j : S512x256.Idx) : none0 j = (0 : EReal) := by
  show Ideal.ofBits .f32 0#32 = 0
  simp [Ideal.ofBits, Ideal.ieee, -EReal.coe_mul]

theorem near_apply (v : View sig .tc .vmem S16384x128 .bf16) (f : v.ty.Contents (Elt F)) (x : Fin 256) (l : Fin 128) (s : Fin 16384)
    (hs : (s : ℕ) = ((i 1).val - 1) * 256 + x) : near i v f (ix2 x l) = v.read (Elt F) f (ix2 s l) := read_rows v f _ (off4_eq i) x l s hs
theorem own_apply (v : View sig .tc .vmem S16384x128 .bf16) (f : v.ty.Contents (Elt F)) (x : Fin 256) (l : Fin 128) (s : Fin 16384)
    (hs : (s : ℕ) = (i 1).val * 256 + x) : own i v f (ix2 x l) = v.read (Elt F) f (ix2 s l) := read_rows v f _ (off5_eq i) x l s hs

include suffix upto score prod in
theorem near_block : IsBlock v10 v12 Q D (k0_pay47 (near i vk fk)) (k0_pay48 (near i vw fw)) z g (((i 1).val - 1) * 256) := by
  have h64 : (i 1).val < 64 := (i 1).isLt
  rw [pay47_eq, pay48_eq]
  exact ⟨suffix, upto,
    fun r x => by
      simp only [read_rows vk fk _ (off4_eq i) x _ ⟨((i 1).val - 1) * 256 + x, by omega⟩ rfl]; exact score r _,
    fun r x => by
      simp only [read_rows vw fw _ (off4_eq i) x _ ⟨((i 1).val - 1) * 256 + x, by omega⟩ rfl]; exact prod r _⟩

include suffix upto score prod in
theorem own_block : IsBlock v10 v12 Q D (own i vk fk) (k0_pay59 (own i vw fw)) z g ((i 1).val * 256) := by
  have h64 : (i 1).val < 64 := (i 1).isLt
  rw [pay59_eq]
  exact ⟨suffix, upto,
    fun r x => by
      simp only [read_rows vk fk _ (off5_eq i) x _ ⟨(i 1).val * 256 + x, by omega⟩ rfl]; exact score r _,
    fun r x => by
      simp only [read_rows vw fw _ (off5_eq i) x _ ⟨(i 1).val * 256 + x, by omega⟩ rfl]; exact prod r _⟩

theorem live_eq : live i = (if 0 < (i 1).val then 1 else 0 : EReal) := flag (i 1)

include place in
theorem near_before (h : 0 < (i 1).val) (r : Fin 512) : ((i 1).val - 1) * 256 + 256 ≤ t r := by have := place r; omega

include hc in
theorem none_before (h : ¬ 0 < (i 1).val) (r : Fin 512) : a2 (ix2 r 0) = (0 : EReal) := by
  rw [show a2 (ix2 r 0) = _ from hc.pre r, show (i 1).val = 0 from by omega]; rfl

include hc in
theorem carried_asc (r : Fin 512) : a1 (ix2 r 0) = ((∑ s ∈ range (((i 1).val - 1) * 256), lg (z r s) : ℝ) : EReal) := by
  rw [mul_comm]; exact hc.asc r

include hc in
theorem carried_pre (r : Fin 512) : a2 (ix2 r 0) = ∑ s ∈ range (((i 1).val - 1) * 256), wg (z r) (t r) (g r) s := by
  rw [mul_comm]; exact hc.pre r

/-- The weights' gradients of the tile before, their sum with what was carried, and the scores' gradients. -/
abbrev nearG (v10 : FVec F S256x256 .bf16) (Q D : FVec F S512x128 .bf16) (C a1 : FVec F S512x1 .f32) : FVec F S512x256 .f32 :=
  k0_pay52 v10 Q D C a1 (live i) (k0_pay47 (near i vk fk)) (k0_pay48 (near i vw fw)) none0

include suffix upto score prod total place hc in
theorem near_sum (r : Fin 512) : k0_pay56 a2 (nearG i vk vw fk fw v10 Q D C a1) (ix2 r 0)
    = ∑ s ∈ range ((i 1).val * 256), wg (z r) (t r) (g r) s := by
  refine (pre2 (near_block i vk vw fk fw suffix upto score prod) total (carried_asc i vk fk hc) (carried_pre i vk fk hc) (live_eq i)
    none0_apply (near_before i place) (none_before i vk fk hc) r).trans ?_
  by_cases h : 0 < (i 1).val
  · rw [if_pos h, show ((i 1).val - 1) * 256 + 256 = (i 1).val * 256 from by omega]
  · rw [if_neg h, show (i 1).val = 0 from by omega]; rfl

/-- What is added from keys at or after every query's place is nothing. -/
theorem addK_after (s : ℕ) (h : ∀ r, t r ≤ s) (l : Fin 128) : addK z t g Q s l = 0 :=
  Finset.sum_eq_zero fun r _ => by rw [dsc, if_neg (by have := h r; omega), zero_mul]
theorem addV_after (s : ℕ) (h : ∀ r, t r ≤ s) (l : Fin 128) : addV z t D s l = 0 :=
  Finset.sum_eq_zero fun r _ => by rw [wgt, if_neg (by have := h r; omega), EReal.coe_zero, zero_mul]

variable (m : View sig .tc .vmem S16384x128 .f32) (f : m.ty.Contents (Elt F)) (A : Fin 16384 → Fin 128 → EReal)

/-- Two stores, one at each of the two tiles, that add `P` at the tile before (if it counts) and at the queries' own. -/
theorem two_stores (P : ℕ → Fin 128 → EReal) (X Y : Vec F S256x128 .f32)
    (hf : ∀ s l, m.read (Elt F) f (ix2 s l) = (A s l + (if (s : ℕ) < 256 * ((i 1).val - 1) then P s l else 0) : EReal))
    (hX : ∀ x l, X (ix2 x l) = (m.readAt (Elt F) (Rect.unit (s := S16384x128) (k0_off4 i) S256x128.size (k0_off4_inb i)).toLoadRect f (ix2 x l)
      + (if 0 < (i 1).val then P (((i 1).val - 1) * 256 + x) l else 0) : EReal))
    (hY : ∀ x l, Y (ix2 x l) = (m.readAt (Elt F) (Rect.unit (s := S16384x128) (k0_off5 i) S256x128.size (k0_off5_inb i)).toLoadRect
      (m.writes (Elt F) f [⟨Rect.unit (s := S16384x128) (k0_off4 i) S256x128.size (k0_off4_inb i), X⟩]) (ix2 x l) + P ((i 1).val * 256 + x) l : EReal))
    (hP : ∀ s l, (i 1).val * 256 + 256 ≤ s → P s l = 0) (s : Fin 16384) (l : Fin 128) :
    m.read (Elt F) (m.writes (Elt F) f [⟨Rect.unit (s := S16384x128) (k0_off5 i) S256x128.size (k0_off5_inb i), Y⟩,
      ⟨Rect.unit (s := S16384x128) (k0_off4 i) S256x128.size (k0_off4_inb i), X⟩]) (ix2 s l) = (A s l + P s l : EReal) := by
  have h64 : (i 1).val < 64 := (i 1).isLt
  have one : ∀ s l, m.read (Elt F) (m.writes (Elt F) f [⟨Rect.unit (s := S16384x128) (k0_off4 i) S256x128.size (k0_off4_inb i), X⟩]) (ix2 s l)
      = (A s l + (if (s : ℕ) < (i 1).val * 256 then P s l else 0) : EReal) := by
    refine stored_rows m f _ (off4_eq i) X [] _ (fun x s l hs => ?_) (fun s l hs => ?_)
    · refine (hX x l).trans ?_
      rw [read_rows m f _ (off4_eq i) x l s hs, hf s l, if_neg (by omega), add_zero, hs]
      congr 1
      exact if_congr (by omega) rfl rfl
    · rw [View.writes_nil, hf s l]; congr 1
      exact if_congr (by omega) rfl rfl
  refine stored_rows m f _ (off5_eq i) Y _ (fun s l => (A s l + P s l : EReal)) (fun x s l hs => ?_) (fun s l hs => ?_) s l
  · refine (hY x l).trans ?_
    rw [read_rows m _ _ (off5_eq i) x l s hs, one s l, if_neg (by omega), add_zero, hs]
  · rw [one s l]
    split
    · rfl
    · rw [hP s l (by omega)]

include suffix upto score prod total place hc in
/-- The keys' accumulator after the two stores. -/
theorem keys_stored (hf : ∀ s l, m.read (Elt F) f (ix2 s l) = (A s l + (if (s : ℕ) < 256 * ((i 1).val - 1) then addK z t g Q s l else 0) : EReal))
    (X : Vec F S256x128 .f32) (hX : X = k0_pay54 v10 v12 Q D C a1 a2 (live i) (k0_pay47 (near i vk fk)) (k0_pay48 (near i vw fw)) none0
      (m.readAt (Elt F) (Rect.unit (s := S16384x128) (k0_off4 i) S256x128.size (k0_off4_inb i)).toLoadRect f))
    (s : Fin 16384) (l : Fin 128) :
    m.read (Elt F) (m.writes (Elt F) f [⟨Rect.unit (s := S16384x128) (k0_off5 i) S256x128.size (k0_off5_inb i),
        k0_pay67 v12 k0_pay25 Q D (k0_pay56 a2 (nearG i vk vw fk fw v10 Q D C a1)) (k0_pay59 (own i vw fw)) (k0_pay62 Q (own i vk fk)) k0_pay63
          (k0_pay64 v10 k0_pay25 Q (own i vk fk)) (m.readAt (Elt F) (Rect.unit (s := S16384x128) (k0_off5 i) S256x128.size (k0_off5_inb i)).toLoadRect
            (m.writes (Elt F) f [⟨Rect.unit (s := S16384x128) (k0_off4 i) S256x128.size (k0_off4_inb i), X⟩]))⟩,
      ⟨Rect.unit (s := S16384x128) (k0_off4 i) S256x128.size (k0_off4_inb i), X⟩]) (ix2 s l) = (A s l + addK z t g Q s l : EReal) := by
  subst hX
  refine two_stores i m f A (addK z t g Q) _ _ hf (fun x l => ?_) (fun x l => ?_) (fun s l hs => addK_after s (fun r => by have := place r; omega) l) s l
  · refine (keys2 (near_block i vk vw fk fw suffix upto score prod) total (carried_asc i vk fk hc) (carried_pre i vk fk hc) (live_eq i)
      none0_apply (near_before i place) (none_before i vk fk hc) _ x l).trans (congrArg _ ?_)
    split
    · rfl
    · simp only [zero_mul, Finset.sum_const_zero]
  · exact keys3 (own_block i vk vw fk fw suffix upto score prod) (near_sum i vk vw fk fw suffix upto score prod total place hc) triangle
      (fun r => Nat.mod_lt _ (by norm_num)) (fun r => by have := place r; omega) _ x l

include suffix upto score prod total place hc in
/-- The values' accumulator after the two stores. -/
theorem values_stored (hf : ∀ s l, m.read (Elt F) f (ix2 s l) = (A s l + (if (s : ℕ) < 256 * ((i 1).val - 1) then addV z t D s l else 0) : EReal))
    (X : Vec F S256x128 .f32) (hX : X = k0_pay55 D (k0_pay51 v10 Q C a1 (live i) (k0_pay47 (near i vk fk)) none0)
      (m.readAt (Elt F) (Rect.unit (s := S16384x128) (k0_off4 i) S256x128.size (k0_off4_inb i)).toLoadRect f))
    (s : Fin 16384) (l : Fin 128) :
    m.read (Elt F) (m.writes (Elt F) f [⟨Rect.unit (s := S16384x128) (k0_off5 i) S256x128.size (k0_off5_inb i),
        k0_pay68 k0_pay25 D k0_pay63
          (k0_pay64 v10 k0_pay25 Q (own i vk fk)) (m.readAt (Elt F) (Rect.unit (s := S16384x128) (k0_off5 i) S256x128.size (k0_off5_inb i)).toLoadRect
            (m.writes (Elt F) f [⟨Rect.unit (s := S16384x128) (k0_off4 i) S256x128.size (k0_off4_inb i), X⟩]))⟩,
      ⟨Rect.unit (s := S16384x128) (k0_off4 i) S256x128.size (k0_off4_inb i), X⟩]) (ix2 s l) = (A s l + addV z t D s l : EReal) := by
  subst hX
  refine two_stores i m f A (addV z t D) _ _ hf (fun x l => ?_) (fun x l => ?_) (fun s l hs => addV_after s (fun r => by have := place r; omega) l) s l
  · refine (values2 (near_block i vk vw fk fw suffix upto score prod) total (carried_asc i vk fk hc) (live_eq i)
      none0_apply (near_before i place) _ x l).trans (congrArg _ ?_)
    split
    · rfl
    · simp only [zero_mul, Finset.sum_const_zero]
  · exact values3 (own_block i vk vw fk fw suffix upto score prod) triangle
      (fun r => Nat.mod_lt _ (by norm_num)) (fun r => by have := place r; omega) _ x l

include suffix upto score prod total place hc in
/-- The queries' gradient. -/
theorem queries_stored (x : Fin 256) (l : Fin 128) :
    k0_pay69 v12 k0_pay25 k0_pay26 D (k0_pay56 a2 (nearG i vk vw fk fw v10 Q D C a1))
      (k0_pay57 a3 (k0_pay47 (near i vk fk)) (k0_pay53 v10 v12 Q D C a1 a2 (live i) (k0_pay47 (near i vk fk)) (k0_pay48 (near i vw fw)) none0))
      (k0_pay58 (own i vk fk)) (k0_pay59 (own i vw fw)) (k0_pay62 Q (own i vk fk)) k0_pay63 (k0_pay64 v10 k0_pay25 Q (own i vk fk)) (ix2 x l)
    = dqOut z t g (vk.read (Elt F) fk) x l := by
  have h64 : (i 1).val < 64 := (i 1).isLt
  rw [pay58_eq (own i vk fk)]
  refine (dq3 (own_block i vk vw fk fw suffix upto score prod) (near_sum i vk vw fk fw suffix upto score prod total place hc) triangle
    (fun r => Nat.mod_lt _ (by norm_num)) (fun r => by have := place r; omega) _ x l).trans ?_
  unfold dqOut
  generalize (if (l : ℕ) < 64 then (⟨x, by omega⟩ : Fin 512) else ⟨256 + x, by omega⟩) = h
  refine congrArg (fun y : EReal => y * Ideal.ofBits .f32 0x3E000000#32) ?_
  have two : k0_pay57 a3 (k0_pay47 (near i vk fk)) (k0_pay53 v10 v12 Q D C a1 a2 (live i) (k0_pay47 (near i vk fk)) (k0_pay48 (near i vw fw)) none0) (ix2 h l)
      = ∑ s : Fin 16384, if (s : ℕ) < (i 1).val * 256 then dsc (z h) (t h) (g h) s * vk.read (Elt F) fk (ix2 s l) else (0 : EReal) := by
    refine (dq2 (near_block i vk vw fk fw suffix upto score prod) total (carried_asc i vk fk hc) (carried_pre i vk fk hc) (live_eq i)
      none0_apply (near_before i place) (none_before i vk fk hc) a3 h l).trans ?_
    rw [show a3 (ix2 h l) = _ from hc.dq h l, pay47_eq]
    simp only [fun x : Fin 256 => near_apply i vk fk x l ⟨((i 1).val - 1) * 256 + x, by omega⟩ rfl]
    by_cases p : 0 < (i 1).val
    · simp only [if_pos p]
      have := sum_block (fun s => dsc (z h) (t h) (g h) s * vk.read (Elt F) fk (ix2 s l)) (((i 1).val - 1) * 256) (by omega)
      simp only [show ((i 1).val - 1) * 256 + 256 = (i 1).val * 256 from by omega] at this
      rw [← this, mul_comm 256]
    · simp only [if_neg p, zero_mul, Finset.sum_const_zero, add_zero]
      refine Finset.sum_congr rfl fun s _ => if_congr (by omega) rfl rfl
  dsimp only
  rw [two]
  simp only [fun x : Fin 256 => own_apply i vk fk x l ⟨(i 1).val * 256 + x, by omega⟩ rfl]
  refine (sum_block (fun s => dsc (z h) (t h) (g h) s * vk.read (Elt F) fk (ix2 s l)) ((i 1).val * 256) (by omega)).trans ?_
  refine Finset.sum_congr rfl fun s _ => ?_
  split
  · rfl
  · rw [dsc, if_neg (by have := place h; omega), zero_mul]

end Cert.Attention.Valued

end
-- ==== Proof.Attention.StepV.lean ====
/- One grid step of the attention gradient with what it computes: from accumulators that hold the earlier query tiles'
parts, the step leaves them with its own part added, stores its queries' gradient, and at a head pair's last query
tile leaves the pair's columns of the two results in HBM. -/
module

public import proofs.«01_k».proof.Proof.Attention.Tail
public import proofs.«01_k».proof.Proof.Gen.Kernel2Ideal.Launch
public import Idealize.ShloMosaic.Lib.WordCmp

@[expose] public section

set_option maxRecDepth 16384
set_option maxHeartbeats 400000

noncomputable section

namespace Cert.Attention.Valued

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Finset
open Idealize.SL.BI.BIBase Idealize.SL.BI.Laws Idealize.SL.ProofMode Idealize.SL.Sem

/-- "This is the head pair's first query tile", as the step computes it. -/
abbrev first (i : grid0.Coords) : Prop :=
  Scalar.cmpi .ne (Scalar.extui (Scalar.cmpi .eq (BitVec.ofNat 32 (i 1).val) 0#32) : BitVec 32) 0#32 = 1#1

/-- The stacked cotangents, as the step forms them from their block. -/
abbrev stackD (x4 : Vec F S256x128 .bf16) : FVec F S512x128 .bf16 := k0_pay31 (k0_pay21 x4) k0_pay27 (k0_pay29 (F := F)) k0_pay30

/-- What the step's blocks are: the two triangles, real scores `z`, products `g` of cotangents and values, and each
row's sum of logs over the keys before its own place `t`. -/
structure Facts (i : grid0.Coords) (x3 x4 : Vec F S256x128 .bf16) (x5 : Vec F S256x128 .f32) (x6 x7 : Vec F S16384x128 .bf16)
    (x8 x9 : Vec F S256x256 .bf16) (z : Fin 512 → ℕ → ℝ) (t : Fin 512 → ℕ) (g : Fin 512 → ℕ → EReal) : Prop where
  suffix : ∀ x y : Fin 256, k0_pay23 x8 (ix2 x y) = (if (y : ℕ) ≤ x then 1 else 0 : EReal)
  upto : ∀ x y : Fin 256, k0_pay24 x9 (ix2 x y) = (if (x : ℕ) ≤ y then 1 else 0 : EReal)
  score : ∀ (r : Fin 512) (s : Fin 16384), (∑ l : Fin 128, k0_pay28 x3 (ix2 r l) * x6 (ix2 s l)) = ((z r s : ℝ) : EReal)
  prod : ∀ (r : Fin 512) (s : Fin 16384), (∑ l : Fin 128, stackD x4 (ix2 r l) * x7 (ix2 s l)) = g r s
  total : ∀ r, k0_pay32 (k0_pay22 x5) (ix2 r 0) = ((∑ s ∈ range (t r), lg (z r s) : ℝ) : EReal)
  place : ∀ r, t r = 256 * (i 1).val + (r : ℕ) % 256

/-- A scratch accumulator, at the contents `A` when `p`. -/
abbrev acc_at (c : Dev nD) (r : Memref sig .tc .vmem S16384x128 .f32) (p : Prop) (A : Fin 16384 → Fin 128 → EReal) : sProp (Res F) :=
  iprop(∃ f, ⌜p → ∀ s l, r.view.read (Elt F) f (ix2 s l) = A s l⌝ ∗ r.view.loc (c : Thread nD τ) ↦[r.view.set]{fullShare} f)

/-- A result in HBM whose first `n` columns are those of `G`. -/
abbrev out_at (c : Dev nD) (r : Memref sig .tc .hbm S16384x512 .bf16) (n : ℕ) (G : Fin 16384 → Fin 512 → EReal) : sProp (Res F) :=
  iprop(∃ f, ⌜∀ (s : Fin 16384) (j : Fin 512), (j : ℕ) < n → r.view.read (Elt F) f (ix2 s j) = G s j⌝ ∗ r.view.loc (c : Thread nD τ) ↦[r.view.set]{fullShare} f)

/-- What the step holds besides its blocks. -/
abbrev heldV (c : Dev nD) (p : Prop) (A1 A2 : Fin 16384 → Fin 128 → EReal) (n : ℕ) (G1 G2 : Fin 16384 → Fin 512 → EReal) : sProp (Res F) :=
  iprop(((Memref.whole main_v34).view.loc (c : Thread nD τ) ↦[(Memref.whole main_v34).view.set]{fullShare.right}
        (fun _ => 0#32 : S4x64.Idx → Elt F .i32))
    ∗ acc_at c (Memref.whole cc0_scratch0) p A1 ∗ acc_at c (Memref.whole cc0_scratch1) p A2 ∗ some_at c (Memref.whole cc0_scratch2)
    ∗ out_at c (Memref.whole main_v40_1) n G1 ∗ out_at c (Memref.whole main_v40_2) n G2
    ∗ semVal ((c : Thread nD τ), SemLoc.dma 14) 0)

/-- Before the first key there is nothing. -/
theorem carried_none (z : Fin 512 → ℕ → ℝ) (t : Fin 512 → ℕ) (g : Fin 512 → ℕ → EReal) (K : Fin 16384 → Fin 128 → EReal) :
    Carried z t g K (256 * 0) (k0_pay33, k0_pay34, k0_pay35) where
  asc r := by pointwise [k0_pay33]; simp
  pre r := by pointwise [k0_pay34]; simp
  dq r l := by pointwise [k0_pay35]; simp

/-- A cleared accumulator. -/
theorem cleared1 (v : View sig .tc .vmem S16384x128 .f32) (f : v.ty.Contents (Elt F)) (inb : ∀ a : Fin 2, (![0, 0] : Fin 2 → ℕ) a + S16384x128.size a ≤ S16384x128.size a)
    (s : Fin 16384) (l : Fin 128) :
    v.read (Elt F) (v.writes (Elt F) f [⟨Rect.unit (s := S16384x128) ![0, 0] S16384x128.size inb, k0_pay19 (F := F)⟩]) (ix2 s l) = (0 : EReal) := by
  rw [View.read_writes_full]; pointwise [k0_pay19]
theorem cleared2 (v : View sig .tc .vmem S16384x128 .f32) (f : v.ty.Contents (Elt F)) (inb : ∀ a : Fin 2, (![0, 0] : Fin 2 → ℕ) a + S16384x128.size a ≤ S16384x128.size a)
    (s : Fin 16384) (l : Fin 128) :
    v.read (Elt F) (v.writes (Elt F) f [⟨Rect.unit (s := S16384x128) ![0, 0] S16384x128.size inb, k0_pay20 (F := F)⟩]) (ix2 s l) = (0 : EReal) := by
  rw [View.read_writes_full]; pointwise [k0_pay20]

theorem trips2 : ∀ i : grid0.Coords, (k0_t2_loop i 0#32).trips = 0 := by decide +kernel

/-- The grid step at any point. -/
theorem step (c : Dev nD) (i : grid0.Coords)
    (arg3 : Memref sig .tc .vmem S256x128 .bf16) (harg3 : arg3.IsWhole)
    (arg4 : Memref sig .tc .vmem S256x128 .bf16) (harg4 : arg4.IsWhole)
    (arg5 : Memref sig .tc .vmem S256x128 .f32) (harg5 : arg5.IsWhole)
    (arg6 : Memref sig .tc .vmem S16384x128 .bf16) (harg6 : arg6.IsWhole)
    (arg7 : Memref sig .tc .vmem S16384x128 .bf16) (harg7 : arg7.IsWhole)
    (arg8 : Memref sig .tc .vmem S256x256 .bf16) (harg8 : arg8.IsWhole)
    (arg9 : Memref sig .tc .vmem S256x256 .bf16) (harg9 : arg9.IsWhole)
    (arg10 : Memref sig .tc .vmem S256x128 .bf16) (harg10 : arg10.IsWhole)
    (x3 : Vec F S256x128 .bf16) (x4 : Vec F S256x128 .bf16) (x5 : Vec F S256x128 .f32)
    (x6 : Vec F S16384x128 .bf16) (x7 : Vec F S16384x128 .bf16)
    (x8 : Vec F S256x256 .bf16) (x9 : Vec F S256x256 .bf16)
    (z : Fin 512 → ℕ → ℝ) (t : Fin 512 → ℕ) (g : Fin 512 → ℕ → EReal) (hx : Facts i x3 x4 x5 x6 x7 x8 x9 z t g)
    (A1 A2 : Fin 16384 → Fin 128 → EReal) (hz : first i → ∀ s l, A1 s l = 0 ∧ A2 s l = 0) (G1 G2 : Fin 16384 → Fin 512 → EReal)
    (hG : k0_cond2 i = 1#1 → ∀ (s : Fin 16384) (l : Fin 128) (j : Fin 512), (j : ℕ) = 128 * (i 0).val + l →
      G1 s j = A1 s l + addK z t g (k0_pay28 x3) s l ∧ G2 s j = A2 s l + addV z t (stackD x4) s l)
    (W : Waits sig Unit) (K : PUnit → sProp (Res F)) :
    iprop(owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ (∃ d, owns (c : Thread nD τ) arg10 fullShare d)
        ∗ heldV c (¬ first i) A1 A2 (128 * (i 0).val) G1 G2 ∗ owes (c : Thread nD τ) 0 W
        ∗ (iprop(owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare x9
            ∗ (∃ d, ⌜∀ (x : Fin 256) (l : Fin 128), d (ix2 x l) = dqOut z t g x6 x l⌝ ∗ owns (c : Thread nD τ) arg10 fullShare d)
            ∗ heldV c True (fun s l => A1 s l + addK z t g (k0_pay28 x3) s l) (fun s l => A2 s l + addV z t (stackD x4) s l)
                (if k0_cond2 i = 1#1 then 128 * ((i 0).val + 1) else 128 * (i 0).val) G1 G2
            ∗ (∃ W', owes (c : Thread nD τ) 0 W')) -∗ K ⟨⟩))
      ⊢ wp frame (wpE (defs₀ (F := F)) Variants.none c none) Set.univ
          (cc0_attn_bwd i (Memref.whole main_v34) (Memref.isWhole_whole _) arg3 harg3 arg4 harg4 arg5 harg5
            arg6 harg6 arg7 harg7 arg8 harg8 arg9 harg9 arg10 harg10
            (Memref.whole main_v40_1) (Memref.isWhole_whole _) (Memref.whole main_v40_2) (Memref.isWhole_whole _)
            (Memref.whole cc0_scratch0) (Memref.isWhole_whole _) (Memref.whole cc0_scratch1) (Memref.isWhole_whole _)
            (Memref.whole cc0_scratch2) (Memref.isWhole_whole _) cc0_scratch3) K := by
  have chk := tiles_in_range i
  have h64 : (i 1).val < 64 := (i 1).isLt
  have none2 := trips2 i
  simp only [cc0_attn_bwd_eq_skeleton]; unfold cc0_attn_bwd_skel
  simp only [k0_part3_eq_skeleton, k0_part4_eq_skeleton, k0_part5_eq_skeleton, k0_part6_eq_skeleton, k0_part7_eq_skeleton]
  unfold owns
  iintro ⟨⟨%f3, %h3, H3⟩, ⟨%f4, %h4, H4⟩, ⟨%f5, %h5, H5⟩, ⟨%f6, %h6, H6⟩, ⟨%f7, %h7, H7⟩, ⟨%f8, %h8, H8⟩,
    ⟨%f9, %h9, H9⟩, ⟨%d, %f10, -, H10⟩, ⟨HT, ⟨%g0, %hg0, HA⟩, ⟨%g1, %hg1, HB⟩, ⟨%g2, HS⟩, ⟨%r1, %hr1, HK⟩, ⟨%r2, %hr2, HV⟩, Hsem⟩, HW, Hk⟩
  subst h3 h4 h5 h6 h7 h8 h9
  have e3 : arg3.view.readAt (Elt F) (Rect.unit (s := S256x128) ![0, 0] S256x128.size inb_S256x128_S256x128_0_0).toLoadRect f3 = arg3.view.read (Elt F) f3 :=
    View.readAt_full arg3.view f3 _
  have e4 : arg4.view.readAt (Elt F) (Rect.unit (s := S256x128) ![0, 0] S256x128.size inb_S256x128_S256x128_0_0).toLoadRect f4 = arg4.view.read (Elt F) f4 :=
    View.readAt_full arg4.view f4 _
  have e5 : arg5.view.readAt (Elt F) (Rect.unit (s := S256x128) ![0, 0] S256x128.size inb_S256x128_S256x128_0_0).toLoadRect f5 = arg5.view.read (Elt F) f5 :=
    View.readAt_full arg5.view f5 _
  have e8 : arg8.view.readAt (Elt F) (Rect.unit (s := S256x256) ![0, 0] S256x256.size inb_S256x256_S256x256_0_0).toLoadRect f8 = arg8.view.read (Elt F) f8 :=
    View.readAt_full arg8.view f8 _
  have e9 : arg9.view.readAt (Elt F) (Rect.unit (s := S256x256) ![0, 0] S256x256.size inb_S256x256_S256x256_0_0).toLoadRect f9 = arg9.view.read (Elt F) f9 :=
    View.readAt_full arg9.view f9 _
  rw [← e3, ← e4, ← e5, ← e8, ← e9] at hx
  rw [← e3, ← e4] at hG
  rw [← e3, ← e4]
  clear e3 e4 e5 e8 e9
  by_cases hf : first i
  all_goals
    sl_exec (disch := first | sl_exact hf | sl_exact chk)
    sl_for (inv1 c arg6 arg7 (Memref.whole cc0_scratch0) (Memref.whole cc0_scratch1) f6 f7 z t g (k0_pay28 (arg3.view.readAt (Elt F) (Rect.unit (s := S256x128) ![0, 0] S256x128.size inb_S256x128_S256x128_0_0).toLoadRect f3))
      (stackD (arg4.view.readAt (Elt F) (Rect.unit (s := S256x128) ![0, 0] S256x128.size inb_S256x128_S256x128_0_0).toLoadRect f4)) A1 A2) $$ [H6 H7 HA HB]
    · intro k acc
      exact region1 Variants.none c none Set.univ i (Memref.whole main_v34) (Memref.isWhole_whole _) arg3 harg3 arg4 harg4 arg5 harg5
            arg6 harg6 arg7 harg7 arg8 harg8 arg9 harg9 arg10 harg10
            (Memref.whole main_v40_1) (Memref.isWhole_whole _) (Memref.whole main_v40_2) (Memref.isWhole_whole _)
            (Memref.whole cc0_scratch0) (Memref.isWhole_whole _) (Memref.whole cc0_scratch1) (Memref.isWhole_whole _)
            (Memref.whole cc0_scratch2) (Memref.isWhole_whole _) cc0_scratch3 _ _ _ _ _ _ _ _ _ _ _ (by rfl) _ _ f6 f7 z t g A1 A2 hx.suffix hx.upto hx.score hx.prod hx.total (fun r => by have := hx.place r; omega) _ _
    · unfold inv1
      isplitr
      · ipureintro
        exact carried_none z t g _
      isplitl [H6]; · iexact H6
      isplitl [H7]; · iexact H7
      isplitl [HA]
      · iexists _; isplitr; swap; · iexact HA
        ipureintro
        first
          | exact fun s l => (hg0 hf s l).trans (by rw [if_neg (by omega), add_zero])
          | exact fun s l => (cleared1 _ _ _ s l).trans (by rw [(hz hf s l).1, if_neg (by omega), add_zero])
      · iexists _; isplitr; swap; · iexact HB
        ipureintro
        first
          | exact fun s l => (hg1 hf s l).trans (by rw [if_neg (by omega), add_zero])
          | exact fun s l => (cleared2 _ _ _ s l).trans (by rw [(hz hf s l).2, if_neg (by omega), add_zero])
    iintro %acc HI
    unfold inv1
    icases HI with ⟨%hc, H6, H7, ⟨%fa, %hfa, HA⟩, ⟨%fb, %hfb, HB⟩⟩
    obtain ⟨a1, a2, a3⟩ := acc
    sl_exec (disch := first | sl_exact chk)
    sl_for (fun _ b => iprop(⌜b = (a1, a2, a3)⌝)) $$ []
    · intro k b
      exact absurd (lt_of_lt_of_eq k.isLt none2) (Nat.not_lt_zero _)
    · ipureintro; rfl
    iintro %b %hb
    subst hb
    have place := hx.place
    have hc : Carried z t g (fun s l => arg6.view.read (Elt F) f6 (ix2 s l)) (256 * ((i 1).val - 1)) (a1, a2, a3) := by rw [← trips1 i]; exact hc
    have hfa : Added (Memref.whole cc0_scratch0) A1 (addK z t g (k0_pay28 (arg3.view.readAt (Elt F) (Rect.unit (s := S256x128) ![0, 0] S256x128.size inb_S256x128_S256x128_0_0).toLoadRect f3)))
      (256 * ((i 1).val - 1)) fa := by rw [← trips1 i]; exact hfa
    have hfb : Added (Memref.whole cc0_scratch1) A2 (addV z t (stackD (arg4.view.readAt (Elt F) (Rect.unit (s := S256x128) ![0, 0] S256x128.size inb_S256x128_S256x128_0_0).toLoadRect f4)))
      (256 * ((i 1).val - 1)) fb := by rw [← trips1 i]; exact hfb
    by_cases last : k0_cond2 i = 1#1
    · sl_exec (disch := first | sl_exact chk | sl_exact last)
      sl_for (invCast c (Memref.whole cc0_scratch2) (Memref.whole cc0_scratch0) (fun s l => A1 s l + addK z t g (k0_pay28 (arg3.view.readAt (Elt F) (Rect.unit (s := S256x128) ![0, 0] S256x128.size inb_S256x128_S256x128_0_0).toLoadRect f3)) s l)) $$ [HA HS]
      · intro k acc
        exact region3 Variants.none c none Set.univ i (Memref.whole main_v34) (Memref.isWhole_whole _) arg3 harg3 arg4 harg4 arg5 harg5
            arg6 harg6 arg7 harg7 arg8 harg8 arg9 harg9 arg10 harg10
            (Memref.whole main_v40_1) (Memref.isWhole_whole _) (Memref.whole main_v40_2) (Memref.isWhole_whole _)
            (Memref.whole cc0_scratch0) (Memref.isWhole_whole _) (Memref.whole cc0_scratch1) (Memref.isWhole_whole _)
            (Memref.whole cc0_scratch2) (Memref.isWhole_whole _) cc0_scratch3 last _ k acc
      · unfold invCast
        isplitl [HA]
        · iexists _; isplitr; swap; · iexact HA
          ipureintro
          exact keys_stored i arg6.view arg7.view f6 f7 hx.suffix hx.upto hx.score hx.prod hx.total place hc (Memref.whole cc0_scratch0).view fa A1 hfa _ rfl
        · iexists _; isplitr; swap; · iexact HS
          ipureintro
          exact fun s l h => absurd h (by omega)
      iintro %u HI
      unfold invCast
      icases HI with ⟨⟨%fA, %hfA, HA⟩, ⟨%fS, %hfS, HS⟩⟩
      sl_exec (disch := first | sl_exact chk | sl_exact last)
      sl_for (invCast c (Memref.whole cc0_scratch2) (Memref.whole cc0_scratch1) (fun s l => A2 s l + addV z t (stackD (arg4.view.readAt (Elt F) (Rect.unit (s := S256x128) ![0, 0] S256x128.size inb_S256x128_S256x128_0_0).toLoadRect f4)) s l)) $$ [HB HS]
      · intro k acc
        exact region4 Variants.none c none Set.univ i (Memref.whole main_v34) (Memref.isWhole_whole _) arg3 harg3 arg4 harg4 arg5 harg5
            arg6 harg6 arg7 harg7 arg8 harg8 arg9 harg9 arg10 harg10
            (Memref.whole main_v40_1) (Memref.isWhole_whole _) (Memref.whole main_v40_2) (Memref.isWhole_whole _)
            (Memref.whole cc0_scratch0) (Memref.isWhole_whole _) (Memref.whole cc0_scratch1) (Memref.isWhole_whole _)
            (Memref.whole cc0_scratch2) (Memref.isWhole_whole _) cc0_scratch3 last _ k acc
      · unfold invCast
        isplitl [HB]
        · iexists _; isplitr; swap; · iexact HB
          ipureintro
          exact values_stored i arg6.view arg7.view f6 f7 hx.suffix hx.upto hx.score hx.prod hx.total place hc (Memref.whole cc0_scratch1).view fb A2 hfb _ rfl
        · iexists _; isplitr; swap; · iexact HS
          ipureintro
          exact fun s l h => absurd h (by omega)
      iintro %u' HI
      unfold invCast
      icases HI with ⟨⟨%fB, %hfB, HB⟩, ⟨%fS', %hfS', HS⟩⟩
      sl_exec (disch := first | sl_exact chk | sl_exact last)
      sl_step
      iapply Hk
      isplitl [H3]; · iexists _; isplitr; swap; · iexact H3
                      ipureintro; exact (View.readAt_full arg3.view f3 _).symm
      isplitl [H4]; · iexists _; isplitr; swap; · iexact H4
                      ipureintro; exact (View.readAt_full arg4.view f4 _).symm
      isplitl [H5]; · iexists _; isplitr; swap; · iexact H5
                      ipureintro; rfl
      isplitl [H6]; · iexists _; isplitr; swap; · iexact H6
                      ipureintro; rfl
      isplitl [H7]; · iexists _; isplitr; swap; · iexact H7
                      ipureintro; rfl
      isplitl [H8]; · iexists _; isplitr; swap; · iexact H8
                      ipureintro; rfl
      isplitl [H9]; · iexists _; isplitr; swap; · iexact H9
                      ipureintro; rfl
      isplitl [H10]
      · iexists _; isplitr; swap
        · iexists _; isplitr; swap; · iexact H10
          ipureintro; exact View.read_writes_full _ _ _ _ _
        ipureintro
        exact queries_stored i arg6.view arg7.view f6 f7 hx.suffix hx.upto hx.score hx.prod hx.total place hc
      isplitr [HW]; swap
      · iexists _; iexact HW
      isplitl [HT]; · iexact HT
      isplitl [HA]; · iexists _; isplitr; swap; · iexact HA
                      ipureintro; intro _; first | exact hfA | exact keys_stored i arg6.view arg7.view f6 f7 hx.suffix hx.upto hx.score hx.prod hx.total place hc (Memref.whole cc0_scratch0).view fa A1 hfa _ rfl
      isplitl [HB]; · iexists _; isplitr; swap; · iexact HB
                      ipureintro; intro _; first | exact hfB | exact values_stored i arg6.view arg7.view f6 f7 hx.suffix hx.upto hx.score hx.prod hx.total place hc (Memref.whole cc0_scratch1).view fb A2 hfb _ rfl
      isplitl [HS]; · iexists _; iexact HS
      rw [if_pos last]
      isplitl [HK]
      · iexists _; isplitr; swap; · iexact HK
        ipureintro
        exact sent_columns (Memref.whole main_v40_1).view r1 (k0_off7_inb i last) (off7_eq i) _ G1 hr1 fun s l j hj =>
          (hfS s l (lt_of_lt_of_eq (show (s : ℕ) < 1024 * 16 from s.isLt) (congrArg (1024 * ·) trips3.symm))).trans (hG last s l j hj).1.symm
      isplitl [HV]
      · iexists _; isplitr; swap; · iexact HV
        ipureintro
        exact sent_columns (Memref.whole main_v40_2).view r2 (k0_off7_inb i last) (off7_eq i) _ G2 hr2 fun s l j hj =>
          (hfS' s l (lt_of_lt_of_eq (show (s : ℕ) < 1024 * 16 from s.isLt) (congrArg (1024 * ·) trips4.symm))).trans (hG last s l j hj).2.symm
      iexact Hsem
    · sl_exec (disch := first | sl_exact chk | sl_exact last)
      sl_step
      iapply Hk
      isplitl [H3]; · iexists _; isplitr; swap; · iexact H3
                      ipureintro; exact (View.readAt_full arg3.view f3 _).symm
      isplitl [H4]; · iexists _; isplitr; swap; · iexact H4
                      ipureintro; exact (View.readAt_full arg4.view f4 _).symm
      isplitl [H5]; · iexists _; isplitr; swap; · iexact H5
                      ipureintro; rfl
      isplitl [H6]; · iexists _; isplitr; swap; · iexact H6
                      ipureintro; rfl
      isplitl [H7]; · iexists _; isplitr; swap; · iexact H7
                      ipureintro; rfl
      isplitl [H8]; · iexists _; isplitr; swap; · iexact H8
                      ipureintro; rfl
      isplitl [H9]; · iexists _; isplitr; swap; · iexact H9
                      ipureintro; rfl
      isplitl [H10]
      · iexists _; isplitr; swap
        · iexists _; isplitr; swap; · iexact H10
          ipureintro; exact View.read_writes_full _ _ _ _ _
        ipureintro
        exact queries_stored i arg6.view arg7.view f6 f7 hx.suffix hx.upto hx.score hx.prod hx.total place hc
      isplitr [HW]; swap
      · iexists _; iexact HW
      isplitl [HT]; · iexact HT
      isplitl [HA]; · iexists _; isplitr; swap; · iexact HA
                      ipureintro; intro _; first | exact hfA | exact keys_stored i arg6.view arg7.view f6 f7 hx.suffix hx.upto hx.score hx.prod hx.total place hc (Memref.whole cc0_scratch0).view fa A1 hfa _ rfl
      isplitl [HB]; · iexists _; isplitr; swap; · iexact HB
                      ipureintro; intro _; first | exact hfB | exact values_stored i arg6.view arg7.view f6 f7 hx.suffix hx.upto hx.score hx.prod hx.total place hc (Memref.whole cc0_scratch1).view fb A2 hfb _ rfl
      isplitl [HS]; · iexists _; iexact HS
      rw [if_neg last]
      isplitl [HK]; · iexists _; isplitr; swap; · iexact HK
                      ipureintro; exact hr1
      isplitl [HV]; · iexists _; isplitr; swap; · iexact HV
                      ipureintro; exact hr2
      iexact Hsem

end Cert.Attention.Valued

end
-- ==== Proof.Attention.RunV.lean ====
/- The attention gradient's run with its results: at each head pair's first query tile the accumulators start anew, so
that before a tile they hold the sum over the pair's earlier tiles; the 64 tiles' sums are the pair's columns of the
keys' and the values' gradient, and each tile's own result is its block of the queries' gradient. -/
module

public import proofs.«01_k».proof.Proof.Attention.Frame
public import proofs.«01_k».proof.Proof.Attention.StepV
public import Idealize.ShloMosaic.Lib.Pipeline.FrameValue

@[expose] public section

set_option maxRecDepth 16384
set_option maxHeartbeats 400000

noncomputable section

namespace Cert.Attention.Valued

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Finset
open Idealize.SL.BI.BIBase Idealize.SL.BI.Laws Idealize.SL.ProofMode Idealize.SL.Sem
open Idealize.ShloMosaic.Rounds
open Idealize.ShloMosaic.Pipeline (Dat BodyObligation)

theorem coord0 : ∀ t : Fin grid0.N, ((grid0.coords t) 0).val = t.val / 64 := by decide +kernel
theorem coord1 : ∀ t : Fin grid0.N, ((grid0.coords t) 1).val = t.val % 64 := by decide +kernel
theorem first_iff : ∀ i : grid0.Coords, first i ↔ (i 1).val = 0 := by decide +kernel
theorem last_iff : ∀ i : grid0.Coords, k0_cond2 i = 1#1 ↔ (i 1).val = 63 := by decide +kernel

variable (m : (ℓ : Loc nD τ sig) → Buf (Elt F) ℓ) (ρ : Dev nD → PrngReg)

/-- The blocks of one grid point: real scores, places and products of cotangents and values. -/
structure Points where
  z : ℕ → Fin 512 → ℕ → ℝ
  t : ℕ → Fin 512 → ℕ
  g : ℕ → Fin 512 → ℕ → EReal

/-- Every grid point's blocks are what `Facts` says. -/
abbrev Points.Holds (P : Points) : Prop := ∀ (c : Dev nD) (t : Fin (cfgM m).N),
  Facts (grid0.coords t) (iblk m c 0 t) (iblk m c 1 t) (iblk m c 2 t) (iblk m c 3 t) (iblk m c 4 t) (iblk m c 5 t) (iblk m c 6 t)
    (P.z t) (P.t t) (P.g t)

variable (P : Points)

/-- What point `n` adds to the two accumulators. -/
def addedK (c : Dev nD) (n : ℕ) (s : ℕ) (l : Fin 128) : EReal :=
  if h : n < (cfgM m).N then addK (P.z n) (P.t n) (P.g n) (k0_pay28 (iblk m c 0 ⟨n, h⟩)) s l else 0
def addedV (c : Dev nD) (n : ℕ) (s : ℕ) (l : Fin 128) : EReal :=
  if h : n < (cfgM m).N then addV (P.z n) (P.t n) (stackD (iblk m c 1 ⟨n, h⟩)) s l else 0

/-- The accumulators before point `n`. -/
def heldK (c : Dev nD) (n : ℕ) (s : Fin 16384) (l : Fin 128) : EReal := ∑ k ∈ range (n % 64), addedK m P c (64 * (n / 64) + k) s l
def heldW (c : Dev nD) (n : ℕ) (s : Fin 16384) (l : Fin 128) : EReal := ∑ k ∈ range (n % 64), addedV m P c (64 * (n / 64) + k) s l

/-- The keys' and the values' gradient. -/
def outK (c : Dev nD) (s : Fin 16384) (j : Fin 512) : EReal :=
  ∑ k ∈ range 64, addedK m P c (64 * ((j : ℕ) / 128) + k) s ⟨(j : ℕ) % 128, Nat.mod_lt _ (by norm_num)⟩
def outV (c : Dev nD) (s : Fin 16384) (j : Fin 512) : EReal :=
  ∑ k ∈ range 64, addedV m P c (64 * ((j : ℕ) / 128) + k) s ⟨(j : ℕ) % 128, Nat.mod_lt _ (by norm_num)⟩

/-- Sums over a pair's tiles, one tile on. -/
theorem tiles_next (f : ℕ → EReal) (n : ℕ) (h : (n + 1) % 64 ≠ 0) :
    (∑ k ∈ range (n % 64), f (64 * (n / 64) + k)) + f n = ∑ k ∈ range ((n + 1) % 64), f (64 * ((n + 1) / 64) + k) := by
  rw [show (n + 1) % 64 = n % 64 + 1 from by omega, show (n + 1) / 64 = n / 64 from by omega, sum_range_succ,
    show 64 * (n / 64) + n % 64 = n from by omega]
theorem tiles_all (f : ℕ → EReal) (n : ℕ) (h : n % 64 = 63) :
    (∑ k ∈ range (n % 64), f (64 * (n / 64) + k)) + f n = ∑ k ∈ range 64, f (64 * (n / 64) + k) := by
  have e : 64 * (n / 64) + 63 = n := by omega
  rw [h, sum_range_succ _ 63, e]

/-- The tile's queries' gradient. -/
def blockQ (c : Dev nD) (t : Fin (cfgM m).N) : Vec F S256x128 .bf16 :=
  fun j => dqOut (P.z t) (P.t t) (P.g t) (iblk m c 3 t) (j 0) (j 1)

/-- What is held between the points: before point `n` the sums over the pair's earlier tiles and the columns of the earlier pairs. -/
def between (c : Dev nD) (n : ℕ) : sProp (Res F) :=
  iprop(heldV c (n % 64 ≠ 0) (heldK m P c n) (heldW m P c n) (128 * (n / 64)) (outK m P c) (outV m P c) ∗ ∃ r, prngReg c r)

/-- The proof data. -/
def data (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockQ m P c t
    | ⟨_ + 8, h⟩ => absurd h (Nat.not_lt.2 (Nat.le_add_left _ _))
  Φ t := between m P c t.val
  q := Pipeline.shareOf spec0
  owed _ := 0

theorem data_A (c : Dev nD) (w : Fin (cfgM m).W) : (data m P 0 c).A w = V m c (Pipeline.arrRef spec0 w) := by
  dsimp only [data]
theorem data_Phi (c : Dev nD) (t : Fin ((cfgM m).N + 1)) : (data m P 0 c).Φ t = between m P c t.val := by dsimp only [data]
theorem data_owed (c : Dev nD) (t : Fin ((cfgM m).N + 1)) : (data m P 0 c).owed t = 0 := by dsimp only [data]
theorem after_in (c : Dev nD) (t : Fin (cfgM m).N) :
    (data m P 0 c).after 0 t = iblk m c 0 t ∧ (data m P 0 c).after 1 t = iblk m c 1 t ∧ (data m P 0 c).after 2 t = iblk m c 2 t
    ∧ (data m P 0 c).after 3 t = iblk m c 3 t ∧ (data m P 0 c).after 4 t = iblk m c 4 t ∧ (data m P 0 c).after 5 t = iblk m c 5 t
    ∧ (data m P 0 c).after 6 t = iblk m c 6 t ∧ (data m P 0 c).after 7 t = blockQ m P c t := by
  dsimp only [data]
  exact ⟨rfl, rfl, rfl, rfl, rfl, rfl, rfl, rfl⟩
theorem before_in (c : Dev nD) (t : Fin (cfgM m).N) :
    (∀ d, (data m P 0 c).before 0 t d = iblk m c 0 t) ∧ (∀ d, (data m P 0 c).before 1 t d = iblk m c 1 t)
    ∧ (∀ d, (data m P 0 c).before 2 t d = iblk m c 2 t) ∧ (∀ d, (data m P 0 c).before 3 t d = iblk m c 3 t)
    ∧ (∀ d, (data m P 0 c).before 4 t d = iblk m c 4 t) ∧ (∀ d, (data m P 0 c).before 5 t d = iblk m c 5 t)
    ∧ (∀ d, (data m P 0 c).before 6 t d = iblk m c 6 t) := by
  refine ⟨fun d => ?_, fun d => ?_, fun d => ?_, fun d => ?_, fun d => ?_, fun d => ?_, fun d => ?_⟩
  all_goals
    refine ((data m P 0 c).before_in_eq_fetched _ rfl (fun _ => rfl) (fun _ _ _ => rfl) (fun t => ?_) t d).trans ?_
    · obtain ⟨h0, h1, h2, h3, h4, h5, h6, -⟩ := after_in m P c t
      first | rw [h0] | rw [h1] | rw [h2] | rw [h3] | rw [h4] | rw [h5] | rw [h6]
      unfold Dat.blockOf iblk; rw [data_A]; try rfl
    · unfold Dat.fetched Dat.blockOf iblk; rw [data_A]; try rfl

def pre (c : Dev nD) (t : Fin (cfgM m).N) : sProp (Res F) :=
  iprop((data m P 0 c).Φ t.castSucc ∗ (data m P 0 c).owesAt () t.castSucc
    ∗ (∃ d, owns (c : Thread nD τ) (st0 m t) fullShare ((data m P 0 c).before 0 t d))
    ∗ (∃ d, owns (c : Thread nD τ) (st1 m t) fullShare ((data m P 0 c).before 1 t d))
    ∗ (∃ d, owns (c : Thread nD τ) (st2 m t) fullShare ((data m P 0 c).before 2 t d))
    ∗ (∃ d, owns (c : Thread nD τ) (st3 m t) fullShare ((data m P 0 c).before 3 t d))
    ∗ (∃ d, owns (c : Thread nD τ) (st4 m t) fullShare ((data m P 0 c).before 4 t d))
    ∗ (∃ d, owns (c : Thread nD τ) (st5 m t) fullShare ((data m P 0 c).before 5 t d))
    ∗ (∃ d, owns (c : Thread nD τ) (st6 m t) fullShare ((data m P 0 c).before 6 t d))
    ∗ (∃ d, owns (c : Thread nD τ) (st7 m t) fullShare ((data m P 0 c).before 7 t d)))
def post (c : Dev nD) (t : Fin (cfgM m).N) : sProp (Res F) :=
  iprop((data m P 0 c).Φ t.succ ∗ (data m P 0 c).owesAt () t.succ
    ∗ owns (c : Thread nD τ) (st0 m t) fullShare ((data m P 0 c).after 0 t)
    ∗ owns (c : Thread nD τ) (st1 m t) fullShare ((data m P 0 c).after 1 t)
    ∗ owns (c : Thread nD τ) (st2 m t) fullShare ((data m P 0 c).after 2 t)
    ∗ owns (c : Thread nD τ) (st3 m t) fullShare ((data m P 0 c).after 3 t)
    ∗ owns (c : Thread nD τ) (st4 m t) fullShare ((data m P 0 c).after 4 t)
    ∗ owns (c : Thread nD τ) (st5 m t) fullShare ((data m P 0 c).after 5 t)
    ∗ owns (c : Thread nD τ) (st6 m t) fullShare ((data m P 0 c).after 6 t)
    ∗ owns (c : Thread nD τ) (st7 m t) fullShare ((data m P 0 c).after 7 t))

variable (hP : P.Holds m)

include hP in
theorem sound (c : Dev nD) (t : Fin (cfgM m).N) :
    pre m P c t ⊢ wp frame (wpE (defs₀ (F := F)) Variants.none c none) Set.univ (bodyAt m t) (fun _ => post m P c t) := by
  have ht : t.val < 256 := lt_of_lt_of_eq t.isLt N_0
  have c0 := coord0 t
  have c1 := coord1 t
  have isf := first_iff (grid0.coords t)
  have isl := last_iff (grid0.coords t)
  have eK : ∀ s l, addedK m P c t.val s l = addK (P.z t) (P.t t) (P.g t) (k0_pay28 (iblk m c 0 t)) s l := fun s l => by
    unfold addedK; rw [dif_pos t.isLt]
  have eV : ∀ s l, addedV m P c t.val s l = addV (P.z t) (P.t t) (stackD (iblk m c 1 t)) s l := fun s l => by
    unfold addedV; rw [dif_pos t.isLt]
  obtain ⟨b0, b1, b2, b3, b4, b5, b6⟩ := before_in m P c t
  obtain ⟨a0, a1, a2, a3, a4, a5, a6, a7⟩ := after_in m P c t
  unfold pre post bodyAt
  simp only [b0, b1, b2, b3, b4, b5, b6, a0, a1, a2, a3, a4, a5, a6, a7]
  rw [data_Phi m P c t.succ, data_Phi m P c t.castSucc, Fin.val_succ, Fin.val_castSucc]
  unfold between
  unfold Dat.owesAt Pipeline.owesWithin
  rw [data_owed m P c t.succ, data_owed m P c t.castSucc]
  iintro ⟨⟨⟨HT, ⟨%f0, %hf0, HS0⟩, ⟨%f1, %hf1, HS1⟩, HS2, HR1, HR2, Hq⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (step c (grid0.coords t) _ _ _ _ _ _ _ _ _ _ _ _ _ _ _ _ (iblk m c 0 t) (iblk m c 1 t) (iblk m c 2 t) (iblk m c 3 t) (iblk m c 4 t) (iblk m c 5 t) (iblk m c 6 t)
    (P.z t) (P.t t) (P.g t) (hP c t) (heldK m P c t.val) (heldW m P c t.val)
    (fun h s l => by
      have h0 : t.val % 64 = 0 := by rw [← c1]; exact isf.mp h
      unfold heldK heldW; rw [h0]; exact ⟨rfl, rfl⟩)
    (outK m P c) (outV m P c)
    (fun h s l j hj => by
      have h63 : t.val % 64 = 63 := by rw [← c1]; exact isl.mp h
      have j1 : (j : ℕ) / 128 = t.val / 64 := by rw [hj, c0]; have := l.isLt; omega
      have j2 : (⟨(j : ℕ) % 128, Nat.mod_lt _ (by norm_num)⟩ : Fin 128) = l := Fin.ext (by show (j : ℕ) % 128 = l; rw [hj]; have := l.isLt; omega)
      refine ⟨?_, ?_⟩
      · refine Eq.trans ?_ (congrArg (heldK m P c t.val s l + ·) (eK s l))
        unfold outK heldK; rw [j1, j2]; exact (tiles_all (fun n => addedK m P c n s l) t.val h63).symm
      · refine Eq.trans ?_ (congrArg (heldW m P c t.val s l + ·) (eV s l))
        unfold outV heldW; rw [j1, j2]; exact (tiles_all (fun n => addedV m P c n s l) t.val h63).symm)
    W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT HS0 HS1 HS2 HR1 HR2 Hq]
  · isplitl [HT]; · iexact HT
    isplitl [HS0]; · iexists _; isplitr; swap; · iexact HS0
                     ipureintro; exact fun h => hf0 fun e => h (isf.mpr (c1.trans e))
    isplitl [HS1]; · iexists _; isplitr; swap; · iexact HS1
                     ipureintro; exact fun h => hf1 fun e => h (isf.mpr (c1.trans e))
    isplitl [HS2]; · iexact HS2
    rw [c0]
    isplitl [HR1]; · iexact HR1
    isplitl [HR2]; · iexact HR2
    iexact Hq
  isplitl [HW]; · iexact HW
  rw [show (if k0_cond2 (grid0.coords t) = 1#1 then 128 * (((grid0.coords t) 0).val + 1) else 128 * ((grid0.coords t) 0).val)
    = 128 * ((t.val + 1) / 64) from by
      rw [c0]
      by_cases h : k0_cond2 (grid0.coords t) = 1#1
      · rw [if_pos h]; have := isl.mp h; omega
      · rw [if_neg h]; have : ((grid0.coords t) 1).val ≠ 63 := fun e => h (isl.mpr e); omega]
  iintro ⟨H0, H1, H2, H3, H4, H5, H6, ⟨%d, %hd, H7⟩, ⟨HT, ⟨%g0, %hg0, HS0⟩, ⟨%g1, %hg1, HS1⟩, HS2, HR1, HR2, Hq⟩, ⟨%W', HW'⟩⟩
  isplitl [HS0 HS1 HS2 Hg Hq HR1 HR2 HT]
  · isplitr [Hg]
    · isplitl [HT]; · iexact HT
      isplitl [HS0]; · iexists _; isplitr; swap; · iexact HS0
                       ipureintro
                       exact fun h s l => (hg0 trivial s l).trans ((congrArg (heldK m P c t.val s l + ·) (eK s l).symm).trans
                         (tiles_next (fun n => addedK m P c n s l) t.val h))
      isplitl [HS1]; · iexists _; isplitr; swap; · iexact HS1
                       ipureintro
                       exact fun h s l => (hg1 trivial s l).trans ((congrArg (heldW m P c t.val s l + ·) (eV s l).symm).trans
                         (tiles_next (fun n => addedV m P c n s l) t.val h))
      isplitl [HS2]; · iexact HS2
      isplitl [HR1]; · iexact HR1
      isplitl [HR2]; · iexact HR2
      iexact Hq
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  obtain rfl : d = blockQ m P c t := funext fun j => by
    rw [eq_ix2 j]; exact hd (j 0) (j 1)
  iexact H7

include hP in
theorem obligation (c : Dev nD) :
    BodyObligation (data m P 0 c) (defs₀ (F := F)) Variants.none () Set.univ := fun t => by
  rw [bigSep_W0, bigSep_W0, defs₀_row]
  exact triple_restated (sound m P hP c t) rfl .rfl fun _ => .rfl

/-- The two results' contents in memory. -/
def written (c : Dev nD) : (b : Ref sig .tc) → Buf (Elt F) ((c.tc : Thread nD τ).loc b) :=
  Function.update (Function.update (V m c) main_v40_1 (fun j : S16384x512.Idx => outK m P c (j 0) (j 1) : S16384x512.Idx → Elt F .bf16)) main_v40_2
    (fun j : S16384x512.Idx => outV m P c (j 0) (j 1) : S16384x512.Idx → Elt F .bf16)
theorem written_1 (c : Dev nD) : written m P c main_v40_1 = (fun j : S16384x512.Idx => outK m P c (j 0) (j 1) : S16384x512.Idx → Elt F .bf16) := by
  unfold written; rw [Function.update_of_ne (by decide), Function.update_self]
theorem written_2 (c : Dev nD) : written m P c main_v40_2 = (fun j : S16384x512.Idx => outV m P c (j 0) (j 1) : S16384x512.Idx → Elt F .bf16) := by
  unfold written; rw [Function.update_self]

theorem at_whole (c : Dev nD) (b : Ref sig .tc) (f : Buf (Elt F) ((c : Thread nD τ).loc b)) :
    (iprop((Memref.whole b).view.loc (c : Thread nD τ) ↦[(Memref.whole b).view.set]{fullShare} f) : sProp (Res F))
      = iprop(((c : Thread nD τ).loc b) ↦{fullShare} f) := by
  show iprop((Memref.whole b).view.loc (c : Thread nD τ) ↦[(View.whole b).set]{fullShare} f) = _
  rw [View.set_whole]

/-- What is held around the points, conjunct by conjunct. -/
theorem ends_eq (G : (c : Dev nD) → (b : Ref sig .tc) → Buf (Elt F) ((c.tc : Thread nD τ).loc b)) (c : Dev nD) :
    (Pipeline.ΦDRG osem0 spec0 H0 R0 (V m) G c : sProp (Res F))
      = iprop(iprop(some_at c (Memref.whole cc0_scratch0) ∗ some_at c (Memref.whole cc0_scratch1) ∗ some_at c (Memref.whole cc0_scratch2))
          ∗ (∃ r, prngReg c r) ∗ semVal ((c : Thread nD τ), SemLoc.dma 14) 0 ∗ BI.emp
          ∗ iprop(((Memref.whole main_v40_1).view.loc (c : Thread nD τ) ↦[(Memref.whole main_v40_1).view.set]{fullShare} G c main_v40_1)
            ∗ ((Memref.whole main_v40_2).view.loc (c : Thread nD τ) ↦[(Memref.whole main_v40_2).view.set]{fullShare} G c main_v40_2))) := by
  rw [Pipeline.ΦDRG_eq, scopedRest0_eq, ownSems00_eq, hbm0_eq]
  unfold Pipeline.routed; rw [BI.bigSep_eq_bigSepL_of_eq [main_v40_1, main_v40_2] (by decide) (by decide)]
  rw [at_s0, at_s1, at_s2, at_whole, at_whole]; rfl

theorem enter (c : Dev nD) :
    iprop(Pipeline.ΦDRG osem0 spec0 H0 R0 (V m) (V m) c ∗ Pipeline.ΦT pre0 (table m) c) ⊢ between m P c 0 := by
  rw [ends_eq, PhiT0_eq]
  unfold between
  iintro ⟨⟨⟨⟨%f0, HS0⟩, ⟨%f1, HS1⟩, HS2⟩, Hg, Hq, -, HR1, HR2⟩, HT⟩
  isplitr [Hg]
  · isplitl [HT]; · iexact HT
    isplitl [HS0]; · iexists _; isplitr; swap; · iexact HS0
                     ipureintro; exact fun h => absurd rfl h
    isplitl [HS1]; · iexists _; isplitr; swap; · iexact HS1
                     ipureintro; exact fun h => absurd rfl h
    isplitl [HS2]; · iexact HS2
    isplitl [HR1]; · iexists _; isplitr; swap; · iexact HR1
                     ipureintro; exact fun s j h => absurd h (by omega)
    isplitl [HR2]; · iexists _; isplitr; swap; · iexact HR2
                     ipureintro; exact fun s j h => absurd h (by omega)
    iexact Hq
  iexact Hg

theorem leave (c : Dev nD) : between m P c 256 ⊢ Pipeline.ΦDRG osem0 spec0 H0 R0 (V m) (written m P) c := by
  rw [ends_eq, written_1, written_2]
  unfold between
  iintro ⟨⟨HT, ⟨%f0, -, HS0⟩, ⟨%f1, -, HS1⟩, HS2, ⟨%r1, %h1, HR1⟩, ⟨%r2, %h2, HR2⟩, Hq⟩, Hg⟩
  obtain rfl : r1 = (fun j : S16384x512.Idx => outK m P c (j 0) (j 1) : S16384x512.Idx → Elt F .bf16) :=
    funext fun j => by rw [eq_ix2 (n0 := 16384) (n1 := 512) j]; exact h1 (j 0) (j 1) (j 1).isLt
  obtain rfl : r2 = (fun j : S16384x512.Idx => outV m P c (j 0) (j 1) : S16384x512.Idx → Elt F .bf16) :=
    funext fun j => by rw [eq_ix2 (n0 := 16384) (n1 := 512) j]; exact h2 (j 0) (j 1) (j 1).isLt
  isplitl [HS0 HS1 HS2]
  · isplitl [HS0]; · iexists _; iexact HS0
    isplitl [HS1]; · iexists _; iexact HS1
    iexact HS2
  isplitl [Hg]; · iexact Hg
  isplitl [Hq]; · iexact Hq
  isplitr; · iempintro
  isplitl [HR1]; · iexact HR1
  iexact HR2

set_option backward.isDefEq.respectTransparency.types false in
include hP in
theorem run_main : θ_run defs (onTc (τ := τ) (main (F := F))) (s₀ m ρ) (fun r =>
    Pipeline.FramePostRG (Pipeline.pin pcfgs (fun _ => adm m)) (data m P) 0 R0 (V m) (written m P) r) :=
  Pipeline.θ_run_frameP_dmaRG_shared pcfgs (fun _ => adm m) (data m P) (0 : Fin 1) launch₀0 osem0 defs₀ Variants.none
    ownSemFacts0 H0 R0 H0_sub R0_sub m ρ main
    (hbody := fun c => (obligation m P hP c).loose) (hq := fun _ _ _ => rfl) (howed := fun c t => data_owed m P c t) (V := V m)
    (hmain := hmain m Variants.none) (hA := data_A m P) (hpf := V_pre m) (G := written m P)
    (hin := fun c => by rw [data_Phi]; exact enter m P c) (hout := fun c => by rw [data_Phi]; exact leave m P c)

include hP in
/-- The run: each of the three results, and the arguments kept. -/
theorem run_values : θ_run defs (onTc (τ := τ) (main (F := F))) ⟨m, fun _ => 0, ρ⟩ (fun r => ∀ c : Dev nD,
      r.2.mem ((c.tc : Thread nD τ).loc main_v40_0) = (data m P 0 c).arrAt 7 (cfgM m).N
      ∧ r.2.mem ((c.tc : Thread nD τ).loc main_v40_1) = (fun j : S16384x512.Idx => outK m P c (j 0) (j 1) : S16384x512.Idx → Elt F .bf16)
      ∧ r.2.mem ((c.tc : Thread nD τ).loc main_v40_2) = (fun j : S16384x512.Idx => outV m P c (j 0) (j 1) : S16384x512.Idx → Elt F .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c).1 7, (h.2 c main_v40_1 (by decide)).trans (written_1 m P c), (h.2 c main_v40_2 (by decide)).trans (written_2 m P c),
     ((h.1 c).2 main_arg0 (Finset.mem_sdiff.mpr ⟨Pipeline.mem_restRefs_of main_arg0 (by decide)
      (show ∀ w : Fin 8, (spec0 w).arr.view.ref ≠ main_arg0 by decide), by decide⟩)).trans (V_arg0 m c),
     ((h.1 c).2 main_arg1 (Finset.mem_sdiff.mpr ⟨Pipeline.mem_restRefs_of main_arg1 (by decide)
      (show ∀ w : Fin 8, (spec0 w).arr.view.ref ≠ main_arg1 by decide), by decide⟩)).trans (V_arg1 m c),
     ((h.1 c).2 main_arg2 (Finset.mem_sdiff.mpr ⟨Pipeline.mem_restRefs_of main_arg2 (by decide)
      (show ∀ w : Fin 8, (spec0 w).arr.view.ref ≠ main_arg2 by decide), by decide⟩)).trans (V_arg2 m c)⟩)
    (run_main m ρ P hP)

end Cert.Attention.Valued

end
-- ==== Proof.Attention.Host.lean ====
module

public import proofs.«01_k».proof.Proof.Attention.RunV
public import proofs.«01_k».proof.Proof.Attention.Formula
public import Idealize.ShloMosaic.Lib.Claim
public import Idealize.ShloMosaic.Lib.StableHlo.ReadAt

/-!
# What the host lines hand to the call

The arrays that the call stages, element by element in terms of the arguments.
-/

@[expose] public section

set_option maxRecDepth 16384
set_option maxHeartbeats 1000000

noncomputable section

namespace Cert.Attention.Valued

open Cert.Kernel2Ideal Cert.Kernel2Ideal.Gen
open Idealize.ShloMosaic Idealize.ShloMosaic.TcCoe Idealize.SL.Sem Cert.Maths Finset

variable (m : (ℓ : Loc nD τ sig) → Buf (Elt F) ℓ) (c : Dev nD)

/-- The queries. -/
abbrev argQ : S16384x512.Idx → EReal := m ((c : Thread nD τ).loc main_arg0)

/-- The keys, the values behind them. -/
abbrev argKV : S16384x1024.Idx → EReal := m ((c : Thread nD τ).loc main_arg1)

/-- The cotangent. -/
abbrev argDO : S16384x512.Idx → EReal := m ((c : Thread nD τ).loc main_arg2)

/-- The staged queries are scaled. -/
theorem V_q (p : Fin 16384) (j : Fin 512) :
    (V m c main_v37 (ix2 p j : S16384x512.Idx) : EReal) = at2 (argQ m c) p j * ((1 / 8 : ℝ) : EReal) := by
  rw [at2_ix, ← bits_eighth]
  unfold V
  after_reads_at

/-- The cotangent is staged as it is. -/
theorem V_do (p : Fin 16384) (j : Fin 512) : (V m c main_v39 (ix2 p j : S16384x512.Idx) : EReal) = at2 (argDO m c) p j := by
  rw [at2_ix]
  unfold V
  after_reads_at

/-- So are the keys and values. -/
theorem V_kv (p : Fin 16384) (j : Fin 1024) : (V m c main_v38 (ix2 p j : S16384x1024.Idx) : EReal) = at2 (argKV m c) p j := by
  rw [at2_ix]
  unfold V
  after_reads_at

/-- A comparison of two small numbers, as a number. -/
theorem flag_ge (x y : Fin 256) : (FloatOps.uitofp (F := F) FTy.bf16 (IntOp.cmpi .sge (BitVec.ofNat 32 x) (BitVec.ofNat 32 y)) : EReal)
    = if (y : ℕ) ≤ x then 1 else 0 := by
  have h := WordCmp.cmpi_sge_ofNat (w := 32) (a := (x : ℕ)) (b := (y : ℕ)) (by omega) (by omega)
  rw [h]
  by_cases hxy : (y : ℕ) ≤ x
  · rw [if_pos hxy, decide_eq_true hxy]; show (((1 : ℕ) : ℝ) : EReal) = 1; simp
  · rw [if_neg hxy, decide_eq_false hxy]; show (((0 : ℕ) : ℝ) : EReal) = 0; simp

/-- The other comparison. -/
theorem flag_le (x y : Fin 256) : (FloatOps.uitofp (F := F) FTy.bf16 (IntOp.cmpi .sle (BitVec.ofNat 32 x) (BitVec.ofNat 32 y)) : EReal)
    = if (x : ℕ) ≤ y then 1 else 0 := by
  have h := WordCmp.cmpi_sle_ofNat (w := 32) (a := (x : ℕ)) (b := (y : ℕ)) (by omega) (by omega)
  rw [h]
  by_cases hxy : (x : ℕ) ≤ y
  · rw [if_pos hxy, decide_eq_true hxy]; show (((1 : ℕ) : ℝ) : EReal) = 1; simp
  · rw [if_neg hxy, decide_eq_false hxy]; show (((0 : ℕ) : ℝ) : EReal) = 0; simp

/-- The triangle that sums from a key on. -/
theorem V_suffix (x y : Fin 256) : (V m c main_v27 (ix2 x y : S256x256.Idx) : EReal) = (if (y : ℕ) ≤ x then 1 else 0 : EReal) := by
  rw [← flag_ge]
  unfold V
  after_reads_at

/-- The triangle that sums up to a key. -/
theorem V_upto (x y : Fin 256) : (V m c main_v33 (ix2 x y : S256x256.Idx) : EReal) = (if (x : ℕ) ≤ y then 1 else 0 : EReal) := by
  rw [← flag_le]
  unfold V
  after_reads_at

variable {m c}

/-- The total over the keys before the query. -/
theorem V_total (hq : RealHeads (argQ m c)) (hk : RealHeads (argKV m c)) (p : Fin 16384) (j : Fin 512) :
    (V m c main_v20 (ix2 p j : S16384x512.Idx) : EReal)
      = ((∑ s ∈ range p, lg (score (argQ m c) (argKV m c) (j / 64) p s) : ℝ) : EReal) := by
  have hb := total_before (fun s => lg (score (argQ m c) (argKV m c) (j / 64) p s)) p p.isLt.le
  rw [← hb]
  unfold V
  after_reads_at
  refine Finset.sum_congr rfl fun x _ => ?_
  have e := score_after hq hk (h := (j : ℕ) / 64) (by omega) p x
  have := p.isLt
  have := x.isLt
  have e' : (∑ d : Fin 64, at2 (argQ m c) p ((j : ℕ) / 64 * 64 + d) * at2 (argKV m c) x ((j : ℕ) / 64 * 64 + d))
      = ∑ d : Fin 64, argQ m c (ix2 p ⟨(j : ℕ) / 64 * 64 + d, by omega⟩) * argKV m c (ix2 x ⟨(j : ℕ) / 64 * 64 + d, by omega⟩) :=
    Finset.sum_congr rfl fun d _ => by rw [at2_mk _ p.isLt, at2_mk _ x.isLt]
  rw [e', ← bits_eighth] at e
  have e2 : ∀ z : EReal, - -z = z := neg_neg
  simp only [e2]
  exact gap p x e rfl

end Cert.Attention.Valued

end
end
-- ==== Proof.Attention.Points.lean ====
module

public import proofs.«01_k».proof.Proof.Attention.Host

/-!
# What the kernel meets at each grid point

The staged blocks, read in the arguments, and what they make of the scores, of the products with the
cotangent and of the totals at every point of the grid.
-/

@[expose] public section

set_option maxRecDepth 16384
set_option maxHeartbeats 1000000

noncomputable section

namespace Cert.Attention.Valued

open Cert.Kernel2Ideal Cert.Kernel2Ideal.Gen
open Idealize.ShloMosaic Idealize.ShloMosaic.TcCoe Idealize.SL.Sem Cert.Maths Finset

/-- Which block each window holds at each point. -/
theorem idx : ∀ t : Fin grid0.N, cc0_transform_0 (grid0.coords t) = ![t.val % 64, t.val / 64] ∧ cc0_transform_1 (grid0.coords t) = ![t.val % 64, t.val / 64]
    ∧ cc0_transform_2 (grid0.coords t) = ![t.val % 64, t.val / 64] ∧ cc0_transform_3 (grid0.coords t) = ![0, t.val / 64]
    ∧ cc0_transform_4 (grid0.coords t) = ![0, 4 + t.val / 64] ∧ cc0_transform_5 (grid0.coords t) = ![0, 0]
    ∧ cc0_transform_6 (grid0.coords t) = ![0, 0] ∧ cc0_transform_7 (grid0.coords t) = ![t.val % 64, t.val / 64] := by
  decide +kernel

variable (m : (ℓ : Loc nD τ sig) → Buf (Elt F) ℓ) (c : Dev nD)

/-- The block of queries. -/
theorem blk0 (t : Fin (cfgM m).N) (a : Fin 256) (l : Fin 128) : (iblk m c 0 t (ix2 a l : S256x128.Idx) : EReal)
    = at2 (argQ m c) (t.val % 64 * 256 + a) (t.val / 64 * 128 + l) * ((1 / 8 : ℝ) : EReal) := by
  have ht : t.val < 256 := t.isLt
  refine Eq.trans (congrArg (V m c main_v37) (funext fun k => Fin.ext ?_)) (V_q m c ⟨t.val % 64 * 256 + a, by omega⟩ ⟨t.val / 64 * 128 + l, by omega⟩)
  refine (Pipeline.Window.rect_emb_val ((cfgM m).win 0) t _ k rfl).trans ?_
  have e : ((cfgM m).win 0).index t = _ := (idx t).1
  rw [e]
  match k with
  | ⟨0, _⟩ => rfl
  | ⟨1, _⟩ => rfl

/-- The block of cotangents. -/
theorem blk1 (t : Fin (cfgM m).N) (a : Fin 256) (l : Fin 128) : (iblk m c 1 t (ix2 a l : S256x128.Idx) : EReal)
    = at2 (argDO m c) (t.val % 64 * 256 + a) (t.val / 64 * 128 + l) := by
  have ht : t.val < 256 := t.isLt
  refine Eq.trans (congrArg (V m c main_v39) (funext fun k => Fin.ext ?_)) (V_do m c ⟨t.val % 64 * 256 + a, by omega⟩ ⟨t.val / 64 * 128 + l, by omega⟩)
  refine (Pipeline.Window.rect_emb_val ((cfgM m).win 1) t _ k rfl).trans ?_
  have e : ((cfgM m).win 1).index t = _ := (idx t).2.1
  rw [e]
  match k with
  | ⟨0, _⟩ => rfl
  | ⟨1, _⟩ => rfl

/-- The block of totals. -/
theorem blk2 (hq : RealHeads (argQ m c)) (hk : RealHeads (argKV m c)) (t : Fin (cfgM m).N) (a : Fin 256) (l : Fin 128) :
    (iblk m c 2 t (ix2 a l : S256x128.Idx) : EReal)
    = ((∑ s ∈ range (t.val % 64 * 256 + a), lg (score (argQ m c) (argKV m c) ((t.val / 64 * 128 + l) / 64) (t.val % 64 * 256 + a) s) : ℝ) : EReal) := by
  have ht : t.val < 256 := t.isLt
  refine Eq.trans (congrArg (V m c main_v20) (funext fun k => Fin.ext ?_))
    (V_total hq hk ⟨t.val % 64 * 256 + a, by omega⟩ ⟨t.val / 64 * 128 + l, by omega⟩)
  refine (Pipeline.Window.rect_emb_val ((cfgM m).win 2) t _ k rfl).trans ?_
  have e : ((cfgM m).win 2).index t = _ := (idx t).2.2.1
  rw [e]
  match k with
  | ⟨0, _⟩ => rfl
  | ⟨1, _⟩ => rfl

/-- The heads' keys. -/
theorem blk3 (t : Fin (cfgM m).N) (a : Fin 16384) (l : Fin 128) : (iblk m c 3 t (ix2 a l : S16384x128.Idx) : EReal)
    = at2 (argKV m c) a (t.val / 64 * 128 + l) := by
  have ht : t.val < 256 := t.isLt
  refine Eq.trans (congrArg (V m c main_v38) (funext fun k => Fin.ext ?_)) (V_kv m c a ⟨t.val / 64 * 128 + l, by omega⟩)
  refine (Pipeline.Window.rect_emb_val ((cfgM m).win 3) t _ k rfl).trans ?_
  have e : ((cfgM m).win 3).index t = _ := (idx t).2.2.2.1
  rw [e]
  match k with
  | ⟨0, _⟩ => exact (by omega : 0 * 16384 + (a : ℕ) = a)
  | ⟨1, _⟩ => rfl

/-- The heads' values. -/
theorem blk4 (t : Fin (cfgM m).N) (a : Fin 16384) (l : Fin 128) : (iblk m c 4 t (ix2 a l : S16384x128.Idx) : EReal)
    = at2 (argKV m c) a ((4 + t.val / 64) * 128 + l) := by
  have ht : t.val < 256 := t.isLt
  refine Eq.trans (congrArg (V m c main_v38) (funext fun k => Fin.ext ?_)) (V_kv m c a ⟨(4 + t.val / 64) * 128 + l, by omega⟩)
  refine (Pipeline.Window.rect_emb_val ((cfgM m).win 4) t _ k rfl).trans ?_
  have e : ((cfgM m).win 4).index t = _ := (idx t).2.2.2.2.1
  rw [e]
  match k with
  | ⟨0, _⟩ => exact (by omega : 0 * 16384 + (a : ℕ) = a)
  | ⟨1, _⟩ => rfl

/-- The triangles are whole. -/
theorem blk5 (t : Fin (cfgM m).N) (a b : Fin 256) : (iblk m c 5 t (ix2 a b : S256x256.Idx) : EReal) = (if (b : ℕ) ≤ a then 1 else 0 : EReal) := by
  refine Eq.trans (congrArg (V m c main_v27) (funext fun k => Fin.ext ?_)) (V_suffix m c a b)
  refine (Pipeline.Window.rect_emb_val ((cfgM m).win 5) t _ k rfl).trans ?_
  have e : ((cfgM m).win 5).index t = _ := (idx t).2.2.2.2.2.1
  rw [e]
  match k with
  | ⟨0, _⟩ => exact (by omega : 0 * 256 + (a : ℕ) = a)
  | ⟨1, _⟩ => exact (by omega : 0 * 256 + (b : ℕ) = b)

/-- The other triangle. -/
theorem blk6 (t : Fin (cfgM m).N) (a b : Fin 256) : (iblk m c 6 t (ix2 a b : S256x256.Idx) : EReal) = (if (a : ℕ) ≤ b then 1 else 0 : EReal) := by
  refine Eq.trans (congrArg (V m c main_v33) (funext fun k => Fin.ext ?_)) (V_upto m c a b)
  refine (Pipeline.Window.rect_emb_val ((cfgM m).win 6) t _ k rfl).trans ?_
  have e : ((cfgM m).win 6).index t = _ := (idx t).2.2.2.2.2.2.1
  rw [e]
  match k with
  | ⟨0, _⟩ => exact (by omega : 0 * 256 + (a : ℕ) = a)
  | ⟨1, _⟩ => exact (by omega : 0 * 256 + (b : ℕ) = b)

/-- A sum over the lanes of one of two heads. -/
theorem head_lanes (f : ℕ → EReal) (b : ℕ) (hb : b < 2) :
    (∑ l : Fin 128, if b = (l : ℕ) / 64 then f l else 0) = ∑ d : Fin 64, f (b * 64 + d) := by
  rw [Fin.sum_univ_eq_sum_range (fun l => if b = l / 64 then f l else 0) 128, Fin.sum_univ_eq_sum_range (fun d => f (b * 64 + d)) 64,
    ← Finset.sum_filter]
  refine Finset.sum_nbij' (fun l => l - b * 64) (fun d => b * 64 + d) ?_ ?_ ?_ ?_ ?_ <;> intro x <;>
    simp only [mem_filter, mem_range] <;> intros <;> (try congr 1) <;> omega

/-- The head and the position of a stacked row at a point. -/
abbrev headAt (n : ℕ) (r : Fin 512) : ℕ := 2 * (n / 64) + r / 256
/-- The position of a stacked row. -/
abbrev posAt (n : ℕ) (r : Fin 512) : ℕ := n % 64 * 256 + r % 256

/-- The scaled queries of the two heads, stacked. -/
theorem stacked_q (t : Fin (cfgM m).N) (r : Fin 512) (l : Fin 128) :
    (k0_pay28 (iblk m c 0 t) (ix2 r l : S512x128.Idx) : EReal) = if (r : ℕ) / 256 = (l : ℕ) / 64
      then at2 (argQ m c) (posAt t r) (t.val / 64 * 128 + l) * ((1 / 8 : ℝ) : EReal) else (0 : EReal) := by
  refine (queries (iblk m c 0 t) r l).trans ?_
  by_cases h : (r : ℕ) / 256 = (l : ℕ) / 64
  · exact (if_pos h).trans ((blk0 m c t (row r) l).trans (if_pos h).symm)
  · exact (if_neg h).trans (if_neg h).symm

/-- The cotangents of the two heads, stacked. -/
theorem stacked_do (t : Fin (cfgM m).N) (r : Fin 512) (l : Fin 128) :
    (stackD (iblk m c 1 t) (ix2 r l : S512x128.Idx) : EReal) = if (r : ℕ) / 256 = (l : ℕ) / 64
      then at2 (argDO m c) (posAt t r) (t.val / 64 * 128 + l) else (0 : EReal) := by
  refine (cotangents (k0_pay21 (iblk m c 1 t)) r l).trans ?_
  by_cases h : (r : ℕ) / 256 = (l : ℕ) / 64
  · refine (if_pos h).trans (Eq.trans ?_ ((blk1 m c t (row r) l).trans (if_pos h).symm))
    pointwise [k0_pay21]
  · exact (if_neg h).trans (if_neg h).symm

/-- A product with a choice that is otherwise zero. -/
theorem ite_zero_mul' {p : Prop} [Decidable p] {a b x y : EReal} (ha : a = if p then x else 0) (hb : b = y) :
    a * b = if p then x * y else 0 := by
  rw [ha, hb]; split <;> simp

/-- What the points meet. -/
def points : Points where
  z n r s := score (argQ m c) (argKV m c) (headAt n r) (posAt n r) s
  t n r := posAt n r
  g n r s := cov (argKV m c) (argDO m c) (headAt n r) (posAt n r) s

/-- The blocks of every grid step hold the scores, the products with the cotangent and the totals of their places. -/
theorem points_hold (hq : RealHeads (argQ m c)) (hk : RealHeads (argKV m c)) : (points m c).Holds m := by
  intro c' t
  obtain rfl : c' = c := Subsingleton.elim _ _
  have ht : t.val < 256 := t.isLt
  refine ⟨fun x y => ?_, fun x y => ?_, fun r s => ?_, fun r s => ?_, fun r => ?_, fun r => ?_⟩
  · refine Eq.trans ?_ (blk5 m c' t x y)
    pointwise [k0_pay23]
  · refine Eq.trans ?_ (blk6 m c' t x y)
    pointwise [k0_pay24]
  · have hr := r.isLt
    show _ = ((score (argQ m c') (argKV m c') (headAt t r) (posAt t r) s : ℝ) : EReal)
    rw [← score_before hq hk (by simp only [headAt]; omega)]
    refine Eq.trans (Finset.sum_congr rfl fun l _ => ?_) ((head_lanes (fun l => at2 (argQ m c') (posAt t r) (t.val / 64 * 128 + l) * ((1 / 8 : ℝ) : EReal)
      * at2 (argKV m c') s (t.val / 64 * 128 + l)) (r / 256) (by omega)).trans (Finset.sum_congr rfl fun d _ => ?_))
    · exact ite_zero_mul' (stacked_q m c' t r l) (blk3 m c' t s l)
    · have e : t.val / 64 * 128 + ((r : ℕ) / 256 * 64 + d) = headAt t r * 64 + d := by simp only [headAt]; omega
      rw [e]
  · have hr := r.isLt
    show _ = cov (argKV m c') (argDO m c') (headAt t r) (posAt t r) s
    unfold cov
    refine Eq.trans (Finset.sum_congr rfl fun l _ => ?_) ((head_lanes (fun l => at2 (argDO m c') (posAt t r) (t.val / 64 * 128 + l)
      * at2 (argKV m c') s ((4 + t.val / 64) * 128 + l)) (r / 256) (by omega)).trans (Finset.sum_congr rfl fun d _ => ?_))
    · exact ite_zero_mul' (stacked_do m c' t r l) (blk4 m c' t s l)
    · have e : t.val / 64 * 128 + ((r : ℕ) / 256 * 64 + d) = headAt t r * 64 + d := by simp only [headAt]; omega
      have e' : (4 + t.val / 64) * 128 + ((r : ℕ) / 256 * 64 + d) = 512 + (headAt t r * 64 + d) := by simp only [headAt]; omega
      rw [e, e']
  · have hr := r.isLt
    rw [totals]
    have e : k0_pay22 (iblk m c' 2 t) (ix2 (row r) ⟨64 * ((r : ℕ) / 256), by omega⟩ : S256x128.Idx)
        = iblk m c' 2 t (ix2 (row r) ⟨64 * ((r : ℕ) / 256), by omega⟩ : S256x128.Idx) := by pointwise [k0_pay22]
    rw [e, blk2 m c' hq hk]
    have e2 : (t.val / 64 * 128 + 64 * ((r : ℕ) / 256)) / 64 = headAt t r := by simp only [headAt]; omega
    show ((∑ s ∈ range (posAt t r), lg (score (argQ m c') (argKV m c') ((t.val / 64 * 128 + 64 * ((r : ℕ) / 256)) / 64) (posAt t r) s) : ℝ) : EReal) = _
    rw [e2]
    rfl
  · show posAt t r = 256 * (grid0.coords t 1).val + _
    rw [coord1]
    simp only [posAt]; omega

end Cert.Attention.Valued

end
end
-- ==== Proof.Attention.Results.lean ====
module

public import proofs.«01_k».proof.Proof.Attention.Points
public import Idealize.ShloMosaic.Lib.Pipeline.ValueKit

/-!
# The three results of the kernel, element by element

What the points leave and add up to, as the gradients of the queries, the keys and the values.
-/

@[expose] public section

set_option maxRecDepth 16384
set_option maxHeartbeats 1000000

noncomputable section

namespace Cert.Attention.Valued

open Cert.Kernel2Ideal Cert.Kernel2Ideal.Gen
open Idealize.ShloMosaic Idealize.ShloMosaic.TcCoe Idealize.SL.Sem Cert.Maths Finset

/-- A sum over tiles of 256 is a sum over all of them. -/
theorem tiles_sum (f : ℕ → EReal) (n : ℕ) : (∑ k ∈ range n, ∑ x : Fin 256, f (k * 256 + x)) = ∑ p ∈ range (n * 256), f p := by
  induction n with
  | zero => simp
  | succ n ih =>
    rw [sum_range_succ, ih, add_mul, one_mul, Finset.sum_range_add, Fin.sum_univ_eq_sum_range (fun x => f (n * 256 + x)) 256]

/-- A sum over the stacked rows of one of two heads. -/
theorem head_rows (f : ℕ → EReal) (b : ℕ) (hb : b < 2) :
    (∑ r : Fin 512, if (r : ℕ) / 256 = b then f ((r : ℕ) % 256) else 0) = ∑ x : Fin 256, f x := by
  rw [Fin.sum_univ_eq_sum_range (fun r => if r / 256 = b then f (r % 256) else 0) 512, Fin.sum_univ_eq_sum_range (fun x => f x) 256,
    ← Finset.sum_filter]
  refine Finset.sum_nbij' (fun r => r % 256) (fun x => b * 256 + x) ?_ ?_ ?_ ?_ ?_ <;> intro x <;>
    simp only [mem_filter, mem_range] <;> intro hx
  · omega
  · omega
  · omega
  · omega
  · trivial

variable (m : (ℓ : Loc nD τ sig) → Buf (Elt F) ℓ) (c : Dev nD)

/-- What the tiles add to a column of one head is a sum over the queries. -/
theorem join (g : ℕ → EReal) (f : ℕ → Fin 512 → EReal) (b : ℕ) (hb : b < 2)
    (h : ∀ k < 64, ∀ r : Fin 512, f k r = if (r : ℕ) / 256 = b then g (k * 256 + (r : ℕ) % 256) else 0) :
    (∑ k ∈ range 64, ∑ r : Fin 512, f k r) = ∑ p : Fin 16384, g p := by
  rw [Fin.sum_univ_eq_sum_range (fun p => g p) 16384, ← tiles_sum g 64]
  refine Finset.sum_congr rfl fun k hk => ?_
  rw [← head_rows (fun x => g (k * 256 + x)) b hb]
  exact Finset.sum_congr rfl fun r _ => h k (mem_range.mp hk) r

/-- The second result. -/
theorem out_dk (s : Fin 16384) (j : Fin 512) : outK m (points m c) c s j = dKey (argQ m c) (argKV m c) (argDO m c) s j := by
  have hj := j.isLt
  unfold outK dKey
  rw [mul_comm _ ((1 / 8 : ℝ) : EReal), coe_mul_sum _ (by norm_num)]
  rw [← join (fun p => ((1 / 8 : ℝ) : EReal) * (dScore (argQ m c) (argKV m c) (argDO m c) ((j : ℕ) / 64) p s * at2 (argQ m c) p j))
    (fun k r => if (r : ℕ) / 256 = (j : ℕ) % 128 / 64 then ((1 / 8 : ℝ) : EReal)
      * (dScore (argQ m c) (argKV m c) (argDO m c) ((j : ℕ) / 64) (k * 256 + (r : ℕ) % 256) s * at2 (argQ m c) (k * 256 + (r : ℕ) % 256) j) else 0)
    ((j : ℕ) % 128 / 64) (by omega) (fun k _ r => rfl)]
  refine Finset.sum_congr rfl fun k hk => ?_
  have hk' := mem_range.mp hk
  unfold addedK
  rw [dif_pos (by show 64 * ((j : ℕ) / 128) + k < 256; omega)]
  unfold addK
  refine Finset.sum_congr rfl fun r _ => ?_
  have hr := r.isLt
  refine (congrArg₂ (· * ·) rfl (stacked_q m c ⟨64 * ((j : ℕ) / 128) + k, _⟩ r ⟨(j : ℕ) % 128, _⟩)).trans ?_
  by_cases hb : (r : ℕ) / 256 = (j : ℕ) % 128 / 64
  · have e1 : headAt (64 * ((j : ℕ) / 128) + k) r = (j : ℕ) / 64 := by simp only [headAt]; omega
    have e2 : posAt (64 * ((j : ℕ) / 128) + k) r = k * 256 + (r : ℕ) % 256 := by simp only [posAt]; omega
    have e3 : (64 * ((j : ℕ) / 128) + k) / 64 * 128 + (j : ℕ) % 128 = j := by omega
    rw [if_pos hb, if_pos hb]
    simp only [points, e1, e2, e3]
    rw [mul_comm ((1 / 8 : ℝ) : EReal), ← mul_assoc]
    rfl
  · rw [if_neg hb, if_neg hb]
    exact mul_zero _

/-- The third result. -/
theorem out_dv (s : Fin 16384) (j : Fin 512) : outV m (points m c) c s j = dValue (argQ m c) (argKV m c) (argDO m c) s j := by
  have hj := j.isLt
  unfold outV dValue
  rw [← join (fun p => ((wgt (score (argQ m c) (argKV m c) ((j : ℕ) / 64) p) p s : ℝ) : EReal) * at2 (argDO m c) p j)
    (fun k r => if (r : ℕ) / 256 = (j : ℕ) % 128 / 64 then ((wgt (score (argQ m c) (argKV m c) ((j : ℕ) / 64) (k * 256 + (r : ℕ) % 256))
      (k * 256 + (r : ℕ) % 256) s : ℝ) : EReal) * at2 (argDO m c) (k * 256 + (r : ℕ) % 256) j else 0)
    ((j : ℕ) % 128 / 64) (by omega) (fun k _ r => rfl)]
  refine Finset.sum_congr rfl fun k hk => ?_
  have hk' := mem_range.mp hk
  unfold addedV
  rw [dif_pos (by show 64 * ((j : ℕ) / 128) + k < 256; omega)]
  unfold addV
  refine Finset.sum_congr rfl fun r _ => ?_
  have hr := r.isLt
  refine (congrArg₂ (· * ·) rfl (stacked_do m c ⟨64 * ((j : ℕ) / 128) + k, _⟩ r ⟨(j : ℕ) % 128, _⟩)).trans ?_
  by_cases hb : (r : ℕ) / 256 = (j : ℕ) % 128 / 64
  · have e1 : headAt (64 * ((j : ℕ) / 128) + k) r = (j : ℕ) / 64 := by simp only [headAt]; omega
    have e2 : posAt (64 * ((j : ℕ) / 128) + k) r = k * 256 + (r : ℕ) % 256 := by simp only [posAt]; omega
    have e3 : (64 * ((j : ℕ) / 128) + k) / 64 * 128 + (j : ℕ) % 128 = j := by omega
    rw [if_pos hb, if_pos hb]
    simp only [points, e1, e2, e3]
  · rw [if_neg hb, if_neg hb]
    exact mul_zero _

/-- What a point leaves of the first result. -/
theorem blockQ_eq (t : Fin (cfgM m).N) (x : Fin 256) (l : Fin 128) :
    (blockQ m (points m c) c t (ix2 x l : S256x128.Idx) : EReal)
      = dQuery (argQ m c) (argKV m c) (argDO m c) (t.val % 64 * 256 + x) (t.val / 64 * 128 + l) := by
  have ht : t.val < 256 := t.isLt
  have hx := x.isLt
  have hl := l.isLt
  show dqOut ((points m c).z t) ((points m c).t t) ((points m c).g t) (iblk m c 3 t) x l = _
  unfold dqOut dQuery
  dsimp only
  rw [bits_eighth]
  refine congrArg (fun a : EReal => a * ((1 / 8 : ℝ) : EReal)) (Finset.sum_congr rfl fun s _ => ?_)
  refine congrArg₂ (· * ·) ?_ (blk3 m c t s l)
  by_cases h : (l : ℕ) < 64
  · have e1 : headAt t ⟨x, by omega⟩ = (t.val / 64 * 128 + l) / 64 := by simp only [headAt]; omega
    have e2 : posAt t ⟨x, by omega⟩ = t.val % 64 * 256 + x := by simp only [posAt]; omega
    simp only [if_pos h, points, e1, e2]
    rfl
  · have e1 : headAt t ⟨256 + x, by omega⟩ = (t.val / 64 * 128 + l) / 64 := by simp only [headAt]; omega
    have e2 : posAt t ⟨256 + x, by omega⟩ = t.val % 64 * 256 + x := by simp only [posAt]; omega
    simp only [if_neg h, points, e1, e2]
    rfl

/-- The blocks of the first result cover it. -/
theorem covers : ((cfgM m).win 7).Covers := by
  have h : ((cfg0 (F := F) ⟨fun k => match k with | 0 => fun _ => (0 : BitVec 32), trivial⟩).win 7).Covers := by decide +kernel
  exact h

/-- The first result. -/
theorem out_dq : (data m (points m c) 0 c).arrAt 7 (cfgM m).N
    = (fun j : S16384x512.Idx => dQuery (argQ m c) (argKV m c) (argDO m c) (j 0) (j 1)) := by
  refine (data m (points m c) 0 c).arrAt_eq_of_covers 7 _ (covers m) fun t _ y => ?_
  rw [(after_in m (points m c) c t).2.2.2.2.2.2.2]
  obtain ⟨x, l, rfl⟩ : ∃ (x : Fin 256) (l : Fin 128), y = (ix2 x l : S256x128.Idx) := ⟨y (0 : Fin 2), y (1 : Fin 2), eq_ix2 (n0 := 256) (n1 := 128) y⟩
  refine (blockQ_eq m c t x l).trans ?_
  have e : ((cfgM m).win 7).index t = _ := (idx t).2.2.2.2.2.2.2
  have h0 := Pipeline.Window.rect_emb_val ((cfgM m).win 7) t (ix2 x l : S256x128.Idx) (0 : Fin 2) rfl
  have h1 := Pipeline.Window.rect_emb_val ((cfgM m).win 7) t (ix2 x l : S256x128.Idx) (1 : Fin 2) rfl
  rw [e] at h0 h1
  exact (congrArg₂ (dQuery (argQ m c) (argKV m c) (argDO m c)) h0 h1).symm

end Cert.Attention.Valued

end
end
-- ==== Proof.Attention.Claim.lean ====
/- The claim about the attention's backward call: its three results equal the gradients of the attention's formula where
   the queries and the keys are finite. -/
module

public import proofs.«01_k».proof.Defs
public import proofs.«01_k».proof.Proof.Attention.Reference
public import proofs.«01_k».proof.Proof.Attention.Results
public import proofs.«01_k».proof.Proof.Gen.Reference2Ideal.Run
public import proofs.«01_k».proof.Proof.Gen.Pre_attention_finite
public import Idealize.ShloMosaic.Lib.Claim
public import Idealize.ShloMosaic.Lib.Quiescent

@[expose] public section

set_option maxRecDepth 16384

noncomputable section

namespace Cert.Attention

open Idealize.ShloMosaic Idealize.ShloMosaic.TcCoe Idealize.SL.Sem
open Cert.Kernel2Ideal

variable (m : (ℓ : Loc nD τ sig) → Buf (Elt Idealize.ShloMosaic.Ideal) ℓ) (h : Pre_Kernel2Ideal_attention_finite m) (c : Dev nD)

include h in
/-- What the precondition says at one place. -/
theorem finite_at (p : Fin 16384) (k : Fin 512) :
    (∃ r : ℝ, Valued.argQ m c (ix2 p k) = r) ∧ ∃ r : ℝ, Valued.argKV m c (ix2 p ⟨k, by omega⟩) = r := by
  have := congrFun (h c) (ix2 p k)
  pointwise [Cert.Pre_attention_finite.fn] at this
  exact ⟨Maths.real_of_abs_lt (Maths.both this).1, Maths.real_of_abs_lt (Maths.both this).2⟩

/-- An array is known by its entries. -/
theorem by_entries {α : Type} {n k : ℕ} {f g : (⟨2, ![n, k]⟩ : Shape).Idx → α} (h : ∀ i j, f (ix2 i j) = g (ix2 i j)) : f = g :=
  funext fun y => by rw [eq_ix2 (n0 := n) (n1 := k) y]; exact h _ _

/-- The results agree. -/
theorem algebraic : algebraic_Kernel2Ideal_Reference2Ideal_pre_attention_finite := by
  intro m g m' g' hpre hagree
  have hq : ∀ c, RealHeads (Valued.argQ m c) := fun c p k _ => (finite_at m hpre c p k).1
  have hk : ∀ c, RealHeads (Valued.argKV m c) := fun c p k h => (finite_at m hpre c p ⟨k, h⟩).2
  refine ⟨_, _, _, Cert.Attention.Valued.run_values m g (Valued.points m 0) (Valued.points_hold m 0 (hq 0) (hk 0)),
    θ_run_mono (Cert.Reference2Ideal.Value.run m' g') fun r h c => ?_⟩
  obtain rfl : c = 0 := Subsingleton.elim _ _
  obtain ⟨e0, e1, e2, e⟩ := h 0
  obtain ⟨h0, h1, h2⟩ := hagree 0
  refine ⟨e0.trans ?_, e1.trans ?_, e2.trans ?_, e⟩
  · rw [Reference2Ideal.Read.val_main_v46_eq, h0, h1, h2, Valued.out_dq]
    exact by_entries fun p j => Ref.ref_dq _ _ _ (hq 0) (hk 0) p j
  · rw [Reference2Ideal.Read.val_main_v47_eq, h0, h1, h2]
    exact by_entries fun s j => (Ref.ref_dk _ _ _ (hq 0) (hk 0) s j).trans (Valued.out_dk m 0 s j).symm
  · rw [Reference2Ideal.Read.val_main_v48_eq, h0, h1, h2]
    exact by_entries fun s j => (Ref.ref_dv _ _ _ (hq 0) (hk 0) s j).trans (Valued.out_dv m 0 s j).symm

end Cert.Attention

end
-- ==== Proof.LayerA.Formula.lean ====
/- The gradients of the gated short convolution, element by element, as the kernel computes them. -/
module

public import proofs.«01_k».proof.Proof.Attention.Entries
public import Idealize.ShloMosaic.Lib.Pipeline.ValueKit

@[expose] public section

noncomputable section

namespace Cert.LayerA

open Idealize.ShloMosaic Cert.Attention

variable (U : (⟨2, ![16384, 4096]⟩ : Shape).Idx → EReal) (W : Fin 3 → Fin 1024 → EReal) (O : Fin 1024 → Fin 1024 → EReal)
  (D : (⟨2, ![16384, 1024]⟩ : Shape).Idx → EReal)

/-- What the convolution runs over: the product of the second and the third column block. -/
def prod (p : ℕ) (k : Fin 1024) : EReal := at2 U p (1024 + k) * at2 U p (2048 + k)

/-- The product `d` rows earlier, zero before the first row. -/
def back (d p : ℕ) (k : Fin 1024) : EReal := if d ≤ p then prod U (p - d) k else 0

/-- The convolution: two rows back, one row back, this row. -/
def cv (p : ℕ) (k : Fin 1024) : EReal := W 0 k * back U 2 p k + W 1 k * back U 1 p k + W 2 k * prod U p k

/-- The logistic function. -/
def logistic (g : EReal) : EReal := Ideal.div (1) (1 + Ideal.exp (0 - g))

/-- The last column block, through which the result is gated. -/
def gate (p : ℕ) (k : Fin 1024) : EReal := at2 U p (3072 + k)

/-- The gate's factor. -/
def slu (p : ℕ) (k : Fin 1024) : EReal := gate U p k * logistic (gate U p k)

/-- The factor's derivative. -/
def dslu (p : ℕ) (k : Fin 1024) : EReal :=
  logistic (gate U p k) * (1 + gate U p k * (1 - logistic (gate U p k)))

/-- The gradient of the gated product: a row of the cotangent against a row of the weight. -/
def dya (p : ℕ) (k : Fin 1024) : EReal := ∑ j : Fin 1024, at2 D p j * O k j

/-- The gradient of the product before its gate. -/
def dy (p : ℕ) (k : Fin 1024) : EReal := dya O D p k * slu U p k

/-- The gradient of the convolution. -/
def dcv (p : ℕ) (k : Fin 1024) : EReal := dy U O D p k * at2 U p k

/-- The gradient of what the convolution runs over: this row, the next, the one after. -/
def dp (p : ℕ) (k : Fin 1024) : EReal :=
  W 2 k * dcv U O D p k + W 1 k * dcv U O D (p + 1) k + W 0 k * dcv U O D (p + 2) k

/-- The gradient of column block `b` of the four. -/
def quarter (b p : ℕ) (k : Fin 1024) : EReal :=
  match b with
  | 0 => dy U O D p k * cv U W p k
  | 1 => dp U W O D p k * at2 U p (2048 + k)
  | 2 => dp U W O D p k * at2 U p (1024 + k)
  | _ => dya O D p k * (at2 U p k * cv U W p k) * dslu U p k

/-- The first result. -/
def dU : (⟨2, ![16384, 4096]⟩ : Shape).Idx → EReal := fun j =>
  quarter U W O D ((j 1 : Fin 4096) / 1024) (j 0 : Fin 16384) ⟨(j 1 : Fin 4096) % 1024, Nat.mod_lt _ (by norm_num)⟩

/-- The second result: the gradient of the weight behind the gate. -/
def gO : (⟨2, ![1024, 1024]⟩ : Shape).Idx → EReal := fun j =>
  ∑ p : Fin 16384, at2 U p (j 0 : Fin 1024) * cv U W p (j 0) * slu U p (j 0) * at2 D p (j 1 : Fin 1024)

/-- What row `p` gives to the gradient of the tap in row `r`. -/
def tap (r p : ℕ) (k : Fin 1024) : EReal :=
  match r with
  | 0 => dcv U O D p k * back U 2 p k
  | 1 => dcv U O D p k * back U 1 p k
  | 2 => dcv U O D p k * prod U p k
  | _ => 0

/-- The third result: the gradients of the three taps in the first three rows. -/
def gW : (⟨2, ![8, 1024]⟩ : Shape).Idx → EReal := fun j => ∑ p : Fin 16384, tap U O D (j 0 : Fin 8) p (j 1)

end Cert.LayerA

end
-- ==== Proof.LayerA.Block.lean ====
/- What one grid point of the short convolution's backward call computes from its blocks, element by element, when the
   blocks are the rows from `q * 512` on. -/
module

public import proofs.«01_k».proof.Proof.Gen.Kernel3Ideal.Value
public import proofs.«01_k».proof.Proof.LayerA.Formula
public import Idealize.ShloMosaic.Lib.WordCmp
public import Idealize.ShloMosaic.Lib.Claim

@[expose] public section

set_option maxRecDepth 16384

noncomputable section

namespace Cert.LayerA

open Idealize.ShloMosaic Idealize.ShloMosaic.TcCoe Idealize.SL.Sem Cert.Attention
open Cert.Kernel3Ideal Cert.Kernel3Ideal.Gen

variable {U : (⟨2, ![16384, 4096]⟩ : Shape).Idx → EReal} {W : Fin 3 → Fin 1024 → EReal} {O : Fin 1024 → Fin 1024 → EReal}
  {D : (⟨2, ![16384, 1024]⟩ : Shape).Idx → EReal} {q : ℕ}

/-- A column block of the rows from `q * 512` on: the columns from `o` on. -/
def Rows (U : (⟨2, ![16384, 4096]⟩ : Shape).Idx → EReal) (q o : ℕ) (x : Vec Ideal S512x1024 .f32) : Prop :=
  ∀ (a : Fin 512) (k : Fin 1024), (x (ix2 a k : S512x1024.Idx) : EReal) = at2 U (q * 512 + a) (o + k)

/-- The same of the eight rows before. -/
def Before (U : (⟨2, ![16384, 4096]⟩ : Shape).Idx → EReal) (q o : ℕ) (x : Vec Ideal S8x1024 .f32) : Prop :=
  0 < q → ∀ (a : Fin 8) (k : Fin 1024), (x (ix2 a k : S8x1024.Idx) : EReal) = at2 U (q * 512 - 8 + a) (o + k)

variable {B C X G E : Vec Ideal S512x1024 .f32} {C' X' w h : Vec Ideal S8x1024 .f32} {i : grid0.Coords}
  {o : Vec Ideal S1024x1024 .bf16}

/-- Choosing by the equality of two words. -/
theorem pick {n c : ℕ} (hn : n < 2 ^ 31) (hc : c < 2 ^ 31) (x y : EReal) :
    Scalar.select (IntOp.cmpi .eq (BitVec.ofNat 32 n) (BitVec.ofNat 32 c)) x y = if n = c then x else y := by
  split
  · next h => exact WordCmp.select_of_eq_one ((WordCmp.cmpi_eq_ofNat_eq_one_iff (by omega) (by omega)).mpr h) x y
  · next h => exact WordCmp.select_of_eq_zero ((WordCmp.cmpi_eq_ofNat_eq_zero_iff (by omega) (by omega)).mpr h) x y

theorem back_ge {d p : ℕ} (h : d ≤ p) (k : Fin 1024) : back U d p k = prod U (p - d) k := if_pos h

theorem back_lt {d p : ℕ} (h : p < d) (k : Fin 1024) : back U d p k = 0 := if_neg (by omega)

theorem prod_at (hC : Rows U q 1024 C) (hX : Rows U q 2048 X) (a : Fin 512) (k : Fin 1024) :
    (k0_pay5 C X (ix2 a k : S512x1024.Idx) : EReal) = prod U (q * 512 + a) k := by
  pointwise [k0_pay5]
  rw [hC, hX]
  rfl

theorem before_at (hi : (i 0 : ℕ) = 31 - q) (hq : q < 32) (hC : Before U q 1024 C') (hX : Before U q 2048 X') (a : Fin 8) (k : Fin 1024) :
    (k0_pay6 i C' X' (ix2 a k : S8x1024.Idx) : EReal) = if q = 0 then 0 else prod U (q * 512 - 8 + a) k := by
  pointwise [k0_pay6]
  refine (pick (n := i 0) (c := 31) (by omega) (by norm_num) _ _).trans ?_
  by_cases h0 : q = 0
  · rw [if_pos (by omega), if_pos h0]
  · rw [if_neg (by omega), if_neg h0, hC (by omega), hX (by omega)]
    rfl

theorem rot1_at (hC : Rows U q 1024 C) (hX : Rows U q 2048 X) (a : Fin 512) (k : Fin 1024) (ha : 1 ≤ (a : ℕ)) :
    (k0_pay7 C X (ix2 a k : S512x1024.Idx) : EReal) = prod U (q * 512 + a - 1) k := by
  pointwise [k0_pay7]
  rw [prod_at hC hX]
  refine congrArg (fun p => prod U p k) ?_
  show q * 512 + (a + 512 - 1) % 512 = _
  omega

theorem rot2_at (hC : Rows U q 1024 C) (hX : Rows U q 2048 X) (a : Fin 512) (k : Fin 1024) (ha : 2 ≤ (a : ℕ)) :
    (k0_pay8 C X (ix2 a k : S512x1024.Idx) : EReal) = prod U (q * 512 + a - 2) k := by
  pointwise [k0_pay8]
  rw [prod_at hC hX]
  refine congrArg (fun p => prod U p k) ?_
  show q * 512 + (a + 512 - 2) % 512 = _
  omega

theorem top1_at (hi : (i 0 : ℕ) = 31 - q) (hq : q < 32) (hC : Rows U q 1024 C) (hX : Rows U q 2048 X)
    (hC' : Before U q 1024 C') (hX' : Before U q 2048 X') (a : Fin 8) (k : Fin 1024) :
    (k0_pay9 i C X C' X' (ix2 a k : S8x1024.Idx) : EReal) = back U 1 (q * 512 + a) k := by
  pointwise [k0_pay9]
  refine (pick (c := 0) (by omega) (by norm_num) _ _).trans ?_
  by_cases h : (a : ℕ) = 0
  · rw [if_pos h, before_at hi hq hC' hX']
    by_cases h0 : q = 0
    · rw [if_pos h0, back_lt (by omega)]
    · rw [if_neg h0, back_ge (by omega)]
      refine congrArg (fun p => prod U p k) ?_
      show q * 512 - 8 + 7 = _
      omega
  · rw [if_neg h, rot1_at hC hX ⟨a, _⟩ k (by show 1 ≤ (a : ℕ); omega), back_ge (by omega)]

theorem top2_at (hi : (i 0 : ℕ) = 31 - q) (hq : q < 32) (hC : Rows U q 1024 C) (hX : Rows U q 2048 X)
    (hC' : Before U q 1024 C') (hX' : Before U q 2048 X') (a : Fin 8) (k : Fin 1024) :
    (k0_pay10 i C X C' X' (ix2 a k : S8x1024.Idx) : EReal) = back U 2 (q * 512 + a) k := by
  pointwise [k0_pay10]
  refine (pick (c := 0) (by omega) (by norm_num) _ _).trans ?_
  by_cases h : (a : ℕ) = 0
  · rw [if_pos h, before_at hi hq hC' hX']
    by_cases h0 : q = 0
    · rw [if_pos h0, back_lt (by omega)]
    · rw [if_neg h0, back_ge (by omega)]
      refine congrArg (fun p => prod U p k) ?_
      show q * 512 - 8 + 6 = _
      omega
  rw [if_neg h]
  refine (pick (c := 1) (by omega) (by norm_num) _ _).trans ?_
  by_cases h1 : (a : ℕ) = 1
  · rw [if_pos h1, before_at hi hq hC' hX']
    by_cases h0 : q = 0
    · rw [if_pos h0, back_lt (by omega)]
    · rw [if_neg h0, back_ge (by omega)]
      refine congrArg (fun p => prod U p k) ?_
      show q * 512 - 8 + 7 = _
      omega
  · rw [if_neg h1, rot2_at hC hX ⟨a, _⟩ k (by show 2 ≤ (a : ℕ); omega), back_ge (by omega)]

theorem back1_at (hi : (i 0 : ℕ) = 31 - q) (hq : q < 32) (hC : Rows U q 1024 C) (hX : Rows U q 2048 X)
    (hC' : Before U q 1024 C') (hX' : Before U q 2048 X') (a : Fin 512) (k : Fin 1024) :
    (k0_pay11 (k0_pay7 C X) (k0_pay9 i C X C' X') (ix2 a k : S512x1024.Idx) : EReal) = back U 1 (q * 512 + a) k := by
  pointwise [k0_pay11]
  split
  · rw [top1_at hi hq hC hX hC' hX']
  · rw [rot1_at hC hX ⟨8 + (a - 8), _⟩ k (by show _ ≤ 8 + ((a : ℕ) - 8); omega), back_ge (by omega)]
    refine congrArg (fun p => prod U p k) ?_
    show q * 512 + (8 + (a - 8)) - _ = _
    omega

theorem back2_at (hi : (i 0 : ℕ) = 31 - q) (hq : q < 32) (hC : Rows U q 1024 C) (hX : Rows U q 2048 X)
    (hC' : Before U q 1024 C') (hX' : Before U q 2048 X') (a : Fin 512) (k : Fin 1024) :
    (k0_pay12 (k0_pay8 C X) (k0_pay10 i C X C' X') (ix2 a k : S512x1024.Idx) : EReal) = back U 2 (q * 512 + a) k := by
  pointwise [k0_pay12]
  split
  · rw [top2_at hi hq hC hX hC' hX']
  · rw [rot2_at hC hX ⟨8 + (a - 8), _⟩ k (by show _ ≤ 8 + ((a : ℕ) - 8); omega), back_ge (by omega)]
    refine congrArg (fun p => prod U p k) ?_
    show q * 512 + (8 + (a - 8)) - _ = _
    omega

/-- The blocks of one grid point: `q` counts the blocks of rows from the array's start, the grid runs from its end. `h`
    holds the convolution's gradient of the eight rows behind the block. -/
structure At (U : (⟨2, ![16384, 4096]⟩ : Shape).Idx → EReal) (W : Fin 3 → Fin 1024 → EReal) (O : Fin 1024 → Fin 1024 → EReal)
    (D : (⟨2, ![16384, 1024]⟩ : Shape).Idx → EReal) (q : ℕ) (i : grid0.Coords) (B C X G E : Vec Ideal S512x1024 .f32)
    (C' X' w h : Vec Ideal S8x1024 .f32) (o : Vec Ideal S1024x1024 .bf16) : Prop where
  hi : (i 0 : ℕ) = 31 - q
  hq : q < 32
  hB : Rows U q 0 B
  hC : Rows U q 1024 C
  hX : Rows U q 2048 X
  hG : Rows U q 3072 G
  hE : ∀ (a : Fin 512) (k : Fin 1024), (E (ix2 a k : S512x1024.Idx) : EReal) = at2 D (q * 512 + a) k
  hC' : Before U q 1024 C'
  hX' : Before U q 2048 X'
  hw : ∀ k : Fin 1024, (w (ix2 0 k : S8x1024.Idx) : EReal) = W 0 k ∧ (w (ix2 1 k : S8x1024.Idx) : EReal) = W 1 k
    ∧ (w (ix2 2 k : S8x1024.Idx) : EReal) = W 2 k
  hO : ∀ j k : Fin 1024, (o (ix2 j k : S1024x1024.Idx) : EReal) = O j k
  hh : ∀ (r : Fin 8) (k : Fin 1024), (h (ix2 r k : S8x1024.Idx) : EReal) = dcv U O D (q * 512 + 512 + r) k

namespace At

variable (z : At U W O D q i B C X G E C' X' w h o)
include z

theorem first (a : Fin 512) (k : Fin 1024) : (B (ix2 a k : S512x1024.Idx) : EReal) = at2 U (q * 512 + a) k := by
  rw [z.hB, Nat.zero_add]

/-- The convolution at a block's row. -/
theorem cv_at (a : Fin 512) (k : Fin 1024) :
    (k0_pay14 (k0_pay5 C X) (k0_pay7 C X) (k0_pay8 C X) (k0_pay9 i C X C' X') (k0_pay10 i C X C' X') w (ix2 a k : S512x1024.Idx) : EReal)
      = cv U W (q * 512 + a) k := by
  pointwise [k0_pay14, k0_pay13]
  rw [back1_at z.hi z.hq z.hC z.hX z.hC' z.hX', back2_at z.hi z.hq z.hC z.hX z.hC' z.hX', prod_at z.hC z.hX, (z.hw k).1,
    (z.hw k).2.1, (z.hw k).2.2]
  rfl

theorem slu_at (a : Fin 512) (k : Fin 1024) : (k0_pay16 G (ix2 a k : S512x1024.Idx) : EReal) = slu U (q * 512 + a) k := by
  pointwise [k0_pay16, k0_pay15]
  rw [z.hG]
  rfl

theorem dslu_at (a : Fin 512) (k : Fin 1024) : (k0_pay17 G (ix2 a k : S512x1024.Idx) : EReal) = dslu U (q * 512 + a) k := by
  pointwise [k0_pay17, k0_pay15]
  rw [z.hG]
  rfl

theorem y_at (a : Fin 512) (k : Fin 1024) :
    (k0_pay18 B (k0_pay5 C X) (k0_pay7 C X) (k0_pay8 C X) (k0_pay9 i C X C' X') (k0_pay10 i C X C' X') w
      (ix2 a k : S512x1024.Idx) : EReal) = at2 U (q * 512 + a) k * cv U W (q * 512 + a) k := by
  pointwise [k0_pay18]
  rw [z.cv_at, z.first]

theorem gO_at (a k : Fin 1024) (A : Vec Ideal S1024x1024 .f32) :
    (k0_pay20 B G (k0_pay5 C X) (k0_pay7 C X) (k0_pay8 C X) (k0_pay9 i C X C' X') (k0_pay10 i C X C' X') w E A
      (ix2 a k : S1024x1024.Idx) : EReal)
    = (A (ix2 a k : S1024x1024.Idx) : EReal) + ∑ r : Fin 512, at2 U (q * 512 + r) a * cv U W (q * 512 + r) a * slu U (q * 512 + r) a
        * at2 D (q * 512 + r) k := by
  pointwise [k0_pay20, k0_pay18, k0_pay19]
  simp only [z.cv_at, z.first, z.slu_at, z.hE]

theorem dya_at (a : Fin 512) (k : Fin 1024) :
    (k0_pay21 (k0_pay19 E) o (ix2 a k : S512x1024.Idx) : EReal) = dya O D (q * 512 + a) k := by
  pointwise [k0_pay21, k0_pay19]
  simp only [z.hE, z.hO]
  rfl

theorem dy_at (a : Fin 512) (k : Fin 1024) :
    (k0_pay22 (k0_pay16 G) (k0_pay19 E) o (ix2 a k : S512x1024.Idx) : EReal) = dy U O D (q * 512 + a) k := by
  pointwise [k0_pay22]
  rw [z.dya_at, z.slu_at]
  rfl

theorem dcv_at (a : Fin 512) (k : Fin 1024) :
    (k0_pay23 B (k0_pay16 G) (k0_pay19 E) o (ix2 a k : S512x1024.Idx) : EReal) = dcv U O D (q * 512 + a) k := by
  pointwise [k0_pay23]
  rw [z.dy_at, z.first]
  rfl

theorem halo_at (a : Fin 8) (k : Fin 1024) :
    (k0_pay24 B (k0_pay16 G) (k0_pay19 E) o (ix2 a k : S8x1024.Idx) : EReal) = dcv U O D (q * 512 + a) k := by
  pointwise [k0_pay24]
  rw [z.dcv_at]

theorem dp_at (a : Fin 512) (k : Fin 1024) :
    (k0_pay25 B (k0_pay13 w) (k0_pay16 G) (k0_pay19 E) o h (ix2 a k : S512x1024.Idx) : EReal) = dp U W O D (q * 512 + a) k := by
  have n1 : (if _ : (a : ℕ) < 504 then k0_pay23 B (k0_pay16 G) (k0_pay19 E) o (ix2 ⟨(a + 512 - 511) % 512, Nat.mod_lt _ (by norm_num)⟩ k : S512x1024.Idx)
      else Scalar.select (IntOp.cmpi CmpIPredicate.eq (BitVec.ofNat 32 (a - 504)) 7#32) (h (ix2 0 k : S8x1024.Idx))
        (k0_pay23 B (k0_pay16 G) (k0_pay19 E) o (ix2 ⟨(504 + (a - 504) + 512 - 511) % 512, Nat.mod_lt _ (by norm_num)⟩ k : S512x1024.Idx)) : EReal)
      = dcv U O D (q * 512 + a + 1) k := by
    split
    · rw [z.dcv_at]
      refine congrArg (fun p => dcv U O D p k) ?_
      show q * 512 + (a + 512 - 511) % 512 = _
      omega
    · refine (pick (c := 7) (by omega) (by norm_num) _ _).trans ?_
      split
      · rw [z.hh]
        refine congrArg (fun p => dcv U O D p k) ?_
        show q * 512 + 512 + 0 = _
        omega
      · rw [z.dcv_at]
        refine congrArg (fun p => dcv U O D p k) ?_
        show q * 512 + (504 + (a - 504) + 512 - 511) % 512 = _
        omega
  have n2 : (if _ : (a : ℕ) < 504 then k0_pay23 B (k0_pay16 G) (k0_pay19 E) o (ix2 ⟨(a + 512 - 510) % 512, Nat.mod_lt _ (by norm_num)⟩ k : S512x1024.Idx)
      else Scalar.select (IntOp.cmpi CmpIPredicate.eq (BitVec.ofNat 32 (a - 504)) 6#32) (h (ix2 0 k : S8x1024.Idx))
        (Scalar.select (IntOp.cmpi CmpIPredicate.eq (BitVec.ofNat 32 (a - 504)) 7#32) (h (ix2 1 k : S8x1024.Idx))
          (k0_pay23 B (k0_pay16 G) (k0_pay19 E) o (ix2 ⟨(504 + (a - 504) + 512 - 510) % 512, Nat.mod_lt _ (by norm_num)⟩ k : S512x1024.Idx))) : EReal)
      = dcv U O D (q * 512 + a + 2) k := by
    split
    · rw [z.dcv_at]
      refine congrArg (fun p => dcv U O D p k) ?_
      show q * 512 + (a + 512 - 510) % 512 = _
      omega
    · refine (pick (c := 6) (by omega) (by norm_num) _ _).trans ?_
      split
      · rw [z.hh]
        refine congrArg (fun p => dcv U O D p k) ?_
        show q * 512 + 512 + 0 = _
        omega
      · refine (pick (c := 7) (by omega) (by norm_num) _ _).trans ?_
        split
        · rw [z.hh]
          refine congrArg (fun p => dcv U O D p k) ?_
          show q * 512 + 512 + 1 = _
          omega
        · rw [z.dcv_at]
          refine congrArg (fun p => dcv U O D p k) ?_
          show q * 512 + (504 + (a - 504) + 512 - 510) % 512 = _
          omega
  pointwise [k0_pay25, k0_pay13]
  refine (congrArg₂ (fun x y => _ + _ * x + _ * y) n1 n2).trans ?_
  rw [z.dcv_at, (z.hw k).1, (z.hw k).2.1, (z.hw k).2.2]
  rfl

/-- What a point adds to the gradients of the three taps. -/
theorem tap0_at (k : Fin 1024) (g : Vec Ideal S1x1024 .f32) :
    (k0_pay26 (k0_pay12 (k0_pay8 C X) (k0_pay10 i C X C' X')) (k0_pay23 B (k0_pay16 G) (k0_pay19 E) o) g (ix2 0 k : S1x1024.Idx) : EReal)
      = (g (ix2 0 k : S1x1024.Idx) : EReal) + ∑ r : Fin 512, tap U O D 0 (q * 512 + r) k := by
  pointwise [k0_pay26]
  simp only [z.dcv_at, back2_at z.hi z.hq z.hC z.hX z.hC' z.hX']
  rfl

theorem tap1_at (k : Fin 1024) (g : Vec Ideal S1x1024 .f32) :
    (k0_pay27 (k0_pay11 (k0_pay7 C X) (k0_pay9 i C X C' X')) (k0_pay23 B (k0_pay16 G) (k0_pay19 E) o) g (ix2 0 k : S1x1024.Idx) : EReal)
      = (g (ix2 0 k : S1x1024.Idx) : EReal) + ∑ r : Fin 512, tap U O D 1 (q * 512 + r) k := by
  pointwise [k0_pay27]
  simp only [z.dcv_at, back1_at z.hi z.hq z.hC z.hX z.hC' z.hX']
  rfl

theorem tap2_at (k : Fin 1024) (g : Vec Ideal S1x1024 .f32) :
    (k0_pay28 (k0_pay5 C X) (k0_pay23 B (k0_pay16 G) (k0_pay19 E) o) g (ix2 0 k : S1x1024.Idx) : EReal)
      = (g (ix2 0 k : S1x1024.Idx) : EReal) + ∑ r : Fin 512, tap U O D 2 (q * 512 + r) k := by
  pointwise [k0_pay28]
  simp only [z.dcv_at, prod_at z.hC z.hX]
  rfl

/-- The four column blocks of the first result. -/
theorem du0_at (a : Fin 512) (k : Fin 1024) :
    (k0_pay29 (k0_pay14 (k0_pay5 C X) (k0_pay7 C X) (k0_pay8 C X) (k0_pay9 i C X C' X') (k0_pay10 i C X C' X') w)
      (k0_pay22 (k0_pay16 G) (k0_pay19 E) o) (ix2 a k : S512x1024.Idx) : EReal) = quarter U W O D 0 (q * 512 + a) k := by
  pointwise [k0_pay29]
  rw [z.dy_at, z.cv_at]
  rfl

theorem du1_at (a : Fin 512) (k : Fin 1024) :
    (k0_pay30 X (k0_pay25 B (k0_pay13 w) (k0_pay16 G) (k0_pay19 E) o h) (ix2 a k : S512x1024.Idx) : EReal)
      = quarter U W O D 1 (q * 512 + a) k := by
  pointwise [k0_pay30]
  rw [z.dp_at, z.hX]
  rfl

theorem du2_at (a : Fin 512) (k : Fin 1024) :
    (k0_pay31 C (k0_pay25 B (k0_pay13 w) (k0_pay16 G) (k0_pay19 E) o h) (ix2 a k : S512x1024.Idx) : EReal)
      = quarter U W O D 2 (q * 512 + a) k := by
  pointwise [k0_pay31]
  rw [z.dp_at, z.hC]
  rfl

theorem du3_at (a : Fin 512) (k : Fin 1024) :
    (k0_pay32 (k0_pay17 G) (k0_pay18 B (k0_pay5 C X) (k0_pay7 C X) (k0_pay8 C X) (k0_pay9 i C X C' X') (k0_pay10 i C X C' X') w)
      (k0_pay21 (k0_pay19 E) o) (ix2 a k : S512x1024.Idx) : EReal) = quarter U W O D 3 (q * 512 + a) k := by
  pointwise [k0_pay32]
  rw [z.dya_at, z.y_at, z.dslu_at]
  rfl

end At

end Cert.LayerA

end
-- ==== Proof.Maths.Grid.lean ====
/- Rows and blocks of rows: positions in a matrix, and sums over blocks of 512 rows. -/
module

public import Idealize.ShloMosaic.Lib.Pipeline.ValueKit

@[expose] public section

noncomputable section

namespace Cert.Maths

open Idealize.ShloMosaic

/-- Two positions in a matrix with the same row and column are the same. -/
theorem ext2 {n k : ℕ} {j j' : (⟨2, ![n, k]⟩ : Shape).Idx} (h0 : ((j 0 : Fin n) : ℕ) = (j' 0 : Fin n))
    (h1 : ((j 1 : Fin k) : ℕ) = (j' 1 : Fin k)) : j = j' := by
  funext a
  match a with
  | ⟨0, _⟩ => exact Fin.ext h0
  | ⟨1, _⟩ => exact Fin.ext h1

/-- A run of at most 32 points starts at the first. -/
theorem run_start {t s : ℕ} (ht : t < 32) : 32 * (t / 32) + s = s := by omega

/-- The sums over 32 blocks of 512 rows are together the sum over all rows. -/
theorem sum_points (f : ℕ → EReal) : ∑ s : Fin 32, ∑ r : Fin 512, f ((s : ℕ) * 512 + r) = ∑ p : Fin 16384, f p :=
  Fin.sum_mul_add_congr fun _ _ _ => rfl

end Cert.Maths

end
-- ==== Proof.LayerA.Kernel.lean ====
/- What the short convolution's backward call leaves in its three result arrays, in terms of the arguments. -/
module

public import proofs.«01_k».proof.Proof.LayerA.Block
public import proofs.«01_k».proof.Proof.Maths.Grid
public import Idealize.ShloMosaic.Lib.StableHlo.ReadAt
public import Idealize.ShloMosaic.Lib.WritesUnit
public import Idealize.ShloMosaic.Lib.Pipeline.ReadBack

@[expose] public section

set_option maxRecDepth 16384
set_option maxHeartbeats 2000000

noncomputable section

namespace Cert.LayerA

open Idealize.ShloMosaic Idealize.ShloMosaic.TcCoe Idealize.SL.Sem Cert.Attention
open Cert.Maths Cert.Kernel3Ideal Cert.Kernel3Ideal.Gen

theorem idx : ∀ t : Fin cfg0.N, win0_0.index t = ![31 - t.val, 0] ∧ win0_1.index t = ![(31 - t.val) * 64 - 1, 0]
    ∧ win0_2.index t = ![31 - t.val, 0] ∧ win0_3.index t = ![0, 0] ∧ win0_4.index t = ![0, 0]
    ∧ win0_5.index t = ![31 - t.val, 0] ∧ win0_6.index t = ![0, 0] ∧ win0_7.index t = ![0, 0] :=
  (by decide +kernel : ∀ t : Fin grid0.N, _)

theorem coord : ∀ t : Fin cfg0.N, ((grid0.coords t) 0 : ℕ) = t.val := (by decide +kernel : ∀ t : Fin grid0.N, _)

variable (m : (ℓ : Loc nD τ sig) → Buf (Elt Ideal) ℓ) (c : Dev nD)

/-- The arguments. -/
def argU : (⟨2, ![16384, 4096]⟩ : Shape).Idx → EReal := (m ((c : Thread nD τ).loc main_arg0) : Vec Ideal S16384x4096 .f32)
def argW (r : Fin 3) (k : Fin 1024) : EReal := (m ((c : Thread nD τ).loc main_arg1) : Vec Ideal S1x3x1024 .f32) (ix3 0 r k : S1x3x1024.Idx)
def argO (i k : Fin 1024) : EReal := (m ((c : Thread nD τ).loc main_arg2) : Vec Ideal S1x1024x1024 .f32) (ix3 0 i k : S1x1024x1024.Idx)
def argD : (⟨2, ![16384, 1024]⟩ : Shape).Idx → EReal := (m ((c : Thread nD τ).loc main_arg3) : Vec Ideal S16384x1024 .f32)

theorem blk0 (t : Fin cfg0.N) (a : Fin 512) (l : Fin 4096) :
    (iblk m c 0 t (ix2 a l : S512x4096.Idx) : EReal) = at2 (argU m c) ((31 - t.val) * 512 + a) l := by
  have ht : t.val < 32 := lt_of_lt_of_eq t.isLt N_0
  rw [at2_mk _ (by omega) l.isLt]
  unfold argU
  blk_point [iblk, V, idx t]

theorem blk1 (t : Fin cfg0.N) (h : 0 < 31 - t.val) (a : Fin 8) (l : Fin 4096) :
    (iblk m c 1 t (ix2 a l : S8x4096.Idx) : EReal) = at2 (argU m c) ((31 - t.val) * 512 - 8 + a) l := by
  have ht : t.val < 32 := lt_of_lt_of_eq t.isLt N_0
  rw [at2_mk _ (by omega) l.isLt]
  unfold argU
  blk_point [iblk, V, idx t]

theorem blk2 (t : Fin cfg0.N) (a : Fin 512) (l : Fin 1024) :
    (iblk m c 2 t (ix2 a l : S512x1024.Idx) : EReal) = at2 (argD m c) ((31 - t.val) * 512 + a) l := by
  have ht : t.val < 32 := lt_of_lt_of_eq t.isLt N_0
  rw [at2_mk _ (by omega) l.isLt]
  unfold argD
  blk_point [iblk, V, idx t]

/-- The taps, staged in the first three of eight rows. -/
theorem V_w (r : Fin 3) (r8 : Fin 8) (k : Fin 1024) (h : (r8 : ℕ) = r) :
    (V m c main_v1 (ix2 r8 k : S8x1024.Idx) : EReal) = argW m c r k := by
  unfold argW V
  after_reads_at
  rw [dif_pos (by omega : (r8 : ℕ) < 3)]
  refine congrArg (fun x => (m ((c : Thread nD τ).loc main_arg1) : Vec Ideal S1x3x1024 .f32) (ix3 0 x k : S1x3x1024.Idx)) ?_
  exact Fin.ext h

/-- The weight behind the gate. -/
theorem V_o (j k : Fin 1024) : (V m c main_v3 (ix2 j k : S1024x1024.Idx) : EReal) = argO m c j k := by
  unfold argO V
  after_reads_at

theorem blk3 (t : Fin cfg0.N) (r : Fin 3) (r8 : Fin 8) (k : Fin 1024) (h : (r8 : ℕ) = r) :
    (iblk m c 3 t (ix2 r8 k : S8x1024.Idx) : EReal) = argW m c r k := by
  rw [← V_w m c r r8 k h]
  blk_point [iblk, idx t]

theorem blk4 (t : Fin cfg0.N) (j k : Fin 1024) :
    (iblk m c 4 t (ix2 j k : S1024x1024.Idx) : EReal) = argO m c j k := by
  rw [← V_o m c j k]
  blk_point [iblk, idx t]

/-- The column blocks of the staged rows. -/
theorem rows (t : Fin cfg0.N) (o : ℕ) (ho : o + 1024 ≤ 4096) (h : ∀ a, (![0, o] : Fin 2 → Nat) a + S512x1024.size a ≤ S512x4096.size a) :
    Rows (argU m c) (31 - t.val) o (View.ld (iblk m c 0 t : Vec Ideal S512x4096 .f32) (Rect.unit ![0, o] ![512, 1024] h)) := by
  intro a k
  refine Eq.trans (congrArg (iblk m c 0 t) (?_ : _ = (ix2 a ⟨o + k, by omega⟩ : S512x4096.Idx))) (blk0 m c t a ⟨o + k, by omega⟩)
  exact ext2 (by show 0 + 1 * (a : ℕ) = a; omega) (by show o + 1 * (k : ℕ) = o + k; omega)

/-- The column blocks of the eight rows before. -/
theorem before (t : Fin cfg0.N) (o : ℕ) (ho : o + 1024 ≤ 4096) (h : ∀ a, (![0, o] : Fin 2 → Nat) a + S8x1024.size a ≤ S8x4096.size a) :
    Before (argU m c) (31 - t.val) o (View.ld (iblk m c 1 t : Vec Ideal S8x4096 .f32) (Rect.unit ![0, o] ![8, 1024] h)) := by
  intro h0 a k
  refine Eq.trans (congrArg (iblk m c 1 t) (?_ : _ = (ix2 a ⟨o + k, by omega⟩ : S8x4096.Idx))) (blk1 m c t h0 a ⟨o + k, by omega⟩)
  exact ext2 (by show 0 + 1 * (a : ℕ) = a; omega) (by show o + 1 * (k : ℕ) = o + k; omega)

/-- The blocks of point `t`. -/
theorem at_point (t : Fin cfg0.N) (h : Vec Ideal S8x1024 .f32)
    (hh : ∀ (r : Fin 8) (k : Fin 1024), (h (ix2 r k : S8x1024.Idx) : EReal)
      = dcv (argU m c) (argO m c) (argD m c) ((31 - t.val) * 512 + 512 + r) k) :
    At (argU m c) (argW m c) (argO m c) (argD m c) (31 - t.val) (grid0.coords t)
      (View.ld (iblk m c 0 t : Vec Ideal S512x4096 .f32) (Rect.unit ![0, 0] ![512, 1024] inb_S512x4096_S512x1024_0_0))
      (View.ld (iblk m c 0 t : Vec Ideal S512x4096 .f32) (Rect.unit ![0, 1024] ![512, 1024] inb_S512x4096_S512x1024_0_1024))
      (View.ld (iblk m c 0 t : Vec Ideal S512x4096 .f32) (Rect.unit ![0, 2048] ![512, 1024] inb_S512x4096_S512x1024_0_2048))
      (View.ld (iblk m c 0 t : Vec Ideal S512x4096 .f32) (Rect.unit ![0, 3072] ![512, 1024] inb_S512x4096_S512x1024_0_3072))
      (iblk m c 2 t)
      (View.ld (iblk m c 1 t : Vec Ideal S8x4096 .f32) (Rect.unit ![0, 1024] ![8, 1024] inb_S8x4096_S8x1024_0_1024))
      (View.ld (iblk m c 1 t : Vec Ideal S8x4096 .f32) (Rect.unit ![0, 2048] ![8, 1024] inb_S8x4096_S8x1024_0_2048))
      (iblk m c 3 t) h (iblk m c 4 t) where
  hi := by
    have ht : t.val < 32 := lt_of_lt_of_eq t.isLt N_0
    rw [coord t]
    omega
  hq := by omega
  hB := rows m c t 0 (by norm_num) _
  hC := rows m c t 1024 (by norm_num) _
  hX := rows m c t 2048 (by norm_num) _
  hG := rows m c t 3072 (by norm_num) _
  hE := blk2 m c t
  hC' := before m c t 1024 (by norm_num) _
  hX' := before m c t 2048 (by norm_num) _
  hw k := ⟨blk3 m c t 0 0 k rfl, blk3 m c t 1 1 k rfl, blk3 m c t 2 2 k rfl⟩
  hO := blk4 m c t
  hh := hh

/-- The eight rows behind the last one hold nothing. -/
theorem dcv_beyond {U : (⟨2, ![16384, 4096]⟩ : Shape).Idx → EReal} {O : Fin 1024 → Fin 1024 → EReal}
    {D : (⟨2, ![16384, 1024]⟩ : Shape).Idx → EReal} {p : ℕ} (hp : 16384 ≤ p) (k : Fin 1024) : dcv U O D p k = 0 := by
  unfold dcv
  rw [show at2 U p (k : ℕ) = 0 from dif_neg (by omega), mul_zero]

/-- After point `t` the eight rows kept are the first of its rows. -/
theorem halo (t : Fin cfg0.N) (r : Fin 8) (k : Fin 1024) :
    ((outsAt0 m c t.val t.isLt).2.2.2.1 (ix2 r k : S8x1024.Idx) : EReal)
      = dcv (argU m c) (argO m c) (argD m c) ((31 - t.val) * 512 + r) k := by
  have z := at_point m c t (fun j => dcv (argU m c) (argO m c) (argD m c) ((31 - t.val) * 512 + 512 + (j 0 : Fin 8)) (j 1)) fun _ _ => rfl
  by_cases h0 : t.val % 32 = 0
  · rw [outsAt0_A m c t h0 (by omega)]
    frame_out
    exact z.halo_at r k
  by_cases h1 : t.val % 32 = 31
  · rw [outsAt0_C m c t h0 h1]
    frame_out
    exact z.halo_at r k
  · rw [outsAt0_B m c t h0 h1]
    frame_out
    exact z.halo_at r k

/-- Before a later point they are the eight rows behind its own. -/
theorem halo_before (t : Fin cfg0.N) (h0 : ¬t.val % 32 = 0) (r : Fin 8) (k : Fin 1024) :
    ((outsAt0 m c (t.val - 1) (Nat.lt_of_le_of_lt (Nat.sub_le _ _) t.isLt)).2.2.2.1 (ix2 r k : S8x1024.Idx) : EReal)
      = dcv (argU m c) (argO m c) (argD m c) ((31 - t.val) * 512 + 512 + r) k := by
  have ht : t.val < 32 := lt_of_lt_of_eq t.isLt N_0
  rw [halo m c ⟨t.val - 1, Nat.lt_of_le_of_lt (Nat.sub_le _ _) t.isLt⟩]
  refine congrArg (fun p => dcv (argU m c) (argO m c) (argD m c) p k) ?_
  show (31 - (t.val - 1)) * 512 + (r : ℕ) = _
  omega

/-- What point `t` adds to the weight's gradient. -/
def gOTerm (t : Fin cfg0.N) (j : S1024x1024.Idx) : EReal :=
  ∑ r : Fin 512, at2 (argU m c) ((31 - t.val) * 512 + r) (j 0 : Fin 1024) * cv (argU m c) (argW m c) ((31 - t.val) * 512 + r) (j 0)
    * slu (argU m c) ((31 - t.val) * 512 + r) (j 0) * at2 (argD m c) ((31 - t.val) * 512 + r) (j 1 : Fin 1024)

theorem acc_first (t : Fin cfg0.N) (h0 : t.val % 32 = 0) (j : S1024x1024.Idx) :
    ((outsAt0 m c t.val t.isLt).2.2.2.2 j : EReal) = 0 + gOTerm m c t j := by
  have z := at_point m c t (fun j => dcv (argU m c) (argO m c) (argD m c) ((31 - t.val) * 512 + 512 + (j 0 : Fin 8)) (j 1)) fun _ _ => rfl
  idx_vars j
  rw [outsAt0_A m c t h0 (by omega)]
  frame_out
  refine (z.gO_at _ _ _).trans (congrArg (· + _) ?_)
  pointwise [k0_pay2]

theorem acc_next (t : Fin cfg0.N) (h0 : ¬t.val % 32 = 0) (j : S1024x1024.Idx) :
    ((outsAt0 m c t.val t.isLt).2.2.2.2 j : EReal)
      = ((outsAt0 m c (t.val - 1) (Nat.lt_of_le_of_lt (Nat.sub_le _ _) t.isLt)).2.2.2.2 j : EReal) + gOTerm m c t j := by
  have z := at_point m c t (fun j => dcv (argU m c) (argO m c) (argD m c) ((31 - t.val) * 512 + 512 + (j 0 : Fin 8)) (j 1)) fun _ _ => rfl
  idx_vars j
  by_cases h1 : t.val % 32 = 31
  · rw [outsAt0_C m c t h0 h1]
    frame_out
    exact (z.gO_at _ _ _).trans (congrArg (· + _) (congrFun (Memref.IsWhole.read_unread _ _) _))
  · rw [outsAt0_B m c t h0 h1]
    frame_out
    exact (z.gO_at _ _ _).trans (congrArg (· + _) (congrFun (Memref.IsWhole.read_unread _ _) _))

/-- What point `t` adds to the gradients of the taps. -/
def tapTerm (t : Fin cfg0.N) (j : S8x1024.Idx) : EReal :=
  ∑ r : Fin 512, tap (argU m c) (argO m c) (argD m c) (j 0 : Fin 8) ((31 - t.val) * 512 + r) (j 1)

/-- Rows 0, 1, 2 stored one after the other: each is read where it was stored, the rest as it was before. -/
theorem stored {κ : Kind} {sp : Space} (v : View sig κ sp S8x1024 .f32) (f : v.ty.Contents (Elt Ideal)) (w0 w1 w2 : Vec Ideal S1x1024 .f32)
    (L : List (View.Piece (Elt Ideal) S8x1024 .f32)) (r : Fin 8) (k : Fin 1024) (x : EReal)
    (h0 : (r : ℕ) = 0 → (w0 (ix2 0 k : S1x1024.Idx) : EReal) = x) (h1 : (r : ℕ) = 1 → (w1 (ix2 0 k : S1x1024.Idx) : EReal) = x)
    (h2 : (r : ℕ) = 2 → (w2 (ix2 0 k : S1x1024.Idx) : EReal) = x)
    (h3 : 3 ≤ (r : ℕ) → (v.read (Elt Ideal) (v.writes (Elt Ideal) f L) (ix2 r k : S8x1024.Idx) : EReal) = x) :
    (v.read (Elt Ideal) (v.writes (Elt Ideal) f
      (⟨Rect.unit (s := S8x1024) ![2, 0] ![1, 1024] inb_S8x1024_S1x1024_2_0, w2⟩
        :: ⟨Rect.unit (s := S8x1024) ![1, 0] ![1, 1024] inb_S8x1024_S1x1024_1_0, w1⟩
        :: ⟨Rect.unit (s := S8x1024) ![0, 0] ![1, 1024] inb_S8x1024_S1x1024_0_0, w0⟩ :: L)) (ix2 r k : S8x1024.Idx) : EReal) = x := by
  by_cases e2 : (r : ℕ) = 2
  · exact (View.read_writes_cons_rows_of_mem (o := 2) v f _ w2 _ (ix2 r k) (ix2 0 k) rfl e2 rfl).trans (h2 e2)
  refine (View.read_writes_cons_rows_of_not_mem (o := 2) (W := 1) v f _ w2 _ (ix2 r k) rfl rfl (by show (r : ℕ) < 2 ∨ 2 + 1 ≤ (r : ℕ); omega)).trans ?_
  by_cases e1 : (r : ℕ) = 1
  · exact (View.read_writes_cons_rows_of_mem (o := 1) v f _ w1 _ (ix2 r k) (ix2 0 k) rfl e1 rfl).trans (h1 e1)
  refine (View.read_writes_cons_rows_of_not_mem (o := 1) (W := 1) v f _ w1 _ (ix2 r k) rfl rfl (by show (r : ℕ) < 1 ∨ 1 + 1 ≤ (r : ℕ); omega)).trans ?_
  by_cases e0 : (r : ℕ) = 0
  · exact (View.read_writes_cons_rows_of_mem (o := 0) v f _ w0 _ (ix2 r k) (ix2 0 k) rfl (by show (r : ℕ) = 0 + 0; omega) rfl).trans (h0 e0)
  exact (View.read_writes_cons_rows_of_not_mem (o := 0) (W := 1) v f _ w0 _ (ix2 r k) rfl rfl (by show (r : ℕ) < 0 ∨ 0 + 1 ≤ (r : ℕ); omega)).trans (h3 (by omega))

/-- A row past the third gets nothing. -/
theorem tap_rest {U : (⟨2, ![16384, 4096]⟩ : Shape).Idx → EReal} {O : Fin 1024 → Fin 1024 → EReal}
    {D : (⟨2, ![16384, 1024]⟩ : Shape).Idx → EReal} {r : ℕ} (hr : 3 ≤ r) (p : ℕ) (k : Fin 1024) : tap U O D r p k = 0 := by
  obtain ⟨n, rfl⟩ := Nat.exists_eq_add_of_le' hr
  rfl

theorem tapTerm_rest (t : Fin cfg0.N) (r : Fin 8) (k : Fin 1024) (hr : 3 ≤ (r : ℕ)) : tapTerm m c t (ix2 r k) = 0 :=
  Finset.sum_eq_zero fun a _ => tap_rest (r := (r : ℕ)) hr _ k

theorem taps_next (t : Fin cfg0.N) (h0 : ¬t.val % 32 = 0) (j : S8x1024.Idx) :
    ((outsAt0 m c t.val t.isLt).2.2.1 j : EReal)
      = ((outsAt0 m c (t.val - 1) (Nat.lt_of_le_of_lt (Nat.sub_le _ _) t.isLt)).2.2.1 j : EReal) + tapTerm m c t j := by
  have z := at_point m c t (fun j => dcv (argU m c) (argO m c) (argD m c) ((31 - t.val) * 512 + 512 + (j 0 : Fin 8)) (j 1)) fun _ _ => rfl
  idx_vars j
  by_cases h1 : t.val % 32 = 31
  · rw [outsAt0_C m c t h0 h1]
    frame_out
    refine stored _ _ _ _ _ [] j0 j1 _ (fun e => ?_) (fun e => ?_) (fun e => ?_) fun e => ?_
    · obtain rfl : j0 = 0 := Fin.ext e
      refine (z.tap0_at _ _).trans (congrArg (· + _) ?_)
      pointwise []
    · obtain rfl : j0 = 1 := Fin.ext e
      refine (z.tap1_at _ _).trans (congrArg (· + _) ?_)
      pointwise []
    · obtain rfl : j0 = 2 := Fin.ext e
      refine (z.tap2_at _ _).trans (congrArg (· + _) ?_)
      pointwise []
    · rw [tapTerm_rest m c t j0 j1 e, add_zero, View.writes_nil, Memref.IsWhole.read_unread]
  · rw [outsAt0_B m c t h0 h1]
    frame_out
    refine stored _ _ _ _ _ [] j0 j1 _ (fun e => ?_) (fun e => ?_) (fun e => ?_) fun e => ?_
    · obtain rfl : j0 = 0 := Fin.ext e
      refine (z.tap0_at _ _).trans (congrArg (· + _) ?_)
      pointwise []
    · obtain rfl : j0 = 1 := Fin.ext e
      refine (z.tap1_at _ _).trans (congrArg (· + _) ?_)
      pointwise []
    · obtain rfl : j0 = 2 := Fin.ext e
      refine (z.tap2_at _ _).trans (congrArg (· + _) ?_)
      pointwise []
    · rw [tapTerm_rest m c t j0 j1 e, add_zero, View.writes_nil, Memref.IsWhole.read_unread]

theorem taps_first (t : Fin cfg0.N) (h0 : t.val % 32 = 0) (j : S8x1024.Idx) :
    ((outsAt0 m c t.val t.isLt).2.2.1 j : EReal) = 0 + tapTerm m c t j := by
  have z := at_point m c t (fun j => dcv (argU m c) (argO m c) (argD m c) ((31 - t.val) * 512 + 512 + (j 0 : Fin 8)) (j 1)) fun _ _ => rfl
  idx_vars j
  rw [outsAt0_A m c t h0 (by omega)]
  frame_out
  refine (View.read_writes_junk_apply_eq_canon (ms0_7 t).view _ _).symm.trans ?_
  refine stored _ _ _ _ _ _ j0 j1 _ (fun e => ?_) (fun e => ?_) (fun e => ?_) fun e => ?_
  · obtain rfl : j0 = 0 := Fin.ext e
    refine (z.tap0_at _ _).trans (congrArg (· + _) ?_)
    rw [View.readCov_fill _ _ _ _ _ (by decide)]
    pointwise [k0_pay3]
  · obtain rfl : j0 = 1 := Fin.ext e
    refine (z.tap1_at _ _).trans (congrArg (· + _) ?_)
    rw [View.readCov_skip _ _ _ _ _ rfl, View.readCov_fill _ _ _ _ _ (by decide)]
    pointwise [k0_pay3]
  · obtain rfl : j0 = 2 := Fin.ext e
    refine (z.tap2_at _ _).trans (congrArg (· + _) ?_)
    rw [View.readCov_skip _ _ _ _ _ rfl, View.readCov_skip _ _ _ _ _ rfl, View.readCov_fill _ _ _ _ _ (by decide)]
    pointwise [k0_pay3]
  · rw [tapTerm_rest m c t j0 j1 e, add_zero]
    refine (View.read_writes_cons_rows_of_mem (o := 0) _ _ _ _ _ (ix2 j0 j1) (ix2 j0 j1) rfl (by show (j0 : ℕ) = 0 + j0; omega) rfl).trans ?_
    pointwise [k0_pay3]

/-- The grid's points run through the rows from the end: their sums are the sum over all rows. -/
theorem sum_back (f : ℕ → EReal) : ∑ s : Fin 32, ∑ r : Fin 512, f ((31 - (s : ℕ)) * 512 + r) = ∑ p : Fin 16384, f p := by
  refine (Equiv.sum_comp Fin.revPerm (fun s : Fin 32 => ∑ r : Fin 512, f ((31 - (s : ℕ)) * 512 + r))).symm.trans (Eq.trans ?_ (Maths.sum_points f))
  refine Finset.sum_congr rfl fun s _ => Finset.sum_congr rfl fun r _ => congrArg f ?_
  show (31 - ((Fin.rev s : Fin 32) : ℕ)) * 512 + (r : ℕ) = s * 512 + r
  rw [Fin.val_rev]
  omega

/-- The first result in its column block `b`. -/
theorem dU_at {U : (⟨2, ![16384, 4096]⟩ : Shape).Idx → EReal} {W : Fin 3 → Fin 1024 → EReal} {O : Fin 1024 → Fin 1024 → EReal}
    {D : (⟨2, ![16384, 1024]⟩ : Shape).Idx → EReal} (b : ℕ) (j : (⟨2, ![16384, 4096]⟩ : Shape).Idx) (p : ℕ) (k : Fin 1024)
    (h0 : ((j 0 : Fin 16384) : ℕ) = p) (h1 : ((j 1 : Fin 4096) : ℕ) = b * 1024 + k) : dU U W O D j = quarter U W O D b p k := by
  have e1 : ((j 1 : Fin 4096) : ℕ) / 1024 = b := by omega
  have e2 : (⟨((j 1 : Fin 4096) : ℕ) % 1024, Nat.mod_lt _ (by norm_num)⟩ : Fin 1024) = k := Fin.ext (by show ((j 1 : Fin 4096) : ℕ) % 1024 = k; omega)
  unfold dU
  rw [e1, e2, h0]

/-- The first result array, whole. -/
theorem final5 : (dats m 0 c).arrAt 5 (cfgs 0).N = dU (argU m c) (argW m c) (argO m c) (argD m c) := by
  refine (dats m 0 c).arrAt_eq_of_covers 5 _ (by decide +kernel) fun t hf y => ?_
  have ht : t.val < 32 := lt_of_lt_of_eq t.isLt N_0
  blk_simp
  rw [after0_5]
  by_cases g0 : t.val % 32 = 0
  · have z := at_point m c t (k0_pay4 (F := Ideal)) fun r k => by
      rw [dcv_beyond (by omega)]
      pointwise [k0_pay4]
    rw [outsAt0_A m c t g0 (by omega)]
    frame_out
    canon_tiles x h <;> idx_vars x
    · refine (z.du3_at x0 x1).trans (dU_at 3 _ _ _ ?_ ?_).symm <;> blk_simp [idx t] <;> omega
    · refine (z.du2_at x0 x1).trans (dU_at 2 _ _ _ ?_ ?_).symm <;> blk_simp [idx t] <;> omega
    · refine (z.du1_at x0 x1).trans (dU_at 1 _ _ _ ?_ ?_).symm <;> blk_simp [idx t] <;> omega
    · refine (z.du0_at x0 x1).trans (dU_at 0 _ _ _ ?_ ?_).symm <;> blk_simp [idx t] <;> omega
  have z := at_point m c t _ (halo_before m c t g0)
  by_cases g1 : t.val % 32 = 31
  · rw [outsAt0_C m c t g0 g1]
    frame_out
    canon_tiles x h <;> idx_vars x
    · refine (z.du3_at x0 x1).trans (dU_at 3 _ _ _ ?_ ?_).symm <;> blk_simp [idx t] <;> omega
    · refine Eq.trans ((at_point m c t _ fun r k => ?_).du2_at x0 x1) (dU_at 2 _ _ _ ?_ ?_).symm
      · exact (congrFun (Memref.IsWhole.read_unread _ _) _).trans (halo_before m c t g0 r k)
      all_goals blk_simp [idx t]
      all_goals omega
    · refine Eq.trans ((at_point m c t _ fun r k => ?_).du1_at x0 x1) (dU_at 1 _ _ _ ?_ ?_).symm
      · exact (congrFun (Memref.IsWhole.read_unread _ _) _).trans (halo_before m c t g0 r k)
      all_goals blk_simp [idx t]
      all_goals omega
    · refine (z.du0_at x0 x1).trans (dU_at 0 _ _ _ ?_ ?_).symm <;> blk_simp [idx t] <;> omega
  · rw [outsAt0_B m c t g0 g1]
    frame_out
    canon_tiles x h <;> idx_vars x
    · refine (z.du3_at x0 x1).trans (dU_at 3 _ _ _ ?_ ?_).symm <;> blk_simp [idx t] <;> omega
    · refine Eq.trans ((at_point m c t _ fun r k => ?_).du2_at x0 x1) (dU_at 2 _ _ _ ?_ ?_).symm
      · exact (congrFun (Memref.IsWhole.read_unread _ _) _).trans (halo_before m c t g0 r k)
      all_goals blk_simp [idx t]
      all_goals omega
    · refine Eq.trans ((at_point m c t _ fun r k => ?_).du1_at x0 x1) (dU_at 1 _ _ _ ?_ ?_).symm
      · exact (congrFun (Memref.IsWhole.read_unread _ _) _).trans (halo_before m c t g0 r k)
      all_goals blk_simp [idx t]
      all_goals omega
    · refine (z.du0_at x0 x1).trans (dU_at 0 _ _ _ ?_ ?_).symm <;> blk_simp [idx t] <;> omega

/-- The second result array, whole. -/
theorem final6 : (dats m 0 c).arrAt 6 (cfgs 0).N = gO (argU m c) (argW m c) (argD m c) := by
  refine (dats m 0 c).arrAt_eq_of_covers 6 _ (by decide +kernel) fun t hf y => ?_
  have hl := (flush0_6 t).mp hf
  have ht : t.val < 32 := lt_of_lt_of_eq t.isLt N_0
  have e : (dats m 0 c).after 6 t = (outsAt0 m c t.val t.isLt).2.2.2.2 := by
    rw [after0_6, outsAt0_C m c t (by omega) hl]
    frame_out
    funext j
    pointwise [k0_pay1]
  blk_simp
  rw [e, Pipeline.eq_sum_fin_of_reset_step_apply_of_flush (fun n h => (outsAt0 m c n h).2.2.2.2) 32 (fun _ => 0) (gOTerm m c)
    (fun t h j => acc_first m c t h j) (fun t h j => acc_next m c t h j) t hl _, zero_add]
  unfold gOTerm
  simp only [run_start ht]
  refine Eq.trans ?_ (congrArg (gO (argU m c) (argW m c) (argD m c)) (ext2 (j := (y : S1024x1024.Idx)) ?_ ?_))
  rotate_left
  · blk_simp [idx t]
  · blk_simp [idx t]
  exact sum_back fun p => at2 (argU m c) p (y 0 : Fin 1024) * cv (argU m c) (argW m c) p (y 0) * slu (argU m c) p (y 0)
    * at2 (argD m c) p (y 1 : Fin 1024)

/-- The third result array, whole. -/
theorem final7 : (dats m 0 c).arrAt 7 (cfgs 0).N = gW (argU m c) (argO m c) (argD m c) := by
  refine (dats m 0 c).arrAt_eq_of_covers 7 _ (by decide +kernel) fun t hf y => ?_
  have hl := (flush0_7 t).mp hf
  have ht : t.val < 32 := lt_of_lt_of_eq t.isLt N_0
  blk_simp
  rw [after0_7, Pipeline.eq_sum_fin_of_reset_step_apply_of_flush (fun n h => (outsAt0 m c n h).2.2.1) 32 (fun _ => 0) (tapTerm m c)
    (fun t h j => taps_first m c t h j) (fun t h j => taps_next m c t h j) t hl _, zero_add]
  unfold tapTerm
  simp only [run_start ht]
  refine Eq.trans ?_ (congrArg (gW (argU m c) (argO m c) (argD m c)) (ext2 (j := (y : S8x1024.Idx)) ?_ ?_))
  rotate_left
  · blk_simp [idx t]
  · blk_simp [idx t]
  exact sum_back fun p => tap (argU m c) (argO m c) (argD m c) (y 0 : Fin 8) p (y 1)

end Cert.LayerA

end
-- ==== Proof.LayerA.Reference.lean ====
/- The reference's gradients of the gated short convolution, element by element: where the arguments are finite they
   equal what the kernel leaves. -/
module

public import proofs.«01_k».proof.Proof.LayerA.Kernel
public import proofs.«01_k».proof.Proof.Maths.Reduce
public import proofs.«01_k».proof.Proof.Maths.Rms
public import proofs.«01_k».proof.Proof.Gen.Reference3Ideal.Read
public import Idealize.ShloMosaic.Lib.Pointwise

@[expose] public section

set_option maxRecDepth 16384
set_option maxHeartbeats 2000000

noncomputable section

namespace Cert.LayerA.Ref

open Idealize.ShloMosaic Idealize.ShloMosaic.TcCoe Idealize.SL.Sem Cert.Attention
open Cert.Reference3Ideal Cert.Reference3Ideal.Gen Cert.Reference3Ideal.Read Cert.Maths

variable (x0 : Vec Ideal S16384x4096 .f32) (x1 : Vec Ideal S1x3x1024 .f32) (x2 : Vec Ideal S1x1024x1024 .f32)
  (x3 : Vec Ideal S16384x1024 .f32)

/-- The taps and the weight behind the gate. -/
def taps (r : Fin 3) (k : Fin 1024) : EReal := x1 (ix3 0 r k : S1x3x1024.Idx)
def weight (j k : Fin 1024) : EReal := x2 (ix3 0 j k : S1x1024x1024.Idx)

theorem prod_ref (p : Fin 16384) (k : Fin 1024) : (val_main_v4 (F := Ideal) x0 (ix2 p k : S16384x1024.Idx) : EReal) = prod x0 p k := by
  unfold prod
  rw [at2_mk x0 p.isLt (by omega), at2_mk x0 p.isLt (by omega)]
  pointwise [val_main_v4, val_main_v1, val_main_v2]

theorem first_ref (p : Fin 16384) (k : Fin 1024) : (val_main_v0 (F := Ideal) x0 (ix2 p k : S16384x1024.Idx) : EReal) = at2 x0 p k := by
  rw [at2_mk x0 p.isLt (by omega)]
  pointwise [val_main_v0]

theorem gate_ref (p : Fin 16384) (k : Fin 1024) : (val_main_v3 (F := Ideal) x0 (ix2 p k : S16384x1024.Idx) : EReal) = gate x0 p k := by
  unfold gate
  rw [at2_mk x0 p.isLt (by omega)]
  pointwise [val_main_v3]

theorem back2_ref (p : Fin 16384) (k : Fin 1024) : (val_main_v11 (F := Ideal) x0 (ix2 p k : S16384x1024.Idx) : EReal) = back x0 2 p k := by
  pointwise [val_main_v11, val_main_v7, val_main_v6, val_main_cst]
  by_cases g : (p : ℕ) < 2
  · rw [dif_pos g]
    exact (back_lt (U := x0) g k).symm
  · rw [dif_neg g]
    exact (prod_ref x0 _ k).trans (back_ge (U := x0) (by omega) k).symm

theorem back1_ref (p : Fin 16384) (k : Fin 1024) : (val_main_v17 (F := Ideal) x0 (ix2 p k : S16384x1024.Idx) : EReal) = back x0 1 p k := by
  pointwise [val_main_v17, val_main_v7, val_main_v6, val_main_cst]
  by_cases g : 1 + (p : ℕ) < 2
  · rw [dif_pos g]
    exact (back_lt (U := x0) (by omega) k).symm
  · rw [dif_neg g]
    refine (prod_ref x0 _ k).trans ((back_ge (U := x0) (by omega) k).trans ?_).symm
    exact congrArg (fun n => prod x0 n k) (by simp only; omega)

theorem back0_ref (p : Fin 16384) (k : Fin 1024) : (val_main_v24 (F := Ideal) x0 (ix2 p k : S16384x1024.Idx) : EReal) = prod x0 p k := by
  pointwise [val_main_v24, val_main_v7, val_main_v6, val_main_cst]
  exact prod_ref x0 p k

theorem cv_ref (p : Fin 16384) (k : Fin 1024) :
    (val_main_v28 (F := Ideal) x0 x1 (ix2 p k : S16384x1024.Idx) : EReal) = cv x0 (taps x1) p k := by
  pointwise [val_main_v28, val_main_v27, val_main_v21, val_main_v20, val_main_v14, val_main_v13, val_main_v12, val_main_v10,
    val_main_v9, val_main_v5, val_main_v19, val_main_v18, val_main_v16, val_main_v15, val_main_v26, val_main_v25, val_main_v23, val_main_v22]
  rw [back2_ref, back1_ref, back0_ref]
  rfl

theorem logistic_ref (p : Fin 16384) (k : Fin 1024) :
    (val_main_v30_2 (F := Ideal) x0 (ix2 p k : S16384x1024.Idx) : EReal) = logistic (gate x0 p k) := by
  pointwise [val_main_v30_2, val_main_call0_v0, val_main_call0_v1, val_main_call0_cst, val_main_call0_v2, val_main_call0_v3,
    val_main_call0_cst_0, val_main_call0_v4]
  rw [gate_ref]
  unfold logistic
  rw [zero_sub]

theorem slu_ref (p : Fin 16384) (k : Fin 1024) :
    (val_main_v30_0 (F := Ideal) x0 (ix2 p k : S16384x1024.Idx) : EReal) = slu x0 p k := by
  pointwise [val_main_v30_0]
  rw [gate_ref, logistic_ref]
  rfl

theorem dya_ref (p : Fin 16384) (k : Fin 1024) :
    (val_main_v36 (F := Ideal) x2 x3 (ix2 p k : S16384x1024.Idx) : EReal) = dya (weight x2) x3 p k := by
  unfold dya weight
  pointwise [val_main_v36, val_main_v32]
  exact Finset.sum_congr rfl fun j _ => by rw [at2_ix]

theorem dy_ref (p : Fin 16384) (k : Fin 1024) :
    (val_main_v39 (F := Ideal) x0 x2 x3 (ix2 p k : S16384x1024.Idx) : EReal) = dy x0 (weight x2) x3 p k := by
  pointwise [val_main_v39]
  rw [dya_ref, slu_ref]
  rfl

theorem dcv_ref (p : Fin 16384) (k : Fin 1024) :
    (val_main_v41 (F := Ideal) x0 x2 x3 (ix2 p k : S16384x1024.Idx) : EReal) = dcv x0 (weight x2) x3 p k := by
  pointwise [val_main_v41]
  rw [dy_ref, first_ref]
  exact mul_comm _ _

theorem dp_ref (p : Fin 16384) (k : Fin 1024) :
    (val_main_v75 (F := Ideal) x0 x1 x2 x3 (ix2 p k : S16384x1024.Idx) : EReal) = dp x0 (taps x1) (weight x2) x3 p k := by
  pointwise [val_main_v75, val_main_v70, val_main_v69, val_main_v59, val_main_v58, val_main_v49, val_main_v44, val_main_v53, val_main_v64,
    val_main_v43, val_main_v52, val_main_v63, val_main_v12, val_main_v10,
    val_main_v9, val_main_v5, val_main_v18, val_main_v16, val_main_v15, val_main_v25, val_main_v23, val_main_v22,
    val_main_cst_3, val_main_cst_7, val_main_cst_11]
  unfold dp
  congr 1
  · congr 1
    · rw [dcv_ref]; rfl
    · split_ifs with g
      · rw [dcv_ref]
        exact congrArg (fun n => taps x1 1 k * dcv x0 (weight x2) x3 n k) (by simp only; omega)
      · rw [dcv_beyond (by omega), mul_zero]
  · split_ifs with g
    · rw [dcv_ref]
      exact congrArg (fun n => taps x1 0 k * dcv x0 (weight x2) x3 n k) (by simp only; omega)
    · rw [dcv_beyond (by omega), mul_zero]

theorem gW_ref : val_main_v84 (F := Ideal) x0 x2 x3 = gW x0 (weight x2) x3 := by
  funext j
  idx_vars j
  pointwise [val_main_v84, val_main_v83, val_main_v76, val_main_v73, val_main_v72, val_main_v62, val_main_v61, val_main_v51,
    val_main_v71, val_main_v60, val_main_v50, val_main_v68, val_main_v57, val_main_v48, val_main_v67, val_main_v56, val_main_v47,
    val_main_v66, val_main_v55, val_main_v46, val_main_v65, val_main_v54, val_main_v45, val_main_cst_1, val_main_cst_2,
    val_main_cst_5, val_main_cst_6, val_main_cst_9, val_main_cst_10, val_main_cst_4, val_main_cst_8, val_main_cst_12,
    val_main_call2_v0, val_main_c]
  have e (f : Fin 16384 → EReal) (r : ℕ) (h : ∀ p : Fin 16384, f p = tap x0 (weight x2) x3 r p j1) (hr : (j0 : ℕ) = r) :
      (∑ _x : Fin 1, ∑ p, f p) = gW x0 (weight x2) x3 (ix2 j0 j1) := by
    subst hr
    rw [Fin.sum_univ_one]
    exact Finset.sum_congr rfl fun p _ => h p
  rcases (by omega : (j0 : ℕ) = 0 ∨ (j0 : ℕ) = 1 ∨ (j0 : ℕ) = 2 ∨ 3 ≤ (j0 : ℕ)) with g | g | g | g
  · rw [dif_pos (by omega), dif_neg (by omega), dif_neg (by omega), dif_pos (by omega), zero_add, zero_add]
    exact e _ 0 (fun p => by rw [dcv_ref, back2_ref]; rfl) g
  · rw [dif_pos (by omega), dif_neg (by omega), dif_pos (by omega), dif_neg (by omega), zero_add, add_zero]
    exact e _ 1 (fun p => by rw [dcv_ref, back1_ref]; rfl) g
  · rw [dif_pos (by omega), dif_pos (by omega), dif_neg (by omega), dif_neg (by omega), add_zero, add_zero]
    exact e _ 2 (fun p => by rw [dcv_ref, back0_ref]; rfl) g
  · rw [dif_neg (by omega)]
    refine Eq.trans (by simp [FloatOps.sitofp]) (Finset.sum_eq_zero fun p _ => ?_).symm
    show tap x0 (weight x2) x3 (j0 : ℕ) p j1 = 0
    unfold tap
    split <;> first | omega | rfl

theorem gO_ref : val_main_v82 (F := Ideal) x0 x1 x3 = gO x0 (taps x1) x3 := by
  funext j
  idx_vars j
  pointwise [val_main_v82, val_main_v81, val_main_v37, val_main_v35, val_main_v34, val_main_v31, val_main_v29]
  refine Finset.sum_congr rfl fun p _ => ?_
  rw [first_ref, cv_ref, slu_ref, mul_comm, ← at2_ix x3 p j1]
  rfl

/-- The logistic function of a real number is a real number. -/
theorem logistic_real (g : ℝ) : ∃ s : ℝ, logistic g = s := by
  unfold logistic
  have h : (1 : ℝ) + Real.exp (0 - g) ≠ 0 := by positivity
  rw [show (1 : EReal) + Ideal.exp (0 - (g : EReal)) = ((1 + Real.exp (0 - g) : ℝ) : EReal) by norm_cast, Ideal.div_coe h]
  exact ⟨_, one_mul _⟩

theorem logistic_top : logistic ⊤ = 1 := by
  unfold logistic
  rw [zero_sub, EReal.neg_top, Ideal.exp_bot, add_zero, show (1 : EReal) = ((1 : ℝ) : EReal) from rfl, Ideal.div_coe one_ne_zero]
  norm_num

theorem logistic_bot : logistic ⊥ = 0 := by
  unfold logistic
  rw [zero_sub, EReal.neg_bot, Ideal.exp_top]
  rw [show (1 : EReal) + ⊤ = ⊤ from rfl]
  simp [Ideal.div]

/-- The two ways of writing what reaches the gate, for a real factor. -/
theorem gate_grad (A : ℝ) (g : EReal) :
    (A : EReal) * logistic g + g * A * (logistic g * (1 - logistic g)) = A * (logistic g * (1 + g * (1 - logistic g))) := by
  induction g with
  | bot => simp [logistic_bot]
  | top =>
    rw [logistic_top, show (1 : EReal) - 1 = 0 from by rw [show (1 : EReal) = ((1 : ℝ) : EReal) from rfl]; norm_cast]
    simp
  | coe g =>
    obtain ⟨s, hs⟩ := logistic_real g
    rw [hs]
    norm_cast
    ring

/-- The arguments that must be real for the last column block. -/
structure Finite : Prop where
  u : ∀ (p : Fin 16384) (k : Fin 3072), ∃ r : ℝ, (x0 (ix2 p ⟨k, by omega⟩ : S16384x4096.Idx) : EReal) = r
  w : ∀ r k, ∃ y : ℝ, taps x1 r k = y
  o : ∀ j k, ∃ y : ℝ, weight x2 j k = y
  d : ∀ (p : Fin 16384) (k : Fin 1024), ∃ r : ℝ, (x3 (ix2 p k : S16384x1024.Idx) : EReal) = r

variable {x0 x1 x2 x3}

theorem real_mul {x y : EReal} (hx : ∃ r : ℝ, x = r) (hy : ∃ r : ℝ, y = r) : ∃ r : ℝ, x * y = r := by
  obtain ⟨r, rfl⟩ := hx
  obtain ⟨s, rfl⟩ := hy
  exact ⟨r * s, by norm_cast⟩

theorem real_add {x y : EReal} (hx : ∃ r : ℝ, x = r) (hy : ∃ r : ℝ, y = r) : ∃ r : ℝ, x + y = r := by
  obtain ⟨r, rfl⟩ := hx
  obtain ⟨s, rfl⟩ := hy
  exact ⟨r + s, by norm_cast⟩

theorem real_sum {ι : Type} [Fintype ι] {f : ι → EReal} (h : ∀ i, ∃ r : ℝ, f i = r) : ∃ r : ℝ, ∑ i, f i = r := by
  choose r hr using h
  exact ⟨∑ i, r i, by rw [coe_sum]; exact Finset.sum_congr rfl fun i _ => hr i⟩

theorem real_prod (z : Finite x0 x1 x2 x3) (p : Fin 16384) (k : Fin 1024) : ∃ r : ℝ, prod x0 p k = r := by
  unfold prod
  rw [at2_mk x0 p.isLt (by omega), at2_mk x0 p.isLt (by omega)]
  exact real_mul (z.u p ⟨1024 + k, by omega⟩) (z.u p ⟨2048 + k, by omega⟩)

theorem real_back (z : Finite x0 x1 x2 x3) (d : ℕ) (p : Fin 16384) (k : Fin 1024) : ∃ r : ℝ, back x0 d p k = r := by
  unfold back
  split_ifs
  · exact real_prod z ⟨p - d, by omega⟩ k
  · exact ⟨0, rfl⟩

theorem real_cv (z : Finite x0 x1 x2 x3) (p : Fin 16384) (k : Fin 1024) : ∃ r : ℝ, cv x0 (taps x1) p k = r :=
  real_add (real_add (real_mul (z.w 0 k) (real_back z 2 p k)) (real_mul (z.w 1 k) (real_back z 1 p k)))
    (real_mul (z.w 2 k) (real_prod z p k))

theorem real_dya (z : Finite x0 x1 x2 x3) (p : Fin 16384) (k : Fin 1024) : ∃ r : ℝ, dya (weight x2) x3 p k = r :=
  real_sum fun j => real_mul (by rw [at2_ix]; exact z.d p j) (z.o k j)

theorem last_ref (z : Finite x0 x1 x2 x3) (p : Fin 16384) (k : Fin 1024) :
    (val_main_v40 (F := Ideal) x0 x1 x2 x3 (ix2 p k : S16384x1024.Idx) : EReal) =
      dya (weight x2) x3 p k * (at2 x0 p k * cv x0 (taps x1) p k) * dslu x0 p k := by
  pointwise [val_main_v40, val_main_call1_v0, val_main_call1_v1, val_main_call1_v2, val_main_v38, val_main_v30_1, val_main_v29,
    val_main_call0_v6, val_main_call0_v7, val_main_call0_cst_1]
  rw [dya_ref, gate_ref, logistic_ref, first_ref, cv_ref]
  obtain ⟨A, hA⟩ := real_mul (real_mul (z.u p ⟨k, by omega⟩) (real_cv z p k)) (real_dya z p k)
  rw [← at2_mk x0 p.isLt (by omega)] at hA
  unfold dslu
  rw [mul_comm (dya _ _ _ _), hA]
  exact gate_grad A _

theorem dU_ref (z : Finite x0 x1 x2 x3) : val_main_v80 (F := Ideal) x0 x1 x2 x3 = dU x0 (taps x1) (weight x2) x3 := by
  funext j
  idx_vars j
  pointwise [val_main_v80, val_main_v79]
  have e (b : ℕ) (k : Fin 1024) (h : b * 1024 + k.val = j1.val) :
      quarter x0 (taps x1) (weight x2) x3 b j0 k = dU x0 (taps x1) (weight x2) x3 (ix2 j0 j1) := by
    unfold dU
    congr 1
    · show b = j1.val / 1024
      omega
    · exact Fin.ext (show k.val = j1.val % 1024 by omega)
  rcases (by omega : j1.val < 1024 ∨ (1024 ≤ j1.val ∧ j1.val < 2048) ∨ (2048 ≤ j1.val ∧ j1.val < 3072) ∨ 3072 ≤ j1.val)
    with g | g | g | g
  · rw [dif_pos g]
    refine Eq.trans ?_ (e 0 ⟨j1, by omega⟩ (by simp only; omega))
    pointwise [val_main_v42]
    rw [dy_ref, cv_ref]
    rfl
  · rw [dif_neg (by omega), dif_pos (by omega)]
    refine Eq.trans ?_ (e 1 ⟨j1 - 1024, by omega⟩ (by simp only; omega))
    pointwise [val_main_v78, val_main_v2]
    rw [dp_ref, ← at2_mk x0 j0.isLt (by omega)]
    rfl
  · rw [dif_neg (by omega), dif_neg (by omega), dif_pos (by omega)]
    refine Eq.trans ?_ (e 2 ⟨j1 - 1024 - 1024, by omega⟩ (by simp only; omega))
    pointwise [val_main_v77, val_main_v1]
    rw [dp_ref, ← at2_mk x0 j0.isLt (by omega), mul_comm]
    rfl
  · rw [dif_neg (by omega), dif_neg (by omega), dif_neg (by omega)]
    exact (last_ref z j0 _).trans (e 3 ⟨j1 - 1024 - 1024 - 1024, by omega⟩ (by simp only; omega))

end Cert.LayerA.Ref

end
-- ==== Proof.LayerA.Claim.lean ====
/- The gated short convolution's backward call against the reference: all three results agree where the arguments are
   finite. -/
module

public import proofs.«01_k».proof.Proof.LayerA.Reference
public import proofs.«01_k».proof.Proof.Maths.Finite
public import proofs.«01_k».proof.Proof.Gen.Pre_layer_a_finite
public import proofs.«01_k».proof.Proof.Gen.Kernel3Ideal.Value
public import proofs.«01_k».proof.Proof.Gen.Reference3Ideal.Run
public import proofs.«01_k».proof.Defs

@[expose] public section

set_option maxRecDepth 16384
set_option maxHeartbeats 2000000

noncomputable section

namespace Cert.LayerA

open Idealize.ShloMosaic Idealize.ShloMosaic.TcCoe Idealize.SL.Sem
open Cert.Maths Cert.Kernel3Ideal

variable (m : (ℓ : Loc nD τ sig) → Buf (Elt Idealize.ShloMosaic.Ideal) ℓ) (h : Pre_Kernel3Ideal_layer_a_finite m) (c : Dev nD)

include h in
/-- What the precondition says at one place. -/
theorem finite_at (p : Fin 16384) (k : Fin 1024) :
    (∀ b : Fin 3, ∃ r : ℝ, argU m c (ix2 p ⟨b * 1024 + k, by omega⟩) = r) ∧ (∀ b : Fin 3, ∃ r : ℝ, argW m c b k = r) ∧
      (∀ g : p.val < 1024, ∃ r : ℝ, argO m c ⟨p, g⟩ k = r) ∧ ∃ r : ℝ, argD m c (ix2 p k) = r := by
  have := congrFun (h c) (ix2 p k)
  pointwise [Cert.Pre_layer_a_finite.fn, Cert.Pre_layer_a_finite.fn_part1, Cert.Pre_layer_a_finite.fn_part2,
    Cert.Pre_layer_a_finite.fn_pad] at this
  obtain ⟨this, gd⟩ := Maths.both this
  obtain ⟨this, go⟩ := Maths.both this
  obtain ⟨this, gw2⟩ := Maths.both this
  obtain ⟨this, gw1⟩ := Maths.both this
  obtain ⟨this, gw0⟩ := Maths.both this
  obtain ⟨this, gu2⟩ := Maths.both this
  obtain ⟨gu0, gu1⟩ := Maths.both this
  refine ⟨fun b => ?_, fun b => ?_, fun g => ?_, Maths.real_of_abs_lt gd⟩
  · match b with
    | 0 =>
      obtain ⟨r, e⟩ := Maths.real_of_abs_lt gu0
      refine ⟨r, Eq.trans ?_ e⟩
      exact congrArg (argU m c) (ext2 rfl (by simp [ix2]))
    | 1 => exact Maths.real_of_abs_lt gu1
    | 2 => exact Maths.real_of_abs_lt gu2
  · match b with
    | 0 => exact Maths.real_of_abs_lt gw0
    | 1 => exact Maths.real_of_abs_lt gw1
    | 2 => exact Maths.real_of_abs_lt gw2
  · rw [dif_pos g] at go
    exact Maths.real_of_abs_lt go

include h in
/-- The arguments that must be real are. -/
theorem finite : Ref.Finite (argU m c) (m ((c : Thread nD τ).loc main_arg1)) (m ((c : Thread nD τ).loc main_arg2)) (argD m c) where
  u p k := by
    obtain ⟨r, g⟩ := (finite_at m h c p ⟨k.val % 1024, by omega⟩).1 ⟨k.val / 1024, by omega⟩
    refine ⟨r, g.symm.trans ?_ |>.symm⟩
    exact congrArg (argU m c) (ext2 rfl (by simp only [ix2]; omega))
  w r k := (finite_at m h c 0 k).2.1 r
  o j k := (finite_at m h c ⟨j, by omega⟩ k).2.2.1 j.isLt
  d p k := (finite_at m h c p k).2.2.2

/-- The results agree. -/
theorem algebraic : algebraic_Kernel3Ideal_Reference3Ideal_pre_layer_a_finite := by
  intro m g m' g' hpre hagree
  refine ⟨_, _, _, Cert.Kernel3Ideal.Value.run_blocks m g, θ_run_mono (Cert.Reference3Ideal.Value.run m' g') fun r h c => ?_⟩
  obtain rfl : c = 0 := Subsingleton.elim _ _
  obtain ⟨e0, e1, e2, e⟩ := h 0
  obtain ⟨h0, h1, h2, h3⟩ := hagree 0
  refine ⟨e0.trans ?_, e1.trans ?_, e2.trans ?_, e⟩
  · rw [Reference3Ideal.Read.val_main_v80_eq, h0, h1, h2, h3]
    exact (Ref.dU_ref (finite m hpre 0)).trans (final5 m 0).symm
  · rw [Reference3Ideal.Read.val_main_v82_eq, h0, h1, h3]
    exact (Ref.gO_ref _ _ _).trans (final6 m 0).symm
  · rw [Reference3Ideal.Read.val_main_v84_eq, h0, h2, h3]
    exact (Ref.gW_ref _ _ _).trans (final7 m 0).symm

end Cert.LayerA

end
-- ==== Proof.Proj.Formula.lean ====
/- The gradients through the two norms in front of the attention, as the kernel computes them: of the input row, of the
   two projections' weights and of the two gains. -/
module

public import proofs.«01_k».proof.Proof.Maths.Rms
public import proofs.«01_k».proof.Proof.Attention.Entries

@[expose] public section

noncomputable section

namespace Cert.Proj

open Idealize.ShloMosaic Cert.Attention Cert.Maths

variable (X D : (⟨2, ![16384, 1024]⟩ : Shape).Idx → EReal) (A B : (⟨2, ![16384, 512]⟩ : Shape).Idx → EReal)
  (W : (⟨2, ![1024, 1024]⟩ : Shape).Idx → EReal) (g : Fin 1024 → EReal)

/-- Row `p` of the input. -/
def row (p : ℕ) (k : Fin 1024) : EReal := at2 X p k

/-- The normalised row, before its gain. -/
def nrm (p : ℕ) (k : Fin 1024) : EReal := at2 X p k * rstd (row X p)

/-- What reaches the normalised row through one projection: the two halves' cotangents against the weight's two halves. -/
def dh (p : ℕ) (k : Fin 1024) : EReal :=
  ∑ l : Fin 512, at2 A p l * at2 W k l + ∑ l : Fin 512, at2 B p l * at2 W k (512 + l)

/-- The norm's gradient in row `p` for the cotangent `ct` of the normalised row. -/
def drow (ct : ℕ → Fin 1024 → EReal) (p : ℕ) (k : Fin 1024) : EReal :=
  rstd (row X p) * (ct p k - nrm X p k * Ideal.div (∑ q : Fin 1024, ct p q * nrm X p q) (Ideal.ofBits .f32 1149239296#32))

/-- What row `p` gives to one gain's gradient. -/
def gainTerm (p : ℕ) (k : Fin 1024) : EReal := dh A B W p k * nrm X p k

/-- One gain's gradient. -/
def dgain : (⟨2, ![1, 1024]⟩ : Shape).Idx → EReal := fun j => ∑ p : Fin 16384, gainTerm X A B W p (j 1)

/-- What row `p` gives to one projection's weight. -/
def weightTerm (p : ℕ) (k : Fin 1024) (l : ℕ) : EReal :=
  nrm X p k * g k * if l < 512 then at2 A p l else at2 B p (l - 512)

/-- One projection's weight's gradient. -/
def dweight : (⟨2, ![1024, 1024]⟩ : Shape).Idx → EReal := fun j =>
  ∑ p : Fin 16384, weightTerm X A B g p (j 0) (j 1 : Fin 1024)

/-- The input's gradient. -/
def dx (A' B' : (⟨2, ![16384, 512]⟩ : Shape).Idx → EReal) (W' : (⟨2, ![1024, 1024]⟩ : Shape).Idx → EReal)
    (g' : Fin 1024 → EReal) : (⟨2, ![16384, 1024]⟩ : Shape).Idx → EReal := fun j =>
  D j + drow X (fun p k => dh A B W p k * g k + dh A' B' W' p k * g' k) (j 0 : Fin 16384) (j 1)

end Cert.Proj

end
-- ==== Proof.Proj.Block.lean ====
/- What the call for the gradients through the two norms leaves in its results, element by element. -/
module

public import proofs.«01_k».proof.Proof.Gen.Kernel5Ideal.Value
public import proofs.«01_k».proof.Proof.Proj.Formula
public import Idealize.ShloMosaic.Lib.Pointwise
public import Idealize.ShloMosaic.Lib.WritesUnit
public import Idealize.ShloMosaic.Lib.Pipeline.ReadBack
public import Idealize.ShloMosaic.Lib.Pipeline.ValueKit
public import Idealize.ShloMosaic.Lib.Claim

@[expose] public section

set_option maxRecDepth 16384
set_option maxHeartbeats 2000000

noncomputable section

namespace Cert.Proj

open Idealize.ShloMosaic Idealize.ShloMosaic.TcCoe Idealize.SL.Sem Cert.Attention Cert.Maths
open Cert.Kernel5Ideal Cert.Kernel5Ideal.Gen

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![0, 0] ∧ win0_12.index t = ![0, 0] ∧ win0_13.index t = ![0, 0] ∧ win0_14.index t = ![0, 0] :=
  (by decide +kernel : ∀ t : Fin grid0.N, _)

variable (m : (ℓ : Loc nD τ sig) → Buf (Elt Ideal) ℓ) (c : Dev nD)

/-- The arguments. -/
def argX : (⟨2, ![16384, 1024]⟩ : Shape).Idx → EReal := fun j =>
  (m ((c : Thread nD τ).loc main_arg0) : Vec Ideal S1x16384x1024 .f32) (ix3 0 (j 0) (j 1) : S1x16384x1024.Idx)
def argGK (k : Fin 1024) : EReal := (m ((c : Thread nD τ).loc main_arg1) : Vec Ideal S1024 .f32) (ix1 k : S1024.Idx)
def argWK : (⟨2, ![1024, 1024]⟩ : Shape).Idx → EReal := (m ((c : Thread nD τ).loc main_arg2) : Vec Ideal S1024x1024 .f32)
def argGB (k : Fin 1024) : EReal := (m ((c : Thread nD τ).loc main_arg3) : Vec Ideal S1x1024 .f32) (ix2 0 k : S1x1024.Idx)
def argWB : (⟨2, ![1024, 1024]⟩ : Shape).Idx → EReal := fun j =>
  (m ((c : Thread nD τ).loc main_arg4) : Vec Ideal S1x1024x1024 .f32) (ix3 0 (j 0) (j 1) : S1x1024x1024.Idx)
def argD : (⟨2, ![16384, 1024]⟩ : Shape).Idx → EReal := (m ((c : Thread nD τ).loc main_arg5) : Vec Ideal S16384x1024 .f32)
def argQ : (⟨2, ![16384, 512]⟩ : Shape).Idx → EReal := (m ((c : Thread nD τ).loc main_arg6) : Vec Ideal S16384x512 .bf16)
def argG : (⟨2, ![16384, 512]⟩ : Shape).Idx → EReal := (m ((c : Thread nD τ).loc main_arg7) : Vec Ideal S16384x512 .bf16)
def argK : (⟨2, ![16384, 512]⟩ : Shape).Idx → EReal := (m ((c : Thread nD τ).loc main_arg8) : Vec Ideal S16384x512 .bf16)
def argV : (⟨2, ![16384, 512]⟩ : Shape).Idx → EReal := (m ((c : Thread nD τ).loc main_arg9) : Vec Ideal S16384x512 .bf16)

/-- The staged blocks at point `t`, read in the arguments. -/
theorem blk0 (t : Fin cfg0.N) (a : Fin 512) (k : Fin 1024) :
    (iblk m c 0 t (ix2 a k : S512x1024.Idx) : EReal) = at2 (argX m c) (t.val * 512 + a) k := by
  have ht : t.val < 32 := lt_of_lt_of_eq t.isLt N_0
  rw [at2_mk _ (by omega) (by omega)]
  unfold argX
  blk_point [iblk, V, idx t]

theorem blk1 (t : Fin cfg0.N) (a : Fin 512) (k : Fin 1024) :
    (iblk m c 1 t (ix2 a k : S512x1024.Idx) : EReal) = at2 (argD m c) (t.val * 512 + a) k := by
  have ht : t.val < 32 := lt_of_lt_of_eq t.isLt N_0
  rw [at2_mk _ (by omega) (by omega)]
  unfold argD
  blk_point [iblk, V, idx t]

theorem blk2 (t : Fin cfg0.N) (a l : Fin 512) :
    (iblk m c 2 t (ix2 a l : S512x512.Idx) : EReal) = at2 (argQ m c) (t.val * 512 + a) l := by
  have ht : t.val < 32 := lt_of_lt_of_eq t.isLt N_0
  rw [at2_mk _ (by omega) (by omega)]
  unfold argQ
  blk_point [iblk, V, idx t]

theorem blk3 (t : Fin cfg0.N) (a l : Fin 512) :
    (iblk m c 3 t (ix2 a l : S512x512.Idx) : EReal) = at2 (argG m c) (t.val * 512 + a) l := by
  have ht : t.val < 32 := lt_of_lt_of_eq t.isLt N_0
  rw [at2_mk _ (by omega) (by omega)]
  unfold argG
  blk_point [iblk, V, idx t]

theorem blk4 (t : Fin cfg0.N) (a l : Fin 512) :
    (iblk m c 4 t (ix2 a l : S512x512.Idx) : EReal) = at2 (argK m c) (t.val * 512 + a) l := by
  have ht : t.val < 32 := lt_of_lt_of_eq t.isLt N_0
  rw [at2_mk _ (by omega) (by omega)]
  unfold argK
  blk_point [iblk, V, idx t]

theorem blk5 (t : Fin cfg0.N) (a l : Fin 512) :
    (iblk m c 5 t (ix2 a l : S512x512.Idx) : EReal) = at2 (argV m c) (t.val * 512 + a) l := by
  have ht : t.val < 32 := lt_of_lt_of_eq t.isLt N_0
  rw [at2_mk _ (by omega) (by omega)]
  unfold argV
  blk_point [iblk, V, idx t]

theorem blk6 (t : Fin cfg0.N) (k l : Fin 1024) :
    (iblk m c 6 t (ix2 k l : S1024x1024.Idx) : EReal) = at2 (argWB m c) k l := by
  rw [at2_ix]
  unfold argWB
  blk_point [iblk, V, idx t]

theorem blk7 (t : Fin cfg0.N) (k l : Fin 1024) :
    (iblk m c 7 t (ix2 k l : S1024x1024.Idx) : EReal) = at2 (argWK m c) k l := by
  rw [at2_ix]
  unfold argWK
  blk_point [iblk, V, idx t]

theorem blk8 (t : Fin cfg0.N) (k : Fin 1024) : (iblk m c 8 t (ix2 0 k : S1x1024.Idx) : EReal) = argGB m c k := by
  unfold argGB
  blk_point [iblk, V, idx t]

theorem blk9 (t : Fin cfg0.N) (k : Fin 1024) : (iblk m c 9 t (ix2 0 k : S1x1024.Idx) : EReal) = argGK m c k := by
  unfold argGK
  blk_point [iblk, V, idx t]

/-- The left and the right half of a weight's block, the two halves of columns that are read separately. -/
abbrev left (x : Vec Ideal S1024x1024 .bf16) : Vec Ideal S1024x512 .bf16 :=
  View.ld x (Rect.unit ![0, 0] ![1024, 512] inb_S1024x1024_S1024x512_0_0)
abbrev right (x : Vec Ideal S1024x1024 .bf16) : Vec Ideal S1024x512 .bf16 :=
  View.ld x (Rect.unit ![0, 512] ![1024, 512] inb_S1024x1024_S1024x512_0_512)

theorem left_B (t : Fin cfg0.N) (k : Fin 1024) (l : Fin 512) :
    (left (iblk m c 6 t) (ix2 k l : S1024x512.Idx) : EReal) = at2 (argWB m c) k l := by
  refine Eq.trans ?_ (blk6 m c t k ⟨l, by omega⟩)
  show View.ld _ _ _ = _
  pointwise []

theorem right_B (t : Fin cfg0.N) (k : Fin 1024) (l : Fin 512) :
    (right (iblk m c 6 t) (ix2 k l : S1024x512.Idx) : EReal) = at2 (argWB m c) k (512 + l) := by
  refine Eq.trans ?_ (blk6 m c t k ⟨512 + l, by omega⟩)
  show View.ld _ _ _ = _
  pointwise []

theorem left_K (t : Fin cfg0.N) (k : Fin 1024) (l : Fin 512) :
    (left (iblk m c 7 t) (ix2 k l : S1024x512.Idx) : EReal) = at2 (argWK m c) k l := by
  refine Eq.trans ?_ (blk7 m c t k ⟨l, by omega⟩)
  show View.ld _ _ _ = _
  pointwise []

theorem right_K (t : Fin cfg0.N) (k : Fin 1024) (l : Fin 512) :
    (right (iblk m c 7 t) (ix2 k l : S1024x512.Idx) : EReal) = at2 (argWK m c) k (512 + l) := by
  refine Eq.trans ?_ (blk7 m c t k ⟨512 + l, by omega⟩)
  show View.ld _ _ _ = _
  pointwise []

/-- The reciprocal root of a row of the block. -/
theorem rstd_at (t : Fin cfg0.N) (a : Fin 512) (b : Fin 1) :
    (k0_pay6 (iblk m c 0 t) (ix2 a b : S512x1.Idx) : EReal) = rstd (row (argX m c) (t.val * 512 + a)) := by
  pointwise [k0_pay6, k0_pay5]
  simp only [blk0]
  rfl

/-- The normalised row. -/
theorem nrm_at (t : Fin cfg0.N) (a : Fin 512) (k : Fin 1024) :
    (k0_pay7 (iblk m c 0 t) (ix2 a k : S512x1024.Idx) : EReal) = nrm (argX m c) (t.val * 512 + a) k := by
  pointwise [k0_pay7, k0_pay5]
  rw [rstd_at, blk0]
  rfl

/-- What reaches the normalised row through the first projection, -/
theorem dhB_at (t : Fin cfg0.N) (a : Fin 512) (k : Fin 1024) :
    (k0_pay15 (iblk m c 2 t) (iblk m c 3 t) (left (iblk m c 6 t)) (right (iblk m c 6 t)) (ix2 a k : S512x1024.Idx) : EReal)
      = dh (argQ m c) (argG m c) (argWB m c) (t.val * 512 + a) k := by
  pointwise [k0_pay15]
  simp only [left_B, right_B, blk2, blk3]
  rfl

/-- and through the second. -/
theorem dhK_at (t : Fin cfg0.N) (a : Fin 512) (k : Fin 1024) :
    (k0_pay18 (iblk m c 5 t) (k0_pay16 (iblk m c 4 t) (left (iblk m c 7 t))) (k0_pay17 (right (iblk m c 7 t))) (ix2 a k : S512x1024.Idx) : EReal)
      = dh (argK m c) (argV m c) (argWK m c) (t.val * 512 + a) k := by
  pointwise [k0_pay16, k0_pay17, k0_pay18]
  simp only [left_K, right_K, blk4, blk5]
  rfl

/-- The first gain's gradient, a point's rows added. -/
theorem gainB_at (t : Fin cfg0.N) (acc : Vec Ideal S1x1024 .f32) (k : Fin 1024) :
    (k0_pay19 (k0_pay7 (iblk m c 0 t)) (k0_pay15 (iblk m c 2 t) (iblk m c 3 t) (left (iblk m c 6 t)) (right (iblk m c 6 t))) acc
      (ix2 0 k : S1x1024.Idx) : EReal) = (acc (ix2 0 k : S1x1024.Idx) : EReal)
      + ∑ a : Fin 512, gainTerm (argX m c) (argQ m c) (argG m c) (argWB m c) (t.val * 512 + a) k := by
  pointwise [k0_pay19]
  simp only [nrm_at, dhB_at]
  rfl

theorem gainK_at (t : Fin cfg0.N) (acc : Vec Ideal S1x1024 .f32) (k : Fin 1024) :
    (k0_pay20 (k0_pay7 (iblk m c 0 t)) (iblk m c 5 t) (k0_pay16 (iblk m c 4 t) (left (iblk m c 7 t))) (k0_pay17 (right (iblk m c 7 t))) acc
      (ix2 0 k : S1x1024.Idx) : EReal) = (acc (ix2 0 k : S1x1024.Idx) : EReal)
      + ∑ a : Fin 512, gainTerm (argX m c) (argK m c) (argV m c) (argWK m c) (t.val * 512 + a) k := by
  pointwise [k0_pay20]
  simp only [nrm_at, dhK_at]
  rfl

/-- The rows of the first result. -/
theorem dx_at (t : Fin cfg0.N) (a : Fin 512) (k : Fin 1024) :
    (k0_pay21 (k0_pay6 (iblk m c 0 t)) (k0_pay7 (iblk m c 0 t)) (iblk m c 8 t) (k0_pay8 (iblk m c 9 t)) (iblk m c 5 t)
      (k0_pay15 (iblk m c 2 t) (iblk m c 3 t) (left (iblk m c 6 t)) (right (iblk m c 6 t)))
      (k0_pay16 (iblk m c 4 t) (left (iblk m c 7 t))) (k0_pay17 (right (iblk m c 7 t))) (iblk m c 1 t) (ix2 a k : S512x1024.Idx) : EReal)
      = at2 (argD m c) (t.val * 512 + a) k + drow (argX m c) (fun p k =>
          dh (argQ m c) (argG m c) (argWB m c) p k * argGB m c k + dh (argK m c) (argV m c) (argWK m c) p k * argGK m c k)
          (t.val * 512 + a) k := by
  pointwise [k0_pay21, k0_pay8]
  simp only [nrm_at, dhB_at, dhK_at, rstd_at, blk1, blk8, blk9]
  rfl

/-- Columns of the first weight's gradient, a point's rows added: the left half, -/
theorem wB_left (t : Fin cfg0.N) (acc : Vec Ideal S1024x512 .f32) (k : Fin 1024) (l : Fin 512) :
    (k0_pay11 (iblk m c 0 t) (iblk m c 8 t) (iblk m c 2 t) acc (ix2 k l : S1024x512.Idx) : EReal) = (acc (ix2 k l : S1024x512.Idx) : EReal)
      + ∑ a : Fin 512, weightTerm (argX m c) (argQ m c) (argG m c) (argGB m c) (t.val * 512 + a) k l := by
  pointwise [k0_pay11, k0_pay9]
  simp only [nrm_at, blk8, blk2, weightTerm, if_pos l.isLt]

/-- the right half; -/
theorem wB_right (t : Fin cfg0.N) (acc : Vec Ideal S1024x512 .f32) (k : Fin 1024) (l : Fin 512) :
    (k0_pay12 (k0_pay9 (iblk m c 0 t) (iblk m c 8 t)) (iblk m c 3 t) acc (ix2 k l : S1024x512.Idx) : EReal)
      = (acc (ix2 k l : S1024x512.Idx) : EReal)
      + ∑ a : Fin 512, weightTerm (argX m c) (argQ m c) (argG m c) (argGB m c) (t.val * 512 + a) k (512 + l) := by
  pointwise [k0_pay12, k0_pay9]
  simp only [nrm_at, blk8, blk3, weightTerm, if_neg (show ¬512 + l.val < 512 by omega), Nat.add_sub_cancel_left]

/-- of the second weight's, the left half, -/
theorem wK_left (t : Fin cfg0.N) (acc : Vec Ideal S1024x512 .f32) (k : Fin 1024) (l : Fin 512) :
    (k0_pay13 (k0_pay10 (iblk m c 0 t) (iblk m c 9 t)) (iblk m c 4 t) acc (ix2 k l : S1024x512.Idx) : EReal)
      = (acc (ix2 k l : S1024x512.Idx) : EReal)
      + ∑ a : Fin 512, weightTerm (argX m c) (argK m c) (argV m c) (argGK m c) (t.val * 512 + a) k l := by
  pointwise [k0_pay13, k0_pay10, k0_pay8]
  simp only [nrm_at, blk9, blk4, weightTerm, if_pos l.isLt]

/-- the right half. -/
theorem wK_right (t : Fin cfg0.N) (acc : Vec Ideal S1024x512 .f32) (k : Fin 1024) (l : Fin 512) :
    (k0_pay14 (k0_pay10 (iblk m c 0 t) (iblk m c 9 t)) (iblk m c 5 t) acc (ix2 k l : S1024x512.Idx) : EReal)
      = (acc (ix2 k l : S1024x512.Idx) : EReal)
      + ∑ a : Fin 512, weightTerm (argX m c) (argK m c) (argV m c) (argGK m c) (t.val * 512 + a) k (512 + l) := by
  pointwise [k0_pay14, k0_pay10, k0_pay8]
  simp only [nrm_at, blk9, blk5, weightTerm, if_neg (show ¬512 + l.val < 512 by omega), Nat.add_sub_cancel_left]

/-- Two halves stored one after the other: each column is read in its half. -/
theorem halves (w0 w1 : Vec Ideal S1024x512 .f32) (L : List (View.Piece (Elt Ideal) S1024x1024 .f32)) (k l : Fin 1024) (x : EReal)
    (e0 : ∀ r : Fin 512, (r : ℕ) = l → (w0 (ix2 k r : S1024x512.Idx) : EReal) = x)
    (e1 : ∀ r : Fin 512, 512 + (r : ℕ) = l → (w1 (ix2 k r : S1024x512.Idx) : EReal) = x) :
    (View.canon (⟨Rect.unit (s := S1024x1024) ![0, 512] ![1024, 512] inb_S1024x1024_S1024x512_0_512, w1⟩
      :: ⟨Rect.unit (s := S1024x1024) ![0, 0] ![1024, 512] inb_S1024x1024_S1024x512_0_0, w0⟩ :: L) (ix2 k l : S1024x1024.Idx) : EReal) = x := by
  by_cases h : 512 ≤ (l : ℕ)
  · have hy : (ix2 k l : S1024x1024.Idx) = (Rect.unit (s := S1024x1024) ![0, 512] ![1024, 512] inb_S1024x1024_S1024x512_0_512).emb
        (ix2 k ⟨l - 512, by omega⟩ : S1024x512.Idx) := by
      funext a
      match a with
      | 0 => exact Fin.ext (show (k : ℕ) = 0 + 1 * k by omega)
      | 1 => exact Fin.ext (show (l : ℕ) = 512 + 1 * (l - 512) by omega)
    rw [hy, View.canon_cons_emb]
    exact e1 ⟨l - 512, by omega⟩ (show 512 + ((l : ℕ) - 512) = l by omega)
  · have hy : (ix2 k l : S1024x1024.Idx) = (Rect.unit (s := S1024x1024) ![0, 0] ![1024, 512] inb_S1024x1024_S1024x512_0_0).emb
        (ix2 k ⟨l, by omega⟩ : S1024x512.Idx) := by
      funext a
      match a with
      | 0 => exact Fin.ext (show (k : ℕ) = 0 + 1 * k by omega)
      | 1 => exact Fin.ext (show (l : ℕ) = 0 + 1 * l by omega)
    have hn : (ix2 k l : S1024x1024.Idx) ∉ (Rect.unit (s := S1024x1024) ![0, 512] ![1024, 512] inb_S1024x1024_S1024x512_0_512).set := by
      intro g
      rw [Rect.mem_set_unit] at g
      have g1 : 512 ≤ (l : ℕ) := (g 1).1
      exact h g1
    refine (View.canon_cons_of_not_mem (⟨Rect.unit (s := S1024x1024) ![0, 512] ![1024, 512] inb_S1024x1024_S1024x512_0_512, w1⟩ :
      View.Piece (Elt Ideal) S1024x1024 .f32) _ (by exact hn)).trans ?_
    rw [hy]
    exact (View.canon_cons_emb _ _ _ _).trans (e0 ⟨l, by omega⟩ rfl)

end Cert.Proj

end
-- ==== Proof.Proj.Kernel.lean ====
/- What the call for the gradients through the two norms leaves in its result arrays. -/
module

public import proofs.«01_k».proof.Proof.Proj.Block

@[expose] public section

set_option maxRecDepth 16384
set_option maxHeartbeats 1000000

noncomputable section

namespace Cert.Proj

open Idealize.ShloMosaic Idealize.ShloMosaic.TcCoe Idealize.SL.Sem Cert.Attention Cert.Maths
open Cert.Kernel5Ideal Cert.Kernel5Ideal.Gen

variable (m : (ℓ : Loc nD τ sig) → Buf (Elt Ideal) ℓ) (c : Dev nD)

theorem gainB_first (t : Fin cfg0.N) (h0 : t.val % 32 = 0) (j : S1x1024.Idx) :
    ((outsAt0 m c t.val t.isLt).2.2.2.1 j : EReal)
      = 0 + ∑ a : Fin 512, gainTerm (argX m c) (argQ m c) (argG m c) (argWB m c) (t.val * 512 + a) (j 1) := by
  idx_vars j
  obtain rfl : j0 = 0 := Subsingleton.elim _ _
  rw [outsAt0_A m c t h0 (by omega)]
  frame_out
  refine (gainB_at m c t _ _).trans (congrArg (· + _) ?_)
  pointwise [k0_pay3]

theorem gainB_next (t : Fin cfg0.N) (h0 : ¬t.val % 32 = 0) (j : S1x1024.Idx) :
    ((outsAt0 m c t.val t.isLt).2.2.2.1 j : EReal)
      = ((outsAt0 m c (t.val - 1) (Nat.lt_of_le_of_lt (Nat.sub_le _ _) t.isLt)).2.2.2.1 j : EReal)
      + ∑ a : Fin 512, gainTerm (argX m c) (argQ m c) (argG m c) (argWB m c) (t.val * 512 + a) (j 1) := by
  idx_vars j
  obtain rfl : j0 = 0 := Subsingleton.elim _ _
  by_cases h1 : t.val % 32 = 31
  · rw [outsAt0_C m c t h0 h1]
    frame_out
    exact gainB_at m c t _ _
  · rw [outsAt0_B m c t h0 h1]
    frame_out
    exact gainB_at m c t _ _

theorem gainK_first (t : Fin cfg0.N) (h0 : t.val % 32 = 0) (j : S1x1024.Idx) :
    ((outsAt0 m c t.val t.isLt).2.2.2.2.1 j : EReal)
      = 0 + ∑ a : Fin 512, gainTerm (argX m c) (argK m c) (argV m c) (argWK m c) (t.val * 512 + a) (j 1) := by
  idx_vars j
  obtain rfl : j0 = 0 := Subsingleton.elim _ _
  rw [outsAt0_A m c t h0 (by omega)]
  frame_out
  refine (gainK_at m c t _ _).trans (congrArg (· + _) ?_)
  pointwise [k0_pay4]

theorem gainK_next (t : Fin cfg0.N) (h0 : ¬t.val % 32 = 0) (j : S1x1024.Idx) :
    ((outsAt0 m c t.val t.isLt).2.2.2.2.1 j : EReal)
      = ((outsAt0 m c (t.val - 1) (Nat.lt_of_le_of_lt (Nat.sub_le _ _) t.isLt)).2.2.2.2.1 j : EReal)
      + ∑ a : Fin 512, gainTerm (argX m c) (argK m c) (argV m c) (argWK m c) (t.val * 512 + a) (j 1) := by
  idx_vars j
  obtain rfl : j0 = 0 := Subsingleton.elim _ _
  by_cases h1 : t.val % 32 = 31
  · rw [outsAt0_C m c t h0 h1]
    frame_out
    exact gainK_at m c t _ _
  · rw [outsAt0_B m c t h0 h1]
    frame_out
    exact gainK_at m c t _ _

theorem accB_first (t : Fin cfg0.N) (h0 : t.val % 32 = 0) (j : S1024x1024.Idx) :
    ((outsAt0 m c t.val t.isLt).2.2.2.2.2.1 j : EReal)
      = 0 + ∑ a : Fin 512, weightTerm (argX m c) (argQ m c) (argG m c) (argGB m c) (t.val * 512 + a) (j 0) (j 1 : Fin 1024) := by
  idx_vars j
  rw [outsAt0_A m c t h0 (by omega)]
  frame_out
  refine halves _ _ _ j0 j1 _ (fun r e => ?_) fun r e => ?_
  · refine (wB_left m c t _ j0 r).trans ?_
    rw [e]
    refine congrArg (· + _) ?_
    rw [View.readCov_fill _ _ _ _ _ (by decide)]
    pointwise [k0_pay1]
  · refine (wB_right m c t _ j0 r).trans ?_
    rw [e]
    refine congrArg (· + _) ?_
    rw [View.readCov_skip _ _ _ _ _ rfl, View.readCov_fill _ _ _ _ _ (by decide)]
    pointwise [k0_pay1]

theorem accB_next (t : Fin cfg0.N) (h0 : ¬t.val % 32 = 0) (j : S1024x1024.Idx) :
    ((outsAt0 m c t.val t.isLt).2.2.2.2.2.1 j : EReal)
      = ((outsAt0 m c (t.val - 1) (Nat.lt_of_le_of_lt (Nat.sub_le _ _) t.isLt)).2.2.2.2.2.1 j : EReal)
      + ∑ a : Fin 512, weightTerm (argX m c) (argQ m c) (argG m c) (argGB m c) (t.val * 512 + a) (j 0) (j 1 : Fin 1024) := by
  idx_vars j
  have hl (r : Fin 512) (e : (r : ℕ) = j1) : (ix2 j0 ⟨r, by omega⟩ : S1024x1024.Idx) = ix2 j0 j1 := congrArg _ (Fin.ext e)
  have hr (r : Fin 512) (e : 512 + (r : ℕ) = j1) : (ix2 j0 ⟨512 + r, by omega⟩ : S1024x1024.Idx) = ix2 j0 j1 := congrArg _ (Fin.ext e)
  by_cases h1 : t.val % 32 = 31
  · rw [outsAt0_C m c t h0 h1]
    frame_out
    refine halves _ _ [] j0 j1 _ (fun r e => ?_) fun r e => ?_
    · refine (wB_left m c t _ j0 r).trans ?_
      rw [e, ← hl r e, read_unread_whole]
      refine congrArg (· + _) ?_
      pointwise []
    · refine (wB_right m c t _ j0 r).trans ?_
      rw [e, ← hr r e, read_unread_whole]
      refine congrArg (· + _) ?_
      pointwise []
  · rw [outsAt0_B m c t h0 h1]
    frame_out
    refine halves _ _ [] j0 j1 _ (fun r e => ?_) fun r e => ?_
    · refine (wB_left m c t _ j0 r).trans ?_
      rw [e, ← hl r e, read_unread_whole]
      refine congrArg (· + _) ?_
      pointwise []
    · refine (wB_right m c t _ j0 r).trans ?_
      rw [e, ← hr r e, read_unread_whole]
      refine congrArg (· + _) ?_
      pointwise []

theorem accK_first (t : Fin cfg0.N) (h0 : t.val % 32 = 0) (j : S1024x1024.Idx) :
    ((outsAt0 m c t.val t.isLt).2.2.2.2.2.2 j : EReal)
      = 0 + ∑ a : Fin 512, weightTerm (argX m c) (argK m c) (argV m c) (argGK m c) (t.val * 512 + a) (j 0) (j 1 : Fin 1024) := by
  idx_vars j
  rw [outsAt0_A m c t h0 (by omega)]
  frame_out
  refine halves _ _ _ j0 j1 _ (fun r e => ?_) fun r e => ?_
  · refine (wK_left m c t _ j0 r).trans ?_
    rw [e]
    refine congrArg (· + _) ?_
    rw [View.readCov_fill _ _ _ _ _ (by decide)]
    pointwise [k0_pay2]
  · refine (wK_right m c t _ j0 r).trans ?_
    rw [e]
    refine congrArg (· + _) ?_
    rw [View.readCov_skip _ _ _ _ _ rfl, View.readCov_fill _ _ _ _ _ (by decide)]
    pointwise [k0_pay2]

theorem accK_next (t : Fin cfg0.N) (h0 : ¬t.val % 32 = 0) (j : S1024x1024.Idx) :
    ((outsAt0 m c t.val t.isLt).2.2.2.2.2.2 j : EReal)
      = ((outsAt0 m c (t.val - 1) (Nat.lt_of_le_of_lt (Nat.sub_le _ _) t.isLt)).2.2.2.2.2.2 j : EReal)
      + ∑ a : Fin 512, weightTerm (argX m c) (argK m c) (argV m c) (argGK m c) (t.val * 512 + a) (j 0) (j 1 : Fin 1024) := by
  idx_vars j
  have hl (r : Fin 512) (e : (r : ℕ) = j1) : (ix2 j0 ⟨r, by omega⟩ : S1024x1024.Idx) = ix2 j0 j1 := congrArg _ (Fin.ext e)
  have hr (r : Fin 512) (e : 512 + (r : ℕ) = j1) : (ix2 j0 ⟨512 + r, by omega⟩ : S1024x1024.Idx) = ix2 j0 j1 := congrArg _ (Fin.ext e)
  by_cases h1 : t.val % 32 = 31
  · rw [outsAt0_C m c t h0 h1]
    frame_out
    refine halves _ _ [] j0 j1 _ (fun r e => ?_) fun r e => ?_
    · refine (wK_left m c t _ j0 r).trans ?_
      rw [e, ← hl r e, read_unread_whole]
      refine congrArg (· + _) ?_
      pointwise []
    · refine (wK_right m c t _ j0 r).trans ?_
      rw [e, ← hr r e, read_unread_whole]
      refine congrArg (· + _) ?_
      pointwise []
  · rw [outsAt0_B m c t h0 h1]
    frame_out
    refine halves _ _ [] j0 j1 _ (fun r e => ?_) fun r e => ?_
    · refine (wK_left m c t _ j0 r).trans ?_
      rw [e, ← hl r e, read_unread_whole]
      refine congrArg (· + _) ?_
      pointwise []
    · refine (wK_right m c t _ j0 r).trans ?_
      rw [e, ← hr r e, read_unread_whole]
      refine congrArg (· + _) ?_
      pointwise []

end Cert.Proj

end
-- ==== Proof.Proj.Final.lean ====
/- The five result arrays of the call for the gradients through the two norms, whole. -/
module

public import proofs.«01_k».proof.Proof.Proj.Kernel
public import proofs.«01_k».proof.Proof.Maths.Grid

@[expose] public section

set_option maxRecDepth 16384
set_option maxHeartbeats 1000000

noncomputable section

namespace Cert.Proj

open Idealize.ShloMosaic Idealize.ShloMosaic.TcCoe Idealize.SL.Sem Cert.Attention Cert.Maths
open Cert.Kernel5Ideal Cert.Kernel5Ideal.Gen

variable (m : (ℓ : Loc nD τ sig) → Buf (Elt Ideal) ℓ) (c : Dev nD)

/-- The input's gradient. -/
theorem final10 : (dats m 0 c).arrAt 10 (cfgs 0).N
    = dx (argX m c) (argD m c) (argQ m c) (argG m c) (argWB m c) (argGB m c) (argK m c) (argV m c) (argWK m c) (argGK m c) := by
  refine (dats m 0 c).arrAt_eq_of_covers 10 _ (by decide +kernel) fun t hf y => ?_
  have ht : t.val < 32 := lt_of_lt_of_eq t.isLt N_0
  idx_vars y
  have e : ((dats m 0 c).after 10 t (ix2 y0 y1 : S512x1024.Idx) : EReal)
      = at2 (argD m c) (t.val * 512 + y0) y1 + drow (argX m c) (fun p k =>
          dh (argQ m c) (argG m c) (argWB m c) p k * argGB m c k + dh (argK m c) (argV m c) (argWK m c) p k * argGK m c k)
          (t.val * 512 + y0) y1 := by
    rw [after0_10]
    by_cases h0 : t.val % 32 = 0
    · rw [outsAt0_A m c t h0 (by omega)]
      frame_out
      exact dx_at m c t y0 y1
    · by_cases h1 : t.val % 32 = 31
      · rw [outsAt0_C m c t h0 h1]
        frame_out
        exact dx_at m c t y0 y1
      · rw [outsAt0_B m c t h0 h1]
        frame_out
        exact dx_at m c t y0 y1
  blk_simp
  refine e.trans ?_
  unfold dx
  rw [at2_mk (argD m c) (show t.val * 512 + y0.val < 16384 by omega) y1.isLt]
  blk_simp [idx t]
  refine congrArg₂ (fun a b => argD m c a + drow (argX m c) (fun p k =>
    dh (argQ m c) (argG m c) (argWB m c) p k * argGB m c k + dh (argK m c) (argV m c) (argWK m c) p k * argGK m c k)
    (t.val * 512 + y0) b) ?_ ?_
  · refine ext2 ?_ ?_ <;> blk_simp [idx t]
  · refine Fin.ext ?_
    blk_simp [idx t]

/-- The first gain's gradient. -/
theorem final13 : (dats m 0 c).arrAt 13 (cfgs 0).N = dgain (argX m c) (argQ m c) (argG m c) (argWB m c) := by
  refine (dats m 0 c).arrAt_eq_of_covers 13 _ (by decide +kernel) fun t hf y => ?_
  have hl := (flush0_13 t).mp hf
  have ht : t.val < 32 := lt_of_lt_of_eq t.isLt N_0
  blk_simp
  rw [after0_13, Pipeline.eq_sum_fin_of_reset_step_apply_of_flush (fun n h => (outsAt0 m c n h).2.2.2.1) 32 (fun _ => 0)
    (fun t j => ∑ a : Fin 512, gainTerm (argX m c) (argQ m c) (argG m c) (argWB m c) (t * 512 + a) (j 1))
    (fun t h j => gainB_first m c t h j) (fun t h j => gainB_next m c t h j) t hl _, zero_add]
  simp only [run_start ht]
  refine Eq.trans ?_ (congrArg (dgain (argX m c) (argQ m c) (argG m c) (argWB m c)) (ext2 (j := (y : S1x1024.Idx)) ?_ ?_))
  rotate_left
  · blk_simp [idx t]
  · blk_simp [idx t]
  exact sum_points fun p => gainTerm (argX m c) (argQ m c) (argG m c) (argWB m c) p (y 1)

/-- The second gain's gradient. -/
theorem final14 : (dats m 0 c).arrAt 14 (cfgs 0).N = dgain (argX m c) (argK m c) (argV m c) (argWK m c) := by
  refine (dats m 0 c).arrAt_eq_of_covers 14 _ (by decide +kernel) fun t hf y => ?_
  have hl := (flush0_14 t).mp hf
  have ht : t.val < 32 := lt_of_lt_of_eq t.isLt N_0
  blk_simp
  rw [after0_14, Pipeline.eq_sum_fin_of_reset_step_apply_of_flush (fun n h => (outsAt0 m c n h).2.2.2.2.1) 32 (fun _ => 0)
    (fun t j => ∑ a : Fin 512, gainTerm (argX m c) (argK m c) (argV m c) (argWK m c) (t * 512 + a) (j 1))
    (fun t h j => gainK_first m c t h j) (fun t h j => gainK_next m c t h j) t hl _, zero_add]
  simp only [run_start ht]
  refine Eq.trans ?_ (congrArg (dgain (argX m c) (argK m c) (argV m c) (argWK m c)) (ext2 (j := (y : S1x1024.Idx)) ?_ ?_))
  rotate_left
  · blk_simp [idx t]
  · blk_simp [idx t]
  exact sum_points fun p => gainTerm (argX m c) (argK m c) (argV m c) (argWK m c) p (y 1)

/-- The first projection's weight's gradient. -/
theorem final11 : (dats m 0 c).arrAt 11 (cfgs 0).N = dweight (argX m c) (argQ m c) (argG m c) (argGB m c) := by
  refine (dats m 0 c).arrAt_eq_of_covers 11 _ (by decide +kernel) fun t hf y => ?_
  have hl := (flush0_11 t).mp hf
  have ht : t.val < 32 := lt_of_lt_of_eq t.isLt N_0
  have e : (dats m 0 c).after 11 t = (outsAt0 m c t.val t.isLt).2.2.2.2.2.1 := by
    rw [after0_11, outsAt0_C m c t (by omega) hl]
    frame_out
    funext j
    rw [View.readCov_eq_canon']
    pointwise [k0_pay22]
  blk_simp
  rw [e, Pipeline.eq_sum_fin_of_reset_step_apply_of_flush (fun n h => (outsAt0 m c n h).2.2.2.2.2.1) 32 (fun _ => 0)
    (fun t j => ∑ a : Fin 512, weightTerm (argX m c) (argQ m c) (argG m c) (argGB m c) (t * 512 + a) (j 0) (j 1 : Fin 1024))
    (fun t h j => accB_first m c t h j) (fun t h j => accB_next m c t h j) t hl _, zero_add]
  simp only [run_start ht]
  refine Eq.trans ?_ (congrArg (dweight (argX m c) (argQ m c) (argG m c) (argGB m c)) (ext2 (j := (y : S1024x1024.Idx)) ?_ ?_))
  rotate_left
  · blk_simp [idx t]
  · blk_simp [idx t]
  exact sum_points fun p => weightTerm (argX m c) (argQ m c) (argG m c) (argGB m c) p (y 0) (y 1 : Fin 1024)

/-- The second projection's weight's gradient. -/
theorem final12 : (dats m 0 c).arrAt 12 (cfgs 0).N = dweight (argX m c) (argK m c) (argV m c) (argGK m c) := by
  refine (dats m 0 c).arrAt_eq_of_covers 12 _ (by decide +kernel) fun t hf y => ?_
  have hl := (flush0_12 t).mp hf
  have ht : t.val < 32 := lt_of_lt_of_eq t.isLt N_0
  have e : (dats m 0 c).after 12 t = (outsAt0 m c t.val t.isLt).2.2.2.2.2.2 := by
    rw [after0_12, outsAt0_C m c t (by omega) hl]
    frame_out
    funext j
    rw [View.readCov_eq_canon']
    pointwise [k0_pay23]
  blk_simp
  rw [e, Pipeline.eq_sum_fin_of_reset_step_apply_of_flush (fun n h => (outsAt0 m c n h).2.2.2.2.2.2) 32 (fun _ => 0)
    (fun t j => ∑ a : Fin 512, weightTerm (argX m c) (argK m c) (argV m c) (argGK m c) (t * 512 + a) (j 0) (j 1 : Fin 1024))
    (fun t h j => accK_first m c t h j) (fun t h j => accK_next m c t h j) t hl _, zero_add]
  simp only [run_start ht]
  refine Eq.trans ?_ (congrArg (dweight (argX m c) (argK m c) (argV m c) (argGK m c)) (ext2 (j := (y : S1024x1024.Idx)) ?_ ?_))
  rotate_left
  · blk_simp [idx t]
  · blk_simp [idx t]
  exact sum_points fun p => weightTerm (argX m c) (argK m c) (argV m c) (argGK m c) p (y 0) (y 1 : Fin 1024)

end Cert.Proj

end
-- ==== Proof.Maths.Split.lean ====
/- The gradient of the root-mean-square norm is additive in the cotangent where one part of it is finite. -/
module

public import proofs.«01_k».proof.Proof.Maths.Rms

@[expose] public section

noncomputable section

namespace Cert.Maths

open Idealize.ShloMosaic

/-- A real factor distributes over a sum of a real and an extended real. -/
theorem coe_mul_add (y a : ℝ) (b : EReal) : (y : EReal) * ((a : EReal) + b) = (y : EReal) * a + (y : EReal) * b := by
  induction b with
  | bot =>
    rcases lt_trichotomy y 0 with h | h | h
    · rw [EReal.add_bot, EReal.coe_mul_bot_of_neg h, ← EReal.coe_mul]; rfl
    · subst h; simp
    · rw [EReal.add_bot, EReal.coe_mul_bot_of_pos h, EReal.add_bot]
  | top =>
    rcases lt_trichotomy y 0 with h | h | h
    · rw [EReal.coe_add_top, EReal.coe_mul_top_of_neg h, EReal.add_bot]
    · subst h; simp
    · rw [EReal.coe_add_top, EReal.coe_mul_top_of_pos h, ← EReal.coe_mul]; rfl
  | coe b => rw [← EReal.coe_add, ← EReal.coe_mul, ← EReal.coe_mul, ← EReal.coe_mul, ← EReal.coe_add]; congr 1; ring

/-- The part of the norm's gradient that comes through the mean square. -/
def through (x ct : Fin 1024 → EReal) : EReal :=
  Ideal.div ((∑ k, x k * ct k) * (Ideal.ofBits .f32 3204448256#32 * Ideal.div (rstd x) (meanSq x))) (Ideal.ofBits .f32 1149239296#32)

/-- It is additive, and real for a real cotangent. -/
theorem through_add (x a b : Fin 1024 → EReal) (hx : ∀ k, ∃ r : ℝ, x k = r) (ha : ∀ k, ∃ r : ℝ, a k = r) :
    ∃ r : ℝ, through x a = r ∧ through x (fun k => a k + b k) = r + through x b := by
  choose y hy using hx
  choose z hz using ha
  obtain rfl : x = fun k => (y k : EReal) := funext hy
  obtain rfl : a = fun k => (z k : EReal) := funext hz
  obtain ⟨s, hs, hm, hr⟩ := rstd_real y
  unfold through
  rw [hm, hr, bits_1024, bits_neg_half]
  simp only [Ideal.div_coe hs.ne', Ideal.div_coe (show (1024 : ℝ) ≠ 0 by norm_num)]
  have e : ∑ k, (y k : EReal) * ((z k : EReal) + b k) = ((∑ k, y k * z k : ℝ) : EReal) + ∑ k, (y k : EReal) * b k := by
    simp only [coe_mul_add, Finset.sum_add_distrib, coe_sum, EReal.coe_mul]
  have e' : ∑ k, (y k : EReal) * (z k : EReal) = ((∑ k, y k * z k : ℝ) : EReal) := by
    simp only [coe_sum, EReal.coe_mul]
  rw [e, e']
  generalize ∑ k, (y k : EReal) * b k = S
  generalize (∑ k, y k * z k) = u
  rw [← EReal.coe_mul, ← EReal.coe_mul]
  generalize -1 / 2 * ((Real.sqrt s)⁻¹ * (1 / s)) = v
  refine ⟨u * v * (1 / 1024), by rw [EReal.coe_mul, EReal.coe_mul], ?_⟩
  rw [mul_comm _ (v : EReal), coe_mul_add, mul_comm _ ((1 / 1024 : ℝ) : EReal), ← EReal.coe_mul, coe_mul_add]
  rw [← EReal.coe_mul, mul_comm S, mul_comm _ ((1 / 1024 : ℝ) : EReal)]
  refine congrArg₂ (· + ·) (congrArg _ ?_) ?_
  · ring
  · rfl

/-- THE GRADIENT OF TWO NORMS OF ONE ROW. The kernel takes the gradient for the sum of the two cotangents; differentiation
    takes one after the other and adds each to what came before. -/
theorem rms_bwd_two (x a b : Fin 1024 → EReal) (hx : ∀ k, ∃ r : ℝ, x k = r) (ha : ∀ k, ∃ r : ℝ, a k = r) (d : EReal) (q : Fin 1024) :
    d + rstd x * ((a q + b q) - x q * rstd x * Ideal.div (∑ k, (a k + b k) * (x k * rstd x)) (Ideal.ofBits .f32 1149239296#32))
    = d + a q * rstd x + x q * through x a + through x a * x q + b q * rstd x + x q * through x b + through x b * x q := by
  have main := rms_bwd x (fun k => a k + b k) hx q
  obtain ⟨t, h, h'⟩ := through_add x a b hx ha
  unfold through at h h' ⊢
  rw [main, h', h]
  clear main h h'
  generalize Ideal.div ((∑ k, x k * b k) * (Ideal.ofBits .f32 3204448256#32 * Ideal.div (rstd x) (meanSq x)))
    (Ideal.ofBits .f32 1149239296#32) = T
  obtain ⟨y, hy⟩ := hx q
  obtain ⟨z, hz⟩ := ha q
  have hr : ∃ r : ℝ, rstd x = r := by
    choose y hy using hx
    obtain rfl : x = fun k => (y k : EReal) := funext hy
    obtain ⟨s, hs, hm, hr⟩ := rstd_real y
    exact ⟨_, hr⟩
  obtain ⟨r, hr⟩ := hr
  rw [hy, hz, hr, mul_comm _ (r : EReal), coe_mul_add, mul_comm ((t : EReal) + T), coe_mul_add]
  rw [mul_comm (z : EReal), mul_comm (b q), mul_comm (t : EReal), mul_comm T]
  abel

end Cert.Maths

end
-- ==== Proof.Proj.Reference.lean ====
/- The reference's gradients through the two norms, element by element: where the first norm's side is finite they equal
   what the kernel leaves. -/
module

public import proofs.«01_k».proof.Proof.Proj.Formula
public import proofs.«01_k».proof.Proof.Maths.Reduce
public import proofs.«01_k».proof.Proof.Maths.Split
public import proofs.«01_k».proof.Proof.LayerA.Reference
public import proofs.«01_k».proof.Proof.Gen.Reference5Ideal.Read
public import Idealize.ShloMosaic.Lib.Pointwise

@[expose] public section

set_option maxRecDepth 16384
set_option maxHeartbeats 2000000

noncomputable section

namespace Cert.Proj.Ref

open Idealize.ShloMosaic Idealize.ShloMosaic.TcCoe Idealize.SL.Sem Cert.Attention
open Cert.Reference5Ideal Cert.Reference5Ideal.Gen Cert.Reference5Ideal.Read Cert.Maths

variable (x0 : Vec Ideal S1x16384x1024 .f32) (x1 : Vec Ideal S1024 .f32) (x2 : Vec Ideal S1024x1024 .f32) (x3 : Vec Ideal S1x1024 .f32)
  (x4 : Vec Ideal S1x1024x1024 .f32) (x5 : Vec Ideal S16384x1024 .f32) (x6 x7 x8 x9 : Vec Ideal S16384x512 .bf16)

/-- The input, the two gains, the two weights and the four cotangents as matrices and rows. -/
def X : (⟨2, ![16384, 1024]⟩ : Shape).Idx → EReal := fun j => x0 (ix3 0 (j 0) (j 1) : S1x16384x1024.Idx)
def GK (k : Fin 1024) : EReal := x1 (ix1 k : S1024.Idx)
def WK : (⟨2, ![1024, 1024]⟩ : Shape).Idx → EReal := x2
def GB (k : Fin 1024) : EReal := x3 (ix2 0 k : S1x1024.Idx)
def WB : (⟨2, ![1024, 1024]⟩ : Shape).Idx → EReal := fun j => x4 (ix3 0 (j 0) (j 1) : S1x1024x1024.Idx)
def ct (x : Vec Ideal S16384x512 .bf16) : (⟨2, ![16384, 512]⟩ : Shape).Idx → EReal := x
def D : (⟨2, ![16384, 1024]⟩ : Shape).Idx → EReal := x5

theorem X_at (p : Fin 16384) (k : Fin 1024) : (x0 (ix3 0 p k : S1x16384x1024.Idx) : EReal) = at2 (X x0) p k := by
  rw [at2_mk (X x0) p.isLt k.isLt]; rfl

theorem rstd_B (p : Fin 16384) : (val_main_v36 (F := Ideal) x0 (ix3 0 p 0 : S1x16384x1.Idx) : EReal) = rstd (row (X x0) p) := by
  pointwise [rstd, meanSq, row, val_main_v36, val_main_v35, val_main_v34, val_main_v33, val_main_v32, val_main_v31, val_main_v30,
    val_main_v29, val_main_cst_3, val_main_cst_4, val_main_cst_5]
  simp only [X_at x0]

theorem rstd_K (p : Fin 16384) : (val_main_v16 (F := Ideal) x0 (ix3 0 p 0 : S1x16384x1.Idx) : EReal) = rstd (row (X x0) p) := by
  pointwise [rstd, meanSq, row, val_main_v16, val_main_v15, val_main_v14, val_main_v13, val_main_v12, val_main_v11, val_main_v10,
    val_main_v9, val_main_cst, val_main_cst_0, val_main_cst_1]
  simp only [X_at x0]

theorem slope_B (p : Fin 16384) : (val_main_v39 (F := Ideal) x0 (ix3 0 p 0 : S1x16384x1.Idx) : EReal)
    = Ideal.ofBits .f32 3204448256#32 * Ideal.div (rstd (row (X x0) p)) (meanSq (row (X x0) p)) := by
  pointwise [rstd, meanSq, row, val_main_v39, val_main_v38, val_main_v37, val_main_v36, val_main_v35, val_main_v34, val_main_v33,
    val_main_v32, val_main_v31, val_main_v30, val_main_v29, val_main_cst_3, val_main_cst_4, val_main_cst_5, val_main_cst_6]
  simp only [X_at x0]

theorem slope_K (p : Fin 16384) : (val_main_v19 (F := Ideal) x0 (ix3 0 p 0 : S1x16384x1.Idx) : EReal)
    = Ideal.ofBits .f32 3204448256#32 * Ideal.div (rstd (row (X x0) p)) (meanSq (row (X x0) p)) := by
  pointwise [rstd, meanSq, row, val_main_v19, val_main_v18, val_main_v17, val_main_v16, val_main_v15, val_main_v14, val_main_v13,
    val_main_v12, val_main_v11, val_main_v10, val_main_v9, val_main_cst, val_main_cst_0, val_main_cst_1, val_main_cst_2]
  simp only [X_at x0]

theorem nrm_B (p : Fin 16384) (k : Fin 1024) : (val_main_v41 (F := Ideal) x0 (ix3 0 p k : S1x16384x1024.Idx) : EReal) = nrm (X x0) p k := by
  pointwise [val_main_v41, val_main_v40]
  rw [rstd_B, X_at x0]; rfl

theorem nrm_K (p : Fin 16384) (k : Fin 1024) : (val_main_v21 (F := Ideal) x0 (ix3 0 p k : S1x16384x1024.Idx) : EReal) = nrm (X x0) p k := by
  pointwise [val_main_v21, val_main_v20]
  rw [rstd_K, X_at x0]; rfl

/-- The two cotangents of a projection side by side. -/
theorem both_B (p : Fin 16384) (l : Fin 1024) : (val_main_v49 (F := Ideal) x6 x7 (ix3 0 p l : S1x16384x1024.Idx) : EReal)
    = if (l : ℕ) < 512 then at2 (ct x6) p l else at2 (ct x7) p (l - 512) := by
  pointwise [val_main_v49, val_main_v2, val_main_v4, val_main_v1, val_main_v3]
  by_cases h : (l : ℕ) < 512
  · rw [dif_pos h, if_pos h, at2_mk (ct x6) p.isLt h]; rfl
  · rw [dif_neg h, if_neg h, at2_mk (ct x7) p.isLt (by omega)]; rfl

theorem both_K (p : Fin 16384) (l : Fin 1024) : (val_main_v77 (F := Ideal) x8 x9 (ix3 0 p l : S1x16384x1024.Idx) : EReal)
    = if (l : ℕ) < 512 then at2 (ct x8) p l else at2 (ct x9) p (l - 512) := by
  pointwise [val_main_v77, val_main_v6, val_main_v8, val_main_v5, val_main_v7]
  by_cases h : (l : ℕ) < 512
  · rw [dif_pos h, if_pos h, at2_mk (ct x8) p.isLt h]; rfl
  · rw [dif_neg h, if_neg h, at2_mk (ct x9) p.isLt (by omega)]; rfl

/-- A row of a projection's weight against both cotangents is the sum over the two halves. -/
theorem sum_halves (A B : (⟨2, ![16384, 512]⟩ : Shape).Idx → EReal) (W : (⟨2, ![1024, 1024]⟩ : Shape).Idx → EReal) (p : ℕ) (k : Fin 1024) :
    ∑ l : Fin 1024, (if (l : ℕ) < 512 then at2 A p l else at2 B p (l - 512)) * at2 W k l = dh A B W p k := by
  unfold dh
  refine (Fin.sum_univ_add (a := 512) (b := 512) (fun l : Fin 1024 => (if (l : ℕ) < 512 then at2 A p l else at2 B p (l - 512)) * at2 W k l)).trans ?_
  refine congrArg₂ (· + ·) (Finset.sum_congr rfl fun l _ => ?_) (Finset.sum_congr rfl fun l _ => ?_)
  · simp only [Fin.val_castAdd, if_pos l.isLt]
  · simp only [Fin.val_natAdd, if_neg (show ¬512 + l.val < 512 by omega), Nat.add_sub_cancel_left]

theorem dh_B (p : Fin 16384) (k : Fin 1024) : (val_main_v52 (F := Ideal) x4 x6 x7 (ix3 0 p k : S1x16384x1024.Idx) : EReal)
    = dh (ct x6) (ct x7) (WB x4) p k := by
  pointwise [val_main_v52, val_main_v45]
  refine Eq.trans ?_ (sum_halves (ct x6) (ct x7) (WB x4) p k)
  refine Finset.sum_congr rfl fun l _ => ?_
  rw [both_B, at2_mk (WB x4) k.isLt l.isLt]; rfl

theorem dh_K (p : Fin 16384) (k : Fin 1024) : (val_main_v80 (F := Ideal) x2 x8 x9 (ix3 0 p k : S1x16384x1024.Idx) : EReal)
    = dh (ct x8) (ct x9) (WK x2) p k := by
  pointwise [val_main_v80]
  refine Eq.trans ?_ (sum_halves (ct x8) (ct x9) (WK x2) p k)
  refine Finset.sum_congr rfl fun l _ => ?_
  rw [both_K, at2_mk (WK x2) k.isLt l.isLt]; rfl

/-- The gains' gradients. -/
theorem gain_B : val_main_v76 (F := Ideal) x0 x4 x6 x7 = dgain (X x0) (ct x6) (ct x7) (WB x4) := by
  funext j
  idx_vars j
  pointwise [dgain, gainTerm, val_main_v76, val_main_v59, val_main_v56, val_main_v55, val_main_v54, val_main_cst_7, val_main_cst_8, hostReduceAdd_axes01]
  simp only [Fin.sum_univ_one, Finset.univ_unique, Finset.sum_singleton, Fin.default_eq_zero]
  exact Finset.sum_congr rfl fun p _ => by rw [nrm_B, dh_B, mul_comm]

theorem gain_K : val_main_v107 (F := Ideal) x0 x2 x8 x9 = dgain (X x0) (ct x8) (ct x9) (WK x2) := by
  funext j
  idx_vars j
  pointwise [dgain, gainTerm, val_main_v107, val_main_v86, val_main_v83, val_main_v82, val_main_v81, val_main_cst_12, val_main_cst_13, hostReduceAdd_axes01]
  simp only [Fin.sum_univ_one, Finset.univ_unique, Finset.sum_singleton, Fin.default_eq_zero]
  exact Finset.sum_congr rfl fun p _ => by rw [nrm_K, dh_K, mul_comm]

/-- The weights' gradients. -/
theorem weight_B : val_main_v105 (F := Ideal) x0 x3 x6 x7 = dweight (X x0) (ct x6) (ct x7) (GB x3) := by
  funext j
  idx_vars j
  pointwise [dweight, weightTerm, val_main_v105, val_main_v104, val_main_v53, val_main_v51, val_main_v50, val_main_v44, val_main_v43,
    val_main_v42, val_main_v28]
  simp only [Fin.sum_univ_one, Finset.univ_unique, Finset.sum_singleton, Fin.default_eq_zero]
  exact Finset.sum_congr rfl fun p _ => by rw [nrm_B, both_B, mul_comm]; rfl

theorem weight_K : val_main_v106 (F := Ideal) x0 x1 x8 x9 = dweight (X x0) (ct x8) (ct x9) (GK x1) := by
  funext j
  idx_vars j
  pointwise [dweight, weightTerm, val_main_v106, val_main_v79, val_main_v78, val_main_v24, val_main_v23, val_main_v22]
  simp only [Fin.sum_univ_one, Finset.univ_unique, Finset.sum_singleton, Fin.default_eq_zero]
  exact Finset.sum_congr rfl fun p _ => by rw [nrm_K, both_K, mul_comm]; rfl

theorem ct_B (p : Fin 16384) (k : Fin 1024) : (val_main_v58 (F := Ideal) x3 x4 x6 x7 (ix3 0 p k : S1x16384x1024.Idx) : EReal)
    = dh (ct x6) (ct x7) (WB x4) p k * GB x3 k := by
  pointwise [val_main_v58, val_main_v57, val_main_v42, val_main_v28]
  rw [dh_B]; rfl

theorem ct_K (p : Fin 16384) (k : Fin 1024) : (val_main_v85 (F := Ideal) x1 x2 x8 x9 (ix3 0 p k : S1x16384x1024.Idx) : EReal)
    = dh (ct x8) (ct x9) (WK x2) p k * GK x1 k := by
  pointwise [val_main_v85, val_main_v84, val_main_v22]
  rw [dh_K]; rfl

theorem through_B (p : Fin 16384) (k : Fin 1024) : (val_main_v71 (F := Ideal) x0 x3 x4 x6 x7 (ix3 0 p k : S1x16384x1024.Idx) : EReal)
    = through (row (X x0) p) (fun k => dh (ct x6) (ct x7) (WB x4) p k * GB x3 k) := by
  pointwise [through, val_main_v71, val_main_v70, val_main_v69, val_main_v68, val_main_v67, val_main_v66, val_main_v62, val_main_v61,
    val_main_v60, val_main_cst_9, val_main_cst_10, val_main_cst_11, hostReduceAdd_axes02]
  simp only [Fin.sum_univ_one, Finset.univ_unique, Finset.sum_singleton, Fin.default_eq_zero]
  simp only [ct_B, X_at x0, slope_B]
  rfl

theorem through_K (p : Fin 16384) (k : Fin 1024) : (val_main_v98 (F := Ideal) x0 x1 x2 x8 x9 (ix3 0 p k : S1x16384x1024.Idx) : EReal)
    = through (row (X x0) p) (fun k => dh (ct x8) (ct x9) (WK x2) p k * GK x1 k) := by
  pointwise [through, val_main_v98, val_main_v97, val_main_v96, val_main_v95, val_main_v94, val_main_v93, val_main_v89, val_main_v88,
    val_main_v87, val_main_cst_14, val_main_cst_15, val_main_cst_16, hostReduceAdd_axes02]
  simp only [Fin.sum_univ_one, Finset.univ_unique, Finset.sum_singleton, Fin.default_eq_zero]
  simp only [ct_K, X_at x0, slope_K]
  rfl

/-- The input's gradient, where the input and what comes through the first projection are finite. -/
theorem dx_ref (hx : ∀ (p : Fin 16384) k, ∃ r : ℝ, row (X x0) p k = r)
    (ha : ∀ (p : Fin 16384) k, ∃ r : ℝ, dh (ct x6) (ct x7) (WB x4) p k * GB x3 k = r) :
    val_main_v103 (F := Ideal) x0 x1 x2 x3 x4 x5 x6 x7 x8 x9
      = dx (X x0) (D x5) (ct x6) (ct x7) (WB x4) (GB x3) (ct x8) (ct x9) (WK x2) (GK x1) := by
  funext j
  idx_vars j
  refine Eq.trans ?_ (rms_bwd_two (row (X x0) j0) (fun k => dh (ct x6) (ct x7) (WB x4) j0 k * GB x3 k)
    (fun k => dh (ct x8) (ct x9) (WK x2) j0 k * GK x1 k) (hx j0) (ha j0) (D x5 (ix2 j0 j1)) j1).symm
  pointwise [val_main_v103, val_main_v102, val_main_v101, val_main_v100, val_main_v99, val_main_v92, val_main_v91, val_main_v90,
    val_main_v75, val_main_v74, val_main_v73, val_main_v72, val_main_v65, val_main_v64, val_main_v63, val_main_v0]
  simp only [through_B, through_K, ct_B, ct_K, rstd_B, rstd_K, X_at x0]
  rfl

end Cert.Proj.Ref

end
-- ==== Proof.Proj.Claim.lean ====
/- The call for the gradients through the two norms against the reference: all five results agree where the first norm's
   side is finite. -/
module

public import proofs.«01_k».proof.Proof.Proj.Final
public import proofs.«01_k».proof.Proof.Proj.Reference
public import proofs.«01_k».proof.Proof.Maths.Finite
public import proofs.«01_k».proof.Proof.Gen.Pre_proj_finite
public import proofs.«01_k».proof.Proof.Gen.Kernel5Ideal.Value
public import proofs.«01_k».proof.Proof.Gen.Reference5Ideal.Run
public import proofs.«01_k».proof.Defs

@[expose] public section

set_option maxRecDepth 16384
set_option maxHeartbeats 2000000

noncomputable section

namespace Cert.Proj

open Idealize.ShloMosaic Idealize.ShloMosaic.TcCoe Idealize.SL.Sem Cert.Attention
open Cert.Kernel5Ideal

variable (m : (ℓ : Loc nD τ sig) → Buf (Elt Idealize.ShloMosaic.Ideal) ℓ) (h : Pre_Kernel5Ideal_proj_finite m) (c : Dev nD)

include h in
/-- What the precondition says at one place. -/
theorem finite_at (p : Fin 16384) (k : Fin 1024) :
    (∃ r : ℝ, argX m c (ix2 p k) = r) ∧ (∃ r : ℝ, argGB m c k = r) ∧
      (∀ g : p.val < 1024, ∃ r : ℝ, argWB m c (ix2 ⟨p, g⟩ k) = r) ∧
      (∀ g : k.val < 512, ∃ r : ℝ, argQ m c (ix2 p ⟨k, g⟩) = r) ∧ (∀ g : ¬k.val < 512, ∃ r : ℝ, argG m c (ix2 p ⟨k - 512, by omega⟩) = r) := by
  have := congrFun (h c) (ix2 p k)
  pointwise [Cert.Pre_proj_finite.fn, Cert.Pre_proj_finite.fn_part1, Cert.Pre_proj_finite.fn_pad] at this
  obtain ⟨this, gc⟩ := Maths.both this
  obtain ⟨this, gw⟩ := Maths.both this
  obtain ⟨gx, gg⟩ := Maths.both this
  refine ⟨Maths.real_of_abs_lt gx, Maths.real_of_abs_lt gg, fun g => ?_, fun g => ?_, fun g => ?_⟩
  · rw [dif_pos g] at gw
    exact Maths.real_of_abs_lt gw
  · rw [dif_pos g] at gc
    exact Maths.real_of_abs_lt gc
  · rw [dif_neg g] at gc
    exact Maths.real_of_abs_lt gc

include h in
/-- The input's rows are real, -/
theorem real_row (p : Fin 16384) (k : Fin 1024) : ∃ r : ℝ, row (argX m c) p k = r := by
  unfold row
  rw [at2_mk (argX m c) p.isLt k.isLt]
  exact (finite_at m h c p k).1

include h in
/-- and so is what comes through the first projection. -/
theorem real_ct (p : Fin 16384) (k : Fin 1024) : ∃ r : ℝ, dh (argQ m c) (argG m c) (argWB m c) p k * argGB m c k = r := by
  have w (l : ℕ) (hl : l < 1024) : ∃ r : ℝ, at2 (argWB m c) k l = r := by
    rw [at2_mk (argWB m c) k.isLt hl]
    exact (finite_at m h c ⟨k, by omega⟩ ⟨l, hl⟩).2.2.1 k.isLt
  refine LayerA.Ref.real_mul (LayerA.Ref.real_add (LayerA.Ref.real_sum fun l => LayerA.Ref.real_mul ?_ (w l (by omega)))
    (LayerA.Ref.real_sum fun l => LayerA.Ref.real_mul ?_ (w (512 + l) (by omega)))) (finite_at m h c p k).2.1
  · rw [at2_mk (argQ m c) p.isLt l.isLt]
    exact (finite_at m h c p ⟨l, by omega⟩).2.2.2.1 l.isLt
  · rw [at2_mk (argG m c) p.isLt l.isLt]
    obtain ⟨r, e⟩ := (finite_at m h c p ⟨512 + l, by omega⟩).2.2.2.2 (show ¬512 + l.val < 512 by omega)
    refine ⟨r, Eq.trans ?_ e⟩
    exact congrArg (argG m c) (congrArg (ix2 p) (Fin.ext (show (l : ℕ) = 512 + l - 512 by omega)))

/-- The results agree. -/
theorem algebraic : algebraic_Kernel5Ideal_Reference5Ideal_pre_proj_finite := by
  intro m g m' g' hpre hagree
  refine ⟨_, _, _, _, _, Cert.Kernel5Ideal.Value.run_blocks m g, θ_run_mono (Cert.Reference5Ideal.Value.run m' g') fun r h c => ?_⟩
  obtain rfl : c = 0 := Subsingleton.elim _ _
  obtain ⟨e0, e1, e2, e3, e4, e⟩ := h 0
  obtain ⟨h0, h1, h2, h3, h4, h5, h6, h7, h8, h9⟩ := hagree 0
  refine ⟨e0.trans ?_, e1.trans ?_, e2.trans ?_, e3.trans ?_, e4.trans ?_, e⟩
  · rw [Reference5Ideal.Read.val_main_v103_eq, h0, h1, h2, h3, h4, h5, h6, h7, h8, h9]
    exact (Ref.dx_ref _ _ _ _ _ _ _ _ _ _ (real_row m hpre 0) (real_ct m hpre 0)).trans (final10 m 0).symm
  · rw [Reference5Ideal.Read.val_main_v105_eq, h0, h3, h6, h7]
    exact (Ref.weight_B _ _ _ _).trans (final11 m 0).symm
  · rw [Reference5Ideal.Read.val_main_v106_eq, h0, h1, h8, h9]
    exact (Ref.weight_K _ _ _ _).trans (final12 m 0).symm
  · rw [Reference5Ideal.Read.val_main_v76_eq, h0, h4, h6, h7]
    exact (Ref.gain_B _ _ _ _).trans (final13 m 0).symm
  · rw [Reference5Ideal.Read.val_main_v107_eq, h0, h2, h8, h9]
    exact (Ref.gain_K _ _ _ _).trans (final14 m 0).symm

end Cert.Proj

end
-- ==== Proof.LayerB.Formula.lean ====
/- The output projection behind its gate, the last norm and the loss, with all their gradients, element by element, as the
   kernel computes them. -/
module

public import proofs.«01_k».proof.Proof.Maths.Rms
public import proofs.«01_k».proof.Proof.LayerA.Formula

@[expose] public section

noncomputable section

namespace Cert.LayerB

open Idealize.ShloMosaic Cert.Attention Cert.Maths
open Cert.LayerA (logistic)

variable (O G : (⟨2, ![16384, 512]⟩ : Shape).Idx → EReal) (X : (⟨2, ![16384, 1024]⟩ : Shape).Idx → EReal)
  (W : (⟨2, ![512, 1024]⟩ : Shape).Idx → EReal) (g : Fin 1024 → EReal) (T : (⟨2, ![16384, 1024]⟩ : Shape).Idx → EReal)

/-- The gate's factor and its derivative. -/
def slu (x : EReal) : EReal := x * logistic x
def dslu (x : EReal) : EReal := logistic x * (1 + x * (1 - logistic x))

/-- The gated product. -/
def ob (p l : ℕ) : EReal := at2 O p l * slu (at2 G p l)

/-- The row that enters the last norm. -/
def x2 (p : ℕ) (k : Fin 1024) : EReal := at2 X p k + ∑ l : Fin 512, ob O G p l * at2 W l k

/-- The normalised row. -/
def nrm (p : ℕ) (k : Fin 1024) : EReal := x2 O G X W p k * rstd (x2 O G X W p)

/-- The difference to the target. -/
def err (p : ℕ) (k : Fin 1024) : EReal := nrm O G X W p k * g k - at2 T p k

/-- The gradient of the norm's result: the difference over 1024. -/
def dy (p : ℕ) (k : Fin 1024) : EReal := err O G X W g T p k * Ideal.ofBits .f32 981467136#32

/-- The gradient of the row that enters the norm. -/
def dx2 (p : ℕ) (k : Fin 1024) : EReal :=
  rstd (x2 O G X W p) * (dy O G X W g T p k * g k - nrm O G X W p k
    * Ideal.div (∑ q : Fin 1024, dy O G X W g T p q * g q * nrm O G X W p q) (Ideal.ofBits .f32 1149239296#32))

/-- The gradient of the gated product. -/
def dob (p l : ℕ) : EReal := ∑ k : Fin 1024, dx2 O G X W g T p k * at2 W l k

/-- The squares of the rows of one block, summed, times one half over 1024. -/
def lossTerm (t : ℕ) : EReal :=
  (∑ a : Fin 512, ∑ k : Fin 1024, err O G X W g T (t * 512 + a) k * err O G X W g T (t * 512 + a) k) * Ideal.ofBits .f32 973078528#32

/-- The six results. -/
def rX : (⟨2, ![16384, 1024]⟩ : Shape).Idx → EReal := fun j => dx2 O G X W g T (j 0 : Fin 16384) (j 1)
def rO : (⟨2, ![16384, 512]⟩ : Shape).Idx → EReal := fun j =>
  dob O G X W g T (j 0 : Fin 16384) (j 1 : Fin 512) * slu (at2 G (j 0 : Fin 16384) (j 1 : Fin 512))
def rG : (⟨2, ![16384, 512]⟩ : Shape).Idx → EReal := fun j =>
  dob O G X W g T (j 0 : Fin 16384) (j 1 : Fin 512) * at2 O (j 0 : Fin 16384) (j 1 : Fin 512) * dslu (at2 G (j 0 : Fin 16384) (j 1 : Fin 512))
def rW : (⟨2, ![512, 1024]⟩ : Shape).Idx → EReal := fun j => ∑ p : Fin 16384, ob O G p (j 0 : Fin 512) * dx2 O G X W g T p (j 1)
def rN : (⟨2, ![1, 1024]⟩ : Shape).Idx → EReal := fun j => ∑ p : Fin 16384, dy O G X W g T p (j 1) * nrm O G X W p (j 1)
def rL : (⟨2, ![1, 128]⟩ : Shape).Idx → EReal := fun _ => ∑ t : Fin 32, lossTerm O G X W g T t

end Cert.LayerB

end
-- ==== Proof.LayerB.Block.lean ====
/- The output projection, last norm and loss at one point of the grid: a block of 512 rows. -/
module

public import proofs.«01_k».proof.Proof.Gen.Kernel4Ideal.Value
public import proofs.«01_k».proof.Proof.LayerB.Formula
public import proofs.«01_k».proof.Proof.Maths.Grid
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384
set_option maxHeartbeats 1000000

noncomputable section

namespace Cert.LayerB

open Idealize.ShloMosaic Idealize.ShloMosaic.TcCoe Idealize.SL.Sem Cert.Attention Cert.Maths
open Cert.LayerA (logistic)
open Cert.Kernel4Ideal Cert.Kernel4Ideal.Gen

/-- Which block a window reads or writes at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![0, 0] :=
  (by decide +kernel : ∀ t : Fin grid0.N, _)

variable (m : (ℓ : Loc nD τ sig) → Buf (Elt Ideal) ℓ) (c : Dev nD)

/-- The arguments. -/
def argO : (⟨2, ![16384, 512]⟩ : Shape).Idx → EReal := (m ((c : Thread nD τ).loc main_arg0) : Vec Ideal S16384x512 .f32)
def argG : (⟨2, ![16384, 512]⟩ : Shape).Idx → EReal := (m ((c : Thread nD τ).loc main_arg1) : Vec Ideal S16384x512 .f32)
def argX : (⟨2, ![16384, 1024]⟩ : Shape).Idx → EReal := fun j =>
  (m ((c : Thread nD τ).loc main_arg2) : Vec Ideal S1x16384x1024 .f32) (ix3 0 (j 0) (j 1) : S1x16384x1024.Idx)
def argW : (⟨2, ![512, 1024]⟩ : Shape).Idx → EReal := fun j =>
  (m ((c : Thread nD τ).loc main_arg3) : Vec Ideal S1x512x1024 .f32) (ix3 0 (j 0) (j 1) : S1x512x1024.Idx)
def argN (k : Fin 1024) : EReal := (m ((c : Thread nD τ).loc main_arg4) : Vec Ideal S1024 .f32) (ix1 k : S1024.Idx)
def argT : (⟨2, ![16384, 1024]⟩ : Shape).Idx → EReal := fun j =>
  (m ((c : Thread nD τ).loc main_arg5) : Vec Ideal S1x16384x1024 .f32) (ix3 0 (j 0) (j 1) : S1x16384x1024.Idx)

/-- The staged blocks at point `t`, read in the arguments. -/
theorem blk0 (t : Fin cfg0.N) (a l : Fin 512) : (iblk m c 0 t (ix2 a l : S512x512.Idx) : EReal) = at2 (argO m c) (t.val * 512 + a) l := by
  have ht : t.val < 32 := lt_of_lt_of_eq t.isLt N_0
  rw [at2_mk _ (by omega) (by omega)]
  unfold argO
  blk_point [iblk, V, idx t]

theorem blk1 (t : Fin cfg0.N) (a l : Fin 512) : (iblk m c 1 t (ix2 a l : S512x512.Idx) : EReal) = at2 (argG m c) (t.val * 512 + a) l := by
  have ht : t.val < 32 := lt_of_lt_of_eq t.isLt N_0
  rw [at2_mk _ (by omega) (by omega)]
  unfold argG
  blk_point [iblk, V, idx t]

theorem blk2 (t : Fin cfg0.N) (a : Fin 512) (k : Fin 1024) :
    (iblk m c 2 t (ix2 a k : S512x1024.Idx) : EReal) = at2 (argX m c) (t.val * 512 + a) k := by
  have ht : t.val < 32 := lt_of_lt_of_eq t.isLt N_0
  rw [at2_mk _ (by omega) (by omega)]
  unfold argX
  blk_point [iblk, V, idx t]

theorem blk3 (t : Fin cfg0.N) (l : Fin 512) (k : Fin 1024) : (iblk m c 3 t (ix2 l k : S512x1024.Idx) : EReal) = at2 (argW m c) l k := by
  rw [at2_ix]
  unfold argW
  blk_point [iblk, V, idx t]

theorem blk4 (t : Fin cfg0.N) (k : Fin 1024) : (iblk m c 4 t (ix2 0 k : S1x1024.Idx) : EReal) = argN m c k := by
  unfold argN
  blk_point [iblk, V, idx t]

theorem blk5 (t : Fin cfg0.N) (a : Fin 512) (k : Fin 1024) :
    (iblk m c 5 t (ix2 a k : S512x1024.Idx) : EReal) = at2 (argT m c) (t.val * 512 + a) k := by
  have ht : t.val < 32 := lt_of_lt_of_eq t.isLt N_0
  rw [at2_mk _ (by omega) (by omega)]
  unfold argT
  blk_point [iblk, V, idx t]

/-- The gate's logistic, the gate's factor and its derivative, the gated product. -/
theorem logistic_at (t : Fin cfg0.N) (a l : Fin 512) :
    (k0_pay10 (iblk m c 1 t) (ix2 a l : S512x512.Idx) : EReal) = logistic (at2 (argG m c) (t.val * 512 + a) l) := by
  pointwise [k0_pay10]
  rw [blk1]
  rfl

theorem slu_at (t : Fin cfg0.N) (a l : Fin 512) :
    (k0_pay11 (iblk m c 1 t) (ix2 a l : S512x512.Idx) : EReal) = slu (at2 (argG m c) (t.val * 512 + a) l) := by
  pointwise [k0_pay11]
  rw [logistic_at, blk1]
  rfl

theorem dslu_at (t : Fin cfg0.N) (a l : Fin 512) :
    (k0_pay12 (iblk m c 1 t) (ix2 a l : S512x512.Idx) : EReal) = dslu (at2 (argG m c) (t.val * 512 + a) l) := by
  pointwise [k0_pay12]
  rw [logistic_at, blk1]
  rfl

theorem ob_at (t : Fin cfg0.N) (a l : Fin 512) :
    (k0_pay13 (iblk m c 1 t) (iblk m c 0 t) (ix2 a l : S512x512.Idx) : EReal) = ob (argO m c) (argG m c) (t.val * 512 + a) l := by
  pointwise [k0_pay13]
  rw [slu_at, blk0]
  rfl

/-- The row that enters the norm, its reciprocal root, the normalised row. -/
theorem x2_at (t : Fin cfg0.N) (a : Fin 512) (k : Fin 1024) :
    (k0_pay15 (iblk m c 1 t) (iblk m c 0 t) (iblk m c 3 t) (iblk m c 2 t) (ix2 a k : S512x1024.Idx) : EReal)
      = x2 (argO m c) (argG m c) (argX m c) (argW m c) (t.val * 512 + a) k := by
  pointwise [k0_pay15, k0_pay14]
  simp only [ob_at, blk3, blk2]
  rfl

theorem rstd_at (t : Fin cfg0.N) (a : Fin 512) (b : Fin 1) :
    (k0_pay16 (iblk m c 1 t) (iblk m c 0 t) (iblk m c 3 t) (iblk m c 2 t) (ix2 a b : S512x1.Idx) : EReal)
      = rstd (x2 (argO m c) (argG m c) (argX m c) (argW m c) (t.val * 512 + a)) := by
  pointwise [k0_pay16]
  simp only [x2_at]
  rfl

theorem nrm_at (t : Fin cfg0.N) (a : Fin 512) (k : Fin 1024) :
    (k0_pay17 (iblk m c 1 t) (iblk m c 0 t) (iblk m c 3 t) (iblk m c 2 t) (ix2 a k : S512x1024.Idx) : EReal)
      = nrm (argO m c) (argG m c) (argX m c) (argW m c) (t.val * 512 + a) k := by
  pointwise [k0_pay17]
  rw [x2_at, rstd_at]
  rfl

/-- The difference to the target, and over 1024. -/
theorem err_at (t : Fin cfg0.N) (a : Fin 512) (k : Fin 1024) :
    (k0_pay19 (k0_pay17 (iblk m c 1 t) (iblk m c 0 t) (iblk m c 3 t) (iblk m c 2 t)) (iblk m c 4 t) (iblk m c 5 t) (ix2 a k : S512x1024.Idx) : EReal)
      = err (argO m c) (argG m c) (argX m c) (argW m c) (argN m c) (argT m c) (t.val * 512 + a) k := by
  pointwise [k0_pay19, k0_pay18]
  rw [nrm_at, blk4, blk5]
  rfl

theorem dy_at (t : Fin cfg0.N) (a : Fin 512) (k : Fin 1024) :
    (k0_pay21 (k0_pay17 (iblk m c 1 t) (iblk m c 0 t) (iblk m c 3 t) (iblk m c 2 t)) (iblk m c 4 t) (iblk m c 5 t) (ix2 a k : S512x1024.Idx) : EReal)
      = dy (argO m c) (argG m c) (argX m c) (argW m c) (argN m c) (argT m c) (t.val * 512 + a) k := by
  pointwise [k0_pay21]
  rw [err_at]
  rfl

/-- The gradient of the row that enters the norm, of a block's rows. -/
abbrev blkX (t : Fin cfg0.N) : Vec Ideal S512x1024 .f32 :=
  k0_pay23 (k0_pay16 (iblk m c 1 t) (iblk m c 0 t) (iblk m c 3 t) (iblk m c 2 t))
    (k0_pay17 (iblk m c 1 t) (iblk m c 0 t) (iblk m c 3 t) (iblk m c 2 t)) (iblk m c 4 t) (iblk m c 5 t)

theorem dx2_at (t : Fin cfg0.N) (a : Fin 512) (k : Fin 1024) :
    (blkX m c t (ix2 a k : S512x1024.Idx) : EReal)
      = dx2 (argO m c) (argG m c) (argX m c) (argW m c) (argN m c) (argT m c) (t.val * 512 + a) k := by
  unfold blkX
  pointwise [k0_pay23, k0_pay18]
  simp only [dy_at, nrm_at, rstd_at, blk4]
  rfl

/-- The gradient of the gated product. -/
theorem dob_at (t : Fin cfg0.N) (a l : Fin 512) :
    (k0_pay2 (k0_pay14 (iblk m c 3 t)) (blkX m c t) (ix2 a l : S512x512.Idx) : EReal)
      = dob (argO m c) (argG m c) (argX m c) (argW m c) (argN m c) (argT m c) (t.val * 512 + a) l := by
  have e := dx2_at m c t a
  generalize blkX m c t = Y at e
  pointwise [k0_pay2, k0_pay1, k0_pay14]
  simp only [e, blk3]
  rfl

/-- The second and the third result's rows. -/
theorem do_at (t : Fin cfg0.N) (a l : Fin 512) :
    (k0_pay4 (k0_pay11 (iblk m c 1 t)) (k0_pay14 (iblk m c 3 t)) (blkX m c t) (ix2 a l : S512x512.Idx) : EReal)
      = dob (argO m c) (argG m c) (argX m c) (argW m c) (argN m c) (argT m c) (t.val * 512 + a) l * slu (at2 (argG m c) (t.val * 512 + a) l) := by
  have e := dob_at m c t a l
  generalize blkX m c t = Y at e
  pointwise [k0_pay4]
  rw [e, slu_at]

theorem dgate_at (t : Fin cfg0.N) (a l : Fin 512) :
    (k0_pay5 (k0_pay12 (iblk m c 1 t)) (iblk m c 0 t) (k0_pay14 (iblk m c 3 t)) (blkX m c t) (ix2 a l : S512x512.Idx) : EReal)
      = dob (argO m c) (argG m c) (argX m c) (argW m c) (argN m c) (argT m c) (t.val * 512 + a) l * at2 (argO m c) (t.val * 512 + a) l
        * dslu (at2 (argG m c) (t.val * 512 + a) l) := by
  have e := dob_at m c t a l
  generalize blkX m c t = Y at e
  pointwise [k0_pay5]
  rw [e, dslu_at, blk0]

/-- The weight's gradient, the gain's and the loss, a point's rows added. -/
theorem gw_at (t : Fin cfg0.N) (acc : Vec Ideal S512x1024 .f32) (l : Fin 512) (k : Fin 1024) :
    (k0_pay3 (k0_pay13 (iblk m c 1 t) (iblk m c 0 t)) (blkX m c t) acc (ix2 l k : S512x1024.Idx) : EReal)
      = (acc (ix2 l k : S512x1024.Idx) : EReal) + ∑ a : Fin 512, ob (argO m c) (argG m c) (t.val * 512 + a) l
          * dx2 (argO m c) (argG m c) (argX m c) (argW m c) (argN m c) (argT m c) (t.val * 512 + a) k := by
  have e := fun a => dx2_at m c t a k
  generalize blkX m c t = Y at e
  pointwise [k0_pay3, k0_pay1]
  simp only [e, ob_at]

theorem gn_at (t : Fin cfg0.N) (acc : Vec Ideal S1x1024 .f32) (k : Fin 1024) :
    (k0_pay22 (k0_pay17 (iblk m c 1 t) (iblk m c 0 t) (iblk m c 3 t) (iblk m c 2 t)) (iblk m c 4 t) (iblk m c 5 t) acc (ix2 0 k : S1x1024.Idx) : EReal)
      = (acc (ix2 0 k : S1x1024.Idx) : EReal) + ∑ a : Fin 512,
          dy (argO m c) (argG m c) (argX m c) (argW m c) (argN m c) (argT m c) (t.val * 512 + a) k
            * nrm (argO m c) (argG m c) (argX m c) (argW m c) (t.val * 512 + a) k := by
  pointwise [k0_pay22]
  simp only [dy_at, nrm_at]

theorem loss_at (t : Fin cfg0.N) (acc : Vec Ideal S1x128 .f32) (k : Fin 128) :
    (k0_pay20 (k0_pay17 (iblk m c 1 t) (iblk m c 0 t) (iblk m c 3 t) (iblk m c 2 t)) (iblk m c 4 t) (iblk m c 5 t) acc (ix2 0 k : S1x128.Idx) : EReal)
      = (acc (ix2 0 k : S1x128.Idx) : EReal)
        + lossTerm (argO m c) (argG m c) (argX m c) (argW m c) (argN m c) (argT m c) t.val := by
  pointwise [k0_pay20]
  simp only [err_at]
  rfl

end Cert.LayerB

end
-- ==== Proof.LayerB.Kernel.lean ====
/- What the call for the loss leaves in the arrays that gather over the grid. -/
module

public import proofs.«01_k».proof.Proof.LayerB.Block

@[expose] public section

set_option maxRecDepth 16384
set_option maxHeartbeats 1000000

noncomputable section

namespace Cert.LayerB

open Idealize.ShloMosaic Idealize.ShloMosaic.TcCoe Idealize.SL.Sem Cert.Attention Cert.Maths
open Cert.Kernel4Ideal Cert.Kernel4Ideal.Gen

variable (m : (ℓ : Loc nD τ sig) → Buf (Elt Ideal) ℓ) (c : Dev nD)

/-- The gain's gradient: the first block's rows, then one block's more at a time. -/
theorem gn_first (t : Fin cfg0.N) (h0 : t.val % 32 = 0) (j : S1x1024.Idx) :
    ((outsAt0 m c t.val t.isLt).2.2.2.2.1 j : EReal) = 0 + ∑ a : Fin 512, dy (argO m c) (argG m c) (argX m c) (argW m c) (argN m c) (argT m c) (t.val * 512 + a) (j 1) * nrm (argO m c) (argG m c) (argX m c) (argW m c) (t.val * 512 + a) (j 1) := by
  idx_vars j
  obtain rfl : j0 = 0 := Subsingleton.elim _ _
  rw [outsAt0_A m c t h0 (by omega)]
  frame_out
  refine (gn_at m c t _ _).trans (congrArg (· + _) ?_)
  pointwise [k0_pay8]

theorem gn_next (t : Fin cfg0.N) (h0 : ¬t.val % 32 = 0) (j : S1x1024.Idx) :
    ((outsAt0 m c t.val t.isLt).2.2.2.2.1 j : EReal)
      = ((outsAt0 m c (t.val - 1) (Nat.lt_of_le_of_lt (Nat.sub_le _ _) t.isLt)).2.2.2.2.1 j : EReal) + ∑ a : Fin 512, dy (argO m c) (argG m c) (argX m c) (argW m c) (argN m c) (argT m c) (t.val * 512 + a) (j 1) * nrm (argO m c) (argG m c) (argX m c) (argW m c) (t.val * 512 + a) (j 1) := by
  idx_vars j
  obtain rfl : j0 = 0 := Subsingleton.elim _ _
  by_cases h1 : t.val % 32 = 31
  · rw [outsAt0_C m c t h0 h1]
    frame_out
    exact gn_at m c t _ _
  · rw [outsAt0_B m c t h0 h1]
    frame_out
    exact gn_at m c t _ _

/-- The loss: the first block's rows, then one block's more at a time. -/
theorem loss_first (t : Fin cfg0.N) (h0 : t.val % 32 = 0) (j : S1x128.Idx) :
    ((outsAt0 m c t.val t.isLt).2.2.2.2.2.1 j : EReal) = 0 + lossTerm (argO m c) (argG m c) (argX m c) (argW m c) (argN m c) (argT m c) t.val := by
  idx_vars j
  obtain rfl : j0 = 0 := Subsingleton.elim _ _
  rw [outsAt0_A m c t h0 (by omega)]
  frame_out
  refine (loss_at m c t _ _).trans (congrArg (· + _) ?_)
  pointwise [k0_pay9]

theorem loss_next (t : Fin cfg0.N) (h0 : ¬t.val % 32 = 0) (j : S1x128.Idx) :
    ((outsAt0 m c t.val t.isLt).2.2.2.2.2.1 j : EReal)
      = ((outsAt0 m c (t.val - 1) (Nat.lt_of_le_of_lt (Nat.sub_le _ _) t.isLt)).2.2.2.2.2.1 j : EReal) + lossTerm (argO m c) (argG m c) (argX m c) (argW m c) (argN m c) (argT m c) t.val := by
  idx_vars j
  obtain rfl : j0 = 0 := Subsingleton.elim _ _
  by_cases h1 : t.val % 32 = 31
  · rw [outsAt0_C m c t h0 h1]
    frame_out
    exact loss_at m c t _ _
  · rw [outsAt0_B m c t h0 h1]
    frame_out
    exact loss_at m c t _ _

/-- The weight's gradient: the first block's rows, then one block's more at a time. -/
theorem gw_first (t : Fin cfg0.N) (h0 : t.val % 32 = 0) (j : S512x1024.Idx) :
    ((outsAt0 m c t.val t.isLt).2.2.2.2.2.2 j : EReal) = 0 + ∑ a : Fin 512, ob (argO m c) (argG m c) (t.val * 512 + a) (j 0 : Fin 512) * dx2 (argO m c) (argG m c) (argX m c) (argW m c) (argN m c) (argT m c) (t.val * 512 + a) (j 1) := by
  idx_vars j
  rw [outsAt0_A m c t h0 (by omega)]
  frame_out
  refine (gw_at m c t _ _ _).trans (congrArg (· + _) ?_)
  pointwise [k0_pay7]

theorem gw_next (t : Fin cfg0.N) (h0 : ¬t.val % 32 = 0) (j : S512x1024.Idx) :
    ((outsAt0 m c t.val t.isLt).2.2.2.2.2.2 j : EReal)
      = ((outsAt0 m c (t.val - 1) (Nat.lt_of_le_of_lt (Nat.sub_le _ _) t.isLt)).2.2.2.2.2.2 j : EReal) + ∑ a : Fin 512, ob (argO m c) (argG m c) (t.val * 512 + a) (j 0 : Fin 512) * dx2 (argO m c) (argG m c) (argX m c) (argW m c) (argN m c) (argT m c) (t.val * 512 + a) (j 1) := by
  idx_vars j
  by_cases h1 : t.val % 32 = 31
  · rw [outsAt0_C m c t h0 h1]
    frame_out
    exact (gw_at m c t _ _ _).trans (congrArg (· + _) (congrFun (Memref.IsWhole.read_unread _ _) _))
  · rw [outsAt0_B m c t h0 h1]
    frame_out
    exact (gw_at m c t _ _ _).trans (congrArg (· + _) (congrFun (Memref.IsWhole.read_unread _ _) _))

end Cert.LayerB

end
-- ==== Proof.LayerB.Final.lean ====
/- The six result arrays of the call for the loss, whole. -/
module

public import proofs.«01_k».proof.Proof.LayerB.Kernel

@[expose] public section

set_option maxRecDepth 16384
set_option maxHeartbeats 1000000

noncomputable section

namespace Cert.LayerB

open Idealize.ShloMosaic Idealize.ShloMosaic.TcCoe Idealize.SL.Sem Cert.Attention Cert.Maths
open Cert.Kernel4Ideal Cert.Kernel4Ideal.Gen

variable (m : (ℓ : Loc nD τ sig) → Buf (Elt Ideal) ℓ) (c : Dev nD)

/-- The gradient of the row that enters the norm. -/
theorem final6 : (dats m 0 c).arrAt 6 (cfgs 0).N = rX (argO m c) (argG m c) (argX m c) (argW m c) (argN m c) (argT m c) := by
  refine (dats m 0 c).arrAt_eq_of_covers 6 _ (by decide +kernel) fun t hf y => ?_
  have ht : t.val < 32 := lt_of_lt_of_eq t.isLt N_0
  idx_vars y
  have e : ((dats m 0 c).after 6 t (ix2 y0 y1 : S512x1024.Idx) : EReal) = dx2 (argO m c) (argG m c) (argX m c) (argW m c) (argN m c) (argT m c) (t.val * 512 + y0) y1 := by
    rw [after0_6]
    by_cases h0 : t.val % 32 = 0
    · rw [outsAt0_A m c t h0 (by omega)]
      frame_out
      exact dx2_at m c t y0 y1
    · by_cases h1 : t.val % 32 = 31
      · rw [outsAt0_C m c t h0 h1]
        frame_out
        exact dx2_at m c t y0 y1
      · rw [outsAt0_B m c t h0 h1]
        frame_out
        exact dx2_at m c t y0 y1
  blk_simp
  refine e.trans ?_
  refine Eq.trans ?_ (congrArg (rX (argO m c) (argG m c) (argX m c) (argW m c) (argN m c) (argT m c)) (ext2 (j := ix2 ⟨t.val * 512 + y0, by omega⟩ y1) ?_ ?_))
  · rfl
  · blk_simp [idx t]
  · blk_simp [idx t]

/-- The gradient of the attention's result. -/
theorem final7 : (dats m 0 c).arrAt 7 (cfgs 0).N = rO (argO m c) (argG m c) (argX m c) (argW m c) (argN m c) (argT m c) := by
  refine (dats m 0 c).arrAt_eq_of_covers 7 _ (by decide +kernel) fun t hf y => ?_
  have ht : t.val < 32 := lt_of_lt_of_eq t.isLt N_0
  idx_vars y
  have e : ((dats m 0 c).after 7 t (ix2 y0 y1 : S512x512.Idx) : EReal) = dob (argO m c) (argG m c) (argX m c) (argW m c) (argN m c) (argT m c) (t.val * 512 + y0) y1 * slu (at2 (argG m c) (t.val * 512 + y0) y1) := by
    rw [after0_7]
    by_cases h0 : t.val % 32 = 0
    · rw [outsAt0_A m c t h0 (by omega)]
      frame_out
      exact do_at m c t y0 y1
    · by_cases h1 : t.val % 32 = 31
      · rw [outsAt0_C m c t h0 h1]
        frame_out
        exact do_at m c t y0 y1
      · rw [outsAt0_B m c t h0 h1]
        frame_out
        exact do_at m c t y0 y1
  blk_simp
  refine e.trans ?_
  refine Eq.trans ?_ (congrArg (rO (argO m c) (argG m c) (argX m c) (argW m c) (argN m c) (argT m c)) (ext2 (j := ix2 ⟨t.val * 512 + y0, by omega⟩ y1) ?_ ?_))
  · rfl
  · blk_simp [idx t]
  · blk_simp [idx t]

/-- The gradient of the gate. -/
theorem final8 : (dats m 0 c).arrAt 8 (cfgs 0).N = rG (argO m c) (argG m c) (argX m c) (argW m c) (argN m c) (argT m c) := by
  refine (dats m 0 c).arrAt_eq_of_covers 8 _ (by decide +kernel) fun t hf y => ?_
  have ht : t.val < 32 := lt_of_lt_of_eq t.isLt N_0
  idx_vars y
  have e : ((dats m 0 c).after 8 t (ix2 y0 y1 : S512x512.Idx) : EReal) = dob (argO m c) (argG m c) (argX m c) (argW m c) (argN m c) (argT m c) (t.val * 512 + y0) y1 * at2 (argO m c) (t.val * 512 + y0) y1 * dslu (at2 (argG m c) (t.val * 512 + y0) y1) := by
    rw [after0_8]
    by_cases h0 : t.val % 32 = 0
    · rw [outsAt0_A m c t h0 (by omega)]
      frame_out
      exact dgate_at m c t y0 y1
    · by_cases h1 : t.val % 32 = 31
      · rw [outsAt0_C m c t h0 h1]
        frame_out
        exact dgate_at m c t y0 y1
      · rw [outsAt0_B m c t h0 h1]
        frame_out
        exact dgate_at m c t y0 y1
  blk_simp
  refine e.trans ?_
  refine Eq.trans ?_ (congrArg (rG (argO m c) (argG m c) (argX m c) (argW m c) (argN m c) (argT m c)) (ext2 (j := ix2 ⟨t.val * 512 + y0, by omega⟩ y1) ?_ ?_))
  · rfl
  · blk_simp [idx t]
  · blk_simp [idx t]

/-- The output weight's gradient. -/
theorem final9 : (dats m 0 c).arrAt 9 (cfgs 0).N = rW (argO m c) (argG m c) (argX m c) (argW m c) (argN m c) (argT m c) := by
  refine (dats m 0 c).arrAt_eq_of_covers 9 _ (by decide +kernel) fun t hf y => ?_
  have hl := (flush0_9 t).mp hf
  have ht : t.val < 32 := lt_of_lt_of_eq t.isLt N_0
  have e : (dats m 0 c).after 9 t = (outsAt0 m c t.val t.isLt).2.2.2.2.2.2 := by
    rw [after0_9, outsAt0_C m c t (by omega) hl]
    frame_out
    funext j
    pointwise [k0_pay6]
  blk_simp
  rw [e, Pipeline.eq_sum_fin_of_reset_step_apply_of_flush (fun n h => (outsAt0 m c n h).2.2.2.2.2.2) 32 (fun _ => 0)
    (fun t j => ∑ a : Fin 512, ob (argO m c) (argG m c) (t * 512 + a) (j 0 : Fin 512) * dx2 (argO m c) (argG m c) (argX m c) (argW m c) (argN m c) (argT m c) (t * 512 + a) (j 1))
    (fun t h j => gw_first m c t h j) (fun t h j => gw_next m c t h j) t hl _, zero_add]
  simp only [run_start ht]
  refine Eq.trans ?_ (congrArg (rW (argO m c) (argG m c) (argX m c) (argW m c) (argN m c) (argT m c)) (ext2 (j := (y : S512x1024.Idx)) ?_ ?_))
  rotate_left
  · blk_simp [idx t]
  · blk_simp [idx t]
  exact sum_points fun p => ob (argO m c) (argG m c) p (y 0 : Fin 512) * dx2 (argO m c) (argG m c) (argX m c) (argW m c) (argN m c) (argT m c) p (y 1)

/-- The last gain's gradient. -/
theorem final10 : (dats m 0 c).arrAt 10 (cfgs 0).N = rN (argO m c) (argG m c) (argX m c) (argW m c) (argN m c) (argT m c) := by
  refine (dats m 0 c).arrAt_eq_of_covers 10 _ (by decide +kernel) fun t hf y => ?_
  have hl := (flush0_10 t).mp hf
  have ht : t.val < 32 := lt_of_lt_of_eq t.isLt N_0
  blk_simp
  rw [after0_10, Pipeline.eq_sum_fin_of_reset_step_apply_of_flush (fun n h => (outsAt0 m c n h).2.2.2.2.1) 32 (fun _ => 0)
    (fun t j => ∑ a : Fin 512, dy (argO m c) (argG m c) (argX m c) (argW m c) (argN m c) (argT m c) (t * 512 + a) (j 1) * nrm (argO m c) (argG m c) (argX m c) (argW m c) (t * 512 + a) (j 1))
    (fun t h j => gn_first m c t h j) (fun t h j => gn_next m c t h j) t hl _, zero_add]
  simp only [run_start ht]
  refine Eq.trans ?_ (congrArg (rN (argO m c) (argG m c) (argX m c) (argW m c) (argN m c) (argT m c)) (ext2 (j := (y : S1x1024.Idx)) ?_ ?_))
  rotate_left
  · blk_simp [idx t]
  · blk_simp [idx t]
  exact sum_points fun p => dy (argO m c) (argG m c) (argX m c) (argW m c) (argN m c) (argT m c) p (y 1) * nrm (argO m c) (argG m c) (argX m c) (argW m c) p (y 1)

/-- The loss. -/
theorem final11 : (dats m 0 c).arrAt 11 (cfgs 0).N = rL (argO m c) (argG m c) (argX m c) (argW m c) (argN m c) (argT m c) := by
  refine (dats m 0 c).arrAt_eq_of_covers 11 _ (by decide +kernel) fun t hf y => ?_
  have hl := (flush0_11 t).mp hf
  have ht : t.val < 32 := lt_of_lt_of_eq t.isLt N_0
  blk_simp
  rw [after0_11, Pipeline.eq_sum_fin_of_reset_step_apply_of_flush (fun n h => (outsAt0 m c n h).2.2.2.2.2.1) 32 (fun _ => 0)
    (fun t j => lossTerm (argO m c) (argG m c) (argX m c) (argW m c) (argN m c) (argT m c) t)
    (fun t h j => loss_first m c t h j) (fun t h j => loss_next m c t h j) t hl _, zero_add]
  simp only [run_start ht]
  refine Eq.trans ?_ (congrArg (rL (argO m c) (argG m c) (argX m c) (argW m c) (argN m c) (argT m c)) (ext2 (j := (y : S1x128.Idx)) ?_ ?_))
  rotate_left
  · blk_simp [idx t]
  · blk_simp [idx t]
  rfl

end Cert.LayerB

end
-- ==== Proof.LayerB.Reference.lean ====
/- The reference's loss and its gradients, element by element: where the arguments are finite they equal what the kernel
   leaves. -/
module

public import proofs.«01_k».proof.Proof.LayerB.Formula
public import proofs.«01_k».proof.Proof.Maths.Reduce
public import proofs.«01_k».proof.Proof.Maths.Grid
public import proofs.«01_k».proof.Proof.LayerA.Reference
public import proofs.«01_k».proof.Proof.Gen.Reference4Ideal.Read
public import Idealize.ShloMosaic.Lib.Pointwise

@[expose] public section

set_option maxRecDepth 16384
set_option maxHeartbeats 2000000

noncomputable section

namespace Cert.LayerB.Ref

open Idealize.ShloMosaic Idealize.ShloMosaic.TcCoe Idealize.SL.Sem Cert.Attention
open Cert.Reference4Ideal Cert.Reference4Ideal.Gen Cert.Reference4Ideal.Read Cert.Maths
open Cert.LayerA (logistic)
open Cert.LayerA.Ref (real_mul real_add real_sum logistic_real gate_grad)

variable (x0 x1 : Vec Ideal S16384x512 .f32) (x2 : Vec Ideal S1x16384x1024 .f32) (x3 : Vec Ideal S1x512x1024 .f32)
  (x4 : Vec Ideal S1024 .f32) (x5 : Vec Ideal S1x16384x1024 .f32)

/-- The arguments as matrices and a row. -/
def O (x : Vec Ideal S16384x512 .f32) : (⟨2, ![16384, 512]⟩ : Shape).Idx → EReal := x
def X (x : Vec Ideal S1x16384x1024 .f32) : (⟨2, ![16384, 1024]⟩ : Shape).Idx → EReal := fun j => x (ix3 0 (j 0) (j 1) : S1x16384x1024.Idx)
def W (x : Vec Ideal S1x512x1024 .f32) : (⟨2, ![512, 1024]⟩ : Shape).Idx → EReal := fun j => x (ix3 0 (j 0) (j 1) : S1x512x1024.Idx)
def N (k : Fin 1024) : EReal := x4 (ix1 k : S1024.Idx)

theorem O_at (x : Vec Ideal S16384x512 .f32) (p : Fin 16384) (l : Fin 512) : (x (ix2 p l : S16384x512.Idx) : EReal) = at2 (O x) p l :=
  (at2_mk (O x) p.isLt l.isLt).symm

theorem X_at (x : Vec Ideal S1x16384x1024 .f32) (p : Fin 16384) (k : Fin 1024) :
    (x (ix3 0 p k : S1x16384x1024.Idx) : EReal) = at2 (X x) p k := by
  rw [at2_mk (X x) p.isLt k.isLt]; rfl

theorem W_at (l : Fin 512) (k : Fin 1024) : (x3 (ix3 0 l k : S1x512x1024.Idx) : EReal) = at2 (W x3) l k := by
  rw [at2_mk (W x3) l.isLt k.isLt]; rfl

/-- The gate's logistic and the gated product. -/
theorem logistic_ref (p : Fin 16384) (l : Fin 512) :
    (val_main_v0_2 (F := Ideal) x1 (ix2 p l : S16384x512.Idx) : EReal) = logistic (at2 (O x1) p l) := by
  pointwise [val_main_v0_2, val_main_call0_v0, val_main_call0_v1, val_main_call0_cst, val_main_call0_v2, val_main_call0_v3,
    val_main_call0_cst_0, val_main_call0_v4]
  rw [O_at x1]
  unfold LayerA.logistic
  rw [zero_sub]

theorem slu_ref (p : Fin 16384) (l : Fin 512) :
    (val_main_v0_0 (F := Ideal) x1 (ix2 p l : S16384x512.Idx) : EReal) = slu (at2 (O x1) p l) := by
  pointwise [val_main_v0_0]
  rw [logistic_ref, O_at x1]
  rfl

theorem ob_ref (p : Fin 16384) (l : Fin 512) :
    (val_main_v1 (F := Ideal) x0 x1 (ix2 p l : S16384x512.Idx) : EReal) = ob (O x0) (O x1) p l := by
  pointwise [val_main_v1]
  rw [slu_ref, O_at x0]
  rfl

/-- The row that enters the norm and what the norm makes of it. -/
theorem x2_ref (p : Fin 16384) (k : Fin 1024) :
    (val_main_v5 (F := Ideal) x0 x1 x2 x3 (ix3 0 p k : S1x16384x1024.Idx) : EReal) = LayerB.x2 (O x0) (O x1) (X x2) (W x3) p k := by
  pointwise [val_main_v5, val_main_v4, val_main_v3, val_main_v2]
  simp only [ob_ref, W_at x3, X_at x2]
  rfl

theorem rstd_ref (p : Fin 16384) :
    (val_main_v13 (F := Ideal) x0 x1 x2 x3 (ix3 0 p 0 : S1x16384x1.Idx) : EReal) = rstd (LayerB.x2 (O x0) (O x1) (X x2) (W x3) p) := by
  pointwise [rstd, meanSq, val_main_v13, val_main_v12, val_main_v11, val_main_v10, val_main_v9, val_main_v8, val_main_v7, val_main_v6,
    val_main_cst, val_main_cst_0, val_main_cst_1]
  simp only [x2_ref]

theorem slope_ref (p : Fin 16384) : (val_main_v16 (F := Ideal) x0 x1 x2 x3 (ix3 0 p 0 : S1x16384x1.Idx) : EReal)
    = Ideal.ofBits .f32 3204448256#32 * Ideal.div (rstd (LayerB.x2 (O x0) (O x1) (X x2) (W x3) p)) (meanSq (LayerB.x2 (O x0) (O x1) (X x2) (W x3) p)) := by
  pointwise [rstd, meanSq, val_main_v16, val_main_v15, val_main_v14, val_main_v13, val_main_v12, val_main_v11, val_main_v10, val_main_v9,
    val_main_v8, val_main_v7, val_main_v6, val_main_cst, val_main_cst_0, val_main_cst_1, val_main_cst_2]
  simp only [x2_ref]

theorem nrm_ref (p : Fin 16384) (k : Fin 1024) :
    (val_main_v18 (F := Ideal) x0 x1 x2 x3 (ix3 0 p k : S1x16384x1024.Idx) : EReal) = nrm (O x0) (O x1) (X x2) (W x3) p k := by
  pointwise [val_main_v18, val_main_v17]
  rw [x2_ref, rstd_ref]
  rfl

/-- The difference to the target. -/
theorem err_ref (p : Fin 16384) (k : Fin 1024) :
    (val_main_v22 (F := Ideal) x0 x1 x2 x3 x4 x5 (ix3 0 p k : S1x16384x1024.Idx) : EReal)
      = err (O x0) (O x1) (X x2) (W x3) (N x4) (X x5) p k := by
  pointwise [val_main_v22, val_main_v21, val_main_v20, val_main_v19]
  rw [nrm_ref, X_at x5]
  rfl

/-- The literals one half, two, 1/1024 and half of it. -/
theorem bits_half : Ideal.ofBits .f32 1056964608#32 = ((1 / 2 : ℝ) : EReal) := by
  simp [Ideal.ofBits, Ideal.ieee, -EReal.coe_mul]; norm_num

theorem bits_two : Ideal.ofBits .f32 1073741824#32 = ((2 : ℝ) : EReal) := by
  simp [Ideal.ofBits, Ideal.ieee, -EReal.coe_mul]; norm_num

theorem bits_mean : Ideal.ofBits .f32 981467136#32 = ((1 / 1024 : ℝ) : EReal) := by
  simp [Ideal.ofBits, Ideal.ieee, -EReal.coe_mul]; norm_num

theorem bits_half_mean : Ideal.ofBits .f32 973078528#32 = ((1 / 2048 : ℝ) : EReal) := by
  simp [Ideal.ofBits, Ideal.ieee, -EReal.coe_mul]; norm_num

/-- The gradient of the norm's result: one half over 1024, times twice the difference. -/
theorem dy_ref (p : Fin 16384) (k : Fin 1024) :
    (val_main_v36 (F := Ideal) x0 x1 x2 x3 x4 x5 (ix3 0 p k : S1x16384x1024.Idx) : EReal)
      = dy (O x0) (O x1) (X x2) (W x3) (N x4) (X x5) p k := by
  pointwise [val_main_v36, val_main_v35, val_main_v34, val_main_v33, val_main_v32, val_main_v31, val_main_v25, val_main_v24,
    val_main_cst_3, val_main_cst_5, val_main_cst_8, val_main_cst_9, val_main_cst_10]
  rw [err_ref]
  unfold dy
  rw [bits_half, bits_1024, bits_two, bits_mean, Ideal.div_coe (by norm_num), ← EReal.coe_mul, ← mul_assoc, ← EReal.coe_mul, mul_comm]
  norm_num

theorem ct_ref (p : Fin 16384) (k : Fin 1024) :
    (val_main_v41 (F := Ideal) x0 x1 x2 x3 x4 x5 (ix3 0 p k : S1x16384x1024.Idx) : EReal)
      = dy (O x0) (O x1) (X x2) (W x3) (N x4) (X x5) p k * N x4 k := by
  pointwise [val_main_v41, val_main_v40, val_main_v19]
  rw [dy_ref]
  rfl

/-- The gain's gradient. -/
theorem gain_ref (j : Fin 1024) : (val_main_v42 (F := Ideal) x0 x1 x2 x3 x4 x5 (ix1 j : S1024.Idx) : EReal)
    = rN (O x0) (O x1) (X x2) (W x3) (N x4) (X x5) (ix2 0 j) := by
  pointwise [rN, val_main_v42, val_main_v39, val_main_v38, val_main_v37, val_main_cst_11, val_main_cst_12, hostReduceAdd_axes01]
  simp only [Fin.sum_univ_one, Finset.univ_unique, Finset.sum_singleton, Fin.default_eq_zero]
  exact Finset.sum_congr rfl fun p _ => by rw [nrm_ref, dy_ref, mul_comm]

/-- A row's gradient through the norm, where the row is finite. -/
theorem dx2_ref (hx : ∀ (p : Fin 16384) k, ∃ r : ℝ, LayerB.x2 (O x0) (O x1) (X x2) (W x3) p k = r) (p : Fin 16384) (k : Fin 1024) :
    (val_main_v57 (F := Ideal) x0 x1 x2 x3 x4 x5 (ix3 0 p k : S1x16384x1024.Idx) : EReal)
      = dx2 (O x0) (O x1) (X x2) (W x3) (N x4) (X x5) p k := by
  refine Eq.trans ?_ (rms_bwd (LayerB.x2 (O x0) (O x1) (X x2) (W x3) p) (fun k => dy (O x0) (O x1) (X x2) (W x3) (N x4) (X x5) p k * N x4 k)
    (hx p) k).symm
  pointwise [val_main_v57, val_main_v56, val_main_v55, val_main_v54, val_main_v53, val_main_v52, val_main_v51, val_main_v50, val_main_v49,
    val_main_v48, val_main_v47, val_main_v46, val_main_v45, val_main_v44, val_main_v43, val_main_cst_13, val_main_cst_14, val_main_cst_15,
    hostReduceAdd_axes02]
  simp only [Fin.sum_univ_one, Finset.univ_unique, Finset.sum_singleton, Fin.default_eq_zero]
  simp only [ct_ref, x2_ref, slope_ref, rstd_ref]
  rw [add_assoc]

theorem rows_ref (hx : ∀ (p : Fin 16384) k, ∃ r : ℝ, LayerB.x2 (O x0) (O x1) (X x2) (W x3) p k = r) (p : Fin 16384) (k : Fin 1024) :
    (val_main_v58 (F := Ideal) x0 x1 x2 x3 x4 x5 (ix2 p k : S16384x1024.Idx) : EReal)
      = dx2 (O x0) (O x1) (X x2) (W x3) (N x4) (X x5) p k := by
  pointwise [val_main_v58, val_main_cst_16]
  simp only [Fin.sum_univ_one, Finset.univ_unique, Finset.sum_singleton, Fin.default_eq_zero]
  exact dx2_ref x0 x1 x2 x3 x4 x5 hx p k

/-- The gradient of the gated product. -/
theorem dob_ref (hx : ∀ (p : Fin 16384) k, ∃ r : ℝ, LayerB.x2 (O x0) (O x1) (X x2) (W x3) p k = r) (p : Fin 16384) (l : Fin 512) :
    (val_main_v61 (F := Ideal) x0 x1 x2 x3 x4 x5 (ix2 p l : S16384x512.Idx) : EReal)
      = dob (O x0) (O x1) (X x2) (W x3) (N x4) (X x5) p l := by
  pointwise [val_main_v61, val_main_v2]
  simp only [rows_ref x0 x1 x2 x3 x4 x5 hx, W_at x3]
  rfl

/-- The second result: the gradient of the attention's result. -/
theorem do_ref (hx : ∀ (p : Fin 16384) k, ∃ r : ℝ, LayerB.x2 (O x0) (O x1) (X x2) (W x3) p k = r) :
    val_main_v67 (F := Ideal) x0 x1 x2 x3 x4 x5 = rO (O x0) (O x1) (X x2) (W x3) (N x4) (X x5) := by
  funext j
  idx_vars j
  pointwise [rO, val_main_v67, val_main_v64]
  rw [dob_ref x0 x1 x2 x3 x4 x5 hx, slu_ref]

/-- The third result: the gradient of the gate, where what reaches the gate is finite. -/
theorem dgate_ref (hx : ∀ (p : Fin 16384) k, ∃ r : ℝ, LayerB.x2 (O x0) (O x1) (X x2) (W x3) p k = r)
    (ha : ∀ (p : Fin 16384) (l : Fin 512), ∃ r : ℝ, dob (O x0) (O x1) (X x2) (W x3) (N x4) (X x5) p l * at2 (O x0) p l = r) :
    val_main_v68 (F := Ideal) x0 x1 x2 x3 x4 x5 = rG (O x0) (O x1) (X x2) (W x3) (N x4) (X x5) := by
  funext j
  idx_vars j
  pointwise [rG, val_main_v68, val_main_v65, val_main_v63, val_main_v0_1, val_main_call1_v0, val_main_call1_v1, val_main_call1_v2,
    val_main_call0_v6, val_main_call0_v7, val_main_call0_cst_1]
  rw [dob_ref x0 x1 x2 x3 x4 x5 hx, logistic_ref, O_at x0, O_at x1]
  obtain ⟨A, hA⟩ := ha j0 j1
  rw [mul_comm (at2 (O x0) _ _), hA]
  exact gate_grad A _

/-- The first result: the gradient of the row that enters the norm. -/
theorem rows (hx : ∀ (p : Fin 16384) k, ∃ r : ℝ, LayerB.x2 (O x0) (O x1) (X x2) (W x3) p k = r) :
    val_main_v66 (F := Ideal) x0 x1 x2 x3 x4 x5 = rX (O x0) (O x1) (X x2) (W x3) (N x4) (X x5) := by
  funext j
  idx_vars j
  pointwise [rX, val_main_v66]
  exact dx2_ref x0 x1 x2 x3 x4 x5 hx j0 j1

/-- The weight's gradient. -/
theorem weight_ref (hx : ∀ (p : Fin 16384) k, ∃ r : ℝ, LayerB.x2 (O x0) (O x1) (X x2) (W x3) p k = r) :
    val_main_v70 (F := Ideal) x0 x1 x2 x3 x4 x5 = rW (O x0) (O x1) (X x2) (W x3) (N x4) (X x5) := by
  funext j
  idx_vars j
  pointwise [rW, val_main_v70, val_main_v69, val_main_v62, val_main_v60, val_main_v59]
  exact Finset.sum_congr rfl fun p _ => by rw [rows_ref x0 x1 x2 x3 x4 x5 hx, ob_ref, mul_comm]

/-- The gain's gradient, as the kernel's row. -/
theorem gain_row : val_main_v71 (F := Ideal) x0 x1 x2 x3 x4 x5 = rN (O x0) (O x1) (X x2) (W x3) (N x4) (X x5) := by
  funext j
  idx_vars j
  obtain rfl : j0 = 0 := Subsingleton.elim _ _
  pointwise [val_main_v71]
  exact gain_ref x0 x1 x2 x3 x4 x5 j1

/-- One row's mean, and half of the sum of all of them, as a sum over the kernel's blocks. -/
theorem half_means (f : ℕ → EReal) :
    Ideal.ofBits .f32 1056964608#32 * ∑ p : Fin 16384, Ideal.div (f p) (Ideal.ofBits .f32 1149239296#32)
      = ∑ t : Fin 32, (∑ a : Fin 512, f ((t : ℕ) * 512 + a)) * Ideal.ofBits .f32 973078528#32 := by
  rw [bits_half, bits_1024, bits_half_mean]
  have e (x : EReal) : Ideal.div x ((1024 : ℝ) : EReal) = ((1 / 1024 : ℝ) : EReal) * x := by
    rw [Ideal.div_coe (by norm_num), mul_comm]
  simp only [e, mul_comm _ ((1 / 2048 : ℝ) : EReal)]
  rw [← coe_mul_sum _ (by norm_num), ← coe_mul_sum _ (by norm_num), sum_points f, ← mul_assoc, ← EReal.coe_mul]
  norm_num

/-- The loss. -/
theorem loss_ref : val_main_v72 (F := Ideal) x0 x1 x2 x3 x4 x5 = rL (O x0) (O x1) (X x2) (W x3) (N x4) (X x5) := by
  funext j
  idx_vars j
  unfold rL lossTerm
  refine Eq.trans ?_ (half_means fun p => ∑ k : Fin 1024, err (O x0) (O x1) (X x2) (W x3) (N x4) (X x5) p k
    * err (O x0) (O x1) (X x2) (W x3) (N x4) (X x5) p k)
  pointwise [val_main_v72, val_main_v30, val_main_v29, val_main_v28, val_main_v27, val_main_v26, val_main_v23, val_main_cst_4,
    val_main_cst_5, val_main_cst_6, val_main_cst_7]
  simp only [Fin.sum_univ_one, Finset.univ_unique, Finset.sum_singleton, Fin.default_eq_zero]
  simp only [err_ref]

end Cert.LayerB.Ref

end
-- ==== Proof.LayerB.Claim.lean ====
/- The call for the output projection, the last norm and the loss against the reference: all six results agree where the
   arguments are finite. -/
module

public import proofs.«01_k».proof.Proof.LayerB.Final
public import proofs.«01_k».proof.Proof.LayerB.Reference
public import proofs.«01_k».proof.Proof.Maths.Finite
public import proofs.«01_k».proof.Proof.Gen.Pre_layer_b_finite
public import proofs.«01_k».proof.Proof.Gen.Kernel4Ideal.Value
public import proofs.«01_k».proof.Proof.Gen.Reference4Ideal.Run
public import proofs.«01_k».proof.Proof.Gen.Reference4Ideal.Read
public import proofs.«01_k».proof.Defs

@[expose] public section

set_option maxRecDepth 16384
set_option maxHeartbeats 2000000

noncomputable section

namespace Cert.LayerB

open Idealize.ShloMosaic Idealize.ShloMosaic.TcCoe Idealize.SL.Sem Cert.Attention Cert.Maths
open Cert.LayerA.Ref (real_mul real_add real_sum logistic_real)
open Cert.Kernel4Ideal

variable (m : (ℓ : Loc nD τ sig) → Buf (Elt Idealize.ShloMosaic.Ideal) ℓ) (h : Pre_Kernel4Ideal_layer_b_finite m) (c : Dev nD)

include h in
/-- What the precondition says at one place. -/
theorem finite_at (p : Fin 16384) (k : Fin 1024) :
    (∃ r : ℝ, argX m c (ix2 p k) = r) ∧ (∃ r : ℝ, argN m c k = r) ∧ (∃ r : ℝ, argT m c (ix2 p k) = r) ∧
      (∀ g : p.val < 512, ∃ r : ℝ, argW m c (ix2 ⟨p, g⟩ k) = r) ∧
      (∀ g : k.val < 512, ∃ r : ℝ, argO m c (ix2 p ⟨k, g⟩) = r) ∧ (∀ g : ¬k.val < 512, ∃ r : ℝ, argG m c (ix2 p ⟨k - 512, by omega⟩) = r) := by
  have := congrFun (h c) (ix2 p k)
  pointwise [Cert.Pre_layer_b_finite.fn, Cert.Pre_layer_b_finite.fn_part1, Cert.Pre_layer_b_finite.fn_pad] at this
  obtain ⟨this, gt⟩ := Maths.both this
  obtain ⟨this, gg⟩ := Maths.both this
  obtain ⟨this, gw⟩ := Maths.both this
  obtain ⟨gc, gx⟩ := Maths.both this
  refine ⟨Maths.real_of_abs_lt gx, Maths.real_of_abs_lt gg, Maths.real_of_abs_lt gt, fun g => ?_, fun g => ?_, fun g => ?_⟩
  · rw [dif_pos g] at gw
    exact Maths.real_of_abs_lt gw
  · rw [dif_pos g] at gc
    exact Maths.real_of_abs_lt gc
  · rw [dif_neg g] at gc
    exact Maths.real_of_abs_lt gc

include h in
/-- The attention's result, the gate and the weight are real, -/
theorem real_O (p : Fin 16384) (l : Fin 512) : ∃ r : ℝ, at2 (argO m c) p l = r := by
  rw [at2_mk (argO m c) p.isLt l.isLt]
  exact (finite_at m h c p ⟨l, by omega⟩).2.2.2.2.1 l.isLt

include h in
theorem real_G (p : Fin 16384) (l : Fin 512) : ∃ r : ℝ, at2 (argG m c) p l = r := by
  rw [at2_mk (argG m c) p.isLt l.isLt]
  obtain ⟨r, e⟩ := (finite_at m h c p ⟨512 + l, by omega⟩).2.2.2.2.2 (show ¬512 + l.val < 512 by omega)
  refine ⟨r, Eq.trans ?_ e⟩
  exact congrArg (argG m c) (congrArg (ix2 p) (Fin.ext (show (l : ℕ) = 512 + l - 512 by omega)))

include h in
theorem real_W (l : Fin 512) (k : Fin 1024) : ∃ r : ℝ, at2 (argW m c) l k = r := by
  rw [at2_mk (argW m c) l.isLt k.isLt]
  exact (finite_at m h c ⟨l, by omega⟩ k).2.2.2.1 l.isLt

include h in
/-- so is the row that enters the norm, -/
theorem real_x2 (p : Fin 16384) (k : Fin 1024) : ∃ r : ℝ, x2 (argO m c) (argG m c) (argX m c) (argW m c) p k = r := by
  refine real_add ?_ (real_sum fun l => real_mul (real_mul (real_O m h c p l) (real_mul (real_G m h c p l) ?_)) (real_W m h c l k))
  · rw [at2_mk (argX m c) p.isLt k.isLt]
    exact (finite_at m h c p k).1
  · obtain ⟨g, e⟩ := real_G m h c p l
    rw [e]
    exact logistic_real g

include h in
/-- its reciprocal root and the normalised row, -/
theorem real_rstd (p : Fin 16384) : ∃ r : ℝ, rstd (x2 (argO m c) (argG m c) (argX m c) (argW m c) p) = r := by
  choose y hy using real_x2 m h c p
  obtain ⟨s, _, _, hr⟩ := rstd_real y
  rw [show x2 (argO m c) (argG m c) (argX m c) (argW m c) p = fun k => (y k : EReal) from funext hy]
  exact ⟨_, hr⟩

include h in
theorem real_nrm (p : Fin 16384) (k : Fin 1024) : ∃ r : ℝ, nrm (argO m c) (argG m c) (argX m c) (argW m c) p k = r :=
  real_mul (real_x2 m h c p k) (real_rstd m h c p)

include h in
/-- the gradient of the norm's result, -/
theorem real_dy (p : Fin 16384) (k : Fin 1024) :
    ∃ r : ℝ, dy (argO m c) (argG m c) (argX m c) (argW m c) (argN m c) (argT m c) p k = r := by
  refine real_mul ?_ ⟨_, Ref.bits_mean⟩
  obtain ⟨a, ha⟩ := real_mul (real_nrm m h c p k) (finite_at m h c p k).2.1
  obtain ⟨b, hb⟩ := (finite_at m h c p k).2.2.1
  unfold err
  rw [at2_mk (argT m c) p.isLt k.isLt, ha]
  refine ⟨a - b, ?_⟩
  rw [EReal.coe_sub]
  exact congrArg (_ - ·) hb

include h in
/-- the gradient of the row that enters the norm, -/
theorem real_dx2 (p : Fin 16384) (k : Fin 1024) :
    ∃ r : ℝ, dx2 (argO m c) (argG m c) (argX m c) (argW m c) (argN m c) (argT m c) p k = r := by
  have g (q : Fin 1024) := real_mul (real_dy m h c p q) (finite_at m h c p q).2.1
  obtain ⟨a, ha⟩ := g k
  obtain ⟨s, hs⟩ := real_sum fun q => real_mul (g q) (real_nrm m h c p q)
  obtain ⟨b, hb⟩ := real_nrm m h c p k
  refine real_mul (real_rstd m h c p) ?_
  rw [ha, hs, hb, bits_1024, Ideal.div_coe (by norm_num), ← EReal.coe_mul, ← EReal.coe_mul, ← EReal.coe_sub]
  exact ⟨_, rfl⟩

include h in
/-- and what reaches the gate. -/
theorem real_gate (p : Fin 16384) (l : Fin 512) :
    ∃ r : ℝ, dob (argO m c) (argG m c) (argX m c) (argW m c) (argN m c) (argT m c) p l * at2 (argO m c) p l = r :=
  real_mul (real_sum fun k => real_mul (real_dx2 m h c p k) (real_W m h c l k)) (real_O m h c p l)

/-- The results agree. -/
theorem algebraic : algebraic_Kernel4Ideal_Reference4Ideal_pre_layer_b_finite := by
  intro m g m' g' hpre hagree
  refine ⟨_, _, _, _, _, _, Cert.Kernel4Ideal.Value.run_blocks m g, θ_run_mono (Cert.Reference4Ideal.Value.run m' g') fun r h c => ?_⟩
  obtain rfl : c = 0 := Subsingleton.elim _ _
  obtain ⟨e0, e1, e2, e3, e4, e5, e⟩ := h 0
  obtain ⟨h0, h1, h2, h3, h4, h5⟩ := hagree 0
  refine ⟨e0.trans ?_, e1.trans ?_, e2.trans ?_, e3.trans ?_, e4.trans ?_, e5.trans ?_, e⟩
  · rw [Reference4Ideal.Read.val_main_v66_eq, h0, h1, h2, h3, h4, h5]
    exact (Ref.rows _ _ _ _ _ _ (real_x2 m hpre 0)).trans (final6 m 0).symm
  · rw [Reference4Ideal.Read.val_main_v67_eq, h0, h1, h2, h3, h4, h5]
    exact (Ref.do_ref _ _ _ _ _ _ (real_x2 m hpre 0)).trans (final7 m 0).symm
  · rw [Reference4Ideal.Read.val_main_v68_eq, h0, h1, h2, h3, h4, h5]
    exact (Ref.dgate_ref _ _ _ _ _ _ (real_x2 m hpre 0) (real_gate m hpre 0)).trans (final8 m 0).symm
  · rw [Reference4Ideal.Read.val_main_v70_eq, h0, h1, h2, h3, h4, h5]
    exact (Ref.weight_ref _ _ _ _ _ _ (real_x2 m hpre 0)).trans (final9 m 0).symm
  · rw [Reference4Ideal.Read.val_main_v71_eq, h0, h1, h2, h3, h4, h5]
    exact (Ref.gain_row _ _ _ _ _ _).trans (final10 m 0).symm
  · rw [Reference4Ideal.Read.val_main_v72_eq, h0, h1, h2, h3, h4, h5]
    exact (Ref.loss_ref _ _ _ _ _ _).trans (final11 m 0).symm

end Cert.LayerB

end
-- ==== Proof.References.lean ====
/- The reference programs run to their end and leave their arguments as they were; each has no counter. -/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Lib.Quiescent

@[expose] public section

noncomputable section

namespace Cert.References

open Idealize.ShloMosaic Idealize.ShloMosaic.TcCoe Idealize.SL.Sem

theorem frame_attention : quiescent_Reference2Ideal := fun m g _ =>
  (θ_run _ _ _).mono (fun r h => ⟨fun c => (h c).2.2.2, sem_eq_zero_of_no_sems rfl r.2⟩) (Reference2Ideal.Value.run m g)

theorem frame_layer_a : quiescent_Reference3Ideal := fun m g _ =>
  (θ_run _ _ _).mono (fun r h => ⟨fun c => (h c).2.2.2, sem_eq_zero_of_no_sems rfl r.2⟩) (Reference3Ideal.Value.run m g)

theorem frame_layer_b : quiescent_Reference4Ideal := fun m g _ =>
  (θ_run _ _ _).mono (fun r h => ⟨fun c => (h c).2.2.2.2.2.2, sem_eq_zero_of_no_sems rfl r.2⟩) (Reference4Ideal.Value.run m g)

theorem frame_proj : quiescent_Reference5Ideal := fun m g _ =>
  (θ_run _ _ _).mono (fun r h => ⟨fun c => (h c).2.2.2.2.2, sem_eq_zero_of_no_sems rfl r.2⟩) (Reference5Ideal.Value.run m g)

end Cert.References

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_x_finite
public import proofs.«01_k».proof.Proof.Gen.Pre_attention_finite
public import proofs.«01_k».proof.Proof.Gen.Pre_layer_a_finite
public import proofs.«01_k».proof.Proof.Gen.KernelIdeal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.InputGrad.Claim
public import proofs.«01_k».proof.Proof.Attention.FrameBits
public import proofs.«01_k».proof.Proof.Attention.Claim
public import proofs.«01_k».proof.Proof.LayerA.Claim
public import proofs.«01_k».proof.Proof.Proj.Claim
public import proofs.«01_k».proof.Proof.LayerB.Claim
public import proofs.«01_k».proof.Proof.References
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Pre_x_finite.Gen.facts,
  Cert.Pre_attention_finite.Gen.facts,
  Cert.Pre_layer_a_finite.Gen.facts,
  Cert.Pre_layer_b_finite.Gen.facts,
  Cert.Pre_proj_finite.Gen.facts,
  fun m ρ _ => Cert.Kernel.Gen.frame m ρ,
  fun m ρ _ => Cert.KernelIdeal.Gen.frame m ρ,
  fun m ρ _ => Cert.KernelIdeal.Gen.frame m ρ,
  Cert.InputGrad.frame_reference,
  fun m ρ _ => Cert.InputGrad.frame_reference m ρ trivial,
  Cert.Attention.frame_bits,
  fun m ρ _ => Cert.Attention.frame_kernel m ρ,
  fun m ρ _ => Cert.Attention.frame_kernel m ρ,
  Cert.References.frame_attention,
  fun m ρ _ => Cert.References.frame_attention m ρ trivial,
  fun m ρ _ => Cert.Kernel3.Gen.frame m ρ,
  fun m ρ _ => Cert.Kernel3Ideal.Gen.frame m ρ,
  fun m ρ _ => Cert.Kernel3Ideal.Gen.frame m ρ,
  Cert.References.frame_layer_a,
  fun m ρ _ => Cert.References.frame_layer_a m ρ trivial,
  fun m ρ _ => Cert.Kernel4.Gen.frame m ρ,
  fun m ρ _ => Cert.Kernel4Ideal.Gen.frame m ρ,
  fun m ρ _ => Cert.Kernel4Ideal.Gen.frame m ρ,
  Cert.References.frame_layer_b,
  fun m ρ _ => Cert.References.frame_layer_b m ρ trivial,
  fun m ρ _ => Cert.Kernel5.Gen.frame m ρ,
  fun m ρ _ => Cert.Kernel5Ideal.Gen.frame m ρ,
  fun m ρ _ => Cert.Kernel5Ideal.Gen.frame m ρ,
  Cert.References.frame_proj,
  fun m ρ _ => Cert.References.frame_proj m ρ trivial,
  trivial,
  Cert.InputGrad.algebraic,
  IdealRules.named_const.statement _ _ _ _ _ rfl,
  Cert.Attention.algebraic,
  trivial,
  Cert.LayerA.algebraic,
  trivial,
  Cert.LayerB.algebraic,
  trivial,
  Cert.Proj.algebraic⟩

end Cert.Proof

end
